-- ==== Defs.lean ====
def Pre_Kernel [hPre_table_ok : Cert.Pre_table_ok.Facts] (m : (ℓ : Loc Cert.Kernel.nD Cert.Kernel.τ Cert.Kernel.sig) → Buf (Elt Bits) ℓ) : Prop :=
  ∀ c : Dev Cert.Kernel.nD,
    (Cert.Pre_table_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_table_ok : Cert.Pre_table_ok.Facts] (m : (ℓ : Loc Cert.KernelIdeal.nD Cert.KernelIdeal.τ Cert.KernelIdeal.sig) → Buf (Elt Ideal) ℓ) : Prop :=
  ∀ c : Dev Cert.KernelIdeal.nD,
    (Cert.Pre_table_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_ok [hPre_table_ok : Cert.Pre_table_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Stick [hPre_pages_ok : Cert.Pre_pages_ok.Facts] (m : (ℓ : Loc Cert.Stick.nD Cert.Stick.τ Cert.Stick.sig) → Buf (Elt Bits) ℓ) : Prop :=
  ∀ c : Dev Cert.Stick.nD,
    (Cert.Pre_pages_ok.fn (F := Bits) (m ((c.tc : Thread Cert.Stick.nD Cert.Stick.τ).loc Cert.Stick.main_arg0)) (m ((c.tc : Thread Cert.Stick.nD Cert.Stick.τ).loc Cert.Stick.main_arg1)) (m ((c.tc : Thread Cert.Stick.nD Cert.Stick.τ).loc Cert.Stick.main_arg2))) = (fun _ => 1#1)

def Pre_StickIdeal [hPre_pages_ok : Cert.Pre_pages_ok.Facts] (m : (ℓ : Loc Cert.StickIdeal.nD Cert.StickIdeal.τ Cert.StickIdeal.sig) → Buf (Elt Ideal) ℓ) : Prop :=
  ∀ c : Dev Cert.StickIdeal.nD,
    (Cert.Pre_pages_ok.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_pages_ok [hPre_pages_ok : Cert.Pre_pages_ok.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_pages_ok.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1)) (m ((c.tc : Thread Cert.StickRefIdeal.nD Cert.StickRefIdeal.τ).loc Cert.StickRefIdeal.main_arg2))) = (fun _ => 1#1)

def quiescent_Kernel [hKernel : Cert.Kernel.Facts] [hPre_table_ok : Cert.Pre_table_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_table_ok : Cert.Pre_table_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_table_ok [hReferenceIdeal : Cert.ReferenceIdeal.Facts] [hPre_table_ok : Cert.Pre_table_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Stick [hStick : Cert.Stick.Facts] [hPre_pages_ok : Cert.Pre_pages_ok.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2))
      ∧ r.2.sem = fun _ => 0)

def quiescent_StickIdeal [hStickIdeal : Cert.StickIdeal.Facts] [hPre_pages_ok : Cert.Pre_pages_ok.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def quiescent_StickRefIdeal_pre_pages_ok [hStickRefIdeal : Cert.StickRefIdeal.Facts] [hPre_pages_ok : Cert.Pre_pages_ok.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_pages_ok m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_table_ok : Cert.Pre_table_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v9)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v9) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v6) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v35)) (v1 : (c : Dev Cert.InputIdeal.nD) → Buf (Elt Ideal) ((c.tc : Thread Cert.InputIdeal.nD Cert.InputIdeal.τ).loc Cert.InputIdeal.main_v64)) (v2 : (c : Dev Cert.InputIdeal.nD) → Buf (Elt Ideal) ((c.tc : Thread Cert.InputIdeal.nD Cert.InputIdeal.τ).loc Cert.InputIdeal.main_v41)) (v3 : (c : Dev Cert.InputIdeal.nD) → Buf (Elt Ideal) ((c.tc : Thread Cert.InputIdeal.nD Cert.InputIdeal.τ).loc Cert.InputIdeal.main_v71)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v35) = v0 c
          ∧ r.2.mem ((c.tc : Thread Cert.InputIdeal.nD Cert.InputIdeal.τ).loc Cert.InputIdeal.main_v64) = v1 c
          ∧ r.2.mem ((c.tc : Thread Cert.InputIdeal.nD Cert.InputIdeal.τ).loc Cert.InputIdeal.main_v41) = v2 c
          ∧ r.2.mem ((c.tc : Thread Cert.InputIdeal.nD Cert.InputIdeal.τ).loc Cert.InputIdeal.main_v71) = v3 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v36) = v0 c
          ∧ r.2.mem ((c.tc : Thread Cert.InputRefIdeal.nD Cert.InputRefIdeal.τ).loc Cert.InputRefIdeal.main_v78) = v1 c
          ∧ r.2.mem ((c.tc : Thread Cert.InputRefIdeal.nD Cert.InputRefIdeal.τ).loc Cert.InputRefIdeal.main_v84) = v2 c
          ∧ r.2.mem ((c.tc : Thread Cert.InputRefIdeal.nD Cert.InputRefIdeal.τ).loc Cert.InputRefIdeal.main_v86) = v3 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v6)) (v1 : (c : Dev Cert.QkvIdeal.nD) → Buf (Elt Ideal) ((c.tc : Thread Cert.QkvIdeal.nD Cert.QkvIdeal.τ).loc Cert.QkvIdeal.main_v9)) (v2 : (c : Dev Cert.QkvIdeal.nD) → Buf (Elt Ideal) ((c.tc : Thread Cert.QkvIdeal.nD Cert.QkvIdeal.τ).loc Cert.QkvIdeal.main_v3_0)) (v3 : (c : Dev Cert.QkvIdeal.nD) → Buf (Elt Ideal) ((c.tc : Thread Cert.QkvIdeal.nD Cert.QkvIdeal.τ).loc Cert.QkvIdeal.main_v3_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6) = v0 c
          ∧ r.2.mem ((c.tc : Thread Cert.QkvIdeal.nD Cert.QkvIdeal.τ).loc Cert.QkvIdeal.main_v9) = v1 c
          ∧ r.2.mem ((c.tc : Thread Cert.QkvIdeal.nD Cert.QkvIdeal.τ).loc Cert.QkvIdeal.main_v3_0) = v2 c
          ∧ r.2.mem ((c.tc : Thread Cert.QkvIdeal.nD Cert.QkvIdeal.τ).loc Cert.QkvIdeal.main_v3_1) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v16) = v0 c
          ∧ r.2.mem ((c.tc : Thread Cert.QkvRefIdeal.nD Cert.QkvRefIdeal.τ).loc Cert.QkvRefIdeal.main_v19) = v1 c
          ∧ r.2.mem ((c.tc : Thread Cert.QkvRefIdeal.nD Cert.QkvRefIdeal.τ).loc Cert.QkvRefIdeal.main_v13) = v2 c
          ∧ r.2.mem ((c.tc : Thread Cert.QkvRefIdeal.nD Cert.QkvRefIdeal.τ).loc Cert.QkvRefIdeal.main_v20) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v3)) (v1 : (c : Dev Cert.FinalIdeal.nD) → Buf (Elt Ideal) ((c.tc : Thread Cert.FinalIdeal.nD Cert.FinalIdeal.τ).loc Cert.FinalIdeal.main_v5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_v5) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v16) = v0 c
          ∧ r.2.mem ((c.tc : Thread Cert.FinalRefIdeal.nD Cert.FinalRefIdeal.τ).loc Cert.FinalRefIdeal.main_v29) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Stick_StickIdeal : Prop :=
  True

def algebraic_StickIdeal_StickRefIdeal [hStickIdeal : Cert.StickIdeal.Facts] [hStickRefIdeal : Cert.StickRefIdeal.Facts] [hPre_pages_ok : Cert.Pre_pages_ok.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)) →
    ∃ (v0 : (c : Dev Cert.StickIdeal.nD) → Buf (Elt Ideal) ((c.tc : Thread Cert.StickIdeal.nD Cert.StickIdeal.τ).loc Cert.StickIdeal.main_v48)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v48) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v55) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseRefIdeal : Cert.DenseRefIdeal.Facts) (hInput : Cert.Input.Facts) (hInputIdeal : Cert.InputIdeal.Facts) (hInputRefIdeal : Cert.InputRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hFinal : Cert.Final.Facts) (hFinalIdeal : Cert.FinalIdeal.Facts) (hFinalRefIdeal : Cert.FinalRefIdeal.Facts) (hStick : Cert.Stick.Facts) (hStickIdeal : Cert.StickIdeal.Facts) (hStickRefIdeal : Cert.StickRefIdeal.Facts) (hPre_table_ok : Cert.Pre_table_ok.Facts) (hPre_pages_ok : Cert.Pre_pages_ok.Facts),
    quiescent_Kernel (hKernel := hKernel) (hPre_table_ok := hPre_table_ok)
    ∧ quiescent_KernelIdeal (hKernelIdeal := hKernelIdeal) (hPre_table_ok := hPre_table_ok)
    ∧ quiescent_ReferenceIdeal (hReferenceIdeal := hReferenceIdeal)
    ∧ quiescent_ReferenceIdeal_pre_table_ok (hReferenceIdeal := hReferenceIdeal) (hPre_table_ok := hPre_table_ok)
    ∧ quiescent_Dense (hDense := hDense)
    ∧ quiescent_DenseIdeal (hDenseIdeal := hDenseIdeal)
    ∧ quiescent_DenseRefIdeal (hDenseRefIdeal := hDenseRefIdeal)
    ∧ quiescent_Input (hInput := hInput)
    ∧ quiescent_InputIdeal (hInputIdeal := hInputIdeal)
    ∧ quiescent_InputRefIdeal (hInputRefIdeal := hInputRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Stick (hStick := hStick) (hPre_pages_ok := hPre_pages_ok)
    ∧ quiescent_StickIdeal (hStickIdeal := hStickIdeal) (hPre_pages_ok := hPre_pages_ok)
    ∧ quiescent_StickRefIdeal (hStickRefIdeal := hStickRefIdeal)
    ∧ quiescent_StickRefIdeal_pre_pages_ok (hStickRefIdeal := hStickRefIdeal) (hPre_pages_ok := hPre_pages_ok)
    ∧ preserves_Kernel_KernelIdeal
    ∧ algebraic_KernelIdeal_ReferenceIdeal (hKernelIdeal := hKernelIdeal) (hReferenceIdeal := hReferenceIdeal) (hPre_table_ok := hPre_table_ok)
    ∧ preserves_Dense_DenseIdeal
    ∧ algebraic_DenseIdeal_DenseRefIdeal (hDenseIdeal := hDenseIdeal) (hDenseRefIdeal := hDenseRefIdeal)
    ∧ preserves_Input_InputIdeal
    ∧ algebraic_InputIdeal_InputRefIdeal (hInputIdeal := hInputIdeal) (hInputRefIdeal := hInputRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_Final_FinalIdeal
    ∧ algebraic_FinalIdeal_FinalRefIdeal (hFinalIdeal := hFinalIdeal) (hFinalRefIdeal := hFinalRefIdeal)
    ∧ preserves_Stick_StickIdeal
    ∧ algebraic_StickIdeal_StickRefIdeal (hStickIdeal := hStickIdeal) (hStickRefIdeal := hStickRefIdeal) (hPre_pages_ok := hPre_pages_ok)
-- ==== Pre_pages_ok.lean ====
abbrev S128x4x3x16x64 : Shape := ⟨5, ![128, 4, 3, 16, 64]⟩
abbrev S2560x128x2x16x64 : Shape := ⟨5, ![2560, 128, 2, 16, 64]⟩
abbrev S128x16 : Shape := ⟨2, ![128, 16]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel

variable [Facts]

def fn {F : FTy → Type} [FloatOps F] (main_arg0 : FVec F S128x4x3x16x64 .f32) (main_arg1 : FVec F S2560x128x2x16x64 .f32) (main_arg2 : IVec S128x16 32) : IVec S_ 1 :=
  let main_c : IVec S_ 32 := constantI S_ 32 0#32
  let main_v0 : IVec S128x16 32 := broadcastInDim S128x16 ![] bcast_S_S128x16 main_c
  let main_v1 : IVec S128x16 1 := cmpi .sge main_arg2 main_v0
  let main_c_0 : IVec S_ 32 := constantI S_ 32 2560#32
  let main_v2 : IVec S128x16 32 := broadcastInDim S128x16 ![] bcast_S_S128x16 main_c_0
  let main_v3 : IVec S128x16 1 := cmpi .slt main_arg2 main_v2
  let main_v4 : IVec S128x16 1 := andi main_v1 main_v3
  let main_c_1 : IVec S_ 1 := constantI S_ 1 1#1
  let main_v5 : IVec S_ 1 := (fun x v => Host.reduce IntOp.andi x v reducesTo_S128x16_S_d0_1 h_S_) main_v4 main_c_1
  main_v5
-- ==== Pre_table_ok.lean ====
abbrev S37888x1024 : Shape := ⟨2, ![37888, 1024]⟩
abbrev S8x1024x3584 : Shape := ⟨3, ![8, 1024, 3584]⟩
abbrev S8x3584x1024 : Shape := ⟨3, ![8, 3584, 1024]⟩
abbrev S74 : Shape := ⟨1, ![74]⟩
abbrev S1 : Shape := ⟨1, ![1]⟩
abbrev S37888x1 : Shape := ⟨2, ![37888, 1]⟩
abbrev S_ : Shape := ⟨0, ![]⟩

class Facts : Prop where
  bcast_S_S74 : S_.BroadcastsInDim S74 (![] : Fin 0 → Fin S74.rank)
  reducesTo_S74_S_d0 : S74.ReducesTo [0] S_
  h_S_ : 0 < S_.numel

variable [Facts]

def fn {F : FTy → Type} [FloatOps F] (main_arg0 : FVec F S37888x1024 .bf16) (main_arg1 : FVec F S8x1024x3584 .f32) (main_arg2 : FVec F S8x1024x3584 .f32) (main_arg3 : FVec F S8x3584x1024 .f32) (main_arg4 : IVec S74 32) (main_arg5 : IVec S1 32) (main_arg6 : FVec F S37888x1 .f32) : IVec S_ 1 :=
  let main_c : IVec S_ 32 := constantI S_ 32 0#32
  let main_v0 : IVec S74 32 := broadcastInDim S74 ![] bcast_S_S74 main_c
  let main_v1 : IVec S74 1 := cmpi .sge main_arg4 main_v0
  let main_c_0 : IVec S_ 32 := constantI S_ 32 8#32
  let main_v2 : IVec S74 32 := broadcastInDim S74 ![] bcast_S_S74 main_c_0
  let main_v3 : IVec S74 1 := cmpi .slt main_arg4 main_v2
  let main_v4 : IVec S74 1 := andi main_v1 main_v3
  let main_c_1 : IVec S_ 1 := constantI S_ 1 1#1
  let main_v5 : IVec S_ 1 := (fun x v => Host.reduce IntOp.andi x v reducesTo_S74_S_d0 h_S_) main_v4 main_c_1
  main_v5
-- ==== Kernel.lean ====
abbrev S37888x1024 : Shape := ⟨2, ![37888, 1024]⟩
abbrev S8x1024x3584 : Shape := ⟨3, ![8, 1024, 3584]⟩
abbrev S8x3584x1024 : Shape := ⟨3, ![8, 3584, 1024]⟩
abbrev S74 : Shape := ⟨1, ![74]⟩
abbrev S1 : Shape := ⟨1, ![1]⟩
abbrev S37888x1 : Shape := ⟨2, ![37888, 1]⟩
abbrev S512x1024 : Shape := ⟨2, ![512, 1024]⟩
abbrev S1x1024x512 : Shape := ⟨3, ![1, 1024, 512]⟩
abbrev S1x512x1024 : Shape := ⟨3, ![1, 512, 1024]⟩
abbrev S512x1 : Shape := ⟨2, ![512, 1]⟩
abbrev S1024x512 : Shape := ⟨2, ![1024, 512]⟩
abbrev S512x512 : Shape := ⟨2, ![512, 512]⟩

abbrev nBuf : Space → Nat
  | .hbm => 9
  | .vmem => 13
  | .smem => 2
  | _ => 0

abbrev bufTy : (tb : Table) → Fin (tcTables nBuf tb) → BufTy
  | .hbm, ⟨0, _⟩ => ⟨S37888x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S37888x1, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S37888x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1, .f32⟩
  | .local _ .vmem, ⟨9, _⟩ => ⟨S512x1, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .smem, ⟨0, _⟩ => ⟨S74, .i32⟩
  | .local _ .smem, ⟨1, _⟩ => ⟨S1, .i32⟩
  | _, _ => ⟨S37888x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![74, 7], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v7 : BitVec 1 := Scalar.cmpi .eq arg1 c6_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S37888x1024 : Shape := ⟨2, ![37888, 1024]⟩
abbrev S8x1024x3584 : Shape := ⟨3, ![8, 1024, 3584]⟩
abbrev S8x3584x1024 : Shape := ⟨3, ![8, 3584, 1024]⟩
abbrev S74 : Shape := ⟨1, ![74]⟩
abbrev S1 : Shape := ⟨1, ![1]⟩
abbrev S37888x1 : Shape := ⟨2, ![37888, 1]⟩
abbrev S74x512 : Shape := ⟨2, ![74, 512]⟩
abbrev S37888 : Shape := ⟨1, ![37888]⟩
abbrev S_ : Shape := ⟨0, ![]⟩
abbrev S8 : Shape := ⟨1, ![8]⟩
abbrev S1x8 : Shape := ⟨2, ![1, 8]⟩
abbrev S37888x8 : Shape := ⟨2, ![37888, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S37888x3584 : Shape := ⟨2, ![37888, 3584]⟩

abbrev nBuf : Space → Nat
  | .hbm => 216
  | .vmem => 0
  | .smem => 0
  | _ => 0

abbrev hbmTy0_0 (i : Nat) : BufTy := match i % 128 with
  | 0 => ⟨S37888x1024, .bf16⟩
  | 1 => ⟨S8x1024x3584, .f32⟩
  | 2 => ⟨S8x1024x3584, .f32⟩
  | 3 => ⟨S8x3584x1024, .f32⟩
  | 4 => ⟨S74, .i32⟩
  | 5 => ⟨S1, .i32⟩
  | 6 => ⟨S37888x1, .f32⟩
  | 7 => ⟨S37888x1024, .f32⟩
  | 8 => ⟨S74x512, .i32⟩
  | 9 => ⟨S37888, .i32⟩
  | 10 => ⟨S74, .i32⟩
  | 11 => ⟨S_, .i32⟩
  | 12 => ⟨S74, .i32⟩
  | 13 => ⟨S74, .i1⟩
  | 14 => ⟨S74x512, .i1⟩
  | 15 => ⟨S37888, .i1⟩
  | 16 => ⟨S37888x1, .i32⟩
  | 17 => ⟨S8, .i32⟩
  | 18 => ⟨S1x8, .i32⟩
  | 19 => ⟨S37888x8, .i32⟩
  | 20 => ⟨S37888x8, .i32⟩
  | 21 => ⟨S37888x8, .i1⟩
  | 22 => ⟨S37888x1, .i1⟩
  | 23 => ⟨S37888x8, .i1⟩
  | 24 => ⟨S37888x8, .i1⟩
  | 25 => ⟨S_, .f32⟩
  | 26 => ⟨S_, .f32⟩
  | 27 => ⟨S37888x8, .f32⟩
  | 28 => ⟨S37888x8, .f32⟩
  | 29 => ⟨S37888x8, .f32⟩
  | 30 => ⟨S_, .f32⟩
  | 31 => ⟨S37888x1024, .f32⟩
  | 32 => ⟨S37888x1, .f32⟩
  | 33 => ⟨S1x1024x3584, .f32⟩
  | 34 => ⟨S1024x3584, .f32⟩
  | 35 => ⟨S1x1024x3584, .f32⟩
  | 36 => ⟨S1024x3584, .f32⟩
  | 37 => ⟨S1x3584x1024, .f32⟩
  | 38 => ⟨S3584x1024, .f32⟩
  | 39 => ⟨S37888x3584, .f32⟩
  | 40 => ⟨S37888x3584, .f32⟩
  | 41 => ⟨S37888x3584, .f32⟩
  | 42 => ⟨S_, .f32⟩
  | 43 => ⟨S37888x3584, .f32⟩
  | 44 => ⟨S37888x3584, .f32⟩
  | 45 => ⟨S_, .f32⟩
  | 46 => ⟨S37888x3584, .f32⟩
  | 47 => ⟨S37888x3584, .f32⟩
  | 48 => ⟨S37888x3584, .f32⟩
  | 49 => ⟨S37888x3584, .f32⟩
  | 50 => ⟨S37888x3584, .f32⟩
  | 51 => ⟨S37888x1024, .f32⟩
  | 52 => ⟨S37888x1024, .f32⟩
  | 53 => ⟨S37888x1024, .f32⟩
  | 54 => ⟨S37888x1024, .f32⟩
  | 55 => ⟨S37888x1, .f32⟩
  | 56 => ⟨S1x1024x3584, .f32⟩
  | 57 => ⟨S1024x3584, .f32⟩
  | 58 => ⟨S1x1024x3584, .f32⟩
  | 59 => ⟨S1024x3584, .f32⟩
  | 60 => ⟨S1x3584x1024, .f32⟩
  | 61 => ⟨S3584x1024, .f32⟩
  | 62 => ⟨S37888x3584, .f32⟩
  | 63 => ⟨S37888x3584, .f32⟩
  | 64 => ⟨S37888x3584, .f32⟩
  | 65 => ⟨S_, .f32⟩
  | 66 => ⟨S37888x3584, .f32⟩
  | 67 => ⟨S37888x3584, .f32⟩
  | 68 => ⟨S_, .f32⟩
  | 69 => ⟨S37888x3584, .f32⟩
  | 70 => ⟨S37888x3584, .f32⟩
  | 71 => ⟨S37888x3584, .f32⟩
  | 72 => ⟨S37888x3584, .f32⟩
  | 73 => ⟨S37888x3584, .f32⟩
  | 74 => ⟨S37888x1024, .f32⟩
  | 75 => ⟨S37888x1024, .f32⟩
  | 76 => ⟨S37888x1024, .f32⟩
  | 77 => ⟨S37888x1024, .f32⟩
  | 78 => ⟨S37888x1, .f32⟩
  | 79 => ⟨S1x1024x3584, .f32⟩
  | 80 => ⟨S1024x3584, .f32⟩
  | 81 => ⟨S1x1024x3584, .f32⟩
  | 82 => ⟨S1024x3584, .f32⟩
  | 83 => ⟨S1x3584x1024, .f32⟩
  | 84 => ⟨S3584x1024, .f32⟩
  | 85 => ⟨S37888x3584, .f32⟩
  | 86 => ⟨S37888x3584, .f32⟩
  | 87 => ⟨S37888x3584, .f32⟩
  | 88 => ⟨S_, .f32⟩
  | 89 => ⟨S37888x3584, .f32⟩
  | 90 => ⟨S37888x3584, .f32⟩
  | 91 => ⟨S_, .f32⟩
  | 92 => ⟨S37888x3584, .f32⟩
  | 93 => ⟨S37888x3584, .f32⟩
  | 94 => ⟨S37888x3584, .f32⟩
  | 95 => ⟨S37888x3584, .f32⟩
  | 96 => ⟨S37888x3584, .f32⟩
  | 97 => ⟨S37888x1024, .f32⟩
  | 98 => ⟨S37888x1024, .f32⟩
  | 99 => ⟨S37888x1024, .f32⟩
  | 100 => ⟨S37888x1024, .f32⟩
  | 101 => ⟨S37888x1, .f32⟩
  | 102 => ⟨S1x1024x3584, .f32⟩
  | 103 => ⟨S1024x3584, .f32⟩
  | 104 => ⟨S1x1024x3584, .f32⟩
  | 105 => ⟨S1024x3584, .f32⟩
  | 106 => ⟨S1x3584x1024, .f32⟩
  | 107 => ⟨S3584x1024, .f32⟩
  | 108 => ⟨S37888x3584, .f32⟩
  | 109 => ⟨S37888x3584, .f32⟩
  | 110 => ⟨S37888x3584, .f32⟩
  | 111 => ⟨S_, .f32⟩
  | 112 => ⟨S37888x3584, .f32⟩
  | 113 => ⟨S37888x3584, .f32⟩
  | 114 => ⟨S_, .f32⟩
  | 115 => ⟨S37888x3584, .f32⟩
  | 116 => ⟨S37888x3584, .f32⟩
  | 117 => ⟨S37888x3584, .f32⟩
  | 118 => ⟨S37888x3584, .f32⟩
  | 119 => ⟨S37888x3584, .f32⟩
  | 120 => ⟨S37888x1024, .f32⟩
  | 121 => ⟨S37888x1024, .f32⟩
  | 122 => ⟨S37888x1024, .f32⟩
  | 123 => ⟨S37888x1024, .f32⟩
  | 124 => ⟨S37888x1, .f32⟩
  | 125 => ⟨S1x1024x3584, .f32⟩
  | 126 => ⟨S1024x3584, .f32⟩
  | 127 => ⟨S1x1024x3584, .f32⟩
  | _ => ⟨S37888x1024, .bf16⟩

abbrev hbmTy0_1 (i : Nat) : BufTy := match i % 128 with
  | 0 => ⟨S1024x3584, .f32⟩
  | 1 => ⟨S1x3584x1024, .f32⟩
  | 2 => ⟨S3584x1024, .f32⟩
  | 3 => ⟨S37888x3584, .f32⟩
  | 4 => ⟨S37888x3584, .f32⟩
  | 5 => ⟨S37888x3584, .f32⟩
  | 6 => ⟨S_, .f32⟩
  | 7 => ⟨S37888x3584, .f32⟩
  | 8 => ⟨S37888x3584, .f32⟩
  | 9 => ⟨S_, .f32⟩
  | 10 => ⟨S37888x3584, .f32⟩
  | 11 => ⟨S37888x3584, .f32⟩
  | 12 => ⟨S37888x3584, .f32⟩
  | 13 => ⟨S37888x3584, .f32⟩
  | 14 => ⟨S37888x3584, .f32⟩
  | 15 => ⟨S37888x1024, .f32⟩
  | 16 => ⟨S37888x1024, .f32⟩
  | 17 => ⟨S37888x1024, .f32⟩
  | 18 => ⟨S37888x1024, .f32⟩
  | 19 => ⟨S37888x1, .f32⟩
  | 20 => ⟨S1x1024x3584, .f32⟩
  | 21 => ⟨S1024x3584, .f32⟩
  | 22 => ⟨S1x1024x3584, .f32⟩
  | 23 => ⟨S1024x3584, .f32⟩
  | 24 => ⟨S1x3584x1024, .f32⟩
  | 25 => ⟨S3584x1024, .f32⟩
  | 26 => ⟨S37888x3584, .f32⟩
  | 27 => ⟨S37888x3584, .f32⟩
  | 28 => ⟨S37888x3584, .f32⟩
  | 29 => ⟨S_, .f32⟩
  | 30 => ⟨S37888x3584, .f32⟩
  | 31 => ⟨S37888x3584, .f32⟩
  | 32 => ⟨S_, .f32⟩
  | 33 => ⟨S37888x3584, .f32⟩
  | 34 => ⟨S37888x3584, .f32⟩
  | 35 => ⟨S37888x3584, .f32⟩
  | 36 => ⟨S37888x3584, .f32⟩
  | 37 => ⟨S37888x3584, .f32⟩
  | 38 => ⟨S37888x1024, .f32⟩
  | 39 => ⟨S37888x1024, .f32⟩
  | 40 => ⟨S37888x1024, .f32⟩
  | 41 => ⟨S37888x1024, .f32⟩
  | 42 => ⟨S37888x1, .f32⟩
  | 43 => ⟨S1x1024x3584, .f32⟩
  | 44 => ⟨S1024x3584, .f32⟩
  | 45 => ⟨S1x1024x3584, .f32⟩
  | 46 => ⟨S1024x3584, .f32⟩
  | 47 => ⟨S1x3584x1024, .f32⟩
  | 48 => ⟨S3584x1024, .f32⟩
  | 49 => ⟨S37888x3584, .f32⟩
  | 50 => ⟨S37888x3584, .f32⟩
  | 51 => ⟨S37888x3584, .f32⟩
  | 52 => ⟨S_, .f32⟩
  | 53 => ⟨S37888x3584, .f32⟩
  | 54 => ⟨S37888x3584, .f32⟩
  | 55 => ⟨S_, .f32⟩
  | 56 => ⟨S37888x3584, .f32⟩
  | 57 => ⟨S37888x3584, .f32⟩
  | 58 => ⟨S37888x3584, .f32⟩
  | 59 => ⟨S37888x3584, .f32⟩
  | 60 => ⟨S37888x3584, .f32⟩
  | 61 => ⟨S37888x1024, .f32⟩
  | 62 => ⟨S37888x1024, .f32⟩
  | 63 => ⟨S37888x1024, .f32⟩
  | 64 => ⟨S37888x1024, .f32⟩
  | 65 => ⟨S37888x1, .f32⟩
  | 66 => ⟨S1x1024x3584, .f32⟩
  | 67 => ⟨S1024x3584, .f32⟩
  | 68 => ⟨S1x1024x3584, .f32⟩
  | 69 => ⟨S1024x3584, .f32⟩
  | 70 => ⟨S1x3584x1024, .f32⟩
  | 71 => ⟨S3584x1024, .f32⟩
  | 72 => ⟨S37888x3584, .f32⟩
  | 73 => ⟨S37888x3584, .f32⟩
  | 74 => ⟨S37888x3584, .f32⟩
  | 75 => ⟨S_, .f32⟩
  | 76 => ⟨S37888x3584, .f32⟩
  | 77 => ⟨S37888x3584, .f32⟩
  | 78 => ⟨S_, .f32⟩
  | 79 => ⟨S37888x3584, .f32⟩
  | 80 => ⟨S37888x3584, .f32⟩
  | 81 => ⟨S37888x3584, .f32⟩
  | 82 => ⟨S37888x3584, .f32⟩
  | 83 => ⟨S37888x3584, .f32⟩
  | 84 => ⟨S37888x1024, .f32⟩
  | 85 => ⟨S37888x1024, .f32⟩
  | 86 => ⟨S37888x1024, .f32⟩
  | 87 => ⟨S37888x1024, .f32⟩
  | _ => ⟨S37888x1024, .bf16⟩

abbrev hbmTy (i : Nat) : BufTy := match i / 128 with
  | 0 => hbmTy0_0 i
  | 1 => hbmTy0_1 i
  | _ => ⟨S37888x1024, .bf16⟩

abbrev bufTy : (tb : Table) → Fin (tcTables nBuf tb) → BufTy
  | .hbm, ⟨i, _⟩ => hbmTy i
  | _, _ => ⟨S37888x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_call5_v0 : Ref sig .tc := ⟨.hbm, 132, rfl⟩
abbrev main_call5_v1 : Ref sig .tc := ⟨.hbm, 133, rfl⟩
abbrev main_call5_cst : Ref sig .tc := ⟨.hbm, 134, rfl⟩
abbrev main_call5_v2 : Ref sig .tc := ⟨.hbm, 135, rfl⟩
abbrev main_call5_v3 : Ref sig .tc := ⟨.hbm, 136, rfl⟩
abbrev main_call5_cst_0 : Ref sig .tc := ⟨.hbm, 137, rfl⟩
abbrev main_call5_v4 : Ref sig .tc := ⟨.hbm, 138, rfl⟩
abbrev main_call5_v5 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_call6_v0 : Ref sig .tc := ⟨.hbm, 155, rfl⟩
abbrev main_call6_v1 : Ref sig .tc := ⟨.hbm, 156, rfl⟩
abbrev main_call6_cst : Ref sig .tc := ⟨.hbm, 157, rfl⟩
abbrev main_call6_v2 : Ref sig .tc := ⟨.hbm, 158, rfl⟩
abbrev main_call6_v3 : Ref sig .tc := ⟨.hbm, 159, rfl⟩
abbrev main_call6_cst_0 : Ref sig .tc := ⟨.hbm, 160, rfl⟩
abbrev main_call6_v4 : Ref sig .tc := ⟨.hbm, 161, rfl⟩
abbrev main_call6_v5 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_call7_v0 : Ref sig .tc := ⟨.hbm, 178, rfl⟩
abbrev main_call7_v1 : Ref sig .tc := ⟨.hbm, 179, rfl⟩
abbrev main_call7_cst : Ref sig .tc := ⟨.hbm, 180, rfl⟩
abbrev main_call7_v2 : Ref sig .tc := ⟨.hbm, 181, rfl⟩
abbrev main_call7_v3 : Ref sig .tc := ⟨.hbm, 182, rfl⟩
abbrev main_call7_cst_0 : Ref sig .tc := ⟨.hbm, 183, rfl⟩
abbrev main_call7_v4 : Ref sig .tc := ⟨.hbm, 184, rfl⟩
abbrev main_call7_v5 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_call8_v0 : Ref sig .tc := ⟨.hbm, 201, rfl⟩
abbrev main_call8_v1 : Ref sig .tc := ⟨.hbm, 202, rfl⟩
abbrev main_call8_cst : Ref sig .tc := ⟨.hbm, 203, rfl⟩
abbrev main_call8_v2 : Ref sig .tc := ⟨.hbm, 204, rfl⟩
abbrev main_call8_v3 : Ref sig .tc := ⟨.hbm, 205, rfl⟩
abbrev main_call8_cst_0 : Ref sig .tc := ⟨.hbm, 206, rfl⟩
abbrev main_call8_v4 : Ref sig .tc := ⟨.hbm, 207, rfl⟩
abbrev main_call8_v5 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩

abbrev nD : Nat := 1
abbrev τ : Topo := Topo.v7x

variable {F : FTy → Type} [FloatOps F]
-- ==== Dense.lean ====
abbrev S16896x1024 : Shape := ⟨2, ![16896, 1024]⟩
abbrev S1024x2816 : Shape := ⟨2, ![1024, 2816]⟩
abbrev S2816x1024 : Shape := ⟨2, ![2816, 1024]⟩
abbrev S1x1024x2816 : Shape := ⟨3, ![1, 1024, 2816]⟩
abbrev S1x2816x1024 : Shape := ⟨3, ![1, 2816, 1024]⟩
abbrev S_ : Shape := ⟨0, ![]⟩
abbrev S33 : Shape := ⟨1, ![33]⟩
abbrev S1 : Shape := ⟨1, ![1]⟩
abbrev S16896x1 : Shape := ⟨2, ![16896, 1]⟩
abbrev S512x1024 : Shape := ⟨2, ![512, 1024]⟩
abbrev S1x1024x256 : Shape := ⟨3, ![1, 1024, 256]⟩
abbrev S1x256x1024 : Shape := ⟨3, ![1, 256, 1024]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 15
  | .smem => 2
  | _ => 0

abbrev bufTy : (tb : Table) → Fin (tcTables nBuf tb) → BufTy
  | .hbm, ⟨0, _⟩ => ⟨S16896x1024, .bf16⟩
  | .hbm, ⟨1, _⟩ => ⟨S16896x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024x2816, .f32⟩
  | .hbm, ⟨6, _⟩ => ⟨S1x1024x2816, .bf16⟩
  | .hbm, ⟨7, _⟩ => ⟨S1x1024x2816, .f32⟩
  | .hbm, ⟨8, _⟩ => ⟨S1x1024x2816, .bf16⟩
  | .hbm, ⟨9, _⟩ => ⟨S1x2816x1024, .f32⟩
  | .hbm, ⟨10, _⟩ => ⟨S1x2816x1024, .bf16⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S16896x1, .f32⟩
  | .hbm, ⟨15, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1, .f32⟩
  | .local _ .vmem, ⟨9, _⟩ => ⟨S512x1, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .smem, ⟨0, _⟩ => ⟨S33, .i32⟩
  | .local _ .smem, ⟨1, _⟩ => ⟨S1, .i32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_0 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v6 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![33, 11], ![false, false]⟩

abbrev pre0 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c10_i32 : BitVec 32 := 10#32
  let v7 : BitVec 1 := Scalar.cmpi .eq arg1 c10_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S33.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S33) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S33.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S33) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S33.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S33) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DenseRefIdeal.lean ====
abbrev S16896x1024 : Shape := ⟨2, ![16896, 1024]⟩
abbrev S1024x2816 : Shape := ⟨2, ![1024, 2816]⟩
abbrev S2816x1024 : Shape := ⟨2, ![2816, 1024]⟩
abbrev S16896x2816 : Shape := ⟨2, ![16896, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16896x1024, .f32⟩
  | .hbm, ⟨6, _⟩ => ⟨S16896x2816, .f32⟩
  | .hbm, ⟨7, _⟩ => ⟨S16896x2816, .f32⟩
  | .hbm, ⟨8, _⟩ => ⟨S16896x2816, .f32⟩
  | .hbm, ⟨9, _⟩ => ⟨S_, .f32⟩
  | .hbm, ⟨10, _⟩ => ⟨S16896x2816, .f32⟩
  | .hbm, ⟨11, _⟩ => ⟨S16896x2816, .f32⟩
  | .hbm, ⟨12, _⟩ => ⟨S_, .f32⟩
  | .hbm, ⟨13, _⟩ => ⟨S16896x2816, .f32⟩
  | .hbm, ⟨14, _⟩ => ⟨S16896x2816, .f32⟩
  | .hbm, ⟨15, _⟩ => ⟨S16896x2816, .f32⟩
  | .hbm, ⟨16, _⟩ => ⟨S16896x2816, .f32⟩
  | .hbm, ⟨17, _⟩ => ⟨S16896x2816, .f32⟩
  | .hbm, ⟨18, _⟩ => ⟨S16896x1024, .f32⟩
  | .hbm, ⟨19, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Input.lean ====
abbrev S4x4096x1024 : Shape := ⟨3, ![4, 4096, 1024]⟩
abbrev S128x4x1024 : Shape := ⟨3, ![128, 4, 1024]⟩
abbrev S128x512x2x2x64 : Shape := ⟨5, ![128, 512, 2, 2, 64]⟩
abbrev S1024 : Shape := ⟨1, ![1024]⟩
abbrev S1024x3360 : Shape := ⟨2, ![1024, 3360]⟩
abbrev S16384x1024 : Shape := ⟨2, ![16384, 1024]⟩
abbrev S512x1024 : Shape := ⟨2, ![512, 1024]⟩
abbrev S16896x1024 : Shape := ⟨2, ![16896, 1024]⟩
abbrev S1x1024 : Shape := ⟨2, ![1, 1024]⟩
abbrev S512 : Shape := ⟨1, ![512]⟩
abbrev S512x1 : Shape := ⟨2, ![512, 1]⟩
abbrev S_ : Shape := ⟨0, ![]⟩
abbrev S1024x3456 : Shape := ⟨2, ![1024, 3456]⟩
abbrev S16896x3456 : Shape := ⟨2, ![16896, 3456]⟩
abbrev S1024x1152 : Shape := ⟨2, ![1024, 1152]⟩
abbrev S512x1152 : Shape := ⟨2, ![512, 1152]⟩
abbrev S16896x3360 : Shape := ⟨2, ![16896, 3360]⟩
abbrev S16384x3360 : Shape := ⟨2, ![16384, 3360]⟩
abbrev S4x4096x3360 : Shape := ⟨3, ![4, 4096, 3360]⟩
abbrev S512x3360 : Shape := ⟨2, ![512, 3360]⟩
abbrev S128x4x3360 : Shape := ⟨3, ![128, 4, 3360]⟩
abbrev S4x4096x512 : Shape := ⟨3, ![4, 4096, 512]⟩
abbrev S4x4096x128 : Shape := ⟨3, ![4, 4096, 128]⟩
abbrev S4x4096x24 : Shape := ⟨3, ![4, 4096, 24]⟩
abbrev S4x4096x4 : Shape := ⟨3, ![4, 4096, 4]⟩
abbrev S4x4096x2x64 : Shape := ⟨4, ![4, 4096, 2, 64]⟩
abbrev S4x4096x1x2x64 : Shape := ⟨5, ![4, 4096, 1, 2, 64]⟩
abbrev S4x4096x4x2x64 : Shape := ⟨5, ![4, 4096, 4, 2, 64]⟩
abbrev S4x4096x2x2x64 : Shape := ⟨5, ![4, 4096, 2, 2, 64]⟩
abbrev S4x512x2x2x64 : Shape := ⟨5, ![4, 512, 2, 2, 64]⟩
abbrev S128x4x512 : Shape := ⟨3, ![128, 4, 512]⟩
abbrev S128x4x128 : Shape := ⟨3, ![128, 4, 128]⟩
abbrev S128x4x24 : Shape := ⟨3, ![128, 4, 24]⟩
abbrev S128x4x4 : Shape := ⟨3, ![128, 4, 4]⟩
abbrev S128x4x2x64 : Shape := ⟨4, ![128, 4, 2, 64]⟩
abbrev S128x4x1x2x64 : Shape := ⟨5, ![128, 4, 1, 2, 64]⟩
abbrev S128x4x4x2x64 : Shape := ⟨5, ![128, 4, 4, 2, 64]⟩
abbrev S128x4x2x2x64 : Shape := ⟨5, ![128, 4, 2, 2, 64]⟩
abbrev S128x516x2x2x64 : Shape := ⟨5, ![128, 516, 2, 2, 64]⟩

abbrev nBuf : Space → Nat
  | .hbm => 79
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S128x512x2x2x64, .f32⟩
  | .hbm, ⟨3, _⟩ => ⟨S1024, .f32⟩
  | .hbm, ⟨4, _⟩ => ⟨S1024x3360, .f32⟩
  | .hbm, ⟨5, _⟩ => ⟨S16384x1024, .f32⟩
  | .hbm, ⟨6, _⟩ => ⟨S512x1024, .f32⟩
  | .hbm, ⟨7, _⟩ => ⟨S16896x1024, .f32⟩
  | .hbm, ⟨8, _⟩ => ⟨S1x1024, .f32⟩
  | .hbm, ⟨9, _⟩ => ⟨S16896x1024, .bf16⟩
  | .hbm, ⟨10, _⟩ => ⟨S_, .i32⟩
  | .hbm, ⟨11, _⟩ => ⟨S_, .f32⟩
  | .hbm, ⟨12, _⟩ => ⟨S1024x3456, .f32⟩
  | .hbm, ⟨13, _⟩ => ⟨S1024x3456, .bf16⟩
  | .hbm, ⟨14, _⟩ => ⟨S16896x3456, .f32⟩
  | .hbm, ⟨15, _⟩ => ⟨S16896x3360, .f32⟩
  | .hbm, ⟨16, _⟩ => ⟨S16384x3360, .f32⟩
  | .hbm, ⟨17, _⟩ => ⟨S4x4096x3360, .f32⟩
  | .hbm, ⟨18, _⟩ => ⟨S512x3360, .f32⟩
  | .hbm, ⟨19, _⟩ => ⟨S128x4x3360, .f32⟩
  | .hbm, ⟨20, _⟩ => ⟨S4x4096x512, .f32⟩
  | .hbm, ⟨21, _⟩ => ⟨S4x4096x128, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x128, .f32⟩
  | .hbm, ⟨27, _⟩ => ⟨S4x4096x24, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S4x4096x4, .f32⟩
  | .hbm, ⟨33, _⟩ => ⟨S4x4096x4, .f32⟩
  | .hbm, ⟨34, _⟩ => ⟨S4x4096x2x64, .f32⟩
  | .hbm, ⟨35, _⟩ => ⟨S4x4096x2x64, .f32⟩
  | .hbm, ⟨36, _⟩ => ⟨S4x4096x2x64, .f32⟩
  | .hbm, ⟨37, _⟩ => ⟨S4x4096x2x64, .f32⟩
  | .hbm, ⟨38, _⟩ => ⟨S4x4096x1x2x64, .f32⟩
  | .hbm, ⟨39, _⟩ => ⟨S4x4096x1x2x64, .f32⟩
  | .hbm, ⟨40, _⟩ => ⟨S4x4096x1x2x64, .f32⟩
  | .hbm, ⟨41, _⟩ => ⟨S4x4096x1x2x64, .f32⟩
  | .hbm, ⟨42, _⟩ => ⟨S4x4096x4x2x64, .f32⟩
  | .hbm, ⟨43, _⟩ => ⟨S4x4096x2x64, .f32⟩
  | .hbm, ⟨44, _⟩ => ⟨S4x4096x2x64, .f32⟩
  | .hbm, ⟨45, _⟩ => ⟨S4x4096x1x2x64, .f32⟩
  | .hbm, ⟨46, _⟩ => ⟨S4x4096x1x2x64, .f32⟩
  | .hbm, ⟨47, _⟩ => ⟨S4x4096x2x2x64, .f32⟩
  | .hbm, ⟨48, _⟩ => ⟨S4x512x2x2x64, .f32⟩
  | .hbm, ⟨49, _⟩ => ⟨S128x4x512, .f32⟩
  | .hbm, ⟨50, _⟩ => ⟨S128x4x128, .f32⟩
  | .hbm, ⟨51, _⟩ => ⟨S128x4x128, .f32⟩
  | .hbm, ⟨52, _⟩ => ⟨S128x4x128, .f32⟩
  | .hbm, ⟨53, _⟩ => ⟨S128x4x128, .f32⟩
  | .hbm, ⟨54, _⟩ => ⟨S128x4x128, .f32⟩
  | .hbm, ⟨55, _⟩ => ⟨S128x4x128, .f32⟩
  | .hbm, ⟨56, _⟩ => ⟨S128x4x24, .f32⟩
  | .hbm, ⟨57, _⟩ => ⟨S128x4x512, .f32⟩
  | .hbm, ⟨58, _⟩ => ⟨S128x4x512, .f32⟩
  | .hbm, ⟨59, _⟩ => ⟨S128x4x512, .f32⟩
  | .hbm, ⟨60, _⟩ => ⟨S128x4x512, .f32⟩
  | .hbm, ⟨61, _⟩ => ⟨S128x4x4, .f32⟩
  | .hbm, ⟨62, _⟩ => ⟨S128x4x4, .f32⟩
  | .hbm, ⟨63, _⟩ => ⟨S128x4x2x64, .f32⟩
  | .hbm, ⟨64, _⟩ => ⟨S128x4x2x64, .f32⟩
  | .hbm, ⟨65, _⟩ => ⟨S128x4x2x64, .f32⟩
  | .hbm, ⟨66, _⟩ => ⟨S128x4x2x64, .f32⟩
  | .hbm, ⟨67, _⟩ => ⟨S128x4x1x2x64, .f32⟩
  | .hbm, ⟨68, _⟩ => ⟨S128x4x1x2x64, .f32⟩
  | .hbm, ⟨69, _⟩ => ⟨S128x4x1x2x64, .f32⟩
  | .hbm, ⟨70, _⟩ => ⟨S128x4x1x2x64, .f32⟩
  | .hbm, ⟨71, _⟩ => ⟨S128x4x4x2x64, .f32⟩
  | .hbm, ⟨72, _⟩ => ⟨S128x4x2x64, .f32⟩
  | .hbm, ⟨73, _⟩ => ⟨S128x4x2x64, .f32⟩
  | .hbm, ⟨74, _⟩ => ⟨S128x4x1x2x64, .f32⟩
  | .hbm, ⟨75, _⟩ => ⟨S128x4x1x2x64, .f32⟩
  | .hbm, ⟨76, _⟩ => ⟨S128x4x2x2x64, .f32⟩
  | .hbm, ⟨77, _⟩ => ⟨S128x516x2x2x64, .f32⟩
  | .hbm, ⟨78, _⟩ => ⟨S128x512x2x2x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1152, .bf16⟩
  | .local _ .vmem, ⟨8, _⟩ => ⟨S1024x1152, .bf16⟩
  | .local _ .vmem, ⟨9, _⟩ => ⟨S512x1152, .f32⟩
  | .local _ .vmem, ⟨10, _⟩ => ⟨S512x1152, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![33, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1152 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InputRefIdeal.lean ====
abbrev S4x4096x1024 : Shape := ⟨3, ![4, 4096, 1024]⟩
abbrev S128x4x1024 : Shape := ⟨3, ![128, 4, 1024]⟩
abbrev S128x512x2x2x64 : Shape := ⟨5, ![128, 512, 2, 2, 64]⟩
abbrev S1024 : Shape := ⟨1, ![1024]⟩
abbrev S1024x3360 : Shape := ⟨2, ![1024, 3360]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3360 : Shape := ⟨3, ![4, 4096, 3360]⟩
abbrev S4x4096x512 : Shape := ⟨3, ![4, 4096, 512]⟩
abbrev S4x4096x128 : Shape := ⟨3, ![4, 4096, 128]⟩
abbrev S4x4096x24 : Shape := ⟨3, ![4, 4096, 24]⟩
abbrev S4x4096x4 : Shape := ⟨3, ![4, 4096, 4]⟩
abbrev S4x4096x2x64 : Shape := ⟨4, ![4, 4096, 2, 64]⟩
abbrev S4x4096x1x2x64 : Shape := ⟨5, ![4, 4096, 1, 2, 64]⟩
abbrev S4x4096x4x2x64 : Shape := ⟨5, ![4, 4096, 4, 2, 64]⟩
abbrev S4x4096x2x2x64 : Shape := ⟨5, ![4, 4096, 2, 2, 64]⟩
abbrev S128x4 : Shape := ⟨2, ![128, 4]⟩
abbrev S128x4x1 : Shape := ⟨3, ![128, 4, 1]⟩
abbrev S128x4x3360 : Shape := ⟨3, ![128, 4, 3360]⟩
abbrev S128x4x512 : Shape := ⟨3, ![128, 4, 512]⟩
abbrev S128x4x128 : Shape := ⟨3, ![128, 4, 128]⟩
abbrev S128x4x24 : Shape := ⟨3, ![128, 4, 24]⟩
abbrev S128x4x4 : Shape := ⟨3, ![128, 4, 4]⟩
abbrev S128x4x2x64 : Shape := ⟨4, ![128, 4, 2, 64]⟩
abbrev S128x4x1x2x64 : Shape := ⟨5, ![128, 4, 1, 2, 64]⟩
abbrev S128x4x4x2x64 : Shape := ⟨5, ![128, 4, 4, 2, 64]⟩
abbrev S128x4x2x2x64 : Shape := ⟨5, ![128, 4, 2, 2, 64]⟩
abbrev S4x512x2x2x64 : Shape := ⟨5, ![4, 512, 2, 2, 64]⟩
abbrev S128x516x2x2x64 : Shape := ⟨5, ![128, 516, 2, 2, 64]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x4x1024, .f32⟩
  | .hbm, ⟨2, _⟩ => ⟨S128x512x2x2x64, .f32⟩
  | .hbm, ⟨3, _⟩ => ⟨S1024, .f32⟩
  | .hbm, ⟨4, _⟩ => ⟨S1024x3360, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x3360, .f32⟩
  | .hbm, ⟨22, _⟩ => ⟨S4x4096x512, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x128, .f32⟩
  | .hbm, ⟨27, _⟩ => ⟨S4x4096x128, .f32⟩
  | .hbm, ⟨28, _⟩ => ⟨S4x4096x128, .f32⟩
  | .hbm, ⟨29, _⟩ => ⟨S4x4096x24, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x4096x4, .f32⟩
  | .hbm, ⟨35, _⟩ => ⟨S4x4096x4, .f32⟩
  | .hbm, ⟨36, _⟩ => ⟨S4x4096x2x64, .f32⟩
  | .hbm, ⟨37, _⟩ => ⟨S4x4096x2x64, .f32⟩
  | .hbm, ⟨38, _⟩ => ⟨S4x4096x2x64, .f32⟩
  | .hbm, ⟨39, _⟩ => ⟨S4x4096x2x64, .f32⟩
  | .hbm, ⟨40, _⟩ => ⟨S4x4096x1x2x64, .f32⟩
  | .hbm, ⟨41, _⟩ => ⟨S4x4096x1x2x64, .f32⟩
  | .hbm, ⟨42, _⟩ => ⟨S4x4096x1x2x64, .f32⟩
  | .hbm, ⟨43, _⟩ => ⟨S4x4096x1x2x64, .f32⟩
  | .hbm, ⟨44, _⟩ => ⟨S4x4096x4x2x64, .f32⟩
  | .hbm, ⟨45, _⟩ => ⟨S4x4096x2x64, .f32⟩
  | .hbm, ⟨46, _⟩ => ⟨S4x4096x2x64, .f32⟩
  | .hbm, ⟨47, _⟩ => ⟨S4x4096x1x2x64, .f32⟩
  | .hbm, ⟨48, _⟩ => ⟨S4x4096x1x2x64, .f32⟩
  | .hbm, ⟨49, _⟩ => ⟨S4x4096x2x2x64, .f32⟩
  | .hbm, ⟨50, _⟩ => ⟨S128x4x1024, .f32⟩
  | .hbm, ⟨51, _⟩ => ⟨S_, .f32⟩
  | .hbm, ⟨52, _⟩ => ⟨S128x4, .f32⟩
  | .hbm, ⟨53, _⟩ => ⟨S128x4x1, .f32⟩
  | .hbm, ⟨54, _⟩ => ⟨S_, .f32⟩
  | .hbm, ⟨55, _⟩ => ⟨S128x4x1, .f32⟩
  | .hbm, ⟨56, _⟩ => ⟨S128x4x1, .f32⟩
  | .hbm, ⟨57, _⟩ => ⟨S_, .f32⟩
  | .hbm, ⟨58, _⟩ => ⟨S128x4x1, .f32⟩
  | .hbm, ⟨59, _⟩ => ⟨S128x4x1, .f32⟩
  | .hbm, ⟨60, _⟩ => ⟨S128x4x1, .f32⟩
  | .hbm, ⟨61, _⟩ => ⟨S128x4x1024, .f32⟩
  | .hbm, ⟨62, _⟩ => ⟨S128x4x1024, .f32⟩
  | .hbm, ⟨63, _⟩ => ⟨S1x1x1024, .f32⟩
  | .hbm, ⟨64, _⟩ => ⟨S128x4x1024, .f32⟩
  | .hbm, ⟨65, _⟩ => ⟨S128x4x1024, .f32⟩
  | .hbm, ⟨66, _⟩ => ⟨S128x4x3360, .f32⟩
  | .hbm, ⟨67, _⟩ => ⟨S128x4x512, .f32⟩
  | .hbm, ⟨68, _⟩ => ⟨S128x4x128, .f32⟩
  | .hbm, ⟨69, _⟩ => ⟨S128x4x128, .f32⟩
  | .hbm, ⟨70, _⟩ => ⟨S128x4x128, .f32⟩
  | .hbm, ⟨71, _⟩ => ⟨S128x4x128, .f32⟩
  | .hbm, ⟨72, _⟩ => ⟨S128x4x128, .f32⟩
  | .hbm, ⟨73, _⟩ => ⟨S128x4x128, .f32⟩
  | .hbm, ⟨74, _⟩ => ⟨S128x4x24, .f32⟩
  | .hbm, ⟨75, _⟩ => ⟨S128x4x512, .f32⟩
  | .hbm, ⟨76, _⟩ => ⟨S128x4x512, .f32⟩
  | .hbm, ⟨77, _⟩ => ⟨S128x4x512, .f32⟩
  | .hbm, ⟨78, _⟩ => ⟨S128x4x512, .f32⟩
  | .hbm, ⟨79, _⟩ => ⟨S128x4x4, .f32⟩
  | .hbm, ⟨80, _⟩ => ⟨S128x4x4, .f32⟩
  | .hbm, ⟨81, _⟩ => ⟨S128x4x2x64, .f32⟩
  | .hbm, ⟨82, _⟩ => ⟨S128x4x2x64, .f32⟩
  | .hbm, ⟨83, _⟩ => ⟨S128x4x2x64, .f32⟩
  | .hbm, ⟨84, _⟩ => ⟨S128x4x2x64, .f32⟩
  | .hbm, ⟨85, _⟩ => ⟨S128x4x1x2x64, .f32⟩
  | .hbm, ⟨86, _⟩ => ⟨S128x4x1x2x64, .f32⟩
  | .hbm, ⟨87, _⟩ => ⟨S128x4x1x2x64, .f32⟩
  | .hbm, ⟨88, _⟩ => ⟨S128x4x1x2x64, .f32⟩
  | .hbm, ⟨89, _⟩ => ⟨S128x4x4x2x64, .f32⟩
  | .hbm, ⟨90, _⟩ => ⟨S128x4x2x64, .f32⟩
  | .hbm, ⟨91, _⟩ => ⟨S128x4x2x64, .f32⟩
  | .hbm, ⟨92, _⟩ => ⟨S128x4x1x2x64, .f32⟩
  | .hbm, ⟨93, _⟩ => ⟨S128x4x1x2x64, .f32⟩
  | .hbm, ⟨94, _⟩ => ⟨S128x4x2x2x64, .f32⟩
  | .hbm, ⟨95, _⟩ => ⟨S4x512x2x2x64, .f32⟩
  | .hbm, ⟨96, _⟩ => ⟨S128x516x2x2x64, .f32⟩
  | .hbm, ⟨97, _⟩ => ⟨S128x512x2x2x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩

abbrev nD : Nat := 1
abbrev τ : Topo := Topo.v7x

variable {F : FTy → Type} [FloatOps F]
-- ==== Qkv.lean ====
abbrev S16896x1024 : Shape := ⟨2, ![16896, 1024]⟩
abbrev S1024 : Shape := ⟨1, ![1024]⟩
abbrev S1024x3072 : Shape := ⟨2, ![1024, 3072]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S16896x3072 : Shape := ⟨2, ![16896, 3072]⟩
abbrev S1024x1024 : Shape := ⟨2, ![1024, 1024]⟩
abbrev S16384x3072 : Shape := ⟨2, ![16384, 3072]⟩
abbrev S4x4096x3x16x64 : Shape := ⟨5, ![4, 4096, 3, 16, 64]⟩
abbrev S4x4096x2x16x64 : Shape := ⟨5, ![4, 4096, 2, 16, 64]⟩
abbrev S512x3072 : Shape := ⟨2, ![512, 3072]⟩
abbrev S128x4x3x16x64 : Shape := ⟨5, ![128, 4, 3, 16, 64]⟩
abbrev S128x4x2x16x64 : Shape := ⟨5, ![128, 4, 2, 16, 64]⟩

abbrev nBuf : Space → Nat
  | .hbm => 14
  | .vmem => 13
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S16896x1024, .bf16⟩
  | .hbm, ⟨5, _⟩ => ⟨S1024x3072, .bf16⟩
  | .hbm, ⟨6, _⟩ => ⟨S16896x3072, .f32⟩
  | .hbm, ⟨7, _⟩ => ⟨S16896x3072, .bf16⟩
  | .hbm, ⟨8, _⟩ => ⟨S16384x3072, .f32⟩
  | .hbm, ⟨9, _⟩ => ⟨S4x4096x3x16x64, .f32⟩
  | .hbm, ⟨10, _⟩ => ⟨S4x4096x2x16x64, .f32⟩
  | .hbm, ⟨11, _⟩ => ⟨S512x3072, .f32⟩
  | .hbm, ⟨12, _⟩ => ⟨S128x4x3x16x64, .f32⟩
  | .hbm, ⟨13, _⟩ => ⟨S128x4x2x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![33, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== QkvRefIdeal.lean ====
abbrev S16896x1024 : Shape := ⟨2, ![16896, 1024]⟩
abbrev S1024 : Shape := ⟨1, ![1024]⟩
abbrev S1024x3072 : Shape := ⟨2, ![1024, 3072]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x3072 : Shape := ⟨2, ![16896, 3072]⟩
abbrev S16384x3072 : Shape := ⟨2, ![16384, 3072]⟩
abbrev S4x4096x3x16x64 : Shape := ⟨5, ![4, 4096, 3, 16, 64]⟩
abbrev S4x4096x2x16x64 : Shape := ⟨5, ![4, 4096, 2, 16, 64]⟩
abbrev S512x3072 : Shape := ⟨2, ![512, 3072]⟩
abbrev S128x4x3x16x64 : Shape := ⟨5, ![128, 4, 3, 16, 64]⟩
abbrev S128x4x2x16x64 : Shape := ⟨5, ![128, 4, 2, 16, 64]⟩

abbrev nBuf : Space → Nat
  | .hbm => 27
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x3072, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x3072, .f32⟩
  | .hbm, ⟨20, _⟩ => ⟨S16384x3072, .f32⟩
  | .hbm, ⟨21, _⟩ => ⟨S4x4096x3x16x64, .f32⟩
  | .hbm, ⟨22, _⟩ => ⟨S4x4096x2x16x64, .f32⟩
  | .hbm, ⟨23, _⟩ => ⟨S512x3072, .f32⟩
  | .hbm, ⟨24, _⟩ => ⟨S128x4x3x16x64, .f32⟩
  | .hbm, ⟨25, _⟩ => ⟨S128x4x2x16x64, .f32⟩
  | .hbm, ⟨26, _⟩ => ⟨S16896x3072, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Out.lean ====
abbrev S16896x1024 : Shape := ⟨2, ![16896, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024x1024, .f32⟩
  | .hbm, ⟨3, _⟩ => ⟨S16896x1024, .bf16⟩
  | .hbm, ⟨4, _⟩ => ⟨S1024x1024, .bf16⟩
  | .hbm, ⟨5, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16896x1024 : Shape := ⟨2, ![16896, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024x1024, .f32⟩
  | .hbm, ⟨3, _⟩ => ⟨S16896x1024, .f32⟩
  | .hbm, ⟨4, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Final.lean ====
abbrev S16896x1024 : Shape := ⟨2, ![16896, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S16384x1024 : Shape := ⟨2, ![16384, 1024]⟩
abbrev S4x4096x1024 : Shape := ⟨3, ![4, 4096, 1024]⟩
abbrev S128x4x1024 : Shape := ⟨3, ![128, 4, 1024]⟩

abbrev nBuf : Space → Nat
  | .hbm => 8
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1x1024, .f32⟩
  | .hbm, ⟨3, _⟩ => ⟨S16896x1024, .f32⟩
  | .hbm, ⟨4, _⟩ => ⟨S16384x1024, .f32⟩
  | .hbm, ⟨5, _⟩ => ⟨S4x4096x1024, .f32⟩
  | .hbm, ⟨6, _⟩ => ⟨S512x1024, .f32⟩
  | .hbm, ⟨7, _⟩ => ⟨S128x4x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16896x1024 : Shape := ⟨2, ![16896, 1024]⟩
abbrev S1024 : Shape := ⟨1, ![1024]⟩
abbrev S16384x1024 : Shape := ⟨2, ![16384, 1024]⟩
abbrev S4x4096x1024 : Shape := ⟨3, ![4, 4096, 1024]⟩
abbrev S512x1024 : Shape := ⟨2, ![512, 1024]⟩
abbrev S128x4x1024 : Shape := ⟨3, ![128, 4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S128x4 : Shape := ⟨2, ![128, 4]⟩
abbrev S128x4x1 : Shape := ⟨3, ![128, 4, 1]⟩

abbrev nBuf : Space → Nat
  | .hbm => 38
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S16384x1024, .f32⟩
  | .hbm, ⟨3, _⟩ => ⟨S4x4096x1024, .f32⟩
  | .hbm, ⟨4, _⟩ => ⟨S512x1024, .f32⟩
  | .hbm, ⟨5, _⟩ => ⟨S128x4x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S128x4x1024, .f32⟩
  | .hbm, ⟨23, _⟩ => ⟨S_, .f32⟩
  | .hbm, ⟨24, _⟩ => ⟨S128x4, .f32⟩
  | .hbm, ⟨25, _⟩ => ⟨S128x4x1, .f32⟩
  | .hbm, ⟨26, _⟩ => ⟨S_, .f32⟩
  | .hbm, ⟨27, _⟩ => ⟨S128x4x1, .f32⟩
  | .hbm, ⟨28, _⟩ => ⟨S128x4x1, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S128x4x1, .f32⟩
  | .hbm, ⟨33, _⟩ => ⟨S128x4x1024, .f32⟩
  | .hbm, ⟨34, _⟩ => ⟨S128x4x1024, .f32⟩
  | .hbm, ⟨35, _⟩ => ⟨S1x1x1024, .f32⟩
  | .hbm, ⟨36, _⟩ => ⟨S128x4x1024, .f32⟩
  | .hbm, ⟨37, _⟩ => ⟨S128x4x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Stick.lean ====
abbrev S128x4x3x16x64 : Shape := ⟨5, ![128, 4, 3, 16, 64]⟩
abbrev S2560x128x2x16x64 : Shape := ⟨5, ![2560, 128, 2, 16, 64]⟩
abbrev S128x16 : Shape := ⟨2, ![128, 16]⟩
abbrev S128x4x1x16x64 : Shape := ⟨5, ![128, 4, 1, 16, 64]⟩
abbrev S128x4x16x64 : Shape := ⟨4, ![128, 4, 16, 64]⟩
abbrev S_ : Shape := ⟨0, ![]⟩
abbrev S128x16x4x64 : Shape := ⟨4, ![128, 16, 4, 64]⟩
abbrev S128x16x4x1x64 : Shape := ⟨5, ![128, 16, 4, 1, 64]⟩
abbrev S16x16 : Shape := ⟨2, ![16, 16]⟩
abbrev S1x16x1x16x1 : Shape := ⟨5, ![1, 16, 1, 16, 1]⟩
abbrev S128x16x4x16x64 : Shape := ⟨5, ![128, 16, 4, 16, 64]⟩
abbrev S128x64x1024 : Shape := ⟨3, ![128, 64, 1024]⟩
abbrev S128x4x2x16x64 : Shape := ⟨5, ![128, 4, 2, 16, 64]⟩
abbrev S128x2x16x64x4 : Shape := ⟨5, ![128, 2, 16, 64, 4]⟩
abbrev S128x2x1024x4 : Shape := ⟨4, ![128, 2, 1024, 4]⟩
abbrev S128x2x1024x128 : Shape := ⟨4, ![128, 2, 1024, 128]⟩
abbrev S2560x2x16x64x128 : Shape := ⟨5, ![2560, 2, 16, 64, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x256 : Shape := ⟨2, ![256, 256]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S1024x64 : Shape := ⟨2, ![1024, 64]⟩
abbrev S128x64x64 : Shape := ⟨3, ![128, 64, 64]⟩
abbrev S1x64x1024 : Shape := ⟨3, ![1, 64, 1024]⟩
abbrev S1x2x16x64x128 : Shape := ⟨5, ![1, 2, 16, 64, 128]⟩
abbrev S1x1 : Shape := ⟨2, ![1, 1]⟩
abbrev S1x2x1024x128 : Shape := ⟨4, ![1, 2, 1024, 128]⟩
abbrev S1x64x64 : Shape := ⟨3, ![1, 64, 64]⟩
abbrev S64x1024 : Shape := ⟨2, ![64, 1024]⟩
abbrev S64x128 : Shape := ⟨2, ![64, 128]⟩
abbrev S1x1x1024x128 : Shape := ⟨4, ![1, 1, 1024, 128]⟩
abbrev S1024x128 : Shape := ⟨2, ![1024, 128]⟩
abbrev S64x256 : Shape := ⟨2, ![64, 256]⟩
abbrev S1x1x16x64x128 : Shape := ⟨5, ![1, 1, 16, 64, 128]⟩
abbrev S16x64x128 : Shape := ⟨3, ![16, 64, 128]⟩
abbrev S64x64 : Shape := ⟨2, ![64, 64]⟩
abbrev S512x1024 : Shape := ⟨2, ![512, 1024]⟩

abbrev nBuf : Space → Nat
  | .hbm => 57
  | .vmem => 12
  | .smem => 1
  | _ => 0

abbrev bufTy : (tb : Table) → Fin (tcTables nBuf tb) → BufTy
  | .hbm, ⟨0, _⟩ => ⟨S128x4x3x16x64, .f32⟩
  | .hbm, ⟨1, _⟩ => ⟨S2560x128x2x16x64, .f32⟩
  | .hbm, ⟨2, _⟩ => ⟨S128x4x1x16x64, .f32⟩
  | .hbm, ⟨3, _⟩ => ⟨S128x4x16x64, .f32⟩
  | .hbm, ⟨4, _⟩ => ⟨S128x4x16x64, .bf16⟩
  | .hbm, ⟨5, _⟩ => ⟨S_, .bf16⟩
  | .hbm, ⟨6, _⟩ => ⟨S128x4x16x64, .bf16⟩
  | .hbm, ⟨7, _⟩ => ⟨S128x4x16x64, .bf16⟩
  | .hbm, ⟨8, _⟩ => ⟨S128x16x4x64, .bf16⟩
  | .hbm, ⟨9, _⟩ => ⟨S128x16x4x1x64, .bf16⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S16x16, .i1⟩
  | .hbm, ⟨16, _⟩ => ⟨S16x16, .bf16⟩
  | .hbm, ⟨17, _⟩ => ⟨S1x16x1x16x1, .bf16⟩
  | .hbm, ⟨18, _⟩ => ⟨S128x16x4x16x64, .bf16⟩
  | .hbm, ⟨19, _⟩ => ⟨S128x16x4x16x64, .bf16⟩
  | .hbm, ⟨20, _⟩ => ⟨S128x16x4x16x64, .bf16⟩
  | .hbm, ⟨21, _⟩ => ⟨S128x64x1024, .bf16⟩
  | .hbm, ⟨22, _⟩ => ⟨S128x4x2x16x64, .f32⟩
  | .hbm, ⟨23, _⟩ => ⟨S128x2x16x64x4, .f32⟩
  | .hbm, ⟨24, _⟩ => ⟨S128x2x1024x4, .f32⟩
  | .hbm, ⟨25, _⟩ => ⟨S128x2x1024x4, .bf16⟩
  | .hbm, ⟨26, _⟩ => ⟨S_, .i32⟩
  | .hbm, ⟨27, _⟩ => ⟨S_, .bf16⟩
  | .hbm, ⟨28, _⟩ => ⟨S128x2x1024x128, .bf16⟩
  | .hbm, ⟨29, _⟩ => ⟨S2560x2x16x64x128, .f32⟩
  | .hbm, ⟨30, _⟩ => ⟨S128, .i32⟩
  | .hbm, ⟨31, _⟩ => ⟨S128x1, .i32⟩
  | .hbm, ⟨32, _⟩ => ⟨S1x128, .i32⟩
  | .hbm, ⟨33, _⟩ => ⟨S128x128, .i32⟩
  | .hbm, ⟨34, _⟩ => ⟨S128x128, .i32⟩
  | .hbm, ⟨35, _⟩ => ⟨S128x128, .i1⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x256, .f32⟩
  | .hbm, ⟨40, _⟩ => ⟨S256x256, .f32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S64, .i32⟩
  | .hbm, ⟨47, _⟩ => ⟨S1x64, .i32⟩
  | .hbm, ⟨48, _⟩ => ⟨S1024x64, .i32⟩
  | .hbm, ⟨49, _⟩ => ⟨S1024x64, .i32⟩
  | .hbm, ⟨50, _⟩ => ⟨S1024x64, .i1⟩
  | .hbm, ⟨51, _⟩ => ⟨S1024x64, .f32⟩
  | .hbm, ⟨52, _⟩ => ⟨S256x256, .bf16⟩
  | .hbm, ⟨53, _⟩ => ⟨S128x64x64, .f32⟩
  | .hbm, ⟨54, _⟩ => ⟨S128x16x4x64, .f32⟩
  | .hbm, ⟨55, _⟩ => ⟨S128x4x16x64, .f32⟩
  | .hbm, ⟨56, _⟩ => ⟨S512x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S1x2x16x64x128, .f32⟩
  | .local _ .vmem, ⟨3, _⟩ => ⟨S1x2x16x64x128, .f32⟩
  | .local _ .vmem, ⟨4, _⟩ => ⟨S1x2x1024x128, .bf16⟩
  | .local _ .vmem, ⟨5, _⟩ => ⟨S1x2x1024x128, .bf16⟩
  | .local _ .vmem, ⟨6, _⟩ => ⟨S256x256, .bf16⟩
  | .local _ .vmem, ⟨7, _⟩ => ⟨S1024x64, .f32⟩
  | .local _ .vmem, ⟨8, _⟩ => ⟨S1x64x64, .f32⟩
  | .local _ .vmem, ⟨9, _⟩ => ⟨S1x64x64, .f32⟩
  | .local _ .vmem, ⟨10, _⟩ => ⟨S64x1024, .f32⟩
  | .local _ .vmem, ⟨11, _⟩ => ⟨S64x128, .f32⟩
  | .local _ .smem, ⟨0, _⟩ => ⟨S128x16, .i32⟩
  | _, _ => ⟨S128x4x3x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call0_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![128, 17], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v3 : Index := Scalar.indexCast arg0
  let c15_i32 : BitVec 32 := 15#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : BitVec 32 := Scalar.subi c15_i32 v1
  let v4 : Index := Scalar.indexCast v2
  ![v3.toNat, v4.toNat]
def k0_cond4 (i : grid0.Coords) : BitVec 1 :=
  let arg1 : BitVec 32 := BitVec.ofNat 32 (i 1).val
  let c16_i32 : BitVec 32 := 16#32
  let v9 : BitVec 1 := Scalar.cmpi .eq arg1 c16_i32
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1x1.size a ≤ S128x16.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c15_i32 : BitVec 32 := 15#32
  let v2 : BitVec 32 := Scalar.subi c15_i32 v1
  let v3 : Index := Scalar.indexCast arg0
  let v4 : Index := Scalar.indexCast v2
  let v5 : BitVec 32 := pf.at 0 (Rect.unit (s := S128x16) ![v3.toNat, v4.toNat] S1x1.size (k0_off1_inb i)) numel1_S1x1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![v5.toNat, c0_i32_0.toNat, c0_i32_1.toNat, c0_i32_2.toNat, c0_i32_3.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== StickRefIdeal.lean ====
abbrev S128x4x3x16x64 : Shape := ⟨5, ![128, 4, 3, 16, 64]⟩
abbrev S2560x128x2x16x64 : Shape := ⟨5, ![2560, 128, 2, 16, 64]⟩
abbrev S128x16 : Shape := ⟨2, ![128, 16]⟩
abbrev S_ : Shape := ⟨0, ![]⟩
abbrev S128x16x1 : Shape := ⟨3, ![128, 16, 1]⟩
abbrev S128x16x2 : Shape := ⟨3, ![128, 16, 2]⟩
abbrev S128x16x128x16x64 : Shape := ⟨5, ![128, 16, 128, 16, 64]⟩
abbrev S128x2048x16x64 : Shape := ⟨4, ![128, 2048, 16, 64]⟩
abbrev S128x4x1x16x64 : Shape := ⟨5, ![128, 4, 1, 16, 64]⟩
abbrev S128x4x16x64 : Shape := ⟨4, ![128, 4, 16, 64]⟩
abbrev S128x2052x16x64 : Shape := ⟨4, ![128, 2052, 16, 64]⟩
abbrev S4 : Shape := ⟨1, ![4]⟩
abbrev S2052 : Shape := ⟨1, ![2052]⟩
abbrev S1x2052 : Shape := ⟨2, ![1, 2052]⟩
abbrev S4x1 : Shape := ⟨2, ![4, 1]⟩
abbrev S4x2052 : Shape := ⟨2, ![4, 2052]⟩
abbrev S128x16x4x2052 : Shape := ⟨4, ![128, 16, 4, 2052]⟩
abbrev S128x16x64x4 : Shape := ⟨4, ![128, 16, 64, 4]⟩
abbrev S512x1024 : Shape := ⟨2, ![512, 1024]⟩

abbrev nBuf : Space → Nat
  | .hbm => 105
  | .vmem => 0
  | .smem => 0
  | _ => 0

abbrev bufTy : (tb : Table) → Fin (tcTables nBuf tb) → BufTy
  | .hbm, ⟨0, _⟩ => ⟨S128x4x3x16x64, .f32⟩
  | .hbm, ⟨1, _⟩ => ⟨S2560x128x2x16x64, .f32⟩
  | .hbm, ⟨2, _⟩ => ⟨S128x16, .i32⟩
  | .hbm, ⟨3, _⟩ => ⟨S_, .i32⟩
  | .hbm, ⟨4, _⟩ => ⟨S128x16, .i32⟩
  | .hbm, ⟨5, _⟩ => ⟨S128x16, .i1⟩
  | .hbm, ⟨6, _⟩ => ⟨S_, .i32⟩
  | .hbm, ⟨7, _⟩ => ⟨S128x16, .i32⟩
  | .hbm, ⟨8, _⟩ => ⟨S128x16, .i32⟩
  | .hbm, ⟨9, _⟩ => ⟨S128x16, .i32⟩
  | .hbm, ⟨10, _⟩ => ⟨S_, .i32⟩
  | .hbm, ⟨11, _⟩ => ⟨S128x16, .i32⟩
  | .hbm, ⟨12, _⟩ => ⟨S128x16, .i32⟩
  | .hbm, ⟨13, _⟩ => ⟨S128x16x1, .i32⟩
  | .hbm, ⟨14, _⟩ => ⟨S128x16x1, .i32⟩
  | .hbm, ⟨15, _⟩ => ⟨S128x16x2, .i32⟩
  | .hbm, ⟨16, _⟩ => ⟨S128x16x128x16x64, .f32⟩
  | .hbm, ⟨17, _⟩ => ⟨S128x2048x16x64, .f32⟩
  | .hbm, ⟨18, _⟩ => ⟨S_, .i32⟩
  | .hbm, ⟨19, _⟩ => ⟨S128x16, .i32⟩
  | .hbm, ⟨20, _⟩ => ⟨S128x16, .i1⟩
  | .hbm, ⟨21, _⟩ => ⟨S_, .i32⟩
  | .hbm, ⟨22, _⟩ => ⟨S128x16, .i32⟩
  | .hbm, ⟨23, _⟩ => ⟨S128x16, .i32⟩
  | .hbm, ⟨24, _⟩ => ⟨S128x16, .i32⟩
  | .hbm, ⟨25, _⟩ => ⟨S_, .i32⟩
  | .hbm, ⟨26, _⟩ => ⟨S128x16, .i32⟩
  | .hbm, ⟨27, _⟩ => ⟨S128x16, .i32⟩
  | .hbm, ⟨28, _⟩ => ⟨S128x16x1, .i32⟩
  | .hbm, ⟨29, _⟩ => ⟨S128x16x1, .i32⟩
  | .hbm, ⟨30, _⟩ => ⟨S128x16x2, .i32⟩
  | .hbm, ⟨31, _⟩ => ⟨S128x16x128x16x64, .f32⟩
  | .hbm, ⟨32, _⟩ => ⟨S128x2048x16x64, .f32⟩
  | .hbm, ⟨33, _⟩ => ⟨S128x4x1x16x64, .f32⟩
  | .hbm, ⟨34, _⟩ => ⟨S128x4x16x64, .f32⟩
  | .hbm, ⟨35, _⟩ => ⟨S128x2052x16x64, .f32⟩
  | .hbm, ⟨36, _⟩ => ⟨S128x4x1x16x64, .f32⟩
  | .hbm, ⟨37, _⟩ => ⟨S128x4x16x64, .f32⟩
  | .hbm, ⟨38, _⟩ => ⟨S128x2052x16x64, .f32⟩
  | .hbm, ⟨39, _⟩ => ⟨S128x4x1x16x64, .f32⟩
  | .hbm, ⟨40, _⟩ => ⟨S128x4x16x64, .f32⟩
  | .hbm, ⟨41, _⟩ => ⟨S4, .i32⟩
  | .hbm, ⟨42, _⟩ => ⟨S_, .i32⟩
  | .hbm, ⟨43, _⟩ => ⟨S4, .i32⟩
  | .hbm, ⟨44, _⟩ => ⟨S4, .i32⟩
  | .hbm, ⟨45, _⟩ => ⟨S2052, .i32⟩
  | .hbm, ⟨46, _⟩ => ⟨S1x2052, .i32⟩
  | .hbm, ⟨47, _⟩ => ⟨S4x1, .i32⟩
  | .hbm, ⟨48, _⟩ => ⟨S4x2052, .i32⟩
  | .hbm, ⟨49, _⟩ => ⟨S4x2052, .i32⟩
  | .hbm, ⟨50, _⟩ => ⟨S4x2052, .i1⟩
  | .hbm, ⟨51, _⟩ => ⟨S128x16x4x2052, .f32⟩
  | .hbm, ⟨52, _⟩ => ⟨S_, .f32⟩
  | .hbm, ⟨53, _⟩ => ⟨S128x16x4x2052, .f32⟩
  | .hbm, ⟨54, _⟩ => ⟨S128x16x4x2052, .f32⟩
  | .hbm, ⟨55, _⟩ => ⟨S_, .f32⟩
  | .hbm, ⟨56, _⟩ => ⟨S128x16x4x2052, .f32⟩
  | .hbm, ⟨57, _⟩ => ⟨S128x16x4x2052, .f32⟩
  | .hbm, ⟨58, _⟩ => ⟨S128x16x4x2052, .f32⟩
  | .hbm, ⟨59, _⟩ => ⟨S128x16x4x2052, .f32⟩
  | .hbm, ⟨60, _⟩ => ⟨S128x16x4x2052, .i1⟩
  | .hbm, ⟨61, _⟩ => ⟨S128x16x4x2052, .f32⟩
  | .hbm, ⟨62, _⟩ => ⟨S128x16x4x2052, .f32⟩
  | .hbm, ⟨63, _⟩ => ⟨S128x16x4x2052, .f32⟩
  | .hbm, ⟨64, _⟩ => ⟨S128x16x4x2052, .f32⟩
  | .hbm, ⟨65, _⟩ => ⟨S128x16x4x2052, .f32⟩
  | .hbm, ⟨66, _⟩ => ⟨S128x16x4x2052, .f32⟩
  | .hbm, ⟨67, _⟩ => ⟨S128x16x4x2052, .f32⟩
  | .hbm, ⟨68, _⟩ => ⟨S128x16x4x2052, .f32⟩
  | .hbm, ⟨69, _⟩ => ⟨S128x16x4x2052, .f32⟩
  | .hbm, ⟨70, _⟩ => ⟨S_, .f32⟩
  | .hbm, ⟨71, _⟩ => ⟨S_, .f32⟩
  | .hbm, ⟨72, _⟩ => ⟨S128x16x4x2052, .i1⟩
  | .hbm, ⟨73, _⟩ => ⟨S128x16x4x2052, .f32⟩
  | .hbm, ⟨74, _⟩ => ⟨S128x16x4x2052, .f32⟩
  | .hbm, ⟨75, _⟩ => ⟨S_, .f32⟩
  | .hbm, ⟨76, _⟩ => ⟨S_, .f32⟩
  | .hbm, ⟨77, _⟩ => ⟨S128x16x4x2052, .f32⟩
  | .hbm, ⟨78, _⟩ => ⟨S128x16x4x2052, .f32⟩
  | .hbm, ⟨79, _⟩ => ⟨S128x16x4x2052, .f32⟩
  | .hbm, ⟨80, _⟩ => ⟨S_, .f32⟩
  | .hbm, ⟨81, _⟩ => ⟨S128x16x4x2052, .f32⟩
  | .hbm, ⟨82, _⟩ => ⟨S128x16x4x2052, .f32⟩
  | .hbm, ⟨83, _⟩ => ⟨S128x16x4x2052, .f32⟩
  | .hbm, ⟨84, _⟩ => ⟨S128x16x4x2052, .f32⟩
  | .hbm, ⟨85, _⟩ => ⟨S128x16x4x2052, .i1⟩
  | .hbm, ⟨86, _⟩ => ⟨S128x16x4x2052, .f32⟩
  | .hbm, ⟨87, _⟩ => ⟨S128x16x4x2052, .f32⟩
  | .hbm, ⟨88, _⟩ => ⟨S128x16x4x2052, .f32⟩
  | .hbm, ⟨89, _⟩ => ⟨S128x16x4x2052, .f32⟩
  | .hbm, ⟨90, _⟩ => ⟨S128x16x4x2052, .f32⟩
  | .hbm, ⟨91, _⟩ => ⟨S128x16x4x2052, .f32⟩
  | .hbm, ⟨92, _⟩ => ⟨S128x16x4x2052, .f32⟩
  | .hbm, ⟨93, _⟩ => ⟨S128x16x4x2052, .f32⟩
  | .hbm, ⟨94, _⟩ => ⟨S128x16x4x2052, .f32⟩
  | .hbm, ⟨95, _⟩ => ⟨S128x16x4x2052, .f32⟩
  | .hbm, ⟨96, _⟩ => ⟨S128x16x4x2052, .f32⟩
  | .hbm, ⟨97, _⟩ => ⟨S_, .f32⟩
  | .hbm, ⟨98, _⟩ => ⟨S_, .f32⟩
  | .hbm, ⟨99, _⟩ => ⟨S128x16x4x2052, .i1⟩
  | .hbm, ⟨100, _⟩ => ⟨S128x16x4x2052, .f32⟩
  | .hbm, ⟨101, _⟩ => ⟨S128x16x4x2052, .f32⟩
  | .hbm, ⟨102, _⟩ => ⟨S128x16x64x4, .f32⟩
  | .hbm, ⟨103, _⟩ => ⟨S128x4x16x64, .f32⟩
  | .hbm, ⟨104, _⟩ => ⟨S512x1024, .f32⟩
  | _, _ => ⟨S128x4x3x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_v42 : Ref sig .tc := ⟨.hbm, 53, rfl⟩
abbrev main_v43 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_call2_cst : Ref sig .tc := ⟨.hbm, 75, rfl⟩
abbrev main_call2_v0 : Ref sig .tc := ⟨.hbm, 76, rfl⟩
abbrev main_v47 : Ref sig .tc := ⟨.hbm, 77, rfl⟩
abbrev main_v48 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_7 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩

abbrev nD : Nat := 1
abbrev τ : Topo := Topo.v7x

variable {F : FTy → Type} [FloatOps F]
-- ==== Proof.Table.lean ====
/-
  The tile table: what the precondition says of it, and the side condition of the windows whose block
  the table names, for the program and for its idealization.
-/
module

public import proofs.«01_k».proof.Defs
public import proofs.«01_k».proof.Proof.Gen.Kernel.Frame
public import proofs.«01_k».proof.Proof.Gen.KernelIdeal.Frame
public import proofs.«01_k».proof.Proof.Gen.Pre_table_ok
public import Idealize.ShloMosaic.Lib.ReduceAll
public import Idealize.ShloMosaic.Lib.Affine
public import Idealize.ShloMosaic.Lib.ValueIdxCore

@[expose] public section

set_option maxRecDepth 16384

noncomputable section

open Idealize.ShloMosaic Idealize.ShloMosaic.TcCoe Idealize.ShloMosaic.ValueIdx

namespace Cert.Proof.Table

/-- A 32-bit word that is at least 0 and below 8 as a signed number is below 8 as a natural number. -/
theorem toNat_lt_of_signed {w : BitVec 32} (h0 : (0 : Int) ≤ w.toInt) (h8 : w.toInt < 8) : w.toNat < 8 := by
  rw [BitVec.toInt_eq_toNat_cond] at h0 h8
  split at h0 <;> split at h8 <;> omega

/-- The precondition, read at one tile: the expert the table names is one of the eight. -/
theorem entry_lt {F : FTy → Type} [FloatOps F]
    (x0 : FVec F Cert.Pre_table_ok.S37888x1024 .bf16) (x1 x2 : FVec F Cert.Pre_table_ok.S8x1024x3584 .f32)
    (x3 : FVec F Cert.Pre_table_ok.S8x3584x1024 .f32) (x4 : IVec Cert.Pre_table_ok.S74 32)
    (x5 : IVec Cert.Pre_table_ok.S1 32) (x6 : FVec F Cert.Pre_table_ok.S37888x1 .f32)
    (h : Cert.Pre_table_ok.fn x0 x1 x2 x3 x4 x5 x6 = fun _ => 1#1) (i : Cert.Pre_table_ok.S74.Idx) :
    (x4 i).toNat < 8 := by
  have h' := congrFun h ix0
  dsimp only [Cert.Pre_table_ok.fn] at h'
  have hs : Subsingleton Cert.Pre_table_ok.S_.Idx := ⟨fun a b => funext fun d => d.elim0⟩
  have hi := Host.reduce_andi_all _ _ _ _ _ h' i
  have hb : (IntOp.cmpi .sge (x4 i) 0#32) &&& (IntOp.cmpi .slt (x4 i) 8#32) = 1#1 := hi
  have h2 : IntOp.cmpi .sge (x4 i) 0#32 = 1#1 ∧ IntOp.cmpi .slt (x4 i) 8#32 = 1#1 := by
    revert hb
    generalize IntOp.cmpi .sge (x4 i) 0#32 = p
    generalize IntOp.cmpi .slt (x4 i) 8#32 = q
    revert p q; decide
  exact toNat_lt_of_signed (by simpa using IntOp.cmpi_sge.mp h2.1) (by simpa using IntOp.cmpi_slt.mp h2.2)

end Cert.Proof.Table

namespace Cert.Kernel.Table

open Cert.Kernel Cert.Kernel.Gen

variable {F : FTy → Type} [FloatOps F] (m : (ℓ : Loc nD τ sig) → Buf (Elt F) ℓ)

/-- If the table names one of the eight experts at every tile, every block the table names lies inside its array. -/
theorem ok_of_lt (h : ∀ i : S74.Idx, ((m ((0 : Dev nD).tc.loc main_arg4) : IVec S74 32) i).toNat < 8) : Ok m := by
  have ht : ∀ i, (tbl m 0 i : BitVec 32).toNat < 8 := fun i => by
    have := V_main_arg4 m 0
    show (V m 0 main_arg4 i : BitVec 32).toNat < 8
    rw [this]; exact h i
  have hj : ∀ i : grid0.Coords, (i 1).val < 7 := fun i => (i 1).isLt
  refine ⟨fun i => ⟨fun a => ?_, Or.inr ?_⟩, fun i => ⟨fun a => ?_, Or.inr ?_⟩, fun i => ⟨fun a => ?_, Or.inr ?_⟩⟩
  · match a with
    | 0 => exact Nat.mul_le_mul_right 1 (ht _)
    | 1 => exact Nat.le_of_eq rfl
    | 2 =>
      show ((BitVec.ofNat 32 (i 1).val).toNat + 1) * 512 ≤ 3584
      have := hj i
      rw [BitVec.toNat_ofNat, Nat.mod_eq_of_lt (by omega)]; omega
  · exact Affine.block_words_dvd (of_decide_eq_true rfl) (by decide)
  · match a with
    | 0 => exact Nat.mul_le_mul_right 1 (ht _)
    | 1 => exact Nat.le_of_eq rfl
    | 2 =>
      show ((BitVec.ofNat 32 (i 1).val).toNat + 1) * 512 ≤ 3584
      have := hj i
      rw [BitVec.toNat_ofNat, Nat.mod_eq_of_lt (by omega)]; omega
  · exact Affine.block_words_dvd (of_decide_eq_true rfl) (by decide)
  · match a with
    | 0 => exact Nat.mul_le_mul_right 1 (ht _)
    | 1 =>
      show ((BitVec.ofNat 32 (i 1).val).toNat + 1) * 512 ≤ 3584
      have := hj i
      rw [BitVec.toNat_ofNat, Nat.mod_eq_of_lt (by omega)]; omega
    | 2 => exact Nat.le_of_eq rfl
  · exact Affine.block_words_dvd (of_decide_eq_true rfl) (by decide)

end Cert.Kernel.Table

namespace Cert.KernelIdeal.Table

open Cert.KernelIdeal Cert.KernelIdeal.Gen

variable {F : FTy → Type} [FloatOps F] (m : (ℓ : Loc nD τ sig) → Buf (Elt F) ℓ)

/-- If the table names one of the eight experts at every tile, every block the table names lies inside its array. -/
theorem ok_of_lt (h : ∀ i : S74.Idx, ((m ((0 : Dev nD).tc.loc main_arg4) : IVec S74 32) i).toNat < 8) : Ok m := by
  have ht : ∀ i, (tbl m 0 i : BitVec 32).toNat < 8 := fun i => by
    have := V_main_arg4 m 0
    show (V m 0 main_arg4 i : BitVec 32).toNat < 8
    rw [this]; exact h i
  have hj : ∀ i : grid0.Coords, (i 1).val < 7 := fun i => (i 1).isLt
  refine ⟨fun i => ⟨fun a => ?_, Or.inr ?_⟩, fun i => ⟨fun a => ?_, Or.inr ?_⟩, fun i => ⟨fun a => ?_, Or.inr ?_⟩⟩
  · match a with
    | 0 => exact Nat.mul_le_mul_right 1 (ht _)
    | 1 => exact Nat.le_of_eq rfl
    | 2 =>
      show ((BitVec.ofNat 32 (i 1).val).toNat + 1) * 512 ≤ 3584
      have := hj i
      rw [BitVec.toNat_ofNat, Nat.mod_eq_of_lt (by omega)]; omega
  · exact Affine.block_words_dvd (of_decide_eq_true rfl) (by decide)
  · match a with
    | 0 => exact Nat.mul_le_mul_right 1 (ht _)
    | 1 => exact Nat.le_of_eq rfl
    | 2 =>
      show ((BitVec.ofNat 32 (i 1).val).toNat + 1) * 512 ≤ 3584
      have := hj i
      rw [BitVec.toNat_ofNat, Nat.mod_eq_of_lt (by omega)]; omega
  · exact Affine.block_words_dvd (of_decide_eq_true rfl) (by decide)
  · match a with
    | 0 => exact Nat.mul_le_mul_right 1 (ht _)
    | 1 =>
      show ((BitVec.ofNat 32 (i 1).val).toNat + 1) * 512 ≤ 3584
      have := hj i
      rw [BitVec.toNat_ofNat, Nat.mod_eq_of_lt (by omega)]; omega
    | 2 => exact Nat.le_of_eq rfl
  · exact Affine.block_words_dvd (of_decide_eq_true rfl) (by decide)

end Cert.KernelIdeal.Table
-- ==== Proof.Swiglu.lean ====
/-
  The feed-forward block of one row, as mathematics over the extended reals: the gate and up products, the
  sigmoid-weighted gate, the down product — and its sum taken one column block at a time.
-/
module

public import Idealize.ShloMosaic.Lib.MatmulPlain
public import Idealize.ShloMosaic.Lib.StackMember
public import Idealize.ShloMosaic.Lib.IdealHost
public import Idealize.ShloMosaic.Lib.ValueIdx
public import Idealize.ShloMosaic.Lib.Pipeline.Value

@[expose] public section

noncomputable section

open Idealize.ShloMosaic Idealize.ShloMosaic.ValueIdx Idealize.ShloMosaic.StackMember
open scoped BigOperators

namespace Cert.Swiglu

/-- One hidden unit of a row: `a * logistic a * b`, with `a` the row's gate product and `b` its up product. -/
def hid {K : ℕ} (x g u : Fin K → EReal) : EReal :=
  (∑ k, x k * g k) * Ideal.logistic (∑ k, x k * g k) * (∑ k, x k * u k)

/-- One hidden unit's share of the row's result in one output column. -/
def term {K F : ℕ} (x : Fin K → EReal) (wg wu : Fin K → Fin F → EReal) (wd : Fin F → EReal) (f : Fin F) : EReal :=
  hid x (fun k => wg k f) (fun k => wu k f) * wd f

/-- The row's result in one output column: the hidden units' shares added up. -/
def ffn {K F : ℕ} (x : Fin K → EReal) (wg wu : Fin K → Fin F → EReal) (wd : Fin F → EReal) : EReal :=
  ∑ f, term x wg wu wd f

/-- The sum of the first `n` members of a finite family. -/
def part {F : ℕ} (g : Fin F → EReal) (n : ℕ) : EReal :=
  ∑ f ∈ Finset.range n, if h : f < F then g ⟨f, h⟩ else 0

/-- No member: zero. -/
theorem part_zero {F : ℕ} (g : Fin F → EReal) : part g 0 = 0 := rfl

/-- One block of `B` further members. -/
theorem part_add {F : ℕ} (g : Fin F → EReal) (n B : ℕ) (b : Fin B → EReal)
    (h : ∀ f : Fin B, ∃ hf : n + f.val < F, b f = g ⟨n + f.val, hf⟩) : part g (n + B) = part g n + ∑ f, b f := by
  unfold part
  rw [Finset.sum_range_add, Finset.sum_range (n := B)]
  refine congrArg _ (Finset.sum_congr rfl fun f _ => ?_)
  obtain ⟨hf, e⟩ := h f
  rw [dif_pos hf, e]

/-- All members: the whole sum. -/
theorem part_full {F : ℕ} (g : Fin F → EReal) : part g F = ∑ f, g f := by
  unfold part
  rw [Finset.sum_range]
  exact Finset.sum_congr rfl fun f _ => dif_pos f.isLt

/-- The f32 word of zero bits is the number zero. -/
theorem ofBits_zero : Ideal.ofBits .f32 0x00000000#32 = 0 := Ideal.ofBits_zero_f32

/-- A plain product into a zero accumulator, at one index. -/
theorem matmul_zero_apply {M K N : ℕ} {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [ofBits_zero, zero_add]

/-- Dropping a leading axis of length one, at one index. -/
theorem drop_apply {α : Type} {M N : ℕ} (w : (⟨3, ![1, M, N]⟩ : Shape).Idx → α)
    (h : (⟨3, ![1, M, N]⟩ : Shape).ShapeCasts ⟨2, ![M, N]⟩) (a : Fin M) (b : Fin N) :
    shapeCast ⟨2, ![M, N]⟩ w h (ix2 a b) = w (ix3 0 a b) := by
  refine (shapeCast_dropUnit_apply ![M, N] w h (ix2 a b)).trans (congrArg w ?_)
  funext k
  match k with
  | ⟨0, _⟩ => rfl
  | ⟨1, _⟩ => rfl
  | ⟨2, _⟩ => rfl

/-- One grid step of the feed-forward kernel, at one index: the accumulator plus the block's hidden units' shares. -/
theorem step_apply {M K T N : ℕ} (x : FVec Ideal ⟨2, ![M, K]⟩ .bf16) (g u : FVec Ideal ⟨3, ![1, K, T]⟩ .bf16)
    (d : FVec Ideal ⟨3, ![1, T, N]⟩ .bf16) (acc : FVec Ideal ⟨2, ![M, N]⟩ .f32)
    (hg hu : (⟨3, ![1, K, T]⟩ : Shape).ShapeCasts ⟨2, ![K, T]⟩) (hd : (⟨3, ![1, T, N]⟩ : Shape).ShapeCasts ⟨2, ![T, N]⟩)
    (ht : FTy.bits .bf16 < FTy.bits .f32) (a : Fin M) (b : Fin N) :
    addf acc (FloatOps.matmul (DotDims.plain M T N) none
      (truncf .bf16 (mulf (mulf
          (FloatOps.matmul (DotDims.plain M K T) none x (shapeCast ⟨2, ![K, T]⟩ g hg) (constant ⟨2, ![M, T]⟩ .f32 0x00000000#32))
          (logistic (FloatOps.matmul (DotDims.plain M K T) none x (shapeCast ⟨2, ![K, T]⟩ g hg) (constant ⟨2, ![M, T]⟩ .f32 0x00000000#32))))
          (FloatOps.matmul (DotDims.plain M K T) none x (shapeCast ⟨2, ![K, T]⟩ u hu) (constant ⟨2, ![M, T]⟩ .f32 0x00000000#32))) ht)
      (shapeCast ⟨2, ![T, N]⟩ d hd) (constant ⟨2, ![M, N]⟩ .f32 0x00000000#32)) (ix2 a b)
      = acc (ix2 a b) + ∑ f : Fin T, hid (fun k => x (ix2 a k)) (fun k => g (ix3 0 k f)) (fun k => u (ix3 0 k f)) * d (ix3 0 f b) := by
  rw [addf_apply, matmul_zero_apply]
  refine congrArg _ (Finset.sum_congr rfl fun f _ => ?_)
  rw [drop_apply]
  have hG : ∀ (w : FVec Ideal ⟨3, ![1, K, T]⟩ .bf16) (h : (⟨3, ![1, K, T]⟩ : Shape).ShapeCasts ⟨2, ![K, T]⟩),
      FloatOps.matmul (DotDims.plain M K T) none x (shapeCast ⟨2, ![K, T]⟩ w h) (constant ⟨2, ![M, T]⟩ .f32 0x00000000#32) (ix2 a f)
        = ∑ k : Fin K, x (ix2 a k) * w (ix3 0 k f) := fun w h => by
    rw [matmul_zero_apply]
    exact Finset.sum_congr rfl fun k _ => by rw [drop_apply]
  show _ * Ideal.logistic _ * _ * _ = _
  rw [hG g hg, hG u hu]
  rfl

/-- The feed-forward block as the host writes it, at one index: `a / (1 + exp (-a)) * b` with the gate and up
    products, then the down product. -/
theorem host_apply {M K T N : ℕ} (x : FVec Ideal ⟨2, ![M, K]⟩ .f32) (g u : FVec Ideal ⟨2, ![K, T]⟩ .f32)
    (d : FVec Ideal ⟨2, ![T, N]⟩ .f32) (one one' : FVec Ideal ⟨2, ![M, T]⟩ .f32) (h1 : ∀ i, one i = (1 : EReal))
    (h1' : ∀ i, one' i = (1 : EReal)) (a : Fin M) (b : Fin N) :
    Host.dotGeneral (DotDims.plain M T N) none
      (mulf (mulf (Host.dotGeneral (DotDims.plain M K T) none x g)
          (Host.divf one' (addf one (Host.exp (Host.negf (Host.dotGeneral (DotDims.plain M K T) none x g))))))
        (Host.dotGeneral (DotDims.plain M K T) none x u)) d (ix2 a b)
      = ffn (fun k : Fin K => x (ix2 a k)) (fun k f => g (ix2 k f)) (fun k f => u (ix2 k f)) (fun f : Fin T => d (ix2 f b)) := by
  rw [dotGeneral_plain_apply]
  unfold ffn term hid
  refine Finset.sum_congr rfl fun f _ => ?_
  refine congrArg (· * d (ix2 f b)) ?_
  rw [← dotGeneral_plain_apply none x g a f, ← dotGeneral_plain_apply none x u a f]
  generalize Host.dotGeneral (DotDims.plain M K T) none x g = G
  generalize Host.dotGeneral (DotDims.plain M K T) none x u = U
  show G (ix2 a f) * Ideal.div (one' (ix2 a f)) (one (ix2 a f) + Ideal.exp (-(G (ix2 a f)))) * U (ix2 a f) = _
  rw [h1, h1']
  rfl

end Cert.Swiglu

end
-- ==== Proof.RefMoe.lean ====
/-
  The reference's expert feed-forward, read at one index: the eight experts' shares, each weighted by the row's routing
  weight if the row's tile is live and names that expert and by zero otherwise, add up to the share of the one expert
  that the tile names.
-/
module

public import proofs.«01_k».proof.Proof.Gen.ReferenceIdeal.Run
public import proofs.«01_k».proof.Proof.Gen.ReferenceIdeal.Read
public import proofs.«01_k».proof.Proof.Swiglu

@[expose] public section

set_option maxRecDepth 16384

noncomputable section

namespace Cert.RefMoe

open Cert.ReferenceIdeal Cert.ReferenceIdeal.Gen Cert.ReferenceIdeal.Read Cert.Swiglu
open Idealize.ShloMosaic Idealize.ShloMosaic.TcCoe Idealize.ShloMosaic.ValueIdx
open scoped BigOperators

variable (x0 : FVec Ideal S37888x1024 .bf16) (x1 x2 : FVec Ideal S8x1024x3584 .f32) (x3 : FVec Ideal S8x3584x1024 .f32)
  (x4 : IVec S74 32) (x5 : IVec S1 32) (x6 : FVec Ideal S37888x1 .f32)

/-- One expert's weighted share as the reference writes it: its weights cut out of the stacks, the feed-forward block of
    all rows, and the rows' weights for this expert. -/
def share (e : ℕ) (hc : S37888x8.Slices ![0, e] S37888x1) (hw : S8x1024x3584.Slices ![e, 0, 0] S1x1024x3584)
    (hd : S8x3584x1024.Slices ![e, 0, 0] S1x3584x1024) (w : FVec Ideal S37888x8 .f32) : FVec Ideal S37888x1024 .f32 :=
  mulf (broadcastInDim S37888x1024 ![0, 1] bcast_S37888x1_S37888x1024_0_1 (extractStridedSlice S37888x1 ![0, e] w hc))
    (Host.dotGeneral (DotDims.plain 37888 3584 1024) none
      (mulf (mulf (Host.dotGeneral (DotDims.plain 37888 1024 3584) none (extf .f32 x0 bitsLt_bf16_f32)
            (shapeCast S1024x3584 (extractStridedSlice S1x1024x3584 ![e, 0, 0] x1 hw) shapeCasts_S1x1024x3584_S1024x3584))
          (Host.divf (broadcastInDim S37888x3584 ![] bcast_S_S37888x3584 (constant (F := Ideal) S_ .f32 0x3F800000#32))
            (addf (broadcastInDim S37888x3584 ![] bcast_S_S37888x3584 (constant (F := Ideal) S_ .f32 0x3F800000#32))
              (Host.exp (Host.negf (Host.dotGeneral (DotDims.plain 37888 1024 3584) none (extf .f32 x0 bitsLt_bf16_f32)
                (shapeCast S1024x3584 (extractStridedSlice S1x1024x3584 ![e, 0, 0] x1 hw) shapeCasts_S1x1024x3584_S1024x3584)))))))
        (Host.dotGeneral (DotDims.plain 37888 1024 3584) none (extf .f32 x0 bitsLt_bf16_f32)
            (shapeCast S1024x3584 (extractStridedSlice S1x1024x3584 ![e, 0, 0] x2 hw) shapeCasts_S1x1024x3584_S1024x3584)))
      (shapeCast S3584x1024 (extractStridedSlice S1x3584x1024 ![e, 0, 0] x3 hd) shapeCasts_S1x3584x1024_S3584x1024))

/-- One expert's feed-forward of row `r`, in column `b`. -/
def expertOut (e : Fin 8) (r : Fin 37888) (b : Fin 1024) : EReal :=
  ffn (fun k : Fin 1024 => x0 (ix2 r k)) (fun k (f : Fin 3584) => x1 (ix3 e k f)) (fun k f => x2 (ix3 e k f)) (fun f => x3 (ix3 e f b))

/-- The broadcast constant one. -/
theorem one_apply (i : S37888x3584.Idx) :
    broadcastInDim S37888x3584 ![] bcast_S_S37888x3584 (constant (F := Ideal) S_ .f32 0x3F800000#32) i = (1 : EReal) :=
  Ideal.ofBits_one_f32

/-- One matrix cut out of a stack and stripped of its leading axis, at one index. -/
theorem member_apply {A B : ℕ} (e : Fin 8) (w : FVec Ideal ⟨3, ![8, A, B]⟩ .f32)
    (h : (⟨3, ![8, A, B]⟩ : Shape).Slices ![e.val, 0, 0] ⟨3, ![1, A, B]⟩)
    (hs : (⟨3, ![1, A, B]⟩ : Shape).ShapeCasts ⟨2, ![A, B]⟩) (a : Fin A) (b : Fin B) :
    shapeCast ⟨2, ![A, B]⟩ (extractStridedSlice ⟨3, ![1, A, B]⟩ ![e.val, 0, 0] w h) hs (ix2 a b) = w (ix3 e a b) := by
  rw [drop_apply]
  refine extractStridedSlice_apply _ w h _ _ fun d => ?_
  match d with
  | ⟨0, _⟩ => rfl
  | ⟨1, _⟩ => show a.val = 0 + a.val; omega
  | ⟨2, _⟩ => show b.val = 0 + b.val; omega

/-- One expert's weighted share, at one index. -/
theorem share_apply (e : Fin 8) (hc : S37888x8.Slices ![0, e.val] S37888x1) (hw : S8x1024x3584.Slices ![e.val, 0, 0] S1x1024x3584)
    (hd : S8x3584x1024.Slices ![e.val, 0, 0] S1x3584x1024) (w : FVec Ideal S37888x8 .f32) (r : Fin 37888) (b : Fin 1024) :
    share x0 x1 x2 x3 e.val hc hw hd w (ix2 r b) = w (ix2 r e) * expertOut x0 x1 x2 x3 e r b := by
  unfold share
  rw [mulf_apply]
  refine congrArg₂ (· * ·) ?_ ?_
  · refine (broadcastInDim_apply _ _ _ _ (ix2 r 0 : S37888x1.Idx) fun d => ?_).trans ?_
    · match d with
      | ⟨0, _⟩ => show r.val = if (37888 : ℕ) = 1 then 0 else r.val; rw [if_neg (by decide)]
      | ⟨1, _⟩ => show 0 = if (1 : ℕ) = 1 then 0 else b.val; rw [if_pos rfl]
    · refine extractStridedSlice_apply _ w hc _ _ fun d => ?_
      match d with
      | ⟨0, _⟩ => show r.val = 0 + r.val; omega
      | ⟨1, _⟩ => rfl
  · refine (host_apply _ _ _ _ _ _ one_apply one_apply r b).trans ?_
    unfold expertOut
    have hW : ∀ v : FVec Ideal S8x1024x3584 .f32, (fun (k : Fin 1024) (f : Fin 3584) =>
        shapeCast S1024x3584 (extractStridedSlice S1x1024x3584 ![e.val, 0, 0] v hw) shapeCasts_S1x1024x3584_S1024x3584 (ix2 k f))
          = fun k f => v (ix3 e k f) := fun v => funext fun k => funext fun f => member_apply e v hw _ k f
    have hD : (fun f : Fin 3584 =>
        shapeCast S3584x1024 (extractStridedSlice S1x3584x1024 ![e.val, 0, 0] x3 hd) shapeCasts_S1x3584x1024_S3584x1024 (ix2 f b))
          = fun f => x3 (ix3 e f b) := funext fun f => member_apply e x3 hd _ f b
    exact congr (congr (congrArg (ffn _) (hW x1)) (hW x2)) hD

/-- The row's tile is live. -/
def Live (i : Fin 74) : Prop := IntOp.cmpi .slt (BitVec.ofNat 32 i.val) (x5 (ix1 0)) = 1#1

instance (i : Fin 74) : Decidable (Live x5 i) := by unfold Live; infer_instance

/-- The tile of a row. -/
def tileOf (r : Fin 37888) : Fin 74 := ⟨r.val / 512, by have := r.isLt; omega⟩

/-- The row's weight for expert `e`: its routing weight if its tile is live and names `e`, else zero. -/
theorem weight_apply (r : Fin 37888) (e : Fin 8) :
    val_main_v18 (F := Ideal) x4 x5 x6 (ix2 r e)
      = if x4 (ix1 (tileOf r)) = BitVec.ofNat 32 e.val ∧ Live x5 (tileOf r) then x6 (ix2 r 0) else 0 := by
  rw [val_main_v18_apply]
  have hz : val_main_call0_v2 (F := Ideal) (ix2 r e) = (0 : EReal) := by
    rw [val_main_call0_v2_apply, val_main_call0_v0_apply, val_main_cst_apply]
    exact Ideal.ofBits_zero_f32
  have hw : val_main_call0_v1 (F := Ideal) x6 (ix2 r e) = x6 (ix2 r 0) := by
    rw [val_main_call0_v1_apply]
    exact congrArg x6 (funext fun d => by match d with | ⟨0, _⟩ => rfl | ⟨1, _⟩ => rfl)
  have ha : val_main_v14 (F := Ideal) x4 (ix2 r e) = IntOp.cmpi .eq (x4 (ix1 (tileOf r))) (BitVec.ofNat 32 e.val) := by
    rw [val_main_v14_apply, val_main_v12_apply, val_main_v9_apply, val_main_v2_apply, val_main_v1_apply,
      val_main_v13_apply, val_main_v11_apply, val_main_v10_apply]
    exact congrArg (fun w => IntOp.cmpi .eq w (BitVec.ofNat 32 e.val)) (congrArg x4 (funext fun d => by match d with | ⟨0, _⟩ => rfl))
  have hl : val_main_v16 (F := Ideal) x5 (ix2 r e) = IntOp.cmpi .slt (BitVec.ofNat 32 (tileOf r).val) (x5 (ix1 0)) := by
    rw [val_main_v16_apply, val_main_v15_apply, val_main_v8_apply, val_main_v7_apply, val_main_v6_apply,
      val_main_v3_apply, val_main_v5_apply]
    refine congrArg (IntOp.cmpi .slt (BitVec.ofNat 32 (tileOf r).val)) ?_
    unfold val_main_v4
    exact congrArg x5 (funext fun d => by match d with | ⟨0, _⟩ => exact Fin.ext (Nat.lt_one_iff.mp (Fin.isLt _)))
  rw [hz, hw, val_main_v17_apply, ha, hl]
  have hq : ∀ (p q : BitVec 1), Scalar.select (IntOp.andi p q) (x6 (ix2 r 0)) (0 : EReal)
      = if p = 1#1 ∧ q = 1#1 then x6 (ix2 r 0) else 0 := by
    intro p q
    generalize x6 (ix2 r 0) = y
    have h : ∀ p q : BitVec 1, IntOp.andi p q = 1#1 ↔ p = 1#1 ∧ q = 1#1 := by decide
    show (if IntOp.andi p q = 1#1 then y else (0 : EReal)) = _
    exact if_congr (h p q) rfl rfl
  rw [hq]
  refine if_congr (and_congr ?_ Iff.rfl) rfl rfl
  exact IntOp.cmpi_eq

/-- The reference's result is the eight shares added up, starting from zero. -/
theorem result_shares (r : Fin 37888) (b : Fin 1024) (w : FVec Ideal S37888x8 .f32) (hw : w = val_main_v18 (F := Ideal) x4 x5 x6) :
    val_main_v139 (F := Ideal) x0 x1 x2 x3 x4 x5 x6 (ix2 r b) =
      (((((((val_main_v19 (F := Ideal) (ix2 r b)
      + share x0 x1 x2 x3 0 slices_S37888x8_S37888x1_0_0 slices_S8x1024x3584_S1x1024x3584_0_0_0 slices_S8x3584x1024_S1x3584x1024_0_0_0 w (ix2 r b))
      + share x0 x1 x2 x3 1 slices_S37888x8_S37888x1_0_1 slices_S8x1024x3584_S1x1024x3584_1_0_0 slices_S8x3584x1024_S1x3584x1024_1_0_0 w (ix2 r b))
      + share x0 x1 x2 x3 2 slices_S37888x8_S37888x1_0_2 slices_S8x1024x3584_S1x1024x3584_2_0_0 slices_S8x3584x1024_S1x3584x1024_2_0_0 w (ix2 r b))
      + share x0 x1 x2 x3 3 slices_S37888x8_S37888x1_0_3 slices_S8x1024x3584_S1x1024x3584_3_0_0 slices_S8x3584x1024_S1x3584x1024_3_0_0 w (ix2 r b))
      + share x0 x1 x2 x3 4 slices_S37888x8_S37888x1_0_4 slices_S8x1024x3584_S1x1024x3584_4_0_0 slices_S8x3584x1024_S1x3584x1024_4_0_0 w (ix2 r b))
      + share x0 x1 x2 x3 5 slices_S37888x8_S37888x1_0_5 slices_S8x1024x3584_S1x1024x3584_5_0_0 slices_S8x3584x1024_S1x3584x1024_5_0_0 w (ix2 r b))
      + share x0 x1 x2 x3 6 slices_S37888x8_S37888x1_0_6 slices_S8x1024x3584_S1x1024x3584_6_0_0 slices_S8x3584x1024_S1x3584x1024_6_0_0 w (ix2 r b))
      + share x0 x1 x2 x3 7 slices_S37888x8_S37888x1_0_7 slices_S8x1024x3584_S1x1024x3584_7_0_0 slices_S8x3584x1024_S1x3584x1024_7_0_0 w (ix2 r b) := by
  subst hw
  rfl

/-- The reference's result at one index: the feed-forward of the expert that the row's tile names, weighted by the
    row's routing weight, if the tile is live; zero if it isn't. -/
theorem result_apply (r : Fin 37888) (b : Fin 1024) (h : (x4 (ix1 (tileOf r))).toNat < 8) :
    val_main_v139 (F := Ideal) x0 x1 x2 x3 x4 x5 x6 (ix2 r b)
      = (if Live x5 (tileOf r) then expertOut x0 x1 x2 x3 ⟨(x4 (ix1 (tileOf r))).toNat % 8, Nat.mod_lt _ (by decide)⟩ r b else 0)
        * x6 (ix2 r 0) := by
  have hs : val_main_v139 (F := Ideal) x0 x1 x2 x3 x4 x5 x6 (ix2 r b)
      = ∑ e : Fin 8, val_main_v18 (F := Ideal) x4 x5 x6 (ix2 r e) * expertOut x0 x1 x2 x3 e r b := by
    rw [result_shares x0 x1 x2 x3 x4 x5 x6 r b _ rfl, Fin.sum_univ_eight]
    generalize val_main_v18 (F := Ideal) x4 x5 x6 = w
    rw [show val_main_v19 (F := Ideal) (ix2 r b) = (0 : EReal) from (val_main_v19_apply _).trans Ideal.ofBits_zero_f32, zero_add]
    have add_congr : ∀ {a a' c c' : EReal}, a = a' → c = c' → a + c = a' + c' := fun h h' => congrArg₂ (· + ·) h h'
    exact add_congr (add_congr (add_congr (add_congr (add_congr (add_congr (add_congr (share_apply x0 x1 x2 x3 0 _ _ _ w r b)
      (share_apply x0 x1 x2 x3 1 _ _ _ w r b))
      (share_apply x0 x1 x2 x3 2 _ _ _ w r b))
      (share_apply x0 x1 x2 x3 3 _ _ _ w r b))
      (share_apply x0 x1 x2 x3 4 _ _ _ w r b))
      (share_apply x0 x1 x2 x3 5 _ _ _ w r b))
      (share_apply x0 x1 x2 x3 6 _ _ _ w r b))
      (share_apply x0 x1 x2 x3 7 _ _ _ w r b)
  rw [hs]
  simp only [weight_apply]
  by_cases hl : Live x5 (tileOf r)
  · rw [if_pos hl]
    have he : x4 (ix1 (tileOf r)) = BitVec.ofNat 32 ((x4 (ix1 (tileOf r))).toNat % 8) := by
      rw [Nat.mod_eq_of_lt h, BitVec.ofNat_toNat, BitVec.setWidth_eq]
    rw [Finset.sum_eq_single (⟨(x4 (ix1 (tileOf r))).toNat % 8, Nat.mod_lt _ (by decide)⟩ : Fin 8)]
    · rw [if_pos ⟨he, hl⟩, mul_comm]
    · intro e _ hne
      rw [if_neg, zero_mul]
      rintro ⟨h1, -⟩
      refine hne (Fin.ext ?_)
      have h2 := congrArg BitVec.toNat h1
      rw [BitVec.toNat_ofNat] at h2
      have := e.isLt
      show e.val = (x4 (ix1 (tileOf r))).toNat % 8
      omega
    · intro hn
      exact absurd (Finset.mem_univ _) hn
  · rw [if_neg hl, zero_mul]
    refine Finset.sum_eq_zero fun e _ => ?_
    rw [if_neg (fun h => hl h.2), zero_mul]

end Cert.RefMoe

end
-- ==== Proof.Moe.Cases.lean ====
/-
  What one grid point of the expert kernel leaves in its accumulator and its output block: each of the six
  cases of the generated certificate, read off as the kernel's own stored values.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.SL.Sem Idealize.ShloMosaic.Tactic

variable {F : FTy → Type} [FloatOps F]

/-- The zero offsets of a two-axis rectangle. -/
theorem hz2 : (![0, 0] : Fin 2 → Nat) = fun _ => 0 := funext fun k => by fin_cases k <;> rfl
/-- The zero offsets of a three-axis rectangle. -/
theorem hz3 : (![0, 0, 0] : Fin 3 → Nat) = fun _ => 0 := funext fun k => by fin_cases k <;> rfl

/-- The row-tile count the kernel compares its tile's number with. -/
abbrev liveAt (c : Dev nD) (i : grid0.Coords) (xt1 : TbBuf0 (F := F) c tbM0_1) : Prop :=
  cond0_1 i (tbM0_1.view.readAt (Elt F) (Rect.unit (s := S1) ![0] S1.size inb_S1_S1_0).toLoadRect xt1
    (Shape.Idx.first (numel1_S1.symm ▸ Nat.one_pos)))

section Cases

variable (c : Dev nD) (i : grid0.Coords)
  (a4 : Memref sig .tc .vmem S512x1024 .bf16) (h4 : a4.IsWhole) (a5 : Memref sig .tc .vmem S1x1024x512 .bf16) (h5 : a5.IsWhole)
  (a6 : Memref sig .tc .vmem S1x1024x512 .bf16) (h6 : a6.IsWhole) (a7 : Memref sig .tc .vmem S1x512x1024 .bf16) (h7 : a7.IsWhole)
  (a8 : Memref sig .tc .vmem S512x1 .f32) (h8 : a8.IsWhole) (a9 : Memref sig .tc .vmem S512x1024 .f32) (h9 : a9.IsWhole)
  (a10 : Memref sig .tc .vmem S512x1024 .f32) (h10 : a10.IsWhole)
  (x0 : Vec F S512x1024 .bf16) (x1 x2 : Vec F S1x1024x512 .bf16) (x3 : Vec F S1x512x1024 .bf16) (x4 : Vec F S512x1 .f32)
  (t0 : TbBuf0 (F := F) c tbM0_0) (t1 : TbBuf0 (F := F) c tbM0_1) (xs : Vec F S512x1024 .f32)

/-- First point of a live tile: one column block added to zeros. -/
theorem sout0_A_0_eq (hc0 : cond0_0 i) (hc2 : ¬cond0_2 i) (hc1 : liveAt c i t1) :
    sout0_A_0 c i a4 h4 a5 h5 a6 h6 a7 h7 a8 h8 a9 h9 a10 h10 hc0 hc2 x0 x1 x2 x3 x4 t0 t1 hc1 = k0_pay2 x0 x1 x2 (k0_pay1 (F := F)) x3 := by
  unfold sout0_A_0
  rw [View.read_writes_eq_canon _ _ _ (scover0_A_0 c i a4 h4 a5 h5 a6 h6 a7 h7 a8 h8 a9 h9 a10 h10 hc0 hc2 x0 x1 x2 x3 x4 t0 t1 hc1)]
  unfold kernelRun0_A
  dsimp only
  sl_unfold_words
  rw [View.canon_cons_unit_zero (S := S512x1024) hz2, View.readCov_unit_zero (S := S512x1024) _ hz2]
  simp only [View.readAt_eq_ld, h4.read_unread, h5.read_unread, h6.read_unread, h7.read_unread, h8.read_unread, h10.read_unread, View.ld_unit_zero (S := S512x1024) hz2, View.ld_unit_zero (S := S1x1024x512) hz3, View.ld_unit_zero (S := S1x512x1024) hz3, View.ld_unit_zero (S := S512x1) hz2]

/-- First point of a dead tile: zeros. -/
theorem sout0_B_0_eq (hc0 : cond0_0 i) (hc2 : ¬cond0_2 i) (hc1 : ¬liveAt c i t1) :
    sout0_B_0 c i a4 h4 a5 h5 a6 h6 a7 h7 a8 h8 a9 h9 a10 h10 hc0 hc2 x0 x1 x2 x3 x4 t0 t1 hc1 = k0_pay1 (F := F) := by
  unfold sout0_B_0
  rw [View.read_writes_eq_canon _ _ _ (scover0_B_0 c i a4 h4 a5 h5 a6 h6 a7 h7 a8 h8 a9 h9 a10 h10 hc0 hc2 x0 x1 x2 x3 x4 t0 t1 hc1)]
  unfold kernelRun0_B
  dsimp only
  sl_unfold_words
  rw [View.canon_unit_zero hz2]

/-- A middle point of a live tile: one column block added. -/
theorem sout0_C_0_eq (hc0 : ¬cond0_0 i) (hc2 : ¬cond0_2 i) (hc1 : liveAt c i t1) :
    sout0_C_0 c i a4 h4 a5 h5 a6 h6 a7 h7 a8 h8 a9 h9 a10 h10 hc0 hc2 x0 x1 x2 x3 x4 t0 t1 xs hc1 = k0_pay2 x0 x1 x2 xs x3 := by
  unfold sout0_C_0
  rw [View.read_writes_eq_canon _ _ _ (scover0_C_0 c i a4 h4 a5 h5 a6 h6 a7 h7 a8 h8 a9 h9 a10 h10 hc0 hc2 x0 x1 x2 x3 x4 t0 t1 xs hc1)]
  unfold kernelRun0_C
  dsimp only
  sl_unfold_words
  rw [View.canon_unit_zero hz2]
  simp only [View.readAt_eq_ld, h4.read_unread, h5.read_unread, h6.read_unread, h7.read_unread, h8.read_unread, h10.read_unread, View.ld_unit_zero (S := S512x1024) hz2, View.ld_unit_zero (S := S1x1024x512) hz3, View.ld_unit_zero (S := S1x512x1024) hz3, View.ld_unit_zero (S := S512x1) hz2]

/-- The last point of a live tile: one column block added. -/
theorem sout0_E_0_eq (hc0 : ¬cond0_0 i) (hc2 : cond0_2 i) (hc1 : liveAt c i t1) :
    sout0_E_0 c i a4 h4 a5 h5 a6 h6 a7 h7 a8 h8 a9 h9 a10 h10 hc0 hc2 x0 x1 x2 x3 x4 t0 t1 xs hc1 = k0_pay2 x0 x1 x2 xs x3 := by
  unfold sout0_E_0
  rw [View.read_writes_eq_canon _ _ _ (scover0_E_0 c i a4 h4 a5 h5 a6 h6 a7 h7 a8 h8 a9 h9 a10 h10 hc0 hc2 x0 x1 x2 x3 x4 t0 t1 xs hc1)]
  unfold kernelRun0_E
  dsimp only
  sl_unfold_words
  rw [View.canon_unit_zero hz2]
  simp only [View.readAt_eq_ld, h4.read_unread, h5.read_unread, h6.read_unread, h7.read_unread, h8.read_unread, h10.read_unread, View.ld_unit_zero (S := S512x1024) hz2, View.ld_unit_zero (S := S1x1024x512) hz3, View.ld_unit_zero (S := S1x512x1024) hz3, View.ld_unit_zero (S := S512x1) hz2]

/-- The last point of a live tile stores the accumulator, scaled by the rows' weights. -/
theorem out0_E_5_eq (hc0 : ¬cond0_0 i) (hc2 : cond0_2 i) (hc1 : liveAt c i t1) :
    out0_E_5 c i a4 h4 a5 h5 a6 h6 a7 h7 a8 h8 a9 h9 a10 h10 hc0 hc2 x0 x1 x2 x3 x4 t0 t1 xs hc1 = k0_pay3 (k0_pay2 x0 x1 x2 xs x3) x4 := by
  unfold out0_E_5
  rw [View.read_writes_eq_canon _ _ _ (cover0_E_5 c i a4 h4 a5 h5 a6 h6 a7 h7 a8 h8 a9 h9 a10 h10 hc0 hc2 x0 x1 x2 x3 x4 t0 t1 xs hc1)]
  unfold kernelRun0_E
  dsimp only
  sl_unfold_words
  rw [View.canon_unit_zero hz2, View.readCov_unit_zero (S := S512x1024) _ hz2]
  simp only [View.readAt_eq_ld, h4.read_unread, h5.read_unread, h6.read_unread, h7.read_unread, h8.read_unread, h10.read_unread, View.ld_unit_zero (S := S512x1024) hz2, View.ld_unit_zero (S := S1x1024x512) hz3, View.ld_unit_zero (S := S1x512x1024) hz3, View.ld_unit_zero (S := S512x1) hz2]

/-- The last point of a dead tile stores the accumulator, scaled by the rows' weights. -/
theorem out0_F_5_eq (hc0 : ¬cond0_0 i) (hc2 : cond0_2 i) (hc1 : ¬liveAt c i t1) :
    out0_F_5 c i a4 h4 a5 h5 a6 h6 a7 h7 a8 h8 a9 h9 a10 h10 hc0 hc2 x0 x1 x2 x3 x4 t0 t1 xs hc1 = k0_pay3 xs x4 := by
  unfold out0_F_5
  rw [View.read_writes_eq_canon _ _ _ (cover0_F_5 c i a4 h4 a5 h5 a6 h6 a7 h7 a8 h8 a9 h9 a10 h10 hc0 hc2 x0 x1 x2 x3 x4 t0 t1 xs hc1)]
  unfold kernelRun0_F
  dsimp only
  sl_unfold_words
  rw [View.canon_unit_zero hz2]
  simp only [View.readAt_eq_ld, h4.read_unread, h5.read_unread, h6.read_unread, h7.read_unread, h8.read_unread, h10.read_unread, View.ld_unit_zero (S := S512x1024) hz2, View.ld_unit_zero (S := S1x1024x512) hz3, View.ld_unit_zero (S := S1x512x1024) hz3, View.ld_unit_zero (S := S512x1) hz2]

end Cases

end Cert.KernelIdeal.Moe

end
-- ==== Proof.Moe.Blocks.lean ====
/-
  The blocks the expert kernel reads at a grid point, as elements of the argument arrays: the rows of the tile, and the
  columns of the expert's three weights — the expert being the one the tile's table entry names.
-/
module

public import proofs.«01_k».proof.Proof.Moe.Cases
public import proofs.«01_k».proof.Proof.Swiglu

@[expose] public section

set_option maxRecDepth 16384

noncomputable section

namespace Cert.KernelIdeal.Moe

open Cert.KernelIdeal Cert.KernelIdeal.Gen
open Idealize.ShloMosaic Idealize.ShloMosaic.TcCoe Idealize.ShloMosaic.ValueIdx Idealize.SL.Sem
open Idealize.ShloMosaic.Pipeline (Dat Window)

variable (m : (ℓ : Loc nD τ sig) → Buf (Elt Ideal) ℓ)

/-- The argument arrays: the sorted rows, the experts' gate, up and down weights, the tile table, the number of live
    tiles, the rows' routing weights. -/
abbrev X (c : Dev nD) : FVec Ideal S37888x1024 .bf16 := m ((c.tc : Thread nD τ).loc main_arg0)
abbrev Wg (c : Dev nD) : FVec Ideal S8x1024x3584 .f32 := m ((c.tc : Thread nD τ).loc main_arg1)
abbrev Wu (c : Dev nD) : FVec Ideal S8x1024x3584 .f32 := m ((c.tc : Thread nD τ).loc main_arg2)
abbrev Wd (c : Dev nD) : FVec Ideal S8x3584x1024 .f32 := m ((c.tc : Thread nD τ).loc main_arg3)
abbrev Te (c : Dev nD) : IVec S74 32 := m ((c.tc : Thread nD τ).loc main_arg4)
abbrev Nv (c : Dev nD) : IVec S1 32 := m ((c.tc : Thread nD τ).loc main_arg5)
abbrev Cw (c : Dev nD) : FVec Ideal S37888x1 .f32 := m ((c.tc : Thread nD τ).loc main_arg6)

/-- The region finds the gate weights cast, which at the ideal values changes nothing. -/
theorem V_gate (c : Dev nD) : (V m c main_v0 : S8x1024x3584.Idx → EReal) = Wg m c := by
  show StableHlo.after hostOps0 _ (Proc.devRef .tc main_v0) = _
  after_results
  rfl
/-- The same of the up weights. -/
theorem V_up (c : Dev nD) : (V m c main_v1 : S8x1024x3584.Idx → EReal) = Wu m c := by
  show StableHlo.after hostOps0 _ (Proc.devRef .tc main_v1) = _
  after_results
  rfl
/-- The same of the down weights. -/
theorem V_down (c : Dev nD) : (V m c main_v2 : S8x3584x1024.Idx → EReal) = Wd m c := by
  show StableHlo.after hostOps0 _ (Proc.devRef .tc main_v2) = _
  after_results
  rfl

/-- The grid point's coordinates: its tile and its column block. -/
theorem coord0 : ∀ t : Fin grid0.N, (grid0.coords t 0).val = t.val / 7 := by decide +kernel
theorem coord1 : ∀ t : Fin grid0.N, (grid0.coords t 1).val = t.val % 7 := by decide +kernel

theorem lt_tile (hO : Ok m) (t : Fin (cfgM m hO).N) : t.val / 7 < 74 := by
  have := t.isLt
  have h : (cfgM m hO).N = 518 := N_0
  omega

/-- The tile of a grid point. -/
def tile (hO : Ok m) (t : Fin (cfgM m hO).N) : Fin 74 := ⟨t.val / 7, lt_tile m hO t⟩

theorem ofNat_coord0 (t : Fin grid0.N) : (BitVec.ofNat 32 (grid0.coords t 0).val).toNat = t.val / 7 := by
  have h : t.val < 518 := t.isLt.trans_eq N_0
  rw [BitVec.toNat_ofNat, coord0, Nat.mod_eq_of_lt (by omega)]

theorem ofNat_coord1 (t : Fin grid0.N) : (BitVec.ofNat 32 (grid0.coords t 1).val).toNat = t.val % 7 := by
  rw [BitVec.toNat_ofNat, coord1, Nat.mod_eq_of_lt (by omega)]

/-- The table word an index map reads at a point: the entry of the point's tile. -/
theorem table_word (hO : Ok m) (c : Dev nD) (t : Fin (cfgM m hO).N) :
    ((tbl m).at 0 (Rect.unit (s := S74) ![(Scalar.indexCast (BitVec.ofNat 32 (grid0.coords t 0).val) : Index).toNat] S1.size
      (k0_off1_inb (grid0.coords t))) numel1_S1 : BitVec 32) = Te m c (ix1 (tile m hO t)) := by
  obtain rfl : c = 0 := Subsingleton.elim _ _
  show V m 0 main_arg4 _ = _
  rw [V_main_arg4 m 0]
  refine congrArg (m ((0 : Dev nD).tc.loc main_arg4)) (funext fun a => Fin.ext ?_)
  match a with
  | ⟨0, _⟩ =>
    refine (Rect.emb_apply _ _ _).trans ?_
    show (BitVec.ofNat 32 (grid0.coords t 0).val).toNat + 1 * 0 = t.val / 7
    rw [ofNat_coord0, Nat.mul_zero, Nat.add_zero]

/-- The live condition of a point, over the argument arrays. -/
theorem live_iff (hO : Ok m) (c : Dev nD) (t : Fin (cfgM m hO).N) :
    liveAt c (grid0.coords t) (tbl m 1) ↔ IntOp.cmpi .slt (BitVec.ofNat 32 (tile m hO t).val) (Nv m c (ix1 0)) = 1#1 := by
  obtain rfl : c = 0 := Subsingleton.elim _ _
  have e : (tbM0_1.view.readAt (Elt Ideal) (Rect.unit (s := S1) ![0] S1.size inb_S1_S1_0).toLoadRect (tbl m 1)
      (Shape.Idx.first (numel1_S1.symm ▸ Nat.one_pos)) : BitVec 32) = Nv m 0 (ix1 0) := by
    show V m 0 main_arg5 _ = _
    rw [V_main_arg5 m 0]
    refine congrArg (m ((0 : Dev nD).tc.loc main_arg5)) (funext fun a => Fin.ext ?_)
    match a with
    | ⟨0, _⟩ => rfl
  unfold liveAt cond0_1
  rw [e, coord0]
  show (IntOp.cmpi .ne ((IntOp.cmpi .slt (BitVec.ofNat 32 (t.val / 7)) (Nv m 0 (ix1 0))).setWidth 32) 0#32) = 1#1 ↔
    IntOp.cmpi .slt (BitVec.ofNat 32 (t.val / 7)) (Nv m 0 (ix1 0)) = 1#1
  generalize IntOp.cmpi .slt (BitVec.ofNat 32 (t.val / 7)) (Nv m 0 (ix1 0)) = q
  revert q; decide

/-- The rows' block at a point. -/
theorem rows_block (hO : Ok m) (c : Dev nD) (t : Fin (cfgM m hO).N) (a : Fin 512) (k : Fin 1024) (r : Fin 37888)
    (hr : r.val = t.val / 7 * 512 + a.val) : (iblk m hO c 0 t : S512x1024.Idx → EReal) (ix2 a k) = X m c (ix2 r k) := by
  unfold iblk
  refine (View.read_apply _ _).trans ?_
  show (V m c main_arg0 : S37888x1024.Idx → EReal) _ = _
  rw [V_main_arg0]
  refine congrArg (X m c) (funext fun d => Fin.ext ?_)
  refine (Window.rect_emb_val ((cfgM m hO).win 0) t (ix2 a k) d).trans ?_
  match d with
  | ⟨0, _⟩ =>
    show (BitVec.ofNat 32 (grid0.coords t 0).val).toNat * 512 + a.val = r.val
    rw [ofNat_coord0, hr]
  | ⟨1, _⟩ => show 0 * 1024 + k.val = k.val; omega

/-- The gate weights' block at a point. -/
theorem gate_block (hO : Ok m) (c : Dev nD) (t : Fin (cfgM m hO).N) (k : Fin 1024) (f : Fin 512) (e : Fin 8) (g : Fin 3584)
    (he : e.val = (Te m c (ix1 (tile m hO t))).toNat) (hg : g.val = t.val % 7 * 512 + f.val) :
    (iblk m hO c 1 t : S1x1024x512.Idx → EReal) (ix3 0 k f) = Wg m c (ix3 e k g) := by
  unfold iblk
  refine (View.read_apply _ _).trans ?_
  show (V m c main_v0 : S8x1024x3584.Idx → EReal) _ = _
  rw [V_gate]
  refine congrArg (Wg m c) (funext fun d => Fin.ext ?_)
  refine (Window.rect_emb_val ((cfgM m hO).win 1) t (ix3 0 k f) d).trans ?_
  match d with
  | ⟨0, _⟩ => exact (Nat.mul_one _).trans ((congrArg BitVec.toNat (table_word m hO c t)).trans he.symm)
  | ⟨1, _⟩ => show 0 * 1024 + k.val = k.val; omega
  | ⟨2, _⟩ =>
    show (BitVec.ofNat 32 (grid0.coords t 1).val).toNat * 512 + f.val = g.val
    rw [ofNat_coord1, hg]

/-- The up weights' block at a point. -/
theorem up_block (hO : Ok m) (c : Dev nD) (t : Fin (cfgM m hO).N) (k : Fin 1024) (f : Fin 512) (e : Fin 8) (g : Fin 3584)
    (he : e.val = (Te m c (ix1 (tile m hO t))).toNat) (hg : g.val = t.val % 7 * 512 + f.val) :
    (iblk m hO c 2 t : S1x1024x512.Idx → EReal) (ix3 0 k f) = Wu m c (ix3 e k g) := by
  unfold iblk
  refine (View.read_apply _ _).trans ?_
  show (V m c main_v1 : S8x1024x3584.Idx → EReal) _ = _
  rw [V_up]
  refine congrArg (Wu m c) (funext fun d => Fin.ext ?_)
  refine (Window.rect_emb_val ((cfgM m hO).win 2) t (ix3 0 k f) d).trans ?_
  match d with
  | ⟨0, _⟩ => exact (Nat.mul_one _).trans ((congrArg BitVec.toNat (table_word m hO c t)).trans he.symm)
  | ⟨1, _⟩ => show 0 * 1024 + k.val = k.val; omega
  | ⟨2, _⟩ =>
    show (BitVec.ofNat 32 (grid0.coords t 1).val).toNat * 512 + f.val = g.val
    rw [ofNat_coord1, hg]

/-- The down weights' block at a point. -/
theorem down_block (hO : Ok m) (c : Dev nD) (t : Fin (cfgM m hO).N) (f : Fin 512) (b : Fin 1024) (e : Fin 8) (g : Fin 3584)
    (he : e.val = (Te m c (ix1 (tile m hO t))).toNat) (hg : g.val = t.val % 7 * 512 + f.val) :
    (iblk m hO c 3 t : S1x512x1024.Idx → EReal) (ix3 0 f b) = Wd m c (ix3 e g b) := by
  unfold iblk
  refine (View.read_apply _ _).trans ?_
  show (V m c main_v2 : S8x3584x1024.Idx → EReal) _ = _
  rw [V_down]
  refine congrArg (Wd m c) (funext fun d => Fin.ext ?_)
  refine (Window.rect_emb_val ((cfgM m hO).win 3) t (ix3 0 f b) d).trans ?_
  match d with
  | ⟨0, _⟩ => exact (Nat.mul_one _).trans ((congrArg BitVec.toNat (table_word m hO c t)).trans he.symm)
  | ⟨1, _⟩ =>
    show (BitVec.ofNat 32 (grid0.coords t 1).val).toNat * 512 + f.val = g.val
    rw [ofNat_coord1, hg]
  | ⟨2, _⟩ => show 0 * 1024 + b.val = b.val; omega

/-- The routing weights' block at a point. -/
theorem weight_block (hO : Ok m) (c : Dev nD) (t : Fin (cfgM m hO).N) (a : Fin 512) (r : Fin 37888)
    (hr : r.val = t.val / 7 * 512 + a.val) : (iblk m hO c 4 t : S512x1.Idx → EReal) (ix2 a 0) = Cw m c (ix2 r 0) := by
  unfold iblk
  refine (View.read_apply _ _).trans ?_
  show (V m c main_arg6 : S37888x1.Idx → EReal) _ = _
  rw [V_main_arg6]
  refine congrArg (Cw m c) (funext fun d => Fin.ext ?_)
  refine (Window.rect_emb_val ((cfgM m hO).win 4) t (ix2 a 0) d).trans ?_
  match d with
  | ⟨0, _⟩ =>
    show (BitVec.ofNat 32 (grid0.coords t 0).val).toNat * 512 + a.val = r.val
    rw [ofNat_coord0, hr]
  | ⟨1, _⟩ => rfl

end Cert.KernelIdeal.Moe

end
-- ==== Proof.Moe.Acc.lean ====
/-
  The expert kernel's accumulator from one grid point to the next, and what a tile's last point writes out, in terms
  of the stored values.
-/
module

public import proofs.«01_k».proof.Proof.Moe.Cases

@[expose] public section

set_option maxRecDepth 16384

noncomputable section

namespace Cert.KernelIdeal.Moe

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The accumulator after a tile's first point. -/
theorem acc_first (hO : Ok m) (c : Dev nD) (t : Fin (cfgM m hO).N) (h0 : t.val % 7 = 0) :
    (outsAt0 m hO c t.val t.isLt).2 = open Classical in
      if liveAt (F := F) c (grid0.coords t) (tbl m 1) then
        k0_pay2 (F := F) (iblk m hO c 0 t) (iblk m hO c 1 t) (iblk m hO c 2 t) (k0_pay1 (F := F)) (iblk m hO c 3 t)
      else k0_pay1 (F := F) := by
  have h2 : ¬ t.val % 7 = 6 := by omega
  by_cases h1 : liveAt (F := F) c (grid0.coords t) (tbl m 1)
  · rw [if_pos h1, outsAt0_A m hO c t h0 h1 h2]
    dsimp only
    exact sout0_A_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) (iblk m hO c 0 t) (iblk m hO c 1 t) (iblk m hO c 2 t) (iblk m hO c 3 t) (iblk m hO c 4 t)
        (tbl m 0) (tbl m 1) ((hcond0_0 t).mpr h0) (fun h => h2 ((hcond0_2 t).mp h)) h1
  · rw [if_neg h1, outsAt0_B m hO c t h0 h1 h2]
    dsimp only
    exact sout0_B_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) (iblk m hO c 0 t) (iblk m hO c 1 t) (iblk m hO c 2 t) (iblk m hO c 3 t) (iblk m hO c 4 t)
        (tbl m 0) (tbl m 1) ((hcond0_0 t).mpr h0) (fun h => h2 ((hcond0_2 t).mp h)) h1

/-- The accumulator after a later point of a tile. -/
theorem acc_next (hO : Ok m) (c : Dev nD) (t : Fin (cfgM m hO).N) (h0 : ¬t.val % 7 = 0) (hp : t.val - 1 < (cfgM m hO).N) :
    (outsAt0 m hO c t.val t.isLt).2 = open Classical in
      if liveAt (F := F) c (grid0.coords t) (tbl m 1) then
        k0_pay2 (F := F) (iblk m hO c 0 t) (iblk m hO c 1 t) (iblk m hO c 2 t) (outsAt0 m hO c (t.val - 1) hp).2 (iblk m hO c 3 t)
      else (outsAt0 m hO c (t.val - 1) hp).2 := by
  by_cases h1 : liveAt (F := F) c (grid0.coords t) (tbl m 1)
  · rw [if_pos h1]
    by_cases h2 : t.val % 7 = 6
    · rw [outsAt0_E m hO c t h0 h1 h2]
      dsimp only
      exact sout0_E_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) (iblk m hO c 0 t) (iblk m hO c 1 t) (iblk m hO c 2 t) (iblk m hO c 3 t) (iblk m hO c 4 t)
        (tbl m 0) (tbl m 1) (outsAt0 m hO c (t.val - 1) hp).2 (fun h => h0 ((hcond0_0 t).mp h)) ((hcond0_2 t).mpr h2) h1
    · rw [outsAt0_C m hO c t h0 h1 h2]
      dsimp only
      exact sout0_C_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) (iblk m hO c 0 t) (iblk m hO c 1 t) (iblk m hO c 2 t) (iblk m hO c 3 t) (iblk m hO c 4 t)
        (tbl m 0) (tbl m 1) (outsAt0 m hO c (t.val - 1) hp).2 (fun h => h0 ((hcond0_0 t).mp h)) (fun h => h2 ((hcond0_2 t).mp h)) h1
  · rw [if_neg h1]
    by_cases h2 : t.val % 7 = 6
    · rw [outsAt0_F m hO c t h0 h1 h2]
      rfl
    · rw [outsAt0_D m hO c t h0 h1 h2]
      rfl

/-- What a tile's last point stores: its accumulator, scaled by the rows' weights. -/
theorem out_last (hO : Ok m) (c : Dev nD) (t : Fin (cfgM m hO).N) (h2 : t.val % 7 = 6) :
    (outsAt0 m hO c t.val t.isLt).1 = k0_pay3 (F := F) (outsAt0 m hO c t.val t.isLt).2 (iblk m hO c 4 t) := by
  have h0 : ¬ t.val % 7 = 0 := by omega
  have hp : t.val - 1 < (cfgM m hO).N := lt_of_le_of_lt (Nat.sub_le _ _) t.isLt
  rw [acc_next m hO c t h0 hp]
  by_cases h1 : liveAt (F := F) c (grid0.coords t) (tbl m 1)
  · rw [if_pos h1, outsAt0_E m hO c t h0 h1 h2]
    dsimp only
    exact out0_E_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) (iblk m hO c 0 t) (iblk m hO c 1 t) (iblk m hO c 2 t) (iblk m hO c 3 t) (iblk m hO c 4 t)
        (tbl m 0) (tbl m 1) (outsAt0 m hO c (t.val - 1) hp).2 (fun h => h0 ((hcond0_0 t).mp h)) ((hcond0_2 t).mpr h2) h1
  · rw [if_neg h1, outsAt0_F m hO c t h0 h1 h2]
    dsimp only
    exact out0_F_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) (iblk m hO c 0 t) (iblk m hO c 1 t) (iblk m hO c 2 t) (iblk m hO c 3 t) (iblk m hO c 4 t)
        (tbl m 0) (tbl m 1) (outsAt0 m hO c (t.val - 1) hp).2 (fun h => h0 ((hcond0_0 t).mp h)) ((hcond0_2 t).mpr h2) h1

end Cert.KernelIdeal.Moe

end
-- ==== Proof.Moe.Fold.lean ====
/-
  The expert kernel's accumulator after each grid point, as mathematics: in a live tile the hidden units' shares of
  the column blocks done so far, in a dead tile zero; and what the tile's last point writes out.
-/
module

public import proofs.«01_k».proof.Proof.Moe.Blocks
public import proofs.«01_k».proof.Proof.Moe.Acc

@[expose] public section

set_option maxRecDepth 16384

noncomputable section

namespace Cert.KernelIdeal.Moe

open Cert.KernelIdeal Cert.KernelIdeal.Gen Cert.Swiglu
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ)

/-- The stored accumulator of a live point, at one index. -/
theorem pay2_apply (x : FVec Ideal S512x1024 .bf16) (g u : FVec Ideal S1x1024x512 .bf16) (acc : FVec Ideal S512x1024 .f32)
    (d : FVec Ideal S1x512x1024 .bf16) (a : Fin 512) (b : Fin 1024) :
    k0_pay2 x g u acc d (ix2 a b) = acc (ix2 a b)
      + ∑ f : Fin 512, hid (fun k : Fin 1024 => x (ix2 a k)) (fun k => g (ix3 0 k f)) (fun k => u (ix3 0 k f)) * d (ix3 0 f b) := by
  unfold k0_pay2
  rw [shapeCast_self]
  exact step_apply x g u d acc _ _ _ _ a b

/-- The stored accumulator of a tile's reset, at one index. -/
theorem pay1_apply (a : Fin 512) (b : Fin 1024) : k0_pay1 (F := Ideal) (ix2 a b) = 0 := by
  unfold k0_pay1
  rw [shapeCast_self]
  exact ofBits_zero

/-- The stored output block, at one index. -/
theorem pay3_apply (acc : FVec Ideal S512x1024 .f32) (w : FVec Ideal S512x1 .f32) (a : Fin 512) (b : Fin 1024) :
    k0_pay3 acc w (ix2 a b) = acc (ix2 a b) * w (ix2 a 0) := by
  unfold k0_pay3
  rw [mulf_apply]
  refine congrArg _ ?_
  refine broadcastTo_apply _ _ _ _ ?_
  intro k
  match k with
  | ⟨0, _⟩ => rfl
  | ⟨1, _⟩ => rfl

/-- The tile has rows: its number is below the number of live tiles. -/
def Live (c : Dev nD) (i : Fin 74) : Prop := IntOp.cmpi .slt (BitVec.ofNat 32 i.val) (Nv m c (ix1 0)) = 1#1

instance (c : Dev nD) (i : Fin 74) : Decidable (Live m c i) := by unfold Live; infer_instance

/-- The expert of a tile, as the table names it. -/
def expert (c : Dev nD) (i : Fin 74) : Fin 8 := ⟨(Te m c (ix1 i)).toNat % 8, Nat.mod_lt _ (by decide)⟩

/-- The hidden units' shares of row `r` in column `b`, under expert `e`. -/
def fam (c : Dev nD) (e : Fin 8) (r : Fin 37888) (b : Fin 1024) : Fin 3584 → EReal :=
  term (fun k : Fin 1024 => X m c (ix2 r k)) (fun k f => Wg m c (ix3 e k f)) (fun k f => Wu m c (ix3 e k f)) (fun f => Wd m c (ix3 e f b))

/-- One live point adds its 512 hidden units. -/
theorem pay2_part (hO : Ok m) (c : Dev nD) (hT : ∀ i, (Te m c (ix1 i)).toNat < 8) (t : Fin (cfgM m hO).N)
    (acc : FVec Ideal S512x1024 .f32) (a : Fin 512) (b : Fin 1024) (r : Fin 37888) (hr : r.val = t.val / 7 * 512 + a.val)
    (hacc : acc (ix2 a b) = part (fam m c (expert m c (tile m hO t)) r b) (t.val % 7 * 512)) :
    k0_pay2 (iblk m hO c 0 t) (iblk m hO c 1 t) (iblk m hO c 2 t) acc (iblk m hO c 3 t) (ix2 a b)
      = part (fam m c (expert m c (tile m hO t)) r b) (t.val % 7 * 512 + 512) := by
  have he : (expert m c (tile m hO t)).val = (Te m c (ix1 (tile m hO t))).toNat := Nat.mod_eq_of_lt (hT _)
  refine (pay2_apply (iblk m hO c 0 t) (iblk m hO c 1 t) (iblk m hO c 2 t) acc (iblk m hO c 3 t) a b).trans ?_
  rw [hacc]
  refine (part_add _ _ 512 _ fun f => ?_).symm
  have hf : t.val % 7 * 512 + f.val < 3584 := by have := f.isLt; omega
  refine ⟨hf, ?_⟩
  unfold fam term
  refine congrArg₂ (· * ·) ?_ (down_block m hO c t f b _ ⟨_, hf⟩ he rfl)
  have e0 : (fun k : Fin 1024 => (iblk m hO c 0 t : S512x1024.Idx → EReal) (ix2 a k)) = fun k => X m c (ix2 r k) :=
    funext fun k => rows_block m hO c t a k r hr
  have e1 : (fun k : Fin 1024 => (iblk m hO c 1 t : S1x1024x512.Idx → EReal) (ix3 0 k f))
      = fun k => Wg m c (ix3 (expert m c (tile m hO t)) k ⟨_, hf⟩) := funext fun k => gate_block m hO c t k f _ _ he rfl
  have e2 : (fun k : Fin 1024 => (iblk m hO c 2 t : S1x1024x512.Idx → EReal) (ix3 0 k f))
      = fun k => Wu m c (ix3 (expert m c (tile m hO t)) k ⟨_, hf⟩) := funext fun k => up_block m hO c t k f _ _ he rfl
  exact congr (congr (congrArg hid e0) e1) e2

/-- The accumulator after every point. -/
theorem acc_eq (hO : Ok m) (c : Dev nD) (hT : ∀ i, (Te m c (ix1 i)).toNat < 8) : ∀ (n : ℕ) (h : n < (cfgM m hO).N)
    (a : Fin 512) (b : Fin 1024) (r : Fin 37888) (_ : r.val = n / 7 * 512 + a.val),
    (outsAt0 m hO c n h).2 (ix2 a b)
      = if Live m c (tile m hO ⟨n, h⟩) then part (fam m c (expert m c (tile m hO ⟨n, h⟩)) r b) (n % 7 * 512 + 512) else 0 := by
  intro n
  induction n with
  | zero =>
    intro h a b r hr
    rw [acc_first m hO c ⟨0, h⟩ rfl]
    by_cases hl : Live m c (tile m hO ⟨0, h⟩)
    · rw [if_pos hl, if_pos ((live_iff m hO c _).mpr hl)]
      exact pay2_part m hO c hT ⟨0, h⟩ _ a b r hr (pay1_apply a b)
    · rw [if_neg hl, if_neg fun h' => hl ((live_iff m hO c _).mp h')]
      exact pay1_apply a b
  | succ n ih =>
    intro h a b r hr
    by_cases h0 : (n + 1) % 7 = 0
    · rw [acc_first m hO c ⟨n + 1, h⟩ h0]
      by_cases hl : Live m c (tile m hO ⟨n + 1, h⟩)
      · rw [if_pos hl, if_pos ((live_iff m hO c _).mpr hl)]
        refine pay2_part m hO c hT ⟨n + 1, h⟩ _ a b r hr ((pay1_apply a b).trans ?_)
        show _ = part _ ((n + 1) % 7 * 512)
        rw [h0]; rfl
      · rw [if_neg hl, if_neg fun h' => hl ((live_iff m hO c _).mp h')]
        exact pay1_apply a b
    · have hp : n < (cfgM m hO).N := Nat.lt_of_succ_lt h
      have hd : n / 7 = (n + 1) / 7 := by omega
      have hm : n % 7 * 512 + 512 = (n + 1) % 7 * 512 := by omega
      have ht : tile m hO ⟨n, hp⟩ = tile m hO ⟨n + 1, h⟩ := Fin.ext hd
      have hi := ih hp a b r (by rw [hr, hd])
      rw [ht, hm] at hi
      rw [acc_next m hO c ⟨n + 1, h⟩ h0 hp]
      by_cases hl : Live m c (tile m hO ⟨n + 1, h⟩)
      · rw [if_pos hl] at hi ⊢
        rw [if_pos ((live_iff m hO c _).mpr hl)]
        exact pay2_part m hO c hT ⟨n + 1, h⟩ _ a b r hr hi
      · rw [if_neg hl] at hi ⊢
        rw [if_neg fun h' => hl ((live_iff m hO c _).mp h')]
        exact hi

/-- The layer's expert feed-forward, at row `r` and column `b`. -/
def moe (c : Dev nD) (r : Fin 37888) (b : Fin 1024) : EReal :=
  (if Live m c ⟨r.val / 512, by have := r.isLt; omega⟩ then
    ∑ f, fam m c (expert m c ⟨r.val / 512, by have := r.isLt; omega⟩) r b f else 0) * Cw m c (ix2 r 0)

/-- What a tile's last point stores, at one index. -/
theorem out_eq (hO : Ok m) (c : Dev nD) (hT : ∀ i, (Te m c (ix1 i)).toNat < 8) (t : Fin (cfgM m hO).N) (h2 : t.val % 7 = 6)
    (a : Fin 512) (b : Fin 1024) (r : Fin 37888) (hr : r.val = t.val / 7 * 512 + a.val) :
    (outsAt0 m hO c t.val t.isLt).1 (ix2 a b) = moe m c r b := by
  have hi : tile m hO t = ⟨r.val / 512, by have := r.isLt; omega⟩ := Fin.ext (by
    show t.val / 7 = r.val / 512
    have := a.isLt; omega)
  rw [out_last m hO c t h2]
  refine (pay3_apply _ _ a b).trans ?_
  unfold moe
  refine congrArg₂ (· * ·) ((acc_eq m hO c hT t.val t.isLt a b r hr).trans ?_) (weight_block m hO c t a r hr)
  have e : t.val % 7 * 512 + 512 = 3584 := by omega
  rw [e, show (⟨t.val, t.isLt⟩ : Fin (cfgM m hO).N) = t from rfl, hi, part_full]

end Cert.KernelIdeal.Moe

end
-- ==== Proof.Moe.Value.lean ====
/-
  The expert kernel's run, read: the result array holds the layer's expert feed-forward at every index, and the
  arguments are unchanged.
-/
module

public import proofs.«01_k».proof.Proof.Moe.Fold

@[expose] public section

set_option maxRecDepth 16384

noncomputable section

namespace Cert.KernelIdeal.Moe

open Cert.KernelIdeal Cert.KernelIdeal.Gen Cert.Swiglu
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ)

/-- The result array's contents. -/
def result (c : Dev nD) : Buf (Elt Ideal) ((c.tc : Thread nD τ).loc main_v3) :=
  (fun i : S37888x1024.Idx => moe m c (i 0) (i 1) : S37888x1024.Idx → EReal)

/-- Where the output block of a point lies in the result array. -/
theorem out_emb (hO : Ok m) (t : Fin (cfgM m hO).N) (a : Fin 512) (b : Fin 1024) (r : Fin 37888) (hr : r.val = t.val / 7 * 512 + a.val) :
    ((((cfgM m hO).win 5).rect t).emb (ix2 a b : S512x1024.Idx) : S37888x1024.Idx) = ix2 r b :=
  funext fun d => Fin.ext (by
    refine (Window.rect_emb_val ((cfgM m hO).win 5) t (ix2 a b) d).trans ?_
    match d with
    | ⟨0, _⟩ =>
      show (BitVec.ofNat 32 (grid0.coords t 0).val).toNat * 512 + a.val = r.val
      rw [ofNat_coord0, hr]
    | ⟨1, _⟩ => show 0 * 1024 + b.val = b.val; omega)

/-- Every write-back stores its block of the result. -/
theorem flushed_eq (hO : Ok m) (c : Dev nD) (hT : ∀ i, (Te m c (ix1 i)).toNat < 8) (t : Fin (cfgM m hO).N)
    (hf : ((cfgM m hO).win 5).flush t = true) :
    (dats m hO 0 c).flushed 5 t = (((cfgM m hO).win 5).blk t).view.read (Elt Ideal) (result m c) := by
  have h6 : t.val % 7 = 6 := (flush0_5 (adm m hO) t).mp hf
  have hN : t.val < 518 := Nat.lt_of_lt_of_eq t.isLt N_0
  show ((cfgM m hO).win 5).cut (grid0.coords t) ((dats m hO 0 c).after 5 t) = _
  rw [after0_5]
  refine funext fun (j : S512x1024.Idx) => ?_
  obtain ⟨a, b, rfl⟩ : ∃ (a : Fin 512) (b : Fin 1024), j = (ix2 a b : S512x1024.Idx) :=
    ⟨j 0, j 1, funext fun d => by match d with | ⟨0, _⟩ => rfl | ⟨1, _⟩ => rfl⟩
  have hr : t.val / 7 * 512 + a.val < 37888 := by have := a.isLt; omega
  refine Eq.trans ?_ (View.read_apply _ _).symm
  refine Eq.trans (out_eq m hO c hT t h6 a b ⟨_, hr⟩ rfl) ?_
  exact (congrArg (fun i : S37888x1024.Idx => moe m c (i 0) (i 1)) (out_emb m hO t a b ⟨_, hr⟩ rfl)).symm

/-- The write-backs cover the array. -/
theorem final_o (hO : Ok m) (c : Dev nD) (hT : ∀ i, (Te m c (ix1 i)).toNat < 8) :
    (dats m hO 0 c).arrAt 5 (cfgM m hO).N = result m c :=
  (dats m hO 0 c).arrAt_eq_of_cover 5 (result m c) (flushed_eq m hO c hT) fun (i : S37888x1024.Idx) => by
    have h0 : (i 0 : Nat) < 37888 := (i 0).isLt
    have ht : 7 * ((i 0 : Nat) / 512) + 6 < (cfgM m hO).N := by
      show _ < grid0.N
      rw [N_0]; omega
    have hr : (i 0 : Nat) = (7 * ((i 0 : Nat) / 512) + 6) / 7 * 512 + (i 0 : Nat) % 512 := by omega
    refine ⟨⟨_, ht⟩, (flush0_5 (adm m hO) _).mpr ?_, ?_⟩
    · show (7 * ((i 0 : Nat) / 512) + 6) % 7 = 6
      omega
    · refine Finset.mem_map.mpr ⟨(ix2 ⟨(i 0 : Nat) % 512, Nat.mod_lt _ (by decide)⟩ (i 1) : S512x1024.Idx), Finset.mem_univ _, ?_⟩
      refine (out_emb m hO ⟨_, ht⟩ ⟨(i 0 : Nat) % 512, Nat.mod_lt _ (by decide)⟩ (i 1) (i 0) hr).trans ?_
      exact funext fun d => by match d with | ⟨0, _⟩ => rfl | ⟨1, _⟩ => rfl

/-- The run: the result array at the layer's expert feed-forward, the arguments unchanged. -/
theorem run (ρ : Dev nD → PrngReg) (hO : Ok m) (hT : ∀ (c : Dev nD) i, (Te m c (ix1 i)).toNat < 8) :
    θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 5).trans (final_o m hO c (hT c)),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 4).trans (((dats m hO 0 c).arrAt_in 4 rfl _).trans ((A_eq m hO c 4).trans (V_main_arg6 m c)))⟩)
    (run_main m ρ hO)

end Cert.KernelIdeal.Moe

end
-- ==== Proof.Moe.Equal.lean ====
/-
  The claims about the expert feed-forward: the frames of the three programs, and the equality of what the idealized
  kernel and the reference compute.
-/
module

public import proofs.«01_k».proof.Defs
public import proofs.«01_k».proof.Proof.Table
public import proofs.«01_k».proof.Proof.RefMoe
public import proofs.«01_k».proof.Proof.Moe.Value
public import proofs.«01_k».proof.Proof.Gen.Kernel.Frame
public import proofs.«01_k».proof.Proof.Gen.ReferenceIdeal
public import proofs.«01_k».proof.Proof.Gen.Pre_table_ok
public import Idealize.ShloMosaic.Lib.Quiescent

@[expose] public section

set_option maxRecDepth 16384

noncomputable section

namespace Cert.Proof.Moe

open Idealize.ShloMosaic Idealize.ShloMosaic.TcCoe Idealize.ShloMosaic.ValueIdx Idealize.SL.Sem

/-- The kernel runs, leaves its arguments unchanged and its counters at zero. -/
theorem frame_kernel : Cert.quiescent_Kernel (hKernel := Cert.Kernel.Gen.facts) (hPre_table_ok := Cert.Pre_table_ok.Gen.facts) :=
  fun m ρ h => Cert.Kernel.Gen.frame m ρ (Cert.Kernel.Table.ok_of_lt m fun i => Table.entry_lt _ _ _ _ _ _ _ (h 0) i)

/-- The same of the idealized kernel. -/
theorem frame_ideal : Cert.quiescent_KernelIdeal (hKernelIdeal := Cert.KernelIdeal.Gen.facts) (hPre_table_ok := Cert.Pre_table_ok.Gen.facts) :=
  fun m ρ h => Cert.KernelIdeal.Gen.frame m ρ (Cert.KernelIdeal.Table.ok_of_lt m fun i => Table.entry_lt _ _ _ _ _ _ _ (h 0) i)

/-- The same of the reference. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result is the kernel's, at memories that agree on the arguments. -/
theorem result_eq (m : (ℓ : Loc Cert.KernelIdeal.nD Cert.KernelIdeal.τ Cert.KernelIdeal.sig) → Buf (Elt Ideal) ℓ)
    (c : Dev Cert.KernelIdeal.nD) (hT : ∀ i, (Cert.KernelIdeal.Moe.Te m c (ix1 i)).toNat < 8) :
    Cert.ReferenceIdeal.Read.val_main_v139 (F := Ideal) (Cert.KernelIdeal.Moe.X m c) (Cert.KernelIdeal.Moe.Wg m c)
      (Cert.KernelIdeal.Moe.Wu m c) (Cert.KernelIdeal.Moe.Wd m c) (Cert.KernelIdeal.Moe.Te m c) (Cert.KernelIdeal.Moe.Nv m c)
      (Cert.KernelIdeal.Moe.Cw m c) = Cert.KernelIdeal.Moe.result m c := by
  refine funext fun (i : Cert.ReferenceIdeal.S37888x1024.Idx) => ?_
  obtain ⟨r, b, rfl⟩ : ∃ (r : Fin 37888) (b : Fin 1024), i = (ix2 r b : Cert.ReferenceIdeal.S37888x1024.Idx) :=
    ⟨i 0, i 1, funext fun d => by match d with | ⟨0, _⟩ => rfl | ⟨1, _⟩ => rfl⟩
  refine (Cert.RefMoe.result_apply _ _ _ _ _ _ _ r b (hT _)).trans ?_
  show _ = Cert.KernelIdeal.Moe.moe m c r b
  unfold Cert.KernelIdeal.Moe.moe
  refine congrArg (· * Cert.KernelIdeal.Moe.Cw m c (ix2 r 0)) ?_
  by_cases hl : Cert.KernelIdeal.Moe.Live m c (Cert.RefMoe.tileOf r)
  · exact (if_pos hl).trans (Eq.symm (if_pos hl))
  · exact (if_neg hl).trans (Eq.symm (if_neg hl))

/-- The idealized kernel and the reference compute the same result. -/
theorem equal : Cert.algebraic_KernelIdeal_ReferenceIdeal (hKernelIdeal := Cert.KernelIdeal.Gen.facts)
    (hReferenceIdeal := Cert.ReferenceIdeal.Gen.facts) (hPre_table_ok := Cert.Pre_table_ok.Gen.facts) := by
  intro m g m' g' hpre hargs
  have hT : ∀ (c : Dev Cert.KernelIdeal.nD) i, (Cert.KernelIdeal.Moe.Te m c (ix1 i)).toNat < 8 :=
    fun c i => Table.entry_lt _ _ _ _ _ _ _ (hpre c) (ix1 i)
  have hO : Cert.KernelIdeal.Gen.Ok m :=
    Cert.KernelIdeal.Table.ok_of_lt m fun i => Table.entry_lt _ _ _ _ _ _ _ (hpre 0) i
  refine ⟨fun c => Cert.KernelIdeal.Moe.result m c, Cert.KernelIdeal.Moe.run m g hO hT, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v139_eq (F := Ideal) _).trans ?_
  obtain ⟨h0, h1, h2, h3, h4, h5, h6⟩ := hargs c
  refine Eq.trans ?_ (result_eq m c (hT c))
  exact congr (congr (congr (congr (congr (congr (congrArg (Cert.ReferenceIdeal.Read.val_main_v139 (F := Ideal)) h0) h1) h2) h3) h4) h5) h6

end Cert.Proof.Moe

end
-- ==== Proof.Dense.FrameIdeal.lean ====
/-
  The dense layer's run, point by point, from its six per-case runs: what the output block and the accumulator hold after
  each point, the obligation of the body, the run and the frame at the idealized program. It follows the generated frame of
  the program line for line; the case equations of `outsAt0` are given more room for unfolding.
-/
module

public import proofs.«01_k».proof.Proof.Gen.DenseIdeal.Frame.RunF
public import Idealize.ShloMosaic.Lib.Claim

@[expose] public section

-- membership in a rectangle recurses once per coordinate of its long axes
set_option maxRecDepth 16384

noncomputable section

namespace Cert.DenseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg4 : Memref sig .tc .vmem S512x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)

section

variable (hc0 : cond0_0 i) (hc2 : ¬cond0_2 i) (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos))))

/-- Case A stores nothing into output 6: no pieces, and nothing consults what stands here. -/
def out0_A_6 : Vec F S512x1024 .f32 :=
  VO0_6.read (Elt F) (VO0_6.writes (Elt F) VO0_6.junk (kernelRun0_A c i arg4 harg4 arg5 harg5 arg6 harg6 arg7 harg7 arg8 harg8 arg9 harg9 arg10 harg10 arg11 harg11 hc0 hc2 x0 x1 x2 x3 x4 x5 xt0 xt1 hc1).1)

/-- Case A's pieces for scratch `arg11`, which the kernel carries between points, cover it: 2 pieces of `S512x1024` tiling it (Lib/Ring.lean `Piece.tiledL`). -/
theorem scover0_A_0 (y : S512x1024.Idx) :
    ∃ pc ∈ (kernelRun0_A c i arg4 harg4 arg5 harg5 arg6 harg6 arg7 harg7 arg8 harg8 arg9 harg9 arg10 harg10 arg11 harg11 hc0 hc2 x0 x1 x2 x3 x4 x5 xt0 xt1 hc1).2.1, y ∈ pc.1.set :=
  View.cover_of_tiledL _ S512x1024.size (by sl_kernel_rfl) y

/-- What case A leaves in scratch `arg11`: its pieces read back over junk. -/
def sout0_A_0 : Vec F S512x1024 .f32 :=
  VS0_0.read (Elt F) (VS0_0.writes (Elt F) VS0_0.junk (kernelRun0_A c i arg4 harg4 arg5 harg5 arg6 harg6 arg7 harg7 arg8 harg8 arg9 harg9 arg10 harg10 arg11 harg11 hc0 hc2 x0 x1 x2 x3 x4 x5 xt0 xt1 hc1).2.1)

end

section

variable (hc0 : cond0_0 i) (hc2 : ¬cond0_2 i) (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos))))

/-- Case B stores nothing into output 6: no pieces, and nothing consults what stands here. -/
def out0_B_6 : Vec F S512x1024 .f32 :=
  VO0_6.read (Elt F) (VO0_6.writes (Elt F) VO0_6.junk (kernelRun0_B c i arg4 harg4 arg5 harg5 arg6 harg6 arg7 harg7 arg8 harg8 arg9 harg9 arg10 harg10 arg11 harg11 hc0 hc2 x0 x1 x2 x3 x4 x5 xt0 xt1 hc1).1)

/-- Case B's pieces for scratch `arg11`, which the kernel carries between points, cover it: 1 piece of `S512x1024` tiling it (Lib/Ring.lean `Piece.tiledL`). -/
theorem scover0_B_0 (y : S512x1024.Idx) :
    ∃ pc ∈ (kernelRun0_B c i arg4 harg4 arg5 harg5 arg6 harg6 arg7 harg7 arg8 harg8 arg9 harg9 arg10 harg10 arg11 harg11 hc0 hc2 x0 x1 x2 x3 x4 x5 xt0 xt1 hc1).2.1, y ∈ pc.1.set :=
  View.cover_of_tiledL _ S512x1024.size (by sl_kernel_rfl) y

/-- What case B leaves in scratch `arg11`: its pieces read back over junk. -/
def sout0_B_0 : Vec F S512x1024 .f32 :=
  VS0_0.read (Elt F) (VS0_0.writes (Elt F) VS0_0.junk (kernelRun0_B c i arg4 harg4 arg5 harg5 arg6 harg6 arg7 harg7 arg8 harg8 arg9 harg9 arg10 harg10 arg11 harg11 hc0 hc2 x0 x1 x2 x3 x4 x5 xt0 xt1 hc1).2.1)

end

section

variable (hc0 : ¬cond0_0 i) (hc2 : ¬cond0_2 i) (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos))))

/-- Case C stores nothing into output 6: no pieces, and nothing consults what stands here. -/
def out0_C_6 : Vec F S512x1024 .f32 :=
  VO0_6.read (Elt F) (VO0_6.writes (Elt F) VO0_6.junk (kernelRun0_C c i arg4 harg4 arg5 harg5 arg6 harg6 arg7 harg7 arg8 harg8 arg9 harg9 arg10 harg10 arg11 harg11 hc0 hc2 x0 x1 x2 x3 x4 x5 xt0 xt1 xs0 hc1).1)

/-- Case C's pieces for scratch `arg11`, which the kernel carries between points, cover it: 1 piece of `S512x1024` tiling it (Lib/Ring.lean `Piece.tiledL`). -/
theorem scover0_C_0 (y : S512x1024.Idx) :
    ∃ pc ∈ (kernelRun0_C c i arg4 harg4 arg5 harg5 arg6 harg6 arg7 harg7 arg8 harg8 arg9 harg9 arg10 harg10 arg11 harg11 hc0 hc2 x0 x1 x2 x3 x4 x5 xt0 xt1 xs0 hc1).2.1, y ∈ pc.1.set :=
  View.cover_of_tiledL _ S512x1024.size (by sl_kernel_rfl) y

/-- What case C leaves in scratch `arg11`: its pieces read back over junk. -/
def sout0_C_0 : Vec F S512x1024 .f32 :=
  VS0_0.read (Elt F) (VS0_0.writes (Elt F) VS0_0.junk (kernelRun0_C c i arg4 harg4 arg5 harg5 arg6 harg6 arg7 harg7 arg8 harg8 arg9 harg9 arg10 harg10 arg11 harg11 hc0 hc2 x0 x1 x2 x3 x4 x5 xt0 xt1 xs0 hc1).2.1)

end

section

variable (hc0 : ¬cond0_0 i) (hc2 : ¬cond0_2 i) (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos))))

/-- Case D stores nothing into output 6: no pieces, and nothing consults what stands here. -/
def out0_D_6 : Vec F S512x1024 .f32 :=
  VO0_6.read (Elt F) (VO0_6.writes (Elt F) VO0_6.junk (kernelRun0_D c i arg4 harg4 arg5 harg5 arg6 harg6 arg7 harg7 arg8 harg8 arg9 harg9 arg10 harg10 arg11 harg11 hc0 hc2 x0 x1 x2 x3 x4 x5 xt0 xt1 xs0 hc1).1)

/-- Case D stores nothing into scratch `arg11`: it holds what the point before left. -/
def sout0_D_0 (c : Dev nD) (i : grid0.Coords) (arg4 : Memref sig .tc .vmem S512x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc2 : ¬cond0_2 i)
    (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 := xs0

end

section

variable (hc0 : ¬cond0_0 i) (hc2 : cond0_2 i) (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (xs0 : Vec F S512x1024 .f32) (hc1 : cond0_1 i (tbM0_1.view.readAt (Elt F) (Rect.unit (s := S1) ![0] S1.size inb_S1_S1_0).toLoadRect xt1 (Shape.Idx.first (numel1_S1.symm ▸ Nat.one_pos))))

/-- Case E's pieces for output 6 tile its block: one store of `S512x1024`. -/
theorem cover0_E_6 (y : S512x1024.Idx) :
    ∃ pc ∈ (kernelRun0_E c i arg4 harg4 arg5 harg5 arg6 harg6 arg7 harg7 arg8 harg8 arg9 harg9 arg10 harg10 arg11 harg11 hc0 hc2 x0 x1 x2 x3 x4 x5 xt0 xt1 xs0 hc1).1, y ∈ pc.1.set :=
  View.cover_of_tiledL _ S512x1024.size (by sl_kernel_rfl) y

/-- What case E leaves in output 6's staging buffer: its pieces read back over junk. -/
def out0_E_6 : Vec F S512x1024 .f32 :=
  VO0_6.read (Elt F) (VO0_6.writes (Elt F) VO0_6.junk (kernelRun0_E c i arg4 harg4 arg5 harg5 arg6 harg6 arg7 harg7 arg8 harg8 arg9 harg9 arg10 harg10 arg11 harg11 hc0 hc2 x0 x1 x2 x3 x4 x5 xt0 xt1 xs0 hc1).1)

/-- Case E's pieces for scratch `arg11`, which the kernel carries between points, cover it: 1 piece of `S512x1024` tiling it (Lib/Ring.lean `Piece.tiledL`). -/
theorem scover0_E_0 (y : S512x1024.Idx) :
    ∃ pc ∈ (kernelRun0_E c i arg4 harg4 arg5 harg5 arg6 harg6 arg7 harg7 arg8 harg8 arg9 harg9 arg10 harg10 arg11 harg11 hc0 hc2 x0 x1 x2 x3 x4 x5 xt0 xt1 xs0 hc1).2.1, y ∈ pc.1.set :=
  View.cover_of_tiledL _ S512x1024.size (by sl_kernel_rfl) y

/-- What case E leaves in scratch `arg11`: its pieces read back over junk. -/
def sout0_E_0 : Vec F S512x1024 .f32 :=
  VS0_0.read (Elt F) (VS0_0.writes (Elt F) VS0_0.junk (kernelRun0_E c i arg4 harg4 arg5 harg5 arg6 harg6 arg7 harg7 arg8 harg8 arg9 harg9 arg10 harg10 arg11 harg11 hc0 hc2 x0 x1 x2 x3 x4 x5 xt0 xt1 xs0 hc1).2.1)

end

section

variable (hc0 : ¬cond0_0 i) (hc2 : cond0_2 i) (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos))))

/-- Case F's pieces for output 6 tile its block: one store of `S512x1024`. -/
theorem cover0_F_6 (y : S512x1024.Idx) :
    ∃ pc ∈ (kernelRun0_F c i arg4 harg4 arg5 harg5 arg6 harg6 arg7 harg7 arg8 harg8 arg9 harg9 arg10 harg10 arg11 harg11 hc0 hc2 x0 x1 x2 x3 x4 x5 xt0 xt1 xs0 hc1).1, y ∈ pc.1.set :=
  View.cover_of_tiledL _ S512x1024.size (by sl_kernel_rfl) y

/-- What case F leaves in output 6's staging buffer: its pieces read back over junk. -/
def out0_F_6 : Vec F S512x1024 .f32 :=
  VO0_6.read (Elt F) (VO0_6.writes (Elt F) VO0_6.junk (kernelRun0_F c i arg4 harg4 arg5 harg5 arg6 harg6 arg7 harg7 arg8 harg8 arg9 harg9 arg10 harg10 arg11 harg11 hc0 hc2 x0 x1 x2 x3 x4 x5 xt0 xt1 xs0 hc1).1)

/-- Case F stores nothing into scratch `arg11`: it holds what the point before left. -/
def sout0_F_0 (c : Dev nD) (i : grid0.Coords) (arg4 : Memref sig .tc .vmem S512x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S512x1 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc2 : cond0_2 i)
    (x0 : Vec F S512x1024 .bf16) (x1 : Vec F S1x1024x256 .bf16) (x2 : Vec F S1x1024x256 .bf16) (x3 : Vec F S1x256x1024 .bf16) (x4 : Vec F S512x1 .f32) (x5 : Vec F S512x1024 .f32) (xt0 : TbBuf0 (F := F) c tbM0_0) (xt1 : TbBuf0 (F := F) c tbM0_1) (xs0 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 := xs0

end

end

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x1024 .f32 × Vec F S512x1024 .f32
  | 0, hn => if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
      (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) h1)
    else
      (out0_B_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0) (tbl m 1) h1)
  | n + 1, hn =>
    if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h0 : (n + 1) % 11 = 0 then
        if h2 : (n + 1) % 11 = 10 then
          False.elim (by have hN : n + 1 < 363 := lt_of_lt_of_eq hn (show (cfgM m hO).N = 363 from N_0); omega)
        else
          (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) h1)
      else
        if h2 : (n + 1) % 11 = 10 then
          (out0_E_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1)
        else
          (out0_C_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1)
    else
      if h0 : (n + 1) % 11 = 0 then
        if h2 : (n + 1) % 11 = 10 then
          False.elim (by have hN : n + 1 < 363 := lt_of_lt_of_eq hn (show (cfgM m hO).N = 363 from N_0); omega)
        else
          (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) h1)
      else
        if h2 : (n + 1) % 11 = 10 then
          (out0_F_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1)
        else
          (out0_D_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (tbl m 1) (outsAt0 hO c n (Nat.lt_of_succ_lt hn)).2 h1)

set_option maxHeartbeats 4000000 in
/-- `outsAt0` at a point of case A: that case's contents. -/
theorem outsAt0_A (hO : Ok m) (c : Dev nD) (t : Fin (cfgM m hO).N) (h0 : t.val % 11 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 11 = 10) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1) := by
  obtain ⟨n, hn⟩ := t
  cases n with
  | zero => exact (dif_pos h1).trans rfl
  | succ n => exact (dif_pos h1).trans ((dif_pos h0).trans ((dif_neg h2).trans rfl))

set_option maxHeartbeats 4000000 in
/-- `outsAt0` at a point of case B: that case's contents. -/
theorem outsAt0_B (hO : Ok m) (c : Dev nD) (t : Fin (cfgM m hO).N) (h0 : t.val % 11 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 11 = 10) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1) := by
  obtain ⟨n, hn⟩ := t
  cases n with
  | zero => exact (dif_neg h1).trans rfl
  | succ n => exact (dif_neg h1).trans ((dif_pos h0).trans ((dif_neg h2).trans rfl))

set_option maxHeartbeats 4000000 in
/-- `outsAt0` at a point of case C: that case's contents, over what the point before left. -/
theorem outsAt0_C (hO : Ok m) (c : Dev nD) (t : Fin (cfgM m hO).N) (h0 : ¬t.val % 11 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 11 = 10) :
    outsAt0 m hO c t.val t.isLt = (out0_C_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => exact (dif_pos h1).trans ((dif_neg h0).trans ((dif_neg h2).trans rfl))

set_option maxHeartbeats 4000000 in
/-- `outsAt0` at a point of case D: that case's contents, over what the point before left. -/
theorem outsAt0_D (hO : Ok m) (c : Dev nD) (t : Fin (cfgM m hO).N) (h0 : ¬t.val % 11 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 11 = 10) :
    outsAt0 m hO c t.val t.isLt = (out0_D_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => exact (dif_neg h1).trans ((dif_neg h0).trans ((dif_neg h2).trans rfl))

set_option maxHeartbeats 4000000 in
/-- `outsAt0` at a point of case E: that case's contents, over what the point before left. -/
theorem outsAt0_E (hO : Ok m) (c : Dev nD) (t : Fin (cfgM m hO).N) (h0 : ¬t.val % 11 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 11 = 10) :
    outsAt0 m hO c t.val t.isLt = (out0_E_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => exact (dif_pos h1).trans ((dif_neg h0).trans ((dif_pos h2).trans rfl))

set_option maxHeartbeats 4000000 in
/-- `outsAt0` at a point of case F: that case's contents, over what the point before left. -/
theorem outsAt0_F (hO : Ok m) (c : Dev nD) (t : Fin (cfgM m hO).N) (h0 : ¬t.val % 11 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 11 = 10) :
    outsAt0 m hO c t.val t.isLt = (out0_F_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => exact (dif_neg h1).trans ((dif_neg h0).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 363 := lt_of_lt_of_eq t.isLt (show (cfgM m hO).N = 363 from N_0)
  by_cases h0 : t.val % 11 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 11 = 10
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [Dat.leavesExact_idle (dats m hO 0 c) 6 t (idleAt0_6_A m hO t ((hcond0_0 t).mpr h0) (fun h => h2 ((hcond0_2 t).mp h))) (noFlush0_6_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HT0]; · iexact HT0
          isplitl [HT1]; · iexact HT1
          iintro ⟨H0, H1, H2, H3, H4, H5, H6, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexists _; iexact HS0
          isplitl [HT0]; · iexact HT0
          isplitl [HT1]; · iexact HT1
          iintro ⟨H0, H1, H2, H3, H4, H5, H6, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
    · by_cases h2 : t.val % 11 = 10
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [Dat.leavesExact_idle (dats m hO 0 c) 6 t (idleAt0_6_B m hO t ((hcond0_0 t).mpr h0) (fun h => h2 ((hcond0_2 t).mp h))) (noFlush0_6_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HT0]; · iexact HT0
          isplitl [HT1]; · iexact HT1
          iintro ⟨H0, H1, H2, H3, H4, H5, H6, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ ((hcond0_0 t).mpr h0) (fun h => h2 ((hcond0_2 t).mp h)) (iblk m hO c 0 t) (iblk m hO c 1 t) (iblk m hO c 2 t) (iblk m hO c 3 t) (iblk m hO c 4 t) (iblk m hO c 5 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexists _; iexact HS0
          isplitl [HT0]; · iexact HT0
          isplitl [HT1]; · iexact HT1
          iintro ⟨H0, H1, H2, H3, H4, H5, H6, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 11 = 10
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6_E m hO t (fun h => h0 ((hcond0_0 t).mp h)) ((hcond0_2 t).mpr h2)]; try rfl, after0_6]
        by_cases hz : t.val = 0
        · exfalso; have hN : t.val < 363 := lt_of_lt_of_eq t.isLt (show (cfgM m hO).N = 363 from N_0); omega
        · rw [PhiS_castSucc m hO c t, PhiS_pos m hO c _ _ hz, PhiT0_eq]
          rw [outsAt0_E m hO c t h0 h1 h2]
          unfold out0_E_6 sout0_E_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_E c (grid0.coords t) _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HT0]; · iexact HT0
          isplitl [HT1]; · iexact HT1
          iintro ⟨H0, H1, H2, H3, H4, H5, ⟨%e6, H6⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_E_6 c _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [Dat.leavesExact_idle (dats m hO 0 c) 6 t (idleAt0_6_C m hO t (fun h => h0 ((hcond0_0 t).mp h)) (fun h => h2 ((hcond0_2 t).mp h))) (noFlush0_6_C m hO t (fun h => h0 ((hcond0_0 t).mp h)) (fun h => h2 ((hcond0_2 t).mp h)))]
        by_cases hz : t.val = 0
        · exfalso; have hN : t.val < 363 := lt_of_lt_of_eq t.isLt (show (cfgM m hO).N = 363 from N_0); omega
        · rw [PhiS_castSucc m hO c t, PhiS_pos m hO c _ _ hz, PhiT0_eq]
          rw [outsAt0_C m hO c t h0 h1 h2]
          unfold sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) _ h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HT0]; · iexact HT0
          isplitl [HT1]; · iexact HT1
          iintro ⟨H0, H1, H2, H3, H4, H5, H6, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
    · by_cases h2 : t.val % 11 = 10
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [show (dats m hO 0 c).leavesExact 6 t = owns (c : Thread nD τ) (ms0_6 m hO t) fullShare ((dats m hO 0 c).after 6 t) from by
      unfold Dat.leavesExact; rw [liveAt0_6_F m hO t (fun h => h0 ((hcond0_0 t).mp h)) ((hcond0_2 t).mpr h2)]; try rfl, after0_6]
        by_cases hz : t.val = 0
        · exfalso; have hN : t.val < 363 := lt_of_lt_of_eq t.isLt (show (cfgM m hO).N = 363 from N_0); omega
        · rw [PhiS_castSucc m hO c t, PhiS_pos m hO c _ _ hz, PhiT0_eq]
          rw [outsAt0_F m hO c t h0 h1 h2]
          unfold out0_F_6 sout0_F_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_F c (grid0.coords t) _ _ _ _ _ _ _ _ _ _ _ _ _ _ _ _ (fun h => h0 ((hcond0_0 t).mp h)) ((hcond0_2 t).mpr h2) (iblk m hO c 0 t) (iblk m hO c 1 t) (iblk m hO c 2 t) (iblk m hO c 3 t) (iblk m hO c 4 t) (iblk m hO c 5 t) (tbl m 0) (tbl m 1) _ h1).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HT0]; · iexact HT0
          isplitl [HT1]; · iexact HT1
          iintro ⟨H0, H1, H2, H3, H4, H5, ⟨%e6, H6⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_F_6 c _ _ _ _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5 m hO t]; try rfl, after0_5]
        rw [Dat.leavesExact_idle (dats m hO 0 c) 6 t (idleAt0_6_D m hO t (fun h => h0 ((hcond0_0 t).mp h)) (fun h => h2 ((hcond0_2 t).mp h))) (noFlush0_6_D m hO t (fun h => h0 ((hcond0_0 t).mp h)) (fun h => h2 ((hcond0_2 t).mp h)))]
        by_cases hz : t.val = 0
        · exfalso; have hN : t.val < 363 := lt_of_lt_of_eq t.isLt (show (cfgM m hO).N = 363 from N_0); omega
        · rw [PhiS_castSucc m hO c t, PhiS_pos m hO c _ _ hz, PhiT0_eq]
          rw [outsAt0_D m hO c t h0 h1 h2]
          unfold sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
          iapply ((kernelRun0_D c (grid0.coords t) _ _ _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (iblk m hO c 4 t) (iblk m hO c 5 t) (tbl m 0) (tbl m 1) _ h1).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HT0]; · iexact HT0
          isplitl [HT1]; · iexact HT1
          iintro ⟨H0, H1, H2, H3, H4, H5, H6, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 363 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame, for every table whose blocks lie inside their arrays: the program ends without fault, its arguments
    unchanged and its counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.DenseIdeal.Gen

end
-- ==== Proof.Dense.Cases.lean ====
/-
  What one grid point of the dense feed-forward kernel leaves in its accumulator and its output block: each case of
  its conditionals that occurs, read off as the kernel's own stored values.
-/
module

public import proofs.«01_k».proof.Proof.Dense.FrameIdeal
public import Idealize.ShloMosaic.Lib.Pipeline.Value
public import Idealize.ShloMosaic.Lib.Tactic

@[expose] public section

set_option maxRecDepth 16384

noncomputable section

namespace Cert.DenseIdeal.Dense

open Cert.DenseIdeal Cert.DenseIdeal.Gen
open Idealize.ShloMosaic Idealize.ShloMosaic.TcCoe Idealize.SL.Sem Idealize.ShloMosaic.Tactic

variable {F : FTy → Type} [FloatOps F]

/-- The zero offsets of a two-axis rectangle. -/
theorem hz2 : (![0, 0] : Fin 2 → Nat) = fun _ => 0 := funext fun k => by fin_cases k <;> rfl
/-- The zero offsets of a three-axis rectangle. -/
theorem hz3 : (![0, 0, 0] : Fin 3 → Nat) = fun _ => 0 := funext fun k => by fin_cases k <;> rfl

/-- The row-tile count the kernel compares its tile's number with. -/
abbrev liveAt (c : Dev nD) (i : grid0.Coords) (xt1 : TbBuf0 (F := F) c tbM0_1) : Prop :=
  cond0_1 i (tbM0_1.view.readAt (Elt F) (Rect.unit (s := S1) ![0] S1.size inb_S1_S1_0).toLoadRect xt1
    (Shape.Idx.first (numel1_S1.symm ▸ Nat.one_pos)))

section Cases

variable (c : Dev nD) (i : grid0.Coords)
  (a4 : Memref sig .tc .vmem S512x1024 .bf16) (h4 : a4.IsWhole) (a5 : Memref sig .tc .vmem S1x1024x256 .bf16) (h5 : a5.IsWhole)
  (a6 : Memref sig .tc .vmem S1x1024x256 .bf16) (h6 : a6.IsWhole) (a7 : Memref sig .tc .vmem S1x256x1024 .bf16) (h7 : a7.IsWhole)
  (a8 : Memref sig .tc .vmem S512x1 .f32) (h8 : a8.IsWhole) (a9 : Memref sig .tc .vmem S512x1024 .f32) (h9 : a9.IsWhole)
  (a10 : Memref sig .tc .vmem S512x1024 .f32) (h10 : a10.IsWhole)
  (a11 : Memref sig .tc .vmem S512x1024 .f32) (h11 : a11.IsWhole)
  (x0 : Vec F S512x1024 .bf16) (x1 x2 : Vec F S1x1024x256 .bf16) (x3 : Vec F S1x256x1024 .bf16) (x4 : Vec F S512x1 .f32) (x5 : Vec F S512x1024 .f32)
  (t0 : TbBuf0 (F := F) c tbM0_0) (t1 : TbBuf0 (F := F) c tbM0_1) (xs : Vec F S512x1024 .f32)

/-- First point of a tile: one column block added to zeros. -/
theorem sout0_A_0_eq (hc0 : cond0_0 i) (hc2 : ¬cond0_2 i) (hc1 : liveAt c i t1) :
    sout0_A_0 c i a4 h4 a5 h5 a6 h6 a7 h7 a8 h8 a9 h9 a10 h10 a11 h11 hc0 hc2 x0 x1 x2 x3 x4 x5 t0 t1 hc1 = k0_pay2 x0 x1 x2 (k0_pay1 (F := F)) x3 := by
  unfold sout0_A_0
  rw [View.read_writes_eq_canon _ _ _ (scover0_A_0 c i a4 h4 a5 h5 a6 h6 a7 h7 a8 h8 a9 h9 a10 h10 a11 h11 hc0 hc2 x0 x1 x2 x3 x4 x5 t0 t1 hc1)]
  unfold kernelRun0_A
  dsimp only
  sl_unfold_words
  rw [View.canon_cons_unit_zero (S := S512x1024) hz2, View.readCov_unit_zero (S := S512x1024) _ hz2]
  simp only [View.readAt_eq_ld, h4.read_unread, h5.read_unread, h6.read_unread, h7.read_unread, h8.read_unread, h9.read_unread, h11.read_unread, View.ld_unit_zero (S := S512x1024) hz2, View.ld_unit_zero (S := S1x1024x256) hz3, View.ld_unit_zero (S := S1x256x1024) hz3, View.ld_unit_zero (S := S512x1) hz2]

/-- A middle point of a tile: one column block added. -/
theorem sout0_C_0_eq (hc0 : ¬cond0_0 i) (hc2 : ¬cond0_2 i) (hc1 : liveAt c i t1) :
    sout0_C_0 c i a4 h4 a5 h5 a6 h6 a7 h7 a8 h8 a9 h9 a10 h10 a11 h11 hc0 hc2 x0 x1 x2 x3 x4 x5 t0 t1 xs hc1 = k0_pay2 x0 x1 x2 xs x3 := by
  unfold sout0_C_0
  rw [View.read_writes_eq_canon _ _ _ (scover0_C_0 c i a4 h4 a5 h5 a6 h6 a7 h7 a8 h8 a9 h9 a10 h10 a11 h11 hc0 hc2 x0 x1 x2 x3 x4 x5 t0 t1 xs hc1)]
  unfold kernelRun0_C
  dsimp only
  sl_unfold_words
  rw [View.canon_unit_zero hz2]
  simp only [View.readAt_eq_ld, h4.read_unread, h5.read_unread, h6.read_unread, h7.read_unread, h8.read_unread, h9.read_unread, h11.read_unread, View.ld_unit_zero (S := S512x1024) hz2, View.ld_unit_zero (S := S1x1024x256) hz3, View.ld_unit_zero (S := S1x256x1024) hz3, View.ld_unit_zero (S := S512x1) hz2]

/-- The last point of a tile: one column block added. -/
theorem sout0_E_0_eq (hc0 : ¬cond0_0 i) (hc2 : cond0_2 i) (hc1 : liveAt c i t1) :
    sout0_E_0 c i a4 h4 a5 h5 a6 h6 a7 h7 a8 h8 a9 h9 a10 h10 a11 h11 hc0 hc2 x0 x1 x2 x3 x4 x5 t0 t1 xs hc1 = k0_pay2 x0 x1 x2 xs x3 := by
  unfold sout0_E_0
  rw [View.read_writes_eq_canon _ _ _ (scover0_E_0 c i a4 h4 a5 h5 a6 h6 a7 h7 a8 h8 a9 h9 a10 h10 a11 h11 hc0 hc2 x0 x1 x2 x3 x4 x5 t0 t1 xs hc1)]
  unfold kernelRun0_E
  dsimp only
  sl_unfold_words
  rw [View.canon_unit_zero hz2]
  simp only [View.readAt_eq_ld, h4.read_unread, h5.read_unread, h6.read_unread, h7.read_unread, h8.read_unread, h9.read_unread, h11.read_unread, View.ld_unit_zero (S := S512x1024) hz2, View.ld_unit_zero (S := S1x1024x256) hz3, View.ld_unit_zero (S := S1x256x1024) hz3, View.ld_unit_zero (S := S512x1) hz2]

/-- The last point of a tile stores the accumulator, scaled by the rows' weights, plus the residual rows. -/
theorem out0_E_6_eq (hc0 : ¬cond0_0 i) (hc2 : cond0_2 i) (hc1 : liveAt c i t1) :
    out0_E_6 c i a4 h4 a5 h5 a6 h6 a7 h7 a8 h8 a9 h9 a10 h10 a11 h11 hc0 hc2 x0 x1 x2 x3 x4 x5 t0 t1 xs hc1 = k0_pay3 (k0_pay2 x0 x1 x2 xs x3) x4 x5 := by
  unfold out0_E_6
  rw [View.read_writes_eq_canon _ _ _ (cover0_E_6 c i a4 h4 a5 h5 a6 h6 a7 h7 a8 h8 a9 h9 a10 h10 a11 h11 hc0 hc2 x0 x1 x2 x3 x4 x5 t0 t1 xs hc1)]
  unfold kernelRun0_E
  dsimp only
  sl_unfold_words
  rw [View.canon_unit_zero hz2, View.readCov_unit_zero (S := S512x1024) _ hz2]
  simp only [View.readAt_eq_ld, h4.read_unread, h5.read_unread, h6.read_unread, h7.read_unread, h8.read_unread, h9.read_unread, h11.read_unread, View.ld_unit_zero (S := S512x1024) hz2, View.ld_unit_zero (S := S1x1024x256) hz3, View.ld_unit_zero (S := S1x256x1024) hz3, View.ld_unit_zero (S := S512x1) hz2]

end Cases

end Cert.DenseIdeal.Dense

end
-- ==== Proof.Dense.Table.lean ====
/-
  The dense feed-forward's tables, which the host makes: every tile's entry is 0, and all 33 tiles are live. So the
  blocks the table names lie inside the weights.
-/
module

public import proofs.«01_k».proof.Proof.Dense.FrameBits
public import proofs.«01_k».proof.Proof.Dense.FrameIdeal
public import Idealize.ShloMosaic.Lib.Affine
public import Idealize.ShloMosaic.Lib.Tactic

@[expose] public section

set_option maxRecDepth 16384

noncomputable section

open Idealize.ShloMosaic Idealize.ShloMosaic.TcCoe Idealize.ShloMosaic.Tactic

namespace Cert.Dense.Table

open Cert.Dense Cert.Dense.Gen

variable {F : FTy → Type} [FloatOps F] (m : (ℓ : Loc nD τ sig) → Buf (Elt F) ℓ)

/-- Every entry of the tile table is 0. -/
theorem entry (i : S33.Idx) : (tbl m 0 i : BitVec 32) = 0#32 := by
  have h : (V m 0 main_v6 : S33.Idx → BitVec 32) = fun _ => 0#32 := by
    show StableHlo.after hostOps0 _ (Proc.devRef .tc main_v6) = _
    after_results
    rfl
  exact congrFun h i

/-- Every block the table names lies inside its array. -/
theorem ok : Ok m := by
  have ht : ∀ i, (tbl m 0 i : BitVec 32).toNat < 1 := fun i =>
    lt_of_eq_of_lt (congrArg BitVec.toNat (entry m i)) Nat.one_pos
  have hj : ∀ i : grid0.Coords, (i 1).val < 11 := fun i => (i 1).isLt
  have hcol : ∀ i : grid0.Coords, ((BitVec.ofNat 32 (i 1).val).toNat + 1) * 256 ≤ 2816 := fun i => by
    have := hj i
    rw [BitVec.toNat_ofNat, Nat.mod_eq_of_lt (by omega)]; omega
  refine ⟨fun i => ⟨fun a => ?_, Or.inr ?_⟩, fun i => ⟨fun a => ?_, Or.inr ?_⟩, fun i => ⟨fun a => ?_, Or.inr ?_⟩⟩
  · match a with
    | 0 => exact Nat.mul_le_mul_right 1 (ht _)
    | 1 => exact Nat.le_of_eq rfl
    | 2 => exact hcol i
  · exact Affine.block_words_dvd (of_decide_eq_true rfl) (by decide)
  · match a with
    | 0 => exact Nat.mul_le_mul_right 1 (ht _)
    | 1 => exact Nat.le_of_eq rfl
    | 2 => exact hcol i
  · exact Affine.block_words_dvd (of_decide_eq_true rfl) (by decide)
  · match a with
    | 0 => exact Nat.mul_le_mul_right 1 (ht _)
    | 1 => exact hcol i
    | 2 => exact Nat.le_of_eq rfl
  · exact Affine.block_words_dvd (of_decide_eq_true rfl) (by decide)

end Cert.Dense.Table

namespace Cert.DenseIdeal.Table

open Cert.DenseIdeal Cert.DenseIdeal.Gen

variable {F : FTy → Type} [FloatOps F] (m : (ℓ : Loc nD τ sig) → Buf (Elt F) ℓ)

/-- Every entry of the tile table is 0. -/
theorem entry (i : S33.Idx) : (tbl m 0 i : BitVec 32) = 0#32 := by
  have h : (V m 0 main_v6 : S33.Idx → BitVec 32) = fun _ => 0#32 := by
    show StableHlo.after hostOps0 _ (Proc.devRef .tc main_v6) = _
    after_results
    rfl
  exact congrFun h i

/-- Every block the table names lies inside its array. -/
theorem ok : Ok m := by
  have ht : ∀ i, (tbl m 0 i : BitVec 32).toNat < 1 := fun i =>
    lt_of_eq_of_lt (congrArg BitVec.toNat (entry m i)) Nat.one_pos
  have hj : ∀ i : grid0.Coords, (i 1).val < 11 := fun i => (i 1).isLt
  have hcol : ∀ i : grid0.Coords, ((BitVec.ofNat 32 (i 1).val).toNat + 1) * 256 ≤ 2816 := fun i => by
    have := hj i
    rw [BitVec.toNat_ofNat, Nat.mod_eq_of_lt (by omega)]; omega
  refine ⟨fun i => ⟨fun a => ?_, Or.inr ?_⟩, fun i => ⟨fun a => ?_, Or.inr ?_⟩, fun i => ⟨fun a => ?_, Or.inr ?_⟩⟩
  · match a with
    | 0 => exact Nat.mul_le_mul_right 1 (ht _)
    | 1 => exact Nat.le_of_eq rfl
    | 2 => exact hcol i
  · exact Affine.block_words_dvd (of_decide_eq_true rfl) (by decide)
  · match a with
    | 0 => exact Nat.mul_le_mul_right 1 (ht _)
    | 1 => exact Nat.le_of_eq rfl
    | 2 => exact hcol i
  · exact Affine.block_words_dvd (of_decide_eq_true rfl) (by decide)
  · match a with
    | 0 => exact Nat.mul_le_mul_right 1 (ht _)
    | 1 => exact hcol i
    | 2 => exact Nat.le_of_eq rfl
  · exact Affine.block_words_dvd (of_decide_eq_true rfl) (by decide)

end Cert.DenseIdeal.Table
end
-- ==== Proof.Dense.Blocks.lean ====
/-
  The blocks the dense feed-forward reads at a grid point, as elements of the argument arrays: the rows of the tile, the
  weights' columns of the column block, the residual rows, and a row weight of one; every tile is live.
-/
module

public import proofs.«01_k».proof.Proof.Dense.Cases
public import proofs.«01_k».proof.Proof.Dense.Table
public import proofs.«01_k».proof.Proof.Swiglu
public import Idealize.ShloMosaic.Lib.IdealHost

@[expose] public section

set_option maxRecDepth 16384

noncomputable section

namespace Cert.DenseIdeal.Dense

open Cert.DenseIdeal Cert.DenseIdeal.Gen Cert.Swiglu
open Idealize.ShloMosaic Idealize.ShloMosaic.TcCoe Idealize.ShloMosaic.ValueIdx Idealize.ShloMosaic.Tactic Idealize.SL.Sem
open Idealize.ShloMosaic.Pipeline (Dat Window)
open scoped BigOperators

variable (m : (ℓ : Loc nD τ sig) → Buf (Elt Ideal) ℓ)

/-- The argument arrays: the normalised rows, the residual rows, the gate, up and down weights. -/
abbrev X (c : Dev nD) : FVec Ideal S16896x1024 .bf16 := m ((c.tc : Thread nD τ).loc main_arg0)
abbrev Res (c : Dev nD) : FVec Ideal S16896x1024 .f32 := m ((c.tc : Thread nD τ).loc main_arg1)
abbrev Wg (c : Dev nD) : FVec Ideal S1024x2816 .f32 := m ((c.tc : Thread nD τ).loc main_arg2)
abbrev Wu (c : Dev nD) : FVec Ideal S1024x2816 .f32 := m ((c.tc : Thread nD τ).loc main_arg3)
abbrev Wd (c : Dev nD) : FVec Ideal S2816x1024 .f32 := m ((c.tc : Thread nD τ).loc main_arg4)

/-- The region finds the gate weights as a stack of one, cast, which at the ideal values changes nothing. -/
theorem V_gate (c : Dev nD) (k : Fin 1024) (g : Fin 2816) :
    (V m c main_v1 : S1x1024x2816.Idx → EReal) (ix3 0 k g) = Wg m c (ix2 k g) := by
  have h : (V m c main_v1 : S1x1024x2816.Idx → EReal)
      = broadcastInDim S1x1024x2816 ![1, 2] bcast_S1024x2816_S1x1024x2816_1_2 (Wg m c) := by
    show StableHlo.after hostOps0 _ (Proc.devRef .tc main_v1) = _
    after_results
    rfl
  rw [h]
  exact broadcastInDim_apply _ _ _ _ (ix2 k g) (fun d => match d with | ⟨0, _⟩ => rfl | ⟨1, _⟩ => rfl)
/-- The same of the up weights. -/
theorem V_up (c : Dev nD) (k : Fin 1024) (g : Fin 2816) :
    (V m c main_v3 : S1x1024x2816.Idx → EReal) (ix3 0 k g) = Wu m c (ix2 k g) := by
  have h : (V m c main_v3 : S1x1024x2816.Idx → EReal)
      = broadcastInDim S1x1024x2816 ![1, 2] bcast_S1024x2816_S1x1024x2816_1_2 (Wu m c) := by
    show StableHlo.after hostOps0 _ (Proc.devRef .tc main_v3) = _
    after_results
    rfl
  rw [h]
  exact broadcastInDim_apply _ _ _ _ (ix2 k g) (fun d => match d with | ⟨0, _⟩ => rfl | ⟨1, _⟩ => rfl)
/-- The same of the down weights. -/
theorem V_down (c : Dev nD) (g : Fin 2816) (b : Fin 1024) :
    (V m c main_v5 : S1x2816x1024.Idx → EReal) (ix3 0 g b) = Wd m c (ix2 g b) := by
  have h : (V m c main_v5 : S1x2816x1024.Idx → EReal)
      = broadcastInDim S1x2816x1024 ![1, 2] bcast_S2816x1024_S1x2816x1024_1_2 (Wd m c) := by
    show StableHlo.after hostOps0 _ (Proc.devRef .tc main_v5) = _
    after_results
    rfl
  rw [h]
  exact broadcastInDim_apply _ _ _ _ (ix2 g b) (fun d => match d with | ⟨0, _⟩ => rfl | ⟨1, _⟩ => rfl)
/-- The region finds a weight of one for every row. -/
theorem V_one (c : Dev nD) (i : S16896x1.Idx) : (V m c main_v8 : S16896x1.Idx → EReal) i = (1 : EReal) := by
  have h : (V m c main_v8 : S16896x1.Idx → EReal) = fun _ => Ideal.ofBits .f32 0x3F800000#32 := by
    show StableHlo.after hostOps0 _ (Proc.devRef .tc main_v8) = _
    after_results
    rfl
  rw [h]
  exact Ideal.ofBits_one_f32

/-- The grid point's coordinates: its tile and its column block. -/
theorem coord0 : ∀ t : Fin grid0.N, (grid0.coords t 0).val = t.val / 11 := by decide +kernel
theorem coord1 : ∀ t : Fin grid0.N, (grid0.coords t 1).val = t.val % 11 := by decide +kernel

theorem ofNat_coord0 (t : Fin grid0.N) : (BitVec.ofNat 32 (grid0.coords t 0).val).toNat = t.val / 11 := by
  have h : t.val < 363 := t.isLt.trans_eq N_0
  rw [BitVec.toNat_ofNat, coord0, Nat.mod_eq_of_lt (by omega)]

theorem ofNat_coord1 (t : Fin grid0.N) : (BitVec.ofNat 32 (grid0.coords t 1).val).toNat = t.val % 11 := by
  rw [BitVec.toNat_ofNat, coord1, Nat.mod_eq_of_lt (by omega)]

/-- The table word an index map reads at a point is 0. -/
theorem table_word (t : Fin grid0.N) :
    ((tbl m).at 0 (Rect.unit (s := S33) ![(Scalar.indexCast (BitVec.ofNat 32 (grid0.coords t 0).val) : Index).toNat] S1.size
      (k0_off1_inb (grid0.coords t))) numel1_S1 : BitVec 32) = 0#32 :=
  Table.entry m _

/-- Every tile is live: the host's count is the number of tiles. -/
theorem live (c : Dev nD) (t : Fin grid0.N) : liveAt c (grid0.coords t) (tbl m 1) := by
  obtain rfl : c = 0 := Subsingleton.elim _ _
  have h : (V m 0 main_v7 : S1.Idx → BitVec 32) = fun _ => 33#32 := by
    show StableHlo.after hostOps0 _ (Proc.devRef .tc main_v7) = _
    after_results
    rfl
  have e : (tbM0_1.view.readAt (Elt Ideal) (Rect.unit (s := S1) ![0] S1.size inb_S1_S1_0).toLoadRect (tbl m 1)
      (Shape.Idx.first (numel1_S1.symm ▸ Nat.one_pos)) : BitVec 32) = 33#32 := congrFun h _
  have ht : t.val / 11 < 33 := by
    have h : t.val < 363 := t.isLt.trans_eq N_0
    omega
  unfold liveAt cond0_1
  rw [e, coord0]
  generalize t.val / 11 = q at ht
  revert q
  decide

/-- The rows' block at a point. -/
theorem rows_block (hO : Ok m) (c : Dev nD) (t : Fin (cfgM m hO).N) (a : Fin 512) (k : Fin 1024) (r : Fin 16896)
    (hr : r.val = t.val / 11 * 512 + a.val) : (iblk m hO c 0 t : S512x1024.Idx → EReal) (ix2 a k) = X m c (ix2 r k) := by
  unfold iblk
  refine (View.read_apply _ _).trans ?_
  show (V m c main_arg0 : S16896x1024.Idx → EReal) _ = _
  rw [V_main_arg0]
  refine congrArg (X m c) (funext fun d => Fin.ext ?_)
  refine (Window.rect_emb_val ((cfgM m hO).win 0) t (ix2 a k) d).trans ?_
  match d with
  | ⟨0, _⟩ =>
    show (BitVec.ofNat 32 (grid0.coords t 0).val).toNat * 512 + a.val = r.val
    rw [ofNat_coord0, hr]
  | ⟨1, _⟩ => show 0 * 1024 + k.val = k.val; omega

/-- The gate weights' block at a point. -/
theorem gate_block (hO : Ok m) (c : Dev nD) (t : Fin (cfgM m hO).N) (k : Fin 1024) (f : Fin 256) (g : Fin 2816)
    (hg : g.val = t.val % 11 * 256 + f.val) :
    (iblk m hO c 1 t : S1x1024x256.Idx → EReal) (ix3 0 k f) = Wg m c (ix2 k g) := by
  unfold iblk
  refine (View.read_apply _ _).trans ?_
  refine Eq.trans ?_ (V_gate m c k g)
  refine congrArg (V m c main_v1 : S1x1024x2816.Idx → EReal) (funext fun d => Fin.ext ?_)
  refine (Window.rect_emb_val ((cfgM m hO).win 1) t (ix3 0 k f) d).trans ?_
  match d with
  | ⟨0, _⟩ => exact Eq.trans (b := (0#32 : BitVec 32).toNat * 1 + 0) (congrArg (fun w : BitVec 32 => w.toNat * 1 + 0) (table_word m t)) rfl
  | ⟨1, _⟩ => show 0 * 1024 + k.val = k.val; omega
  | ⟨2, _⟩ =>
    show (BitVec.ofNat 32 (grid0.coords t 1).val).toNat * 256 + f.val = g.val
    rw [ofNat_coord1, hg]

/-- The up weights' block at a point. -/
theorem up_block (hO : Ok m) (c : Dev nD) (t : Fin (cfgM m hO).N) (k : Fin 1024) (f : Fin 256) (g : Fin 2816)
    (hg : g.val = t.val % 11 * 256 + f.val) :
    (iblk m hO c 2 t : S1x1024x256.Idx → EReal) (ix3 0 k f) = Wu m c (ix2 k g) := by
  unfold iblk
  refine (View.read_apply _ _).trans ?_
  refine Eq.trans ?_ (V_up m c k g)
  refine congrArg (V m c main_v3 : S1x1024x2816.Idx → EReal) (funext fun d => Fin.ext ?_)
  refine (Window.rect_emb_val ((cfgM m hO).win 2) t (ix3 0 k f) d).trans ?_
  match d with
  | ⟨0, _⟩ => exact Eq.trans (b := (0#32 : BitVec 32).toNat * 1 + 0) (congrArg (fun w : BitVec 32 => w.toNat * 1 + 0) (table_word m t)) rfl
  | ⟨1, _⟩ => show 0 * 1024 + k.val = k.val; omega
  | ⟨2, _⟩ =>
    show (BitVec.ofNat 32 (grid0.coords t 1).val).toNat * 256 + f.val = g.val
    rw [ofNat_coord1, hg]

/-- The down weights' block at a point. -/
theorem down_block (hO : Ok m) (c : Dev nD) (t : Fin (cfgM m hO).N) (f : Fin 256) (b : Fin 1024) (g : Fin 2816)
    (hg : g.val = t.val % 11 * 256 + f.val) :
    (iblk m hO c 3 t : S1x256x1024.Idx → EReal) (ix3 0 f b) = Wd m c (ix2 g b) := by
  unfold iblk
  refine (View.read_apply _ _).trans ?_
  refine Eq.trans ?_ (V_down m c g b)
  refine congrArg (V m c main_v5 : S1x2816x1024.Idx → EReal) (funext fun d => Fin.ext ?_)
  refine (Window.rect_emb_val ((cfgM m hO).win 3) t (ix3 0 f b) d).trans ?_
  match d with
  | ⟨0, _⟩ => exact Eq.trans (b := (0#32 : BitVec 32).toNat * 1 + 0) (congrArg (fun w : BitVec 32 => w.toNat * 1 + 0) (table_word m t)) rfl
  | ⟨1, _⟩ =>
    show (BitVec.ofNat 32 (grid0.coords t 1).val).toNat * 256 + f.val = g.val
    rw [ofNat_coord1, hg]
  | ⟨2, _⟩ => show 0 * 1024 + b.val = b.val; omega

/-- The row weights' block at a point: ones. -/
theorem weight_block (hO : Ok m) (c : Dev nD) (t : Fin (cfgM m hO).N) (i : S512x1.Idx) :
    (iblk m hO c 4 t : S512x1.Idx → EReal) i = (1 : EReal) := by
  unfold iblk
  exact (View.read_apply _ _).trans (V_one m c _)

/-- The residual rows' block at a point. -/
theorem res_block (hO : Ok m) (c : Dev nD) (t : Fin (cfgM m hO).N) (a : Fin 512) (b : Fin 1024) (r : Fin 16896)
    (hr : r.val = t.val / 11 * 512 + a.val) : (iblk m hO c 5 t : S512x1024.Idx → EReal) (ix2 a b) = Res m c (ix2 r b) := by
  unfold iblk
  refine (View.read_apply _ _).trans ?_
  show (V m c main_arg1 : S16896x1024.Idx → EReal) _ = _
  rw [V_main_arg1]
  refine congrArg (Res m c) (funext fun d => Fin.ext ?_)
  refine (Window.rect_emb_val ((cfgM m hO).win 5) t (ix2 a b) d).trans ?_
  match d with
  | ⟨0, _⟩ =>
    show (BitVec.ofNat 32 (grid0.coords t 0).val).toNat * 512 + a.val = r.val
    rw [ofNat_coord0, hr]
  | ⟨1, _⟩ => show 0 * 1024 + b.val = b.val; omega

end Cert.DenseIdeal.Dense

end
-- ==== Proof.Dense.Fold.lean ====
/-
  The dense feed-forward's accumulator after each grid point, as mathematics: the hidden units' shares of the column
  blocks done so far; and what a tile's last point writes out.
-/
module

public import proofs.«01_k».proof.Proof.Dense.Blocks

@[expose] public section

set_option maxRecDepth 16384

noncomputable section

namespace Cert.DenseIdeal.Dense

open Cert.DenseIdeal Cert.DenseIdeal.Gen Cert.Swiglu
open Idealize.ShloMosaic Idealize.ShloMosaic.TcCoe Idealize.ShloMosaic.ValueIdx Idealize.ShloMosaic.Tactic Idealize.SL.Sem
open Idealize.ShloMosaic.Pipeline (Dat Window)
open scoped BigOperators

variable (m : (ℓ : Loc nD τ sig) → Buf (Elt Ideal) ℓ)

/-- The accumulator after a tile's first point. -/
theorem acc_first (hO : Ok m) (c : Dev nD) (t : Fin (cfgM m hO).N) (h0 : t.val % 11 = 0) :
    (outsAt0 m hO c t.val t.isLt).2
      = k0_pay2 (F := Ideal) (iblk m hO c 0 t) (iblk m hO c 1 t) (iblk m hO c 2 t) (k0_pay1 (F := Ideal)) (iblk m hO c 3 t) := by
  have h2 : ¬ t.val % 11 = 10 := by omega
  rw [outsAt0_A m hO c t h0 (live m c t) h2]
  dsimp only
  exact sout0_A_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t)
      scM0_0 (Memref.isWhole_whole _) (iblk m hO c 0 t) (iblk m hO c 1 t) (iblk m hO c 2 t) (iblk m hO c 3 t) (iblk m hO c 4 t) (iblk m hO c 5 t)
      (tbl m 0) (tbl m 1) ((hcond0_0 t).mpr h0) (fun h => h2 ((hcond0_2 t).mp h)) (live m c t)

/-- The accumulator after a later point of a tile. -/
theorem acc_next (hO : Ok m) (c : Dev nD) (t : Fin (cfgM m hO).N) (h0 : ¬t.val % 11 = 0) (hp : t.val - 1 < (cfgM m hO).N) :
    (outsAt0 m hO c t.val t.isLt).2 = k0_pay2 (F := Ideal) (iblk m hO c 0 t) (iblk m hO c 1 t) (iblk m hO c 2 t)
      (outsAt0 m hO c (t.val - 1) hp).2 (iblk m hO c 3 t) := by
  by_cases h2 : t.val % 11 = 10
  · rw [outsAt0_E m hO c t h0 (live m c t) h2]
    dsimp only
    exact sout0_E_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t)
      scM0_0 (Memref.isWhole_whole _) (iblk m hO c 0 t) (iblk m hO c 1 t) (iblk m hO c 2 t) (iblk m hO c 3 t) (iblk m hO c 4 t) (iblk m hO c 5 t)
      (tbl m 0) (tbl m 1) (outsAt0 m hO c (t.val - 1) hp).2 (fun h => h0 ((hcond0_0 t).mp h)) ((hcond0_2 t).mpr h2) (live m c t)
  · rw [outsAt0_C m hO c t h0 (live m c t) h2]
    dsimp only
    exact sout0_C_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t)
      scM0_0 (Memref.isWhole_whole _) (iblk m hO c 0 t) (iblk m hO c 1 t) (iblk m hO c 2 t) (iblk m hO c 3 t) (iblk m hO c 4 t) (iblk m hO c 5 t)
      (tbl m 0) (tbl m 1) (outsAt0 m hO c (t.val - 1) hp).2 (fun h => h0 ((hcond0_0 t).mp h)) (fun h => h2 ((hcond0_2 t).mp h)) (live m c t)

/-- What a tile's last point stores. -/
theorem out_last (hO : Ok m) (c : Dev nD) (t : Fin (cfgM m hO).N) (h2 : t.val % 11 = 10) :
    (outsAt0 m hO c t.val t.isLt).1
      = k0_pay3 (F := Ideal) (outsAt0 m hO c t.val t.isLt).2 (iblk m hO c 4 t) (iblk m hO c 5 t) := by
  have h0 : ¬ t.val % 11 = 0 := by omega
  have hp : t.val - 1 < (cfgM m hO).N := lt_of_le_of_lt (Nat.sub_le _ _) t.isLt
  rw [acc_next m hO c t h0 hp, outsAt0_E m hO c t h0 (live m c t) h2]
  dsimp only
  exact out0_E_6_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t)
      scM0_0 (Memref.isWhole_whole _) (iblk m hO c 0 t) (iblk m hO c 1 t) (iblk m hO c 2 t) (iblk m hO c 3 t) (iblk m hO c 4 t) (iblk m hO c 5 t)
      (tbl m 0) (tbl m 1) (outsAt0 m hO c (t.val - 1) hp).2 (fun h => h0 ((hcond0_0 t).mp h)) ((hcond0_2 t).mpr h2) (live m c t)

/-- The stored accumulator of a point, at one index. -/
theorem pay2_apply (x : FVec Ideal S512x1024 .bf16) (g u : FVec Ideal S1x1024x256 .bf16) (acc : FVec Ideal S512x1024 .f32)
    (d : FVec Ideal S1x256x1024 .bf16) (a : Fin 512) (b : Fin 1024) :
    k0_pay2 x g u acc d (ix2 a b) = acc (ix2 a b)
      + ∑ f : Fin 256, hid (fun k : Fin 1024 => x (ix2 a k)) (fun k => g (ix3 0 k f)) (fun k => u (ix3 0 k f)) * d (ix3 0 f b) := by
  unfold k0_pay2
  rw [shapeCast_self]
  exact step_apply x g u d acc _ _ _ _ a b

/-- The stored accumulator of a tile's reset, at one index. -/
theorem pay1_apply (a : Fin 512) (b : Fin 1024) : k0_pay1 (F := Ideal) (ix2 a b) = 0 := by
  unfold k0_pay1
  rw [shapeCast_self]
  exact ofBits_zero

/-- The stored output block, at one index. -/
theorem pay3_apply (acc : FVec Ideal S512x1024 .f32) (w : FVec Ideal S512x1 .f32) (q : FVec Ideal S512x1024 .f32) (a : Fin 512)
    (b : Fin 1024) : k0_pay3 acc w q (ix2 a b) = acc (ix2 a b) * w (ix2 a 0) + q (ix2 a b) := by
  unfold k0_pay3
  rw [addf_apply, mulf_apply]
  refine congrArg (acc (ix2 a b) * · + q (ix2 a b)) ?_
  rw [shapeCast_self]
  refine broadcastTo_apply _ _ _ _ ?_
  intro k
  match k with
  | ⟨0, _⟩ => rfl
  | ⟨1, _⟩ => rfl

/-- The hidden units' shares of row `r` in column `b`. -/
def fam (c : Dev nD) (r : Fin 16896) (b : Fin 1024) : Fin 2816 → EReal :=
  term (fun k : Fin 1024 => X m c (ix2 r k)) (fun k f => Wg m c (ix2 k f)) (fun k f => Wu m c (ix2 k f)) (fun f => Wd m c (ix2 f b))

/-- One point adds its 256 hidden units. -/
theorem pay2_part (hO : Ok m) (c : Dev nD) (t : Fin (cfgM m hO).N)
    (acc : FVec Ideal S512x1024 .f32) (a : Fin 512) (b : Fin 1024) (r : Fin 16896) (hr : r.val = t.val / 11 * 512 + a.val)
    (hacc : acc (ix2 a b) = part (fam m c r b) (t.val % 11 * 256)) :
    k0_pay2 (iblk m hO c 0 t) (iblk m hO c 1 t) (iblk m hO c 2 t) acc (iblk m hO c 3 t) (ix2 a b)
      = part (fam m c r b) (t.val % 11 * 256 + 256) := by
  refine (pay2_apply (iblk m hO c 0 t) (iblk m hO c 1 t) (iblk m hO c 2 t) acc (iblk m hO c 3 t) a b).trans ?_
  rw [hacc]
  refine (part_add _ _ 256 _ fun f => ?_).symm
  have hf : t.val % 11 * 256 + f.val < 2816 := by have := f.isLt; omega
  refine ⟨hf, ?_⟩
  unfold fam term
  refine congrArg₂ (· * ·) ?_ (down_block m hO c t f b ⟨_, hf⟩ rfl)
  have e0 : (fun k : Fin 1024 => (iblk m hO c 0 t : S512x1024.Idx → EReal) (ix2 a k)) = fun k => X m c (ix2 r k) :=
    funext fun k => rows_block m hO c t a k r hr
  have e1 : (fun k : Fin 1024 => (iblk m hO c 1 t : S1x1024x256.Idx → EReal) (ix3 0 k f))
      = fun k => Wg m c (ix2 k ⟨_, hf⟩) := funext fun k => gate_block m hO c t k f _ rfl
  have e2 : (fun k : Fin 1024 => (iblk m hO c 2 t : S1x1024x256.Idx → EReal) (ix3 0 k f))
      = fun k => Wu m c (ix2 k ⟨_, hf⟩) := funext fun k => up_block m hO c t k f _ rfl
  exact congr (congr (congrArg hid e0) e1) e2

/-- The accumulator after every point. -/
theorem acc_eq (hO : Ok m) (c : Dev nD) : ∀ (n : ℕ) (h : n < (cfgM m hO).N)
    (a : Fin 512) (b : Fin 1024) (r : Fin 16896) (_ : r.val = n / 11 * 512 + a.val),
    (outsAt0 m hO c n h).2 (ix2 a b) = part (fam m c r b) (n % 11 * 256 + 256) := by
  intro n
  induction n with
  | zero =>
    intro h a b r hr
    rw [acc_first m hO c ⟨0, h⟩ rfl]
    exact pay2_part m hO c ⟨0, h⟩ _ a b r hr (pay1_apply a b)
  | succ n ih =>
    intro h a b r hr
    by_cases h0 : (n + 1) % 11 = 0
    · rw [acc_first m hO c ⟨n + 1, h⟩ h0]
      refine pay2_part m hO c ⟨n + 1, h⟩ _ a b r hr ((pay1_apply a b).trans ?_)
      show _ = part _ ((n + 1) % 11 * 256)
      rw [h0]; rfl
    · have hp : n < (cfgM m hO).N := Nat.lt_of_succ_lt h
      have hd : n / 11 = (n + 1) / 11 := by omega
      have hm : n % 11 * 256 + 256 = (n + 1) % 11 * 256 := by omega
      have hi := ih hp a b r (by rw [hr, hd])
      rw [hm] at hi
      rw [acc_next m hO c ⟨n + 1, h⟩ h0 hp]
      exact pay2_part m hO c ⟨n + 1, h⟩ _ a b r hr hi

/-- The layer's dense feed-forward, at row `r` and column `b`: the residual plus the hidden units' shares. -/
def dense (c : Dev nD) (r : Fin 16896) (b : Fin 1024) : EReal := (∑ f, fam m c r b f) + Res m c (ix2 r b)

/-- What a tile's last point stores, at one index. -/
theorem out_eq (hO : Ok m) (c : Dev nD) (t : Fin (cfgM m hO).N) (h2 : t.val % 11 = 10)
    (a : Fin 512) (b : Fin 1024) (r : Fin 16896) (hr : r.val = t.val / 11 * 512 + a.val) :
    (outsAt0 m hO c t.val t.isLt).1 (ix2 a b) = dense m c r b := by
  rw [out_last m hO c t h2]
  refine (pay3_apply _ _ _ a b).trans ?_
  unfold dense
  refine congrArg₂ (· + ·) ?_ (res_block m hO c t a b r hr)
  have e : t.val % 11 * 256 + 256 = 2816 := by omega
  have key : part (fam m c r b) (t.val % 11 * 256 + 256) * (1 : EReal) = ∑ f, fam m c r b f := by
    rw [e, part_full, mul_one]
  exact (congrArg₂ (fun x y : EReal => x * y) (acc_eq m hO c t.val t.isLt a b r hr) (weight_block m hO c t (ix2 a 0))).trans key

end Cert.DenseIdeal.Dense

end
-- ==== Proof.Dense.Value.lean ====
/-
  The dense feed-forward's run, read: the result array holds the layer's dense feed-forward at every index, and the
  arguments are unchanged.
-/
module

public import proofs.«01_k».proof.Proof.Dense.Fold

@[expose] public section

set_option maxRecDepth 16384

noncomputable section

namespace Cert.DenseIdeal.Dense

open Cert.DenseIdeal Cert.DenseIdeal.Gen Cert.Swiglu
open Idealize.ShloMosaic Idealize.ShloMosaic.TcCoe Idealize.ShloMosaic.ValueIdx Idealize.ShloMosaic.Tactic Idealize.SL.Sem
open Idealize.ShloMosaic.Pipeline (Dat Window)
open scoped BigOperators

variable (m : (ℓ : Loc nD τ sig) → Buf (Elt Ideal) ℓ)

/-- The result array's contents. -/
def result (c : Dev nD) : Buf (Elt Ideal) ((c.tc : Thread nD τ).loc main_v9) :=
  (fun i : S16896x1024.Idx => dense m c (i 0) (i 1) : S16896x1024.Idx → EReal)

/-- Where the output block of a point lies in the result array. -/
theorem out_emb (hO : Ok m) (t : Fin (cfgM m hO).N) (a : Fin 512) (b : Fin 1024) (r : Fin 16896) (hr : r.val = t.val / 11 * 512 + a.val) :
    ((((cfgM m hO).win 6).rect t).emb (ix2 a b : S512x1024.Idx) : S16896x1024.Idx) = ix2 r b :=
  funext fun d => Fin.ext (by
    refine (Window.rect_emb_val ((cfgM m hO).win 6) t (ix2 a b) d).trans ?_
    match d with
    | ⟨0, _⟩ =>
      show (BitVec.ofNat 32 (grid0.coords t 0).val).toNat * 512 + a.val = r.val
      rw [ofNat_coord0, hr]
    | ⟨1, _⟩ => show 0 * 1024 + b.val = b.val; omega)

/-- Every write-back stores its block of the result. -/
theorem flushed_eq (hO : Ok m) (c : Dev nD) (t : Fin (cfgM m hO).N)
    (hf : ((cfgM m hO).win 6).flush t = true) :
    (dats m hO 0 c).flushed 6 t = (((cfgM m hO).win 6).blk t).view.read (Elt Ideal) (result m c) := by
  have h10 : t.val % 11 = 10 := (flush0_6 (adm m hO) t).mp hf
  have hN : t.val < 363 := Nat.lt_of_lt_of_eq t.isLt N_0
  show ((cfgM m hO).win 6).cut (grid0.coords t) ((dats m hO 0 c).after 6 t) = _
  rw [after0_6]
  refine funext fun (j : S512x1024.Idx) => ?_
  obtain ⟨a, b, rfl⟩ : ∃ (a : Fin 512) (b : Fin 1024), j = (ix2 a b : S512x1024.Idx) :=
    ⟨j 0, j 1, funext fun d => by match d with | ⟨0, _⟩ => rfl | ⟨1, _⟩ => rfl⟩
  have hr : t.val / 11 * 512 + a.val < 16896 := by have := a.isLt; omega
  refine Eq.trans ?_ (View.read_apply _ _).symm
  refine Eq.trans (out_eq m hO c t h10 a b ⟨_, hr⟩ rfl) ?_
  exact (congrArg (fun i : S16896x1024.Idx => dense m c (i 0) (i 1)) (out_emb m hO t a b ⟨_, hr⟩ rfl)).symm

/-- The write-backs cover the array. -/
theorem final_o (hO : Ok m) (c : Dev nD) :
    (dats m hO 0 c).arrAt 6 (cfgM m hO).N = result m c :=
  (dats m hO 0 c).arrAt_eq_of_cover 6 (result m c) (flushed_eq m hO c) fun (i : S16896x1024.Idx) => by
    have h0 : (i 0 : Nat) < 16896 := (i 0).isLt
    have ht : 11 * ((i 0 : Nat) / 512) + 10 < (cfgM m hO).N := by
      show _ < grid0.N
      rw [N_0]; omega
    have hr : (i 0 : Nat) = (11 * ((i 0 : Nat) / 512) + 10) / 11 * 512 + (i 0 : Nat) % 512 := by omega
    refine ⟨⟨_, ht⟩, (flush0_6 (adm m hO) _).mpr ?_, ?_⟩
    · show (11 * ((i 0 : Nat) / 512) + 10) % 11 = 10
      omega
    · refine Finset.mem_map.mpr ⟨(ix2 ⟨(i 0 : Nat) % 512, Nat.mod_lt _ (by decide)⟩ (i 1) : S512x1024.Idx), Finset.mem_univ _, ?_⟩
      refine (out_emb m hO ⟨_, ht⟩ ⟨(i 0 : Nat) % 512, Nat.mod_lt _ (by decide)⟩ (i 1) (i 0) hr).trans ?_
      exact funext fun d => by match d with | ⟨0, _⟩ => rfl | ⟨1, _⟩ => rfl

/-- The run: the result array at the layer's dense feed-forward, the arguments unchanged. -/
theorem run (ρ : Dev nD → PrngReg) (hO : Ok m) :
    θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans (final_o m hO c),
      ((h c).1 0).trans (((dats m hO 0 c).arrAt_in 0 rfl _).trans ((A_eq m hO c 0).trans (V_main_arg0 m c))),
      ((h c).1 5).trans (((dats m hO 0 c).arrAt_in 5 rfl _).trans ((A_eq m hO c 5).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ hO)

end Cert.DenseIdeal.Dense

end
-- ==== Proof.Dense.Equal.lean ====
/-
  The dense feed-forward's claims: the runs, and the equality of its result with the reference's.
-/
module

public import proofs.«01_k».proof.Proof.Dense.Value
public import proofs.«01_k».proof.Proof.Dense.FrameBits
public import proofs.«01_k».proof.Proof.Gen.DenseRefIdeal.Run
public import proofs.«01_k».proof.Proof.Gen.DenseRefIdeal.Read
public import proofs.«01_k».proof.Defs
public import Idealize.ShloMosaic.Lib.Quiescent

@[expose] public section

set_option maxRecDepth 16384

noncomputable section

namespace Cert.Proof.Dense

open Idealize.ShloMosaic Idealize.ShloMosaic.TcCoe Idealize.ShloMosaic.ValueIdx Idealize.SL.Sem

/-- The kernel runs, leaves its arguments unchanged and its counters at zero. -/
theorem frame_kernel : Cert.quiescent_Dense (hDense := Cert.Dense.Gen.facts) :=
  fun m ρ _ => Cert.Dense.Gen.frame m ρ (Cert.Dense.Table.ok m)

/-- The same of the idealized kernel. -/
theorem frame_ideal : Cert.quiescent_DenseIdeal (hDenseIdeal := Cert.DenseIdeal.Gen.facts) :=
  fun m ρ _ => Cert.DenseIdeal.Gen.frame m ρ (Cert.DenseIdeal.Table.ok m)

/-- The same of the reference. -/
theorem frame_reference : Cert.quiescent_DenseRefIdeal (hDenseRefIdeal := Cert.DenseRefIdeal.Gen.facts) :=
  fun m ρ _ => (θ_run Cert.DenseRefIdeal.defs _ _).mono
    (fun r h => ⟨fun c => (h c).2, Idealize.ShloMosaic.sem_eq_zero_of_no_sems (by decide) r.2⟩)
    (Cert.DenseRefIdeal.Value.run (F := Ideal) m ρ)

/-- The reference's feed-forward, before the residual, at one index. -/
theorem ffn_apply (x : FVec Ideal Cert.DenseRefIdeal.S16896x1024 .bf16) (g u : FVec Ideal Cert.DenseRefIdeal.S1024x2816 .f32)
    (d : FVec Ideal Cert.DenseRefIdeal.S2816x1024 .f32) (r : Fin 16896) (b : Fin 1024) :
    Cert.DenseRefIdeal.Read.val_main_v5 (F := Ideal) x g u d (ix2 r b)
      = Cert.Swiglu.ffn (fun k : Fin 1024 => x (ix2 r k)) (fun k f => g (ix2 k f)) (fun k f => u (ix2 k f))
          (fun f : Fin 2816 => d (ix2 f b)) :=
  Cert.Swiglu.host_apply (Cert.DenseRefIdeal.Read.val_main_v0 (F := Ideal) x) g u d
    (Cert.DenseRefIdeal.Read.val_main_call0_v2 (F := Ideal)) (Cert.DenseRefIdeal.Read.val_main_call0_v4 (F := Ideal))
    (fun i => (Cert.DenseRefIdeal.Read.val_main_call0_v2_apply i).trans Ideal.ofBits_one_f32)
    (fun i => (Cert.DenseRefIdeal.Read.val_main_call0_v4_apply i).trans Ideal.ofBits_one_f32) r b

/-- The reference's result is the kernel's, at memories that agree on the arguments. -/
theorem result_eq (m : (ℓ : Loc Cert.DenseIdeal.nD Cert.DenseIdeal.τ Cert.DenseIdeal.sig) → Buf (Elt Ideal) ℓ)
    (c : Dev Cert.DenseIdeal.nD) :
    Cert.DenseRefIdeal.Read.val_main_v6 (F := Ideal) (Cert.DenseIdeal.Dense.X m c) (Cert.DenseIdeal.Dense.Res m c)
      (Cert.DenseIdeal.Dense.Wg m c) (Cert.DenseIdeal.Dense.Wu m c) (Cert.DenseIdeal.Dense.Wd m c)
        = Cert.DenseIdeal.Dense.result m c := by
  refine funext fun (i : Cert.DenseRefIdeal.S16896x1024.Idx) => ?_
  obtain ⟨r, b, rfl⟩ : ∃ (r : Fin 16896) (b : Fin 1024), i = (ix2 r b : Cert.DenseRefIdeal.S16896x1024.Idx) :=
    ⟨i 0, i 1, funext fun d => by match d with | ⟨0, _⟩ => rfl | ⟨1, _⟩ => rfl⟩
  refine (Cert.DenseRefIdeal.Read.val_main_v6_apply (F := Ideal) _ _ _ _ _ _).trans ?_
  refine (congrArg (fun e : EReal => (Cert.DenseIdeal.Dense.Res m c (ix2 r b) : EReal) + e) (ffn_apply _ _ _ _ r b)).trans ?_
  exact add_comm _ _

/-- The idealized kernel and the reference compute the same result. -/
theorem equal : Cert.algebraic_DenseIdeal_DenseRefIdeal (hDenseIdeal := Cert.DenseIdeal.Gen.facts)
    (hDenseRefIdeal := Cert.DenseRefIdeal.Gen.facts) := by
  intro m g m' g' _ hargs
  refine ⟨fun c => Cert.DenseIdeal.Dense.result m c, Cert.DenseIdeal.Dense.run m g (Cert.DenseIdeal.Table.ok m), ?_⟩
  refine (θ_run Cert.DenseRefIdeal.defs _ _).mono (fun r h c => ⟨(h c).1.trans ?_, (h c).2⟩)
    (Cert.DenseRefIdeal.Value.run (F := Ideal) m' g')
  refine (Cert.DenseRefIdeal.Read.val_main_v6_eq (F := Ideal) _ _ _ _ _).trans ?_
  obtain ⟨h0, h1, h2, h3, h4⟩ := hargs c
  refine Eq.trans ?_ (result_eq m c)
  exact congr (congr (congr (congr (congrArg (Cert.DenseRefIdeal.Read.val_main_v6 (F := Ideal)) h0) h1) h2) h3) h4

end Cert.Proof.Dense

end
-- ==== Proof.Rms.lean ====
/-
  Root-mean-square normalisation at the ideal values, as mathematics: a row's element, times the reciprocal root of the
  row's mean square plus the constant, times the gain.
-/
module

public import Idealize.ShloMosaic.Lib.ValueIdx
public import Idealize.ShloMosaic.Lib.ValueLayoutCasts
public import Idealize.ShloMosaic.Lib.IdealHost

@[expose] public section

noncomputable section

namespace Cert.Rms

open Idealize.ShloMosaic Idealize.ShloMosaic.ValueIdx
open scoped BigOperators

/-- The normalised element `k` of the row `x` of 1024, with gain `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- A sum of squares along a tile's rows, at one row. -/
theorem sumsq_apply {M D : ℕ} (x : FVec Ideal ⟨2, ![M, D]⟩ .f32) (h : (⟨2, ![M, D]⟩ : Shape).Reduces [1] ⟨1, ![M]⟩)
    (hφ : FKind.Formats .f32) (hacc : 0x00000000#32 = FKind.add.neutral .f32 hφ) (a : Fin M) :
    multiReduction .add [1] ⟨1, ![M]⟩ (mulf x x) 0x00000000#32 h hφ hacc (ix1 a) = ∑ k : Fin D, x (ix2 a k) * x (ix2 a k) := by
  refine (Ideal.multiReduction_add_single (mulf x x) _ h hφ hacc (ix1 a)).trans ?_
  refine Finset.sum_congr rfl fun k _ => ?_
  have e : h.lift (ix1 a) k = ix2 a k := funext fun d => Fin.ext (by
    match d with
    | ⟨0, _⟩ => rfl
    | ⟨1, _⟩ => rfl)
  rw [e]
  rfl

/-- A tile's rows normalised, as the tiles are written: element `k` of row `a` is `rms` of that row. -/
theorem tile_apply {M : ℕ} (x : FVec Ideal ⟨2, ![M, 1024]⟩ .f32) (g : FVec Ideal ⟨2, ![1, 1024]⟩ .f32)
    (h : (⟨2, ![M, 1024]⟩ : Shape).Reduces [1] ⟨1, ![M]⟩) (hφ : FKind.Formats .f32)
    (hacc : 0x00000000#32 = FKind.add.neutral .f32 hφ) (hs : (⟨1, ![M]⟩ : Shape).ShapeCasts ⟨2, ![M, 1]⟩)
    (hb : (⟨2, ![M, 1]⟩ : Shape).Broadcasts ⟨2, ![M, 1024]⟩) (hg : (⟨2, ![1, 1024]⟩ : Shape).Broadcasts ⟨2, ![M, 1024]⟩)
    (a : Fin M) (k : Fin 1024) :
    mulf (mulf x (broadcastTo ⟨2, ![M, 1024]⟩ (rsqrt (addf
        (divf (shapeCast ⟨2, ![M, 1]⟩ (multiReduction .add [1] ⟨1, ![M]⟩ (mulf x x) 0x00000000#32 h hφ hacc) hs)
          (broadcast ⟨2, ![M, 1]⟩ (Scalar.ofBits .f32 0x44800000#32)))
        (broadcast ⟨2, ![M, 1]⟩ (Scalar.ofBits .f32 0x358637BD#32)))) hb)) (broadcastTo ⟨2, ![M, 1024]⟩ g hg) (ix2 a k)
      = rms (fun j => x (ix2 a j)) (fun j => g (ix2 0 j)) k := by
  unfold rms
  rw [mulf_apply, mulf_apply]
  refine congrArg₂ (· * ·) (congrArg (x (ix2 a k) * ·) ?_) ?_
  · refine (broadcastTo_apply _ _ (ix2 a k) (ix2 a 0) ?_).trans ?_
    · intro d
      match d with
      | ⟨0, _⟩ =>
        show a.val = if M = 1 then 0 else a.val
        have := a.isLt
        split_ifs <;> omega
      | ⟨1, _⟩ => rfl
    · show Ideal.rsqrt (Ideal.div (shapeCast ⟨2, ![M, 1]⟩ _ hs (ix2 a 0)) _ + _) = _
      rw [shapeCast_a_a1_apply, sumsq_apply]
      rfl
  · refine broadcastTo_apply _ _ (ix2 a k) (ix2 0 k) ?_
    intro d
    match d with
    | ⟨0, _⟩ => rfl
    | ⟨1, _⟩ => rfl

end Cert.Rms

end
-- ==== Proof.Input.Regions.lean ====
/-
  What the input projection's two calls leave in their result arrays, from the contents they are entered with: the
  normalised rows, and the rows times the weight matrix.
-/
module

public import proofs.«01_k».proof.Proof.Gen.InputIdeal.Frame
public import proofs.«01_k».proof.Proof.Rms
public import proofs.«01_k».proof.Proof.Swiglu
public import Idealize.ShloMosaic.Lib.IdealHost
public import Idealize.ShloMosaic.Lib.Pipeline.Value

@[expose] public section

set_option maxRecDepth 16384

noncomputable section

namespace Cert.InputIdeal.Input

open Cert.InputIdeal Cert.InputIdeal.Gen Cert.Swiglu Cert.Rms
open Idealize.ShloMosaic Idealize.ShloMosaic.TcCoe Idealize.ShloMosaic.ValueIdx Idealize.ShloMosaic.Tactic Idealize.SL.Sem
open Idealize.ShloMosaic.Pipeline (Dat Window)
open scoped BigOperators

variable (V : (c : Dev nD) → (b : Ref sig .tc) → Buf (Elt Ideal) ((c : Thread nD τ).loc b))

theorem zeros : (![0, 0] : Fin 2 → ℕ) = fun _ => 0 := funext fun d => by match d with | ⟨0, _⟩ => rfl | ⟨1, _⟩ => rfl

/-! ## The normalisation -/

theorem coord0_0 : ∀ t : Fin grid0.N, (grid0.coords t 0).val = t.val := by decide +kernel

theorem N0 : grid0.N = 33 := by decide +kernel

theorem word0 (t : Fin grid0.N) : (BitVec.ofNat 32 (grid0.coords t 0).val).toNat = t.val := by
  have h : t.val < 33 := t.isLt.trans_eq N0
  rw [BitVec.toNat_ofNat, coord0_0, Nat.mod_eq_of_lt (by omega)]

/-- The block of rows at a point. -/
theorem rows0 (c : Dev nD) (t : Fin cfg0.N) (a : Fin 512) (k : Fin 1024) (r : Fin 16896) (hr : r.val = t.val * 512 + a.val) :
    (iblk0 V c 0 t : S512x1024.Idx → EReal) (ix2 a k) = (V c main_v2 : S16896x1024.Idx → EReal) (ix2 r k) := by
  unfold iblk0
  refine (View.read_apply _ _).trans ?_
  refine congrArg (V c main_v2 : S16896x1024.Idx → EReal) (funext fun d => Fin.ext ?_)
  refine (Window.rect_emb_val (cfg0.win 0) t (ix2 a k) d).trans ?_
  match d with
  | ⟨0, _⟩ =>
    show (BitVec.ofNat 32 (grid0.coords t 0).val).toNat * 512 + a.val = r.val
    rw [word0, hr]
  | ⟨1, _⟩ => show 0 * 1024 + k.val = k.val; omega

/-- The gains at a point. -/
theorem gain0 (c : Dev nD) (t : Fin cfg0.N) (k : Fin 1024) :
    (iblk0 V c 1 t : S1x1024.Idx → EReal) (ix2 0 k) = (V c main_v3 : S1x1024.Idx → EReal) (ix2 0 k) := by
  unfold iblk0
  refine (View.read_apply _ _).trans ?_
  refine congrArg (V c main_v3 : S1x1024.Idx → EReal) (funext fun d => Fin.ext ?_)
  refine (Window.rect_emb_val (cfg0.win 1) t (ix2 0 k) d).trans ?_
  match d with
  | ⟨0, _⟩ => rfl
  | ⟨1, _⟩ => show 0 * 1024 + k.val = k.val; omega

/-- What a point stores, at one index. -/
theorem norm_apply (x : FVec Ideal S512x1024 .f32) (g : FVec Ideal S1x1024 .f32) (a : Fin 512) (k : Fin 1024) :
    out0_2 (F := Ideal) x g (ix2 a k) = rms (fun j => x (ix2 a j)) (fun j => g (ix2 0 j)) k := by
  have e : out0_2 (F := Ideal) x g = k0_pay1 (F := Ideal) x g := by
    unfold out0_2
    rw [View.ld_unit_zero zeros, View.ld_unit_zero zeros]
    exact View.canon_unit_zero zeros _ _
  rw [e]
  unfold k0_pay1
  rw [shapeCast_self, shapeCast_self]
  exact tile_apply x g _ _ _ _ _ _ a k

/-- The normalised rows. -/
def normed (c : Dev nD) (r : Fin 16896) (k : Fin 1024) : EReal :=
  rms (fun j => (V c main_v2 : S16896x1024.Idx → EReal) (ix2 r j)) (fun j => (V c main_v3 : S1x1024.Idx → EReal) (ix2 0 j)) k

/-- Where the output block of a point lies. -/
theorem emb0 (t : Fin cfg0.N) (a : Fin 512) (b : Fin 1024) (r : Fin 16896) (hr : r.val = t.val * 512 + a.val) :
    (((cfg0.win 2).rect t).emb (ix2 a b : S512x1024.Idx) : S16896x1024.Idx) = ix2 r b :=
  funext fun d => Fin.ext (by
    refine (Window.rect_emb_val (cfg0.win 2) t (ix2 a b) d).trans ?_
    match d with
    | ⟨0, _⟩ =>
      show (BitVec.ofNat 32 (grid0.coords t 0).val).toNat * 512 + a.val = r.val
      rw [word0, hr]
    | ⟨1, _⟩ => show 0 * 1024 + b.val = b.val; omega)

/-- The array of normalised rows. -/
def normedArr (c : Dev nD) : Buf (Elt Ideal) ((c : Thread nD τ).loc main_v4) :=
  (fun i : S16896x1024.Idx => normed V c (i 0) (i 1) : S16896x1024.Idx → EReal)

/-- Every write-back stores its block of the normalised rows. -/
theorem flushed0 (c : Dev nD) (t : Fin cfg0.N) (_ : (cfg0.win 2).flush t = true) :
    (dat0 V c).flushed 2 t = ((cfg0.win 2).blk t).view.read (Elt Ideal) (normedArr V c) := by
  have hN : t.val < 33 := Nat.lt_of_lt_of_eq t.isLt N0
  show (cfg0.win 2).cut (grid0.coords t) ((dat0 V c).after 2 t) = _
  rw [after0_2]
  refine funext fun (j : S512x1024.Idx) => ?_
  obtain ⟨a, b, rfl⟩ : ∃ (a : Fin 512) (b : Fin 1024), j = (ix2 a b : S512x1024.Idx) :=
    ⟨j 0, j 1, funext fun d => by match d with | ⟨0, _⟩ => rfl | ⟨1, _⟩ => rfl⟩
  have hr : t.val * 512 + a.val < 16896 := by have := a.isLt; omega
  refine Eq.trans ?_ (View.read_apply _ _).symm
  refine Eq.trans ?_ (congrArg (fun i : S16896x1024.Idx => normed V c (i 0) (i 1)) (emb0 t a b ⟨_, hr⟩ rfl)).symm
  refine (norm_apply _ _ a b).trans ?_
  show _ = normed V c ⟨_, hr⟩ b
  unfold normed
  exact congr (congr (congrArg rms (funext fun j => rows0 V c t a j ⟨_, hr⟩ rfl)) (funext fun j => gain0 V c t j)) rfl

/-- The normalisation's result array. -/
theorem arr0 (c : Dev nD) : (dat0 V c).arrAt 2 cfg0.N = normedArr V c :=
  (dat0 V c).arrAt_eq_of_cover 2 (normedArr V c) (flushed0 V c) fun (i : S16896x1024.Idx) => by
    have h0 : (i 0 : Nat) < 16896 := (i 0).isLt
    have ht : (i 0 : Nat) / 512 < cfg0.N := by
      show _ < grid0.N
      rw [N0]; omega
    have hr : (i 0 : Nat) = (i 0 : Nat) / 512 * 512 + (i 0 : Nat) % 512 := by omega
    refine ⟨⟨_, ht⟩, flush0_2 _, ?_⟩
    refine Finset.mem_map.mpr ⟨(ix2 ⟨(i 0 : Nat) % 512, Nat.mod_lt _ (by decide)⟩ (i 1) : S512x1024.Idx), Finset.mem_univ _, ?_⟩
    refine (emb0 ⟨_, ht⟩ ⟨(i 0 : Nat) % 512, Nat.mod_lt _ (by decide)⟩ (i 1) (i 0) hr).trans ?_
    exact funext fun d => by match d with | ⟨0, _⟩ => rfl | ⟨1, _⟩ => rfl

/-! ## The projection -/

theorem coord1_0 : ∀ t : Fin grid1.N, (grid1.coords t 0).val = t.val / 3 := by decide +kernel
theorem coord1_1 : ∀ t : Fin grid1.N, (grid1.coords t 1).val = t.val % 3 := by decide +kernel

theorem N1 : grid1.N = 99 := by decide +kernel

theorem word1_0 (t : Fin grid1.N) : (BitVec.ofNat 32 (grid1.coords t 0).val).toNat = t.val / 3 := by
  have h : t.val < 99 := t.isLt.trans_eq N1
  rw [BitVec.toNat_ofNat, coord1_0, Nat.mod_eq_of_lt (by omega)]

theorem word1_1 (t : Fin grid1.N) : (BitVec.ofNat 32 (grid1.coords t 1).val).toNat = t.val % 3 := by
  rw [BitVec.toNat_ofNat, coord1_1, Nat.mod_eq_of_lt (by omega)]

/-- The block of rows at a point. -/
theorem rows1 (c : Dev nD) (t : Fin cfg1.N) (a : Fin 512) (k : Fin 1024) (r : Fin 16896) (hr : r.val = t.val / 3 * 512 + a.val) :
    (iblk1 V c 0 t : S512x1024.Idx → EReal) (ix2 a k) = (V c main_v4 : S16896x1024.Idx → EReal) (ix2 r k) := by
  unfold iblk1
  refine (View.read_apply _ _).trans ?_
  refine congrArg (V c main_v4 : S16896x1024.Idx → EReal) (funext fun d => Fin.ext ?_)
  refine (Window.rect_emb_val (cfg1.win 0) t (ix2 a k) d).trans ?_
  match d with
  | ⟨0, _⟩ =>
    show (BitVec.ofNat 32 (grid1.coords t 0).val).toNat * 512 + a.val = r.val
    rw [word1_0, hr]
  | ⟨1, _⟩ => show 0 * 1024 + k.val = k.val; omega

/-- The block of the weights at a point. -/
theorem cols1 (c : Dev nD) (t : Fin cfg1.N) (k : Fin 1024) (f : Fin 1152) (g : Fin 3456) (hg : g.val = t.val % 3 * 1152 + f.val) :
    (iblk1 V c 1 t : S1024x1152.Idx → EReal) (ix2 k f) = (V c main_v6 : S1024x3456.Idx → EReal) (ix2 k g) := by
  unfold iblk1
  refine (View.read_apply _ _).trans ?_
  refine congrArg (V c main_v6 : S1024x3456.Idx → EReal) (funext fun d => Fin.ext ?_)
  refine (Window.rect_emb_val (cfg1.win 1) t (ix2 k f) d).trans ?_
  match d with
  | ⟨0, _⟩ => show 0 * 1024 + k.val = k.val; omega
  | ⟨1, _⟩ =>
    show (BitVec.ofNat 32 (grid1.coords t 1).val).toNat * 1152 + f.val = g.val
    rw [word1_1, hg]

/-- What a point stores, at one index. -/
theorem product_apply (x : FVec Ideal S512x1024 .bf16) (w : FVec Ideal S1024x1152 .bf16) (a : Fin 512) (f : Fin 1152) :
    out1_2 (F := Ideal) x w (ix2 a f) = ∑ k : Fin 1024, x (ix2 a k) * w (ix2 k f) := by
  have e : out1_2 (F := Ideal) x w = k1_pay1 (F := Ideal) x w := by
    unfold out1_2
    rw [View.ld_unit_zero zeros, View.ld_unit_zero zeros]
    exact View.canon_unit_zero zeros _ _
  rw [e]
  unfold k1_pay1
  rw [shapeCast_self, shapeCast_self]
  exact matmul_zero_apply x w a f

/-- The product of two matrices, at one index. -/
def mul (x : S16896x1024.Idx → EReal) (w : S1024x3456.Idx → EReal) (r : Fin 16896) (g : Fin 3456) : EReal :=
  ∑ k : Fin 1024, x (ix2 r k) * w (ix2 k g)

/-- The product of the rows with the weights. -/
def product (c : Dev nD) (r : Fin 16896) (g : Fin 3456) : EReal :=
  mul (V c main_v4 : S16896x1024.Idx → EReal) (V c main_v6 : S1024x3456.Idx → EReal) r g

/-- Where the output block of a point lies. -/
theorem emb1 (t : Fin cfg1.N) (a : Fin 512) (f : Fin 1152) (r : Fin 16896) (hr : r.val = t.val / 3 * 512 + a.val)
    (g : Fin 3456) (hg : g.val = t.val % 3 * 1152 + f.val) :
    (((cfg1.win 2).rect t).emb (ix2 a f : S512x1152.Idx) : S16896x3456.Idx) = ix2 r g :=
  funext fun d => Fin.ext (by
    refine (Window.rect_emb_val (cfg1.win 2) t (ix2 a f) d).trans ?_
    match d with
    | ⟨0, _⟩ =>
      show (BitVec.ofNat 32 (grid1.coords t 0).val).toNat * 512 + a.val = r.val
      rw [word1_0, hr]
    | ⟨1, _⟩ =>
      show (BitVec.ofNat 32 (grid1.coords t 1).val).toNat * 1152 + f.val = g.val
      rw [word1_1, hg])

/-- The array of the products. -/
def productArr (c : Dev nD) : Buf (Elt Ideal) ((c : Thread nD τ).loc main_v7) :=
  (fun i : S16896x3456.Idx => product V c (i 0) (i 1) : S16896x3456.Idx → EReal)

/-- Every write-back stores its block of the products. -/
theorem flushed1 (c : Dev nD) (t : Fin cfg1.N) (_ : (cfg1.win 2).flush t = true) :
    (dat1 V c).flushed 2 t = ((cfg1.win 2).blk t).view.read (Elt Ideal) (productArr V c) := by
  have hN : t.val < 99 := Nat.lt_of_lt_of_eq t.isLt N1
  show (cfg1.win 2).cut (grid1.coords t) ((dat1 V c).after 2 t) = _
  rw [after1_2]
  refine funext fun (j : S512x1152.Idx) => ?_
  obtain ⟨a, f, rfl⟩ : ∃ (a : Fin 512) (f : Fin 1152), j = (ix2 a f : S512x1152.Idx) :=
    ⟨j 0, j 1, funext fun d => by match d with | ⟨0, _⟩ => rfl | ⟨1, _⟩ => rfl⟩
  have hr : t.val / 3 * 512 + a.val < 16896 := by have := a.isLt; omega
  have hg : t.val % 3 * 1152 + f.val < 3456 := by have := f.isLt; omega
  refine Eq.trans ?_ (View.read_apply _ _).symm
  refine Eq.trans ?_ (congrArg (fun i : S16896x3456.Idx => product V c (i 0) (i 1)) (emb1 t a f ⟨_, hr⟩ rfl ⟨_, hg⟩ rfl)).symm
  refine (product_apply _ _ a f).trans ?_
  show _ = product V c ⟨_, hr⟩ ⟨_, hg⟩
  unfold product mul
  exact Finset.sum_congr rfl fun k _ => congrArg₂ (· * ·) (rows1 V c t a k ⟨_, hr⟩ rfl) (cols1 V c t k f ⟨_, hg⟩ rfl)

/-- The projection's result array. -/
theorem arr1 (c : Dev nD) : (dat1 V c).arrAt 2 cfg1.N = productArr V c :=
  (dat1 V c).arrAt_eq_of_cover 2 (productArr V c) (flushed1 V c) fun (i : S16896x3456.Idx) => by
    have h0 : (i 0 : Nat) < 16896 := (i 0).isLt
    have h1 : (i 1 : Nat) < 3456 := (i 1).isLt
    have ht : (i 0 : Nat) / 512 * 3 + (i 1 : Nat) / 1152 < cfg1.N := by
      show _ < grid1.N
      rw [N1]; omega
    have hr : (i 0 : Nat) = ((i 0 : Nat) / 512 * 3 + (i 1 : Nat) / 1152) / 3 * 512 + (i 0 : Nat) % 512 := by omega
    have hg : (i 1 : Nat) = ((i 0 : Nat) / 512 * 3 + (i 1 : Nat) / 1152) % 3 * 1152 + (i 1 : Nat) % 1152 := by omega
    refine ⟨⟨_, ht⟩, flush1_2 _, ?_⟩
    refine Finset.mem_map.mpr ⟨(ix2 ⟨(i 0 : Nat) % 512, Nat.mod_lt _ (by decide)⟩ ⟨(i 1 : Nat) % 1152, Nat.mod_lt _ (by decide)⟩ :
      S512x1152.Idx), Finset.mem_univ _, ?_⟩
    refine (emb1 ⟨_, ht⟩ ⟨(i 0 : Nat) % 512, Nat.mod_lt _ (by decide)⟩ ⟨(i 1 : Nat) % 1152, Nat.mod_lt _ (by decide)⟩ (i 0) hr (i 1) hg).trans ?_
    exact funext fun d => by match d with | ⟨0, _⟩ => rfl | ⟨1, _⟩ => rfl

end Cert.InputIdeal.Input

end
-- ==== Proof.Input.Run.lean ====
/-
  The input projection's run: at the end every buffer holds what the last host operation leaves it with.
-/
module

public import proofs.«01_k».proof.Proof.Gen.InputIdeal.Frame
public import Idealize.ShloMosaic.PureOps.Ideal.Laws

@[expose] public section

set_option maxRecDepth 16384

noncomputable section

namespace Cert.InputIdeal.Input

open Cert.InputIdeal Cert.InputIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every execution ends with each of the device's buffers at the contents after the last stretch of host operations. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.InputIdeal.Input

end
-- ==== Proof.Input.Value.lean ====
/-
  What the input projection's run leaves in its four results: the key and value rows read off the projection, whose
  entries are given at an index.
-/
module

public import proofs.«01_k».proof.Proof.Input.Regions
public import proofs.«01_k».proof.Proof.Input.Run
public import Idealize.ShloMosaic.Lib.KernelVsHost

@[expose] public section

set_option maxRecDepth 16384

noncomputable section

namespace Cert.InputIdeal.Input

open Cert.InputIdeal Cert.InputIdeal.Gen Cert.Swiglu Cert.Rms
open Idealize.ShloMosaic Idealize.ShloMosaic.TcCoe Idealize.ShloMosaic.ValueIdx Idealize.ShloMosaic.Tactic Idealize.SL.Sem
open scoped BigOperators

variable (m : (ℓ : Loc nD τ sig) → Buf (Elt Ideal) ℓ) (ρ : Dev nD → PrngReg)

/-! ## The host's layout of the results -/

/-- One key or value block of the prompt's projection: 128 columns, as two heads of 64. -/
def headP (Q : FVec Ideal S4x4096x3360 .f32) (off : Fin 3 → ℕ) (h : S4x4096x3360.Slices off S4x4096x128) :
    FVec Ideal S4x4096x1x2x64 .f32 :=
  broadcastInDim S4x4096x1x2x64 ![0, 1, 3, 4] bcast_S4x4096x2x64_S4x4096x1x2x64_0_1_3_4
    (shapeCast S4x4096x2x64 (extractStridedSlice S4x4096x128 off Q h) shapeCasts_S4x4096x128_S4x4096x2x64)

/-- One key or value block of the samples' projection. -/
def headS (Q : FVec Ideal S128x4x3360 .f32) (off : Fin 3 → ℕ) (h : S128x4x3360.Slices off S128x4x128) :
    FVec Ideal S128x4x1x2x64 .f32 :=
  broadcastInDim S128x4x1x2x64 ![0, 1, 3, 4] bcast_S128x4x2x64_S128x4x1x2x64_0_1_3_4
    (shapeCast S128x4x2x64 (extractStridedSlice S128x4x128 off Q h) shapeCasts_S128x4x128_S128x4x2x64)

/-- The prompt's cache rows, from its projection. -/
def rowsP (Q : FVec Ideal S4x4096x3360 .f32) : FVec Ideal S4x4096x4x2x64 .f32 :=
  concatenate S4x4096x4x2x64 2 [⟨S4x4096x1x2x64, headP Q ![0, 0, 512] slices_S4x4096x3360_S4x4096x128_0_0_512⟩,
    ⟨S4x4096x1x2x64, headP Q ![0, 0, 640] slices_S4x4096x3360_S4x4096x128_0_0_640⟩,
    ⟨S4x4096x1x2x64, headP Q ![0, 0, 768] slices_S4x4096x3360_S4x4096x128_0_0_768⟩,
    ⟨S4x4096x1x2x64, headP Q ![0, 0, 896] slices_S4x4096x3360_S4x4096x128_0_0_896⟩]
    concatenates_S4x4096x1x2x64_S4x4096x1x2x64_S4x4096x1x2x64_S4x4096x1x2x64_S4x4096x4x2x64_d2

/-- The samples' cache rows, from their projection. -/
def rowsS (Q : FVec Ideal S128x4x3360 .f32) : FVec Ideal S128x4x4x2x64 .f32 :=
  concatenate S128x4x4x2x64 2 [⟨S128x4x1x2x64, headS Q ![0, 0, 512] slices_S128x4x3360_S128x4x128_0_0_512⟩,
    ⟨S128x4x1x2x64, headS Q ![0, 0, 640] slices_S128x4x3360_S128x4x128_0_0_640⟩,
    ⟨S128x4x1x2x64, headS Q ![0, 0, 768] slices_S128x4x3360_S128x4x128_0_0_768⟩,
    ⟨S128x4x1x2x64, headS Q ![0, 0, 896] slices_S128x4x3360_S128x4x128_0_0_896⟩]
    concatenates_S128x4x1x2x64_S128x4x1x2x64_S128x4x1x2x64_S128x4x1x2x64_S128x4x4x2x64_d2

/-- The prompt's window: the last 512 tokens' window rows. -/
def winP (Q : FVec Ideal S4x4096x3360 .f32) : FVec Ideal S4x512x2x2x64 .f32 :=
  extractStridedSlice S4x512x2x2x64 ![0, 3584, 0, 0, 0]
    (concatenate S4x4096x2x2x64 2 [⟨S4x4096x1x2x64, headP Q ![0, 0, 1024] slices_S4x4096x3360_S4x4096x128_0_0_1024⟩,
      ⟨S4x4096x1x2x64, headP Q ![0, 0, 1152] slices_S4x4096x3360_S4x4096x128_0_0_1152⟩]
      concatenates_S4x4096x1x2x64_S4x4096x1x2x64_S4x4096x2x2x64_d2) slices_S4x4096x2x2x64_S4x512x2x2x64_0_3584_0_0_0

/-- The samples' window: the window carried in followed by the new rows, the oldest four dropped. -/
def winS (old : FVec Ideal S128x512x2x2x64 .f32) (Q : FVec Ideal S128x4x3360 .f32) : FVec Ideal S128x512x2x2x64 .f32 :=
  extractStridedSlice S128x512x2x2x64 ![0, 4, 0, 0, 0]
    (concatenate S128x516x2x2x64 1 [⟨S128x512x2x2x64, old⟩, ⟨S128x4x2x2x64,
      concatenate S128x4x2x2x64 2 [⟨S128x4x1x2x64, headS Q ![0, 0, 1024] slices_S128x4x3360_S128x4x128_0_0_1024⟩,
        ⟨S128x4x1x2x64, headS Q ![0, 0, 1152] slices_S128x4x3360_S128x4x128_0_0_1152⟩]
        concatenates_S128x4x1x2x64_S128x4x1x2x64_S128x4x2x2x64_d2⟩]
      concatenates_S128x512x2x2x64_S128x4x2x2x64_S128x516x2x2x64_d1) slices_S128x516x2x2x64_S128x512x2x2x64_0_4_0_0_0

/-- The prompt's rows of a projection of all rows. -/
def promptRows (P : FVec Ideal S16896x3456 .f32) : FVec Ideal S4x4096x3360 .f32 :=
  shapeCast S4x4096x3360 (extractStridedSlice S16384x3360 ![0, 0]
    (extractStridedSlice S16896x3360 ![0, 0] P slices_S16896x3456_S16896x3360_0_0)
    slices_S16896x3360_S16384x3360_0_0) shapeCasts_S16384x3360_S4x4096x3360

/-- The samples' rows of a projection of all rows. -/
def sampleRows (P : FVec Ideal S16896x3456 .f32) : FVec Ideal S128x4x3360 .f32 :=
  shapeCast S128x4x3360 (extractStridedSlice S512x3360 ![16384, 0]
    (extractStridedSlice S16896x3360 ![0, 0] P slices_S16896x3456_S16896x3360_0_0)
    slices_S16896x3360_S512x3360_16384_0) shapeCasts_S512x3360_S128x4x3360

theorem promptRows_apply (P : FVec Ideal S16896x3456 .f32) (b : Fin 4) (t : Fin 4096) (f : Fin 3360) (r : Fin 16896)
    (hr : r.val = b.val * 4096 + t.val) (g : Fin 3456) (hg : g.val = f.val) :
    promptRows P (ix3 b t f) = P (ix2 r g) := by
  have h : b.val * 4096 + t.val < 16384 := by have := b.isLt; have := t.isLt; omega
  unfold promptRows
  refine (shapeCast_apply _ _ _ (ix2 ⟨_, h⟩ f) ?_).trans ?_
  · rw [Shape.rowMajor_val_two, Shape.rowMajor_val_three]; rfl
  refine (extractStridedSlice_apply _ _ _ _ (ix2 r f) fun a => ?_).trans
    (extractStridedSlice_apply _ _ _ _ (ix2 r g) fun a => ?_)
  · match a with
    | ⟨0, _⟩ => show r.val = 0 + (b.val * 4096 + t.val); omega
    | ⟨1, _⟩ => show f.val = 0 + f.val; omega
  · match a with
    | ⟨0, _⟩ => show r.val = 0 + r.val; omega
    | ⟨1, _⟩ => show g.val = 0 + f.val; omega

theorem sampleRows_apply (P : FVec Ideal S16896x3456 .f32) (b : Fin 128) (t : Fin 4) (f : Fin 3360) (r : Fin 16896)
    (hr : r.val = 16384 + (b.val * 4 + t.val)) (g : Fin 3456) (hg : g.val = f.val) :
    sampleRows P (ix3 b t f) = P (ix2 r g) := by
  have h : b.val * 4 + t.val < 512 := by have := b.isLt; have := t.isLt; omega
  unfold sampleRows
  refine (shapeCast_apply _ _ _ (ix2 ⟨_, h⟩ f) ?_).trans ?_
  · rw [Shape.rowMajor_val_two, Shape.rowMajor_val_three]; rfl
  refine (extractStridedSlice_apply _ _ _ _ (ix2 r f) fun a => ?_).trans
    (extractStridedSlice_apply _ _ _ _ (ix2 r g) fun a => ?_)
  · match a with
    | ⟨0, _⟩ => show r.val = 16384 + (b.val * 4 + t.val); omega
    | ⟨1, _⟩ => show f.val = 0 + f.val; omega
  · match a with
    | ⟨0, _⟩ => show r.val = 0 + r.val; omega
    | ⟨1, _⟩ => show g.val = 0 + f.val; omega

/-! ## What the two calls are entered with -/

abbrev Xp (c : Dev nD) : FVec Ideal S4x4096x1024 .f32 := m ((c.tc : Thread nD τ).loc main_arg0)
abbrev Xs (c : Dev nD) : FVec Ideal S128x4x1024 .f32 := m ((c.tc : Thread nD τ).loc main_arg1)
abbrev Old (c : Dev nD) : FVec Ideal S128x512x2x2x64 .f32 := m ((c.tc : Thread nD τ).loc main_arg2)
abbrev Gain (c : Dev nD) : FVec Ideal S1024 .f32 := m ((c.tc : Thread nD τ).loc main_arg3)
abbrev Wt (c : Dev nD) : FVec Ideal S1024x3360 .f32 := m ((c.tc : Thread nD τ).loc main_arg4)

/-- The rows the normalisation is entered with: the prompt's tokens, then the samples'. -/
theorem entry_rows (c : Dev nD) : (V1 m ρ c main_v2 : S16896x1024.Idx → EReal)
    = concatenate S16896x1024 0 [⟨S16384x1024, shapeCast S16384x1024 (Xp m c) shapeCasts_S4x4096x1024_S16384x1024⟩,
        ⟨S512x1024, shapeCast S512x1024 (Xs m c) shapeCasts_S128x4x1024_S512x1024⟩]
        concatenates_S16384x1024_S512x1024_S16896x1024_d0 := by
  show StableHlo.after hostOps0 _ (Proc.devRef .tc main_v2) = _
  after_results
  rfl

theorem entry_prompt (c : Dev nD) (b : Fin 4) (t : Fin 4096) (k : Fin 1024) (r : Fin 16896)
    (hr : r.val = b.val * 4096 + t.val) :
    (V1 m ρ c main_v2 : S16896x1024.Idx → EReal) (ix2 r k) = Xp m c (ix3 b t k) := by
  have h : b.val * 4096 + t.val < 16384 := by have := b.isLt; have := t.isLt; omega
  rw [entry_rows]
  refine (concatenate_pair_apply_left (t := S16896x1024) (s₁ := S16384x1024) (s₂ := S512x1024) _ _ _ _ _ rfl
    (ix2 ⟨_, h⟩ k) fun d => ?_).trans ?_
  · match d with
    | ⟨0, _⟩ => exact hr.symm
    | ⟨1, _⟩ => rfl
  · refine shapeCast_apply _ _ _ (ix3 b t k) ?_
    rw [Shape.rowMajor_val_two, Shape.rowMajor_val_three]; rfl

theorem entry_sample (c : Dev nD) (b : Fin 128) (t : Fin 4) (k : Fin 1024) (r : Fin 16896)
    (hr : r.val = 16384 + (b.val * 4 + t.val)) :
    (V1 m ρ c main_v2 : S16896x1024.Idx → EReal) (ix2 r k) = Xs m c (ix3 b t k) := by
  have h : b.val * 4 + t.val < 512 := by have := b.isLt; have := t.isLt; omega
  rw [entry_rows]
  refine (concatenate_pair_apply_right (t := S16896x1024) (s₁ := S16384x1024) (s₂ := S512x1024) _ _ _ _ _ rfl rfl
    (ix2 ⟨_, h⟩ k) (fun d hd => ?_) ?_).trans ?_
  · match d with
    | ⟨0, _⟩ => exact absurd rfl hd
    | ⟨1, _⟩ => rfl
  · show b.val * 4 + t.val + 16384 = r.val
    omega
  · refine shapeCast_apply _ _ _ (ix3 b t k) ?_
    rw [Shape.rowMajor_val_two, Shape.rowMajor_val_three]; rfl

theorem entry_gain (c : Dev nD) (k : Fin 1024) :
    (V1 m ρ c main_v3 : S1x1024.Idx → EReal) (ix2 0 k) = Gain m c (ix1 k) := by
  have h : (V1 m ρ c main_v3 : S1x1024.Idx → EReal) = shapeCast S1x1024 (Gain m c) shapeCasts_S1024_S1x1024 := by
    show StableHlo.after hostOps0 _ (Proc.devRef .tc main_v3) = _
    after_results
    rfl
  rw [h]
  refine shapeCast_apply _ _ _ (ix1 k) ?_
  rw [Shape.rowMajor_val_two, Shape.rowMajor_val_one]
  show k.val = 0 * 1024 + k.val
  omega

/-- The projection is entered with the normalised rows. -/
theorem entry_normed (c : Dev nD) : V5 m ρ c main_v4 = normedArr (V1 m ρ) c :=
  (W5_of m ρ c main_v4 (by decide)).trans ((W4_of m ρ c main_v4 (by decide)).trans ((W3_of m ρ c main_v4 (by decide)).trans
    ((W2_arr m ρ c 2).trans (arr0 (V1 m ρ) c))))

/-- The projection is entered with the weights, padded by columns of zero. -/
theorem entry_weights (c : Dev nD) (k : Fin 1024) (f : Fin 3360) (g : Fin 3456) (hg : g.val = f.val) :
    (V5 m ρ c main_v6 : S1024x3456.Idx → EReal) (ix2 k g) = Wt m c (ix2 k f) := by
  have h : (V5 m ρ c main_v6 : S1024x3456.Idx → EReal)
      = pad S1024x3456 ![0, 0] ![0, 96] ![0, 0] (W3 m ρ c (Proc.devRef .tc main_arg4) : FVec Ideal S1024x3360 .f32)
          (sitofp .f32 (W3 m ρ c (Proc.devRef .tc main_c) : S_.Idx → BitVec 32) : FVec Ideal S_ .f32)
          pads_S1024x3360_S1024x3456_000_0960 h_S_ := by
    show StableHlo.after hostOps1_2 (StableHlo.after hostOps1_1 (W3 m ρ c)) (Proc.devRef .tc main_v6) = _
    after_results
    rfl
  rw [h]
  refine (pad_apply_of_inside _ _ _ _ _ _ _ _ (ix2 k f) fun a => ?_).trans
    (congrFun (W3_args m ρ c main_arg4 (by decide)) (ix2 k f))
  match a with
  | ⟨0, _⟩ => show k.val = 0 + k.val * (0 + 1); omega
  | ⟨1, _⟩ => show g.val = 0 + f.val * (0 + 1); omega

/-! ## The results -/

/-- The projection of every row. -/
abbrev projected (c : Dev nD) : FVec Ideal S16896x3456 .f32 := productArr (V5 m ρ) c

theorem after_calls (c : Dev nD) : W6 m ρ c (Proc.devRef .tc main_v7) = projected m ρ c :=
  (W6_arr m ρ c 2).trans (arr1 (V5 m ρ) c)

/-- The projection at a row, whose entries are named. -/
theorem projected_apply (c : Dev nD) (r : Fin 16896) (f : Fin 3360) (g : Fin 3456) (hg : g.val = f.val)
    (x : Fin 1024 → EReal) (hx : ∀ k, (V1 m ρ c main_v2 : S16896x1024.Idx → EReal) (ix2 r k) = x k) :
    projected m ρ c (ix2 r g) = ∑ k : Fin 1024, rms x (fun j => Gain m c (ix1 j)) k * Wt m c (ix2 k f) := by
  show product (V5 m ρ) c r g = _
  unfold product mul
  refine Finset.sum_congr rfl fun k _ => congrArg₂ (fun p q : EReal => p * q) ?_ (entry_weights m ρ c k f g hg)
  refine (congrFun (entry_normed m ρ c) (ix2 r k)).trans ?_
  show normed (V1 m ρ) c r k = _
  unfold normed
  exact congr (congr (congrArg rms (funext hx)) (funext fun j => entry_gain m ρ c j)) rfl

theorem result_rowsP (c : Dev nD) : W7 m ρ c (Proc.devRef .tc main_v35) = rowsP (promptRows (projected m ρ c)) := by
  have h : W7 m ρ c (Proc.devRef .tc main_v35) = rowsP (promptRows (W6 m ρ c (Proc.devRef .tc main_v7))) := by
    show StableHlo.after hostOps2 (W6 m ρ c) (Proc.devRef .tc main_v35) = _
    generalize W6 m ρ c = U
    after_results_simp <;> (try dsimp only [Matrix.cons_val]) <;> (try after_results_simp) <;> rfl
  rw [h, after_calls]

theorem result_rowsS (c : Dev nD) : W7 m ρ c (Proc.devRef .tc main_v64) = rowsS (sampleRows (projected m ρ c)) := by
  have h : W7 m ρ c (Proc.devRef .tc main_v64) = rowsS (sampleRows (W6 m ρ c (Proc.devRef .tc main_v7))) := by
    show StableHlo.after hostOps2 (W6 m ρ c) (Proc.devRef .tc main_v64) = _
    generalize W6 m ρ c = U
    after_results_simp <;> (try dsimp only [Matrix.cons_val]) <;> (try after_results_simp) <;> rfl
  rw [h, after_calls]

theorem result_winP (c : Dev nD) : W7 m ρ c (Proc.devRef .tc main_v41) = winP (promptRows (projected m ρ c)) := by
  have h : W7 m ρ c (Proc.devRef .tc main_v41) = winP (promptRows (W6 m ρ c (Proc.devRef .tc main_v7))) := by
    show StableHlo.after hostOps2 (W6 m ρ c) (Proc.devRef .tc main_v41) = _
    generalize W6 m ρ c = U
    after_results_simp <;> (try dsimp only [Matrix.cons_val]) <;> (try after_results_simp) <;> rfl
  rw [h, after_calls]

theorem result_winS (c : Dev nD) :
    W7 m ρ c (Proc.devRef .tc main_v71) = winS (Old m c) (sampleRows (projected m ρ c)) := by
  have h : W7 m ρ c (Proc.devRef .tc main_v71)
      = winS (W6 m ρ c (Proc.devRef .tc main_arg2)) (sampleRows (W6 m ρ c (Proc.devRef .tc main_v7))) := by
    show StableHlo.after hostOps2 (W6 m ρ c) (Proc.devRef .tc main_v71) = _
    generalize W6 m ρ c = U
    after_results_simp <;> (try dsimp only [Matrix.cons_val]) <;> (try after_results_simp) <;> rfl
  rw [h, after_calls, W6_args m ρ c main_arg2 (by decide)]

end Cert.InputIdeal.Input

end
-- ==== Proof.Input.RefSide.lean ====
/-
  The reference's projection of the normalised rows, at one index, for the prompt's tokens and for the samples'.
-/
module

public import proofs.«01_k».proof.Proof.Gen.InputRefIdeal.Run
public import proofs.«01_k».proof.Proof.Gen.InputRefIdeal.Read
public import proofs.«01_k».proof.Proof.Rms

@[expose] public section

set_option maxRecDepth 16384

noncomputable section

namespace Cert.InputRefIdeal.Input

open Cert.InputRefIdeal Cert.InputRefIdeal.Gen Cert.InputRefIdeal.Read Cert.Rms
open Idealize.ShloMosaic Idealize.ShloMosaic.TcCoe Idealize.ShloMosaic.ValueIdx
open scoped BigOperators

/-- The prompt's normalised rows, at one index. -/
theorem prompt_norm (x : FVec Ideal S4x4096x1024 .f32) (g : FVec Ideal S1024 .f32) (b : Fin 4) (t : Fin 4096) (k : Fin 1024) :
    val_main_v12 (F := Ideal) x g (ix3 b t k) = rms (fun j => x (ix3 b t j)) (fun j => g (ix1 j)) k := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  have hs : (val_main_cst (F := Ideal)) (Shape.Idx.first h_S_)
      + ∑ j : Fin 1024, (val_main_v0 (F := Ideal) x) (idx_main_v1 (idx_main_v2 (idx_main_v8 (ix3 b t k))) j)
      = ∑ j : Fin 1024, x (ix3 b t j) * x (ix3 b t j) := by
    refine (congrArg₂ (fun p q : EReal => p + q) Ideal.ofBits_zero_f32 (Finset.sum_congr rfl fun j _ => ?_)).trans (zero_add _)
    refine (val_main_v0_apply (F := Ideal) x _).trans ?_
    exact congrArg (fun i : S4x4096x1024.Idx => (x i * x i : EReal))
      (funext fun d => by match d with | ⟨0, _⟩ => rfl | ⟨1, _⟩ => rfl | ⟨2, _⟩ => rfl)
  unfold rms
  refine congrArg₂ (fun p q : EReal => p * q) (congrArg₂ (fun p q : EReal => p * q) rfl (congrArg Ideal.rsqrt
    (congrArg₂ (fun p q : EReal => p + q) (congrArg₂ Ideal.div hs rfl) rfl))) (congrArg g ?_)
  exact funext fun d => by match d with | ⟨0, _⟩ => rfl

/-- The samples' normalised rows, at one index. -/
theorem sample_norm (x : FVec Ideal S128x4x1024 .f32) (g : FVec Ideal S1024 .f32) (b : Fin 128) (t : Fin 4) (k : Fin 1024) :
    val_main_v54 (F := Ideal) x g (ix3 b t k) = rms (fun j => x (ix3 b t j)) (fun j => g (ix1 j)) k := by
  rw [val_main_v54_apply, val_main_v51_apply, val_main_v50_apply, val_main_v49_apply, val_main_v48_apply, val_main_v46_apply,
    val_main_v44_apply, val_main_v43_apply, val_main_v45_apply, val_main_v47_apply, val_main_v53_apply, val_main_v52_apply]
  have hs : (val_main_cst_2 (F := Ideal)) (Shape.Idx.first h_S_)
      + ∑ j : Fin 1024, (val_main_v42 (F := Ideal) x) (idx_main_v43 (idx_main_v44 (idx_main_v50 (ix3 b t k))) j)
      = ∑ j : Fin 1024, x (ix3 b t j) * x (ix3 b t j) := by
    refine (congrArg₂ (fun p q : EReal => p + q) Ideal.ofBits_zero_f32 (Finset.sum_congr rfl fun j _ => ?_)).trans (zero_add _)
    refine (val_main_v42_apply (F := Ideal) x _).trans ?_
    exact congrArg (fun i : S128x4x1024.Idx => (x i * x i : EReal))
      (funext fun d => by match d with | ⟨0, _⟩ => rfl | ⟨1, _⟩ => rfl | ⟨2, _⟩ => rfl)
  unfold rms
  refine congrArg₂ (fun p q : EReal => p * q) (congrArg₂ (fun p q : EReal => p * q) rfl (congrArg Ideal.rsqrt
    (congrArg₂ (fun p q : EReal => p + q) (congrArg₂ Ideal.div hs rfl) rfl))) (congrArg g ?_)
  exact funext fun d => by match d with | ⟨0, _⟩ => rfl

/-- The prompt's projection, at one index. -/
theorem prompt_apply (x : FVec Ideal S4x4096x1024 .f32) (g : FVec Ideal S1024 .f32) (w : FVec Ideal S1024x3360 .f32)
    (b : Fin 4) (t : Fin 4096) (f : Fin 3360) :
    val_main_v13 (F := Ideal) x g w (ix3 b t f)
      = ∑ k : Fin 1024, rms (fun j => x (ix3 b t j)) (fun j => g (ix1 j)) k * w (ix2 k f) := by
  refine (val_main_v13_apply x g w _).trans (Finset.sum_congr rfl fun k _ => ?_)
  refine congrArg₂ (fun p q : EReal => p * q) (Eq.trans (congrArg (val_main_v12 (F := Ideal) x g) ?_) (prompt_norm x g b t k))
    (congrArg w ?_)
  · exact funext fun d => by match d with | ⟨0, _⟩ => rfl | ⟨1, _⟩ => rfl | ⟨2, _⟩ => rfl
  · exact funext fun d => by match d with | ⟨0, _⟩ => rfl | ⟨1, _⟩ => rfl

/-- The samples' projection, at one index. -/
theorem sample_apply (x : FVec Ideal S128x4x1024 .f32) (g : FVec Ideal S1024 .f32) (w : FVec Ideal S1024x3360 .f32)
    (b : Fin 128) (t : Fin 4) (f : Fin 3360) :
    val_main_v55 (F := Ideal) x g w (ix3 b t f)
      = ∑ k : Fin 1024, rms (fun j => x (ix3 b t j)) (fun j => g (ix1 j)) k * w (ix2 k f) := by
  refine (val_main_v55_apply x g w _).trans (Finset.sum_congr rfl fun k _ => ?_)
  refine congrArg₂ (fun p q : EReal => p * q) (Eq.trans (congrArg (val_main_v54 (F := Ideal) x g) ?_) (sample_norm x g b t k))
    (congrArg w ?_)
  · exact funext fun d => by match d with | ⟨0, _⟩ => rfl | ⟨1, _⟩ => rfl | ⟨2, _⟩ => rfl
  · exact funext fun d => by match d with | ⟨0, _⟩ => rfl | ⟨1, _⟩ => rfl

end Cert.InputRefIdeal.Input

end
-- ==== Proof.Input.Equal.lean ====
/-
  The input projection's claims: the runs, and the equality of its four results with the reference's.
-/
module

public import proofs.«01_k».proof.Proof.Input.Value
public import proofs.«01_k».proof.Proof.Input.RefSide
public import proofs.«01_k».proof.Proof.Gen.Input.Frame
public import proofs.«01_k».proof.Defs
public import Idealize.ShloMosaic.Lib.Quiescent

@[expose] public section

set_option maxRecDepth 16384

noncomputable section

namespace Cert.Proof.Input

open Idealize.ShloMosaic Idealize.ShloMosaic.TcCoe Idealize.ShloMosaic.ValueIdx Idealize.SL.Sem
open Cert.InputIdeal Cert.InputIdeal.Gen Cert.InputIdeal.Input Cert.InputRefIdeal.Read

/-- The kernel runs, leaves its arguments unchanged and its counters at zero. -/
theorem frame_kernel : Cert.quiescent_Input (hInput := Cert.Input.Gen.facts) :=
  fun m ρ _ => Cert.Input.Gen.frame m ρ

/-- The same of the idealized kernel. -/
theorem frame_ideal : Cert.quiescent_InputIdeal (hInputIdeal := Cert.InputIdeal.Gen.facts) :=
  fun m ρ _ => Cert.InputIdeal.Gen.frame m ρ

/-- The same of the reference. -/
theorem frame_reference : Cert.quiescent_InputRefIdeal (hInputRefIdeal := Cert.InputRefIdeal.Gen.facts) :=
  fun m ρ _ => (θ_run Cert.InputRefIdeal.defs _ _).mono
    (fun r h => ⟨fun c => (h c).2.2.2.2, Idealize.ShloMosaic.sem_eq_zero_of_no_sems (by decide) r.2⟩)
    (Cert.InputRefIdeal.Value.run (F := Ideal) m ρ)

variable (m : (ℓ : Loc nD τ sig) → Buf (Elt Ideal) ℓ) (ρ : Dev nD → PrngReg)

/-- The prompt's rows of the kernel's projection are the reference's projection of the prompt. -/
theorem prompt_eq (c : Dev nD) :
    promptRows (projected m ρ c) = val_main_v13 (F := Ideal) (Xp m c) (Gain m c) (Wt m c) := by
  refine funext fun (i : S4x4096x3360.Idx) => ?_
  obtain ⟨b, t, f, rfl⟩ : ∃ (b : Fin 4) (t : Fin 4096) (f : Fin 3360), i = (ix3 b t f : S4x4096x3360.Idx) :=
    ⟨i 0, i 1, i 2, funext fun d => by match d with | ⟨0, _⟩ => rfl | ⟨1, _⟩ => rfl | ⟨2, _⟩ => rfl⟩
  have hr : b.val * 4096 + t.val < 16896 := by have := b.isLt; have := t.isLt; omega
  have hg : f.val < 3456 := by have := f.isLt; omega
  refine (promptRows_apply _ b t f ⟨_, hr⟩ rfl ⟨_, hg⟩ rfl).trans ?_
  refine (projected_apply m ρ c ⟨_, hr⟩ f ⟨_, hg⟩ rfl (fun k => Xp m c (ix3 b t k)) fun k =>
    entry_prompt m ρ c b t k ⟨_, hr⟩ rfl).trans ?_
  exact (Cert.InputRefIdeal.Input.prompt_apply (Xp m c) (Gain m c) (Wt m c) b t f).symm

/-- The samples' rows of the kernel's projection are the reference's projection of the samples. -/
theorem sample_eq (c : Dev nD) :
    sampleRows (projected m ρ c) = val_main_v55 (F := Ideal) (Xs m c) (Gain m c) (Wt m c) := by
  refine funext fun (i : S128x4x3360.Idx) => ?_
  obtain ⟨b, t, f, rfl⟩ : ∃ (b : Fin 128) (t : Fin 4) (f : Fin 3360), i = (ix3 b t f : S128x4x3360.Idx) :=
    ⟨i 0, i 1, i 2, funext fun d => by match d with | ⟨0, _⟩ => rfl | ⟨1, _⟩ => rfl | ⟨2, _⟩ => rfl⟩
  have hr : 16384 + (b.val * 4 + t.val) < 16896 := by have := b.isLt; have := t.isLt; omega
  have hg : f.val < 3456 := by have := f.isLt; omega
  refine (sampleRows_apply _ b t f ⟨_, hr⟩ rfl ⟨_, hg⟩ rfl).trans ?_
  refine (projected_apply m ρ c ⟨_, hr⟩ f ⟨_, hg⟩ rfl (fun k => Xs m c (ix3 b t k)) fun k =>
    entry_sample m ρ c b t k ⟨_, hr⟩ rfl).trans ?_
  exact (Cert.InputRefIdeal.Input.sample_apply (Xs m c) (Gain m c) (Wt m c) b t f).symm

/-- The reference lays its results out from its projections as the kernel does. -/
theorem ref_rowsP (x : FVec Ideal S4x4096x1024 .f32) (g : FVec Ideal S1024 .f32) (w : FVec Ideal S1024x3360 .f32) :
    val_main_v36 (F := Ideal) x g w = rowsP (val_main_v13 (F := Ideal) x g w) := rfl

theorem ref_rowsS (x : FVec Ideal S128x4x1024 .f32) (g : FVec Ideal S1024 .f32) (w : FVec Ideal S1024x3360 .f32) :
    val_main_v78 (F := Ideal) x g w = rowsS (val_main_v55 (F := Ideal) x g w) := rfl

theorem ref_winP (x : FVec Ideal S4x4096x1024 .f32) (g : FVec Ideal S1024 .f32) (w : FVec Ideal S1024x3360 .f32) :
    val_main_v84 (F := Ideal) x g w = winP (val_main_v13 (F := Ideal) x g w) := rfl

theorem ref_winS (x : FVec Ideal S128x4x1024 .f32) (old : FVec Ideal S128x512x2x2x64 .f32) (g : FVec Ideal S1024 .f32)
    (w : FVec Ideal S1024x3360 .f32) :
    val_main_v86 (F := Ideal) x old g w = winS old (val_main_v55 (F := Ideal) x g w) := rfl

/-- The idealized kernel and the reference compute the same four results. -/
theorem equal : Cert.algebraic_InputIdeal_InputRefIdeal (hInputIdeal := Cert.InputIdeal.Gen.facts)
    (hInputRefIdeal := Cert.InputRefIdeal.Gen.facts) := by
  intro m g m' g' _ hargs
  refine ⟨fun c => W7 m g c (Proc.devRef .tc main_v35), fun c => W7 m g c (Proc.devRef .tc main_v64),
    fun c => W7 m g c (Proc.devRef .tc main_v41), fun c => W7 m g c (Proc.devRef .tc main_v71), ?_, ?_⟩
  · refine (θ_run Cert.InputIdeal.defs _ _).mono (fun r h c => ⟨h c _ (mem_uc main_v35 (by decide)),
      h c _ (mem_uc main_v64 (by decide)), h c _ (mem_uc main_v41 (by decide)), h c _ (mem_uc main_v71 (by decide)),
      (h c _ (mem_uc main_arg0 (by decide))).trans (W7_main_arg0 m g c),
      (h c _ (mem_uc main_arg1 (by decide))).trans (W7_main_arg1 m g c),
      (h c _ (mem_uc main_arg2 (by decide))).trans (W7_main_arg2 m g c),
      (h c _ (mem_uc main_arg3 (by decide))).trans (W7_main_arg3 m g c),
      (h c _ (mem_uc main_arg4 (by decide))).trans (W7_main_arg4 m g c)⟩) (run_all m g)
  · refine (θ_run Cert.InputRefIdeal.defs _ _).mono (fun r h c => ⟨(h c).1.trans ?_, (h c).2.1.trans ?_, (h c).2.2.1.trans ?_,
      (h c).2.2.2.1.trans ?_, (h c).2.2.2.2⟩) (Cert.InputRefIdeal.Value.run (F := Ideal) m' g')
    all_goals obtain ⟨h0, h1, h2, h3, h4⟩ := hargs c
    · refine (val_main_v36_eq (F := Ideal) m' c).trans ?_
      refine (congr (congr (congrArg (val_main_v36 (F := Ideal)) h0) h3) h4).trans ?_
      exact (ref_rowsP _ _ _).trans ((congrArg rowsP (prompt_eq m g c)).symm.trans (result_rowsP m g c).symm)
    · refine (val_main_v78_eq (F := Ideal) m' c).trans ?_
      refine (congr (congr (congrArg (val_main_v78 (F := Ideal)) h1) h3) h4).trans ?_
      exact (ref_rowsS _ _ _).trans ((congrArg rowsS (sample_eq m g c)).symm.trans (result_rowsS m g c).symm)
    · refine (val_main_v84_eq (F := Ideal) _ _ _).trans ?_
      refine (congr (congr (congrArg (val_main_v84 (F := Ideal)) h0) h3) h4).trans ?_
      exact (ref_winP _ _ _).trans ((congrArg winP (prompt_eq m g c)).symm.trans (result_winP m g c).symm)
    · refine (val_main_v86_eq (F := Ideal) _ _ _ _).trans ?_
      refine (congr (congr (congr (congrArg (val_main_v86 (F := Ideal)) h1) h2) h3) h4).trans ?_
      exact (ref_winS _ _ _ _).trans ((congrArg (winS _) (sample_eq m g c)).symm.trans (result_winS m g c).symm)

end Cert.Proof.Input

end
-- ==== Proof.Qkv.Regions.lean ====
/-
  What the two calls of the attention's projection leave in their result arrays, from the contents they are entered with: the
  normalised rows, and the rows times the weight matrix.
-/
module

public import proofs.«01_k».proof.Proof.Gen.QkvIdeal.Frame
public import proofs.«01_k».proof.Proof.Rms
public import proofs.«01_k».proof.Proof.Swiglu
public import Idealize.ShloMosaic.Lib.IdealHost
public import Idealize.ShloMosaic.Lib.Pipeline.Value

@[expose] public section

set_option maxRecDepth 16384

noncomputable section

namespace Cert.QkvIdeal.Qkv

open Cert.QkvIdeal Cert.QkvIdeal.Gen Cert.Swiglu Cert.Rms
open Idealize.ShloMosaic Idealize.ShloMosaic.TcCoe Idealize.ShloMosaic.ValueIdx Idealize.ShloMosaic.Tactic Idealize.SL.Sem
open Idealize.ShloMosaic.Pipeline (Dat Window)
open scoped BigOperators

variable (V : (c : Dev nD) → (b : Ref sig .tc) → Buf (Elt Ideal) ((c : Thread nD τ).loc b))

theorem zeros : (![0, 0] : Fin 2 → ℕ) = fun _ => 0 := funext fun d => by match d with | ⟨0, _⟩ => rfl | ⟨1, _⟩ => rfl

/-! ## The normalisation -/

theorem coord0_0 : ∀ t : Fin grid0.N, (grid0.coords t 0).val = t.val := by decide +kernel

theorem N0 : grid0.N = 33 := by decide +kernel

theorem word0 (t : Fin grid0.N) : (BitVec.ofNat 32 (grid0.coords t 0).val).toNat = t.val := by
  have h : t.val < 33 := t.isLt.trans_eq N0
  rw [BitVec.toNat_ofNat, coord0_0, Nat.mod_eq_of_lt (by omega)]

/-- The block of rows at a point. -/
theorem rows0 (c : Dev nD) (t : Fin cfg0.N) (a : Fin 512) (k : Fin 1024) (r : Fin 16896) (hr : r.val = t.val * 512 + a.val) :
    (iblk0 V c 0 t : S512x1024.Idx → EReal) (ix2 a k) = (V c main_arg0 : S16896x1024.Idx → EReal) (ix2 r k) := by
  unfold iblk0
  refine (View.read_apply _ _).trans ?_
  refine congrArg (V c main_arg0 : S16896x1024.Idx → EReal) (funext fun d => Fin.ext ?_)
  refine (Window.rect_emb_val (cfg0.win 0) t (ix2 a k) d).trans ?_
  match d with
  | ⟨0, _⟩ =>
    show (BitVec.ofNat 32 (grid0.coords t 0).val).toNat * 512 + a.val = r.val
    rw [word0, hr]
  | ⟨1, _⟩ => show 0 * 1024 + k.val = k.val; omega

/-- The gains at a point. -/
theorem gain0 (c : Dev nD) (t : Fin cfg0.N) (k : Fin 1024) :
    (iblk0 V c 1 t : S1x1024.Idx → EReal) (ix2 0 k) = (V c main_v0 : S1x1024.Idx → EReal) (ix2 0 k) := by
  unfold iblk0
  refine (View.read_apply _ _).trans ?_
  refine congrArg (V c main_v0 : S1x1024.Idx → EReal) (funext fun d => Fin.ext ?_)
  refine (Window.rect_emb_val (cfg0.win 1) t (ix2 0 k) d).trans ?_
  match d with
  | ⟨0, _⟩ => rfl
  | ⟨1, _⟩ => show 0 * 1024 + k.val = k.val; omega

/-- What a point stores, at one index. -/
theorem norm_apply (x : FVec Ideal S512x1024 .f32) (g : FVec Ideal S1x1024 .f32) (a : Fin 512) (k : Fin 1024) :
    out0_2 (F := Ideal) x g (ix2 a k) = rms (fun j => x (ix2 a j)) (fun j => g (ix2 0 j)) k := by
  have e : out0_2 (F := Ideal) x g = k0_pay1 (F := Ideal) x g := by
    unfold out0_2
    rw [View.ld_unit_zero zeros, View.ld_unit_zero zeros]
    exact View.canon_unit_zero zeros _ _
  rw [e]
  unfold k0_pay1
  rw [shapeCast_self]
  exact tile_apply x g _ _ _ _ _ _ a k

/-- The normalised rows. -/
def normed (c : Dev nD) (r : Fin 16896) (k : Fin 1024) : EReal :=
  rms (fun j => (V c main_arg0 : S16896x1024.Idx → EReal) (ix2 r j)) (fun j => (V c main_v0 : S1x1024.Idx → EReal) (ix2 0 j)) k

/-- Where the output block of a point lies. -/
theorem emb0 (t : Fin cfg0.N) (a : Fin 512) (b : Fin 1024) (r : Fin 16896) (hr : r.val = t.val * 512 + a.val) :
    (((cfg0.win 2).rect t).emb (ix2 a b : S512x1024.Idx) : S16896x1024.Idx) = ix2 r b :=
  funext fun d => Fin.ext (by
    refine (Window.rect_emb_val (cfg0.win 2) t (ix2 a b) d).trans ?_
    match d with
    | ⟨0, _⟩ =>
      show (BitVec.ofNat 32 (grid0.coords t 0).val).toNat * 512 + a.val = r.val
      rw [word0, hr]
    | ⟨1, _⟩ => show 0 * 1024 + b.val = b.val; omega)

/-- The array of normalised rows. -/
def normedArr (c : Dev nD) : Buf (Elt Ideal) ((c : Thread nD τ).loc main_v1) :=
  (fun i : S16896x1024.Idx => normed V c (i 0) (i 1) : S16896x1024.Idx → EReal)

/-- Every write-back stores its block of the normalised rows. -/
theorem flushed0 (c : Dev nD) (t : Fin cfg0.N) (_ : (cfg0.win 2).flush t = true) :
    (dat0 V c).flushed 2 t = ((cfg0.win 2).blk t).view.read (Elt Ideal) (normedArr V c) := by
  have hN : t.val < 33 := Nat.lt_of_lt_of_eq t.isLt N0
  show (cfg0.win 2).cut (grid0.coords t) ((dat0 V c).after 2 t) = _
  rw [after0_2]
  refine funext fun (j : S512x1024.Idx) => ?_
  obtain ⟨a, b, rfl⟩ : ∃ (a : Fin 512) (b : Fin 1024), j = (ix2 a b : S512x1024.Idx) :=
    ⟨j 0, j 1, funext fun d => by match d with | ⟨0, _⟩ => rfl | ⟨1, _⟩ => rfl⟩
  have hr : t.val * 512 + a.val < 16896 := by have := a.isLt; omega
  refine Eq.trans ?_ (View.read_apply _ _).symm
  refine Eq.trans ?_ (congrArg (fun i : S16896x1024.Idx => normed V c (i 0) (i 1)) (emb0 t a b ⟨_, hr⟩ rfl)).symm
  refine (norm_apply _ _ a b).trans ?_
  show _ = normed V c ⟨_, hr⟩ b
  unfold normed
  exact congr (congr (congrArg rms (funext fun j => rows0 V c t a j ⟨_, hr⟩ rfl)) (funext fun j => gain0 V c t j)) rfl

/-- The normalisation's result array. -/
theorem arr0 (c : Dev nD) : (dat0 V c).arrAt 2 cfg0.N = normedArr V c :=
  (dat0 V c).arrAt_eq_of_cover 2 (normedArr V c) (flushed0 V c) fun (i : S16896x1024.Idx) => by
    have h0 : (i 0 : Nat) < 16896 := (i 0).isLt
    have ht : (i 0 : Nat) / 512 < cfg0.N := by
      show _ < grid0.N
      rw [N0]; omega
    have hr : (i 0 : Nat) = (i 0 : Nat) / 512 * 512 + (i 0 : Nat) % 512 := by omega
    refine ⟨⟨_, ht⟩, flush0_2 _, ?_⟩
    refine Finset.mem_map.mpr ⟨(ix2 ⟨(i 0 : Nat) % 512, Nat.mod_lt _ (by decide)⟩ (i 1) : S512x1024.Idx), Finset.mem_univ _, ?_⟩
    refine (emb0 ⟨_, ht⟩ ⟨(i 0 : Nat) % 512, Nat.mod_lt _ (by decide)⟩ (i 1) (i 0) hr).trans ?_
    exact funext fun d => by match d with | ⟨0, _⟩ => rfl | ⟨1, _⟩ => rfl

/-! ## The projection -/

theorem coord1_0 : ∀ t : Fin grid1.N, (grid1.coords t 0).val = t.val / 3 := by decide +kernel
theorem coord1_1 : ∀ t : Fin grid1.N, (grid1.coords t 1).val = t.val % 3 := by decide +kernel

theorem N1 : grid1.N = 99 := by decide +kernel

theorem word1_0 (t : Fin grid1.N) : (BitVec.ofNat 32 (grid1.coords t 0).val).toNat = t.val / 3 := by
  have h : t.val < 99 := t.isLt.trans_eq N1
  rw [BitVec.toNat_ofNat, coord1_0, Nat.mod_eq_of_lt (by omega)]

theorem word1_1 (t : Fin grid1.N) : (BitVec.ofNat 32 (grid1.coords t 1).val).toNat = t.val % 3 := by
  rw [BitVec.toNat_ofNat, coord1_1, Nat.mod_eq_of_lt (by omega)]

/-- The block of rows at a point. -/
theorem rows1 (c : Dev nD) (t : Fin cfg1.N) (a : Fin 512) (k : Fin 1024) (r : Fin 16896) (hr : r.val = t.val / 3 * 512 + a.val) :
    (iblk1 V c 0 t : S512x1024.Idx → EReal) (ix2 a k) = (V c main_v1 : S16896x1024.Idx → EReal) (ix2 r k) := by
  unfold iblk1
  refine (View.read_apply _ _).trans ?_
  refine congrArg (V c main_v1 : S16896x1024.Idx → EReal) (funext fun d => Fin.ext ?_)
  refine (Window.rect_emb_val (cfg1.win 0) t (ix2 a k) d).trans ?_
  match d with
  | ⟨0, _⟩ =>
    show (BitVec.ofNat 32 (grid1.coords t 0).val).toNat * 512 + a.val = r.val
    rw [word1_0, hr]
  | ⟨1, _⟩ => show 0 * 1024 + k.val = k.val; omega

/-- The block of the weights at a point. -/
theorem cols1 (c : Dev nD) (t : Fin cfg1.N) (k : Fin 1024) (f : Fin 1024) (g : Fin 3072) (hg : g.val = t.val % 3 * 1024 + f.val) :
    (iblk1 V c 1 t : S1024x1024.Idx → EReal) (ix2 k f) = (V c main_v2 : S1024x3072.Idx → EReal) (ix2 k g) := by
  unfold iblk1
  refine (View.read_apply _ _).trans ?_
  refine congrArg (V c main_v2 : S1024x3072.Idx → EReal) (funext fun d => Fin.ext ?_)
  refine (Window.rect_emb_val (cfg1.win 1) t (ix2 k f) d).trans ?_
  match d with
  | ⟨0, _⟩ => show 0 * 1024 + k.val = k.val; omega
  | ⟨1, _⟩ =>
    show (BitVec.ofNat 32 (grid1.coords t 1).val).toNat * 1024 + f.val = g.val
    rw [word1_1, hg]

/-- What a point stores, at one index. -/
theorem product_apply (x : FVec Ideal S512x1024 .bf16) (w : FVec Ideal S1024x1024 .bf16) (a : Fin 512) (f : Fin 1024) :
    out1_2 (F := Ideal) x w (ix2 a f) = ∑ k : Fin 1024, x (ix2 a k) * w (ix2 k f) := by
  have e : out1_2 (F := Ideal) x w = k1_pay1 (F := Ideal) x w := by
    unfold out1_2
    rw [View.ld_unit_zero zeros, View.ld_unit_zero zeros]
    exact View.canon_unit_zero zeros _ _
  rw [e]
  unfold k1_pay1
  rw [shapeCast_self, shapeCast_self]
  exact matmul_zero_apply x w a f

/-- The product of two matrices, at one index. -/
def mul (x : S16896x1024.Idx → EReal) (w : S1024x3072.Idx → EReal) (r : Fin 16896) (g : Fin 3072) : EReal :=
  ∑ k : Fin 1024, x (ix2 r k) * w (ix2 k g)

/-- The product of the rows with the weights. -/
def product (c : Dev nD) (r : Fin 16896) (g : Fin 3072) : EReal :=
  mul (V c main_v1 : S16896x1024.Idx → EReal) (V c main_v2 : S1024x3072.Idx → EReal) r g

/-- Where the output block of a point lies. -/
theorem emb1 (t : Fin cfg1.N) (a : Fin 512) (f : Fin 1024) (r : Fin 16896) (hr : r.val = t.val / 3 * 512 + a.val)
    (g : Fin 3072) (hg : g.val = t.val % 3 * 1024 + f.val) :
    (((cfg1.win 2).rect t).emb (ix2 a f : S512x1024.Idx) : S16896x3072.Idx) = ix2 r g :=
  funext fun d => Fin.ext (by
    refine (Window.rect_emb_val (cfg1.win 2) t (ix2 a f) d).trans ?_
    match d with
    | ⟨0, _⟩ =>
      show (BitVec.ofNat 32 (grid1.coords t 0).val).toNat * 512 + a.val = r.val
      rw [word1_0, hr]
    | ⟨1, _⟩ =>
      show (BitVec.ofNat 32 (grid1.coords t 1).val).toNat * 1024 + f.val = g.val
      rw [word1_1, hg])

/-- The array of the products. -/
def productArr (c : Dev nD) : Buf (Elt Ideal) ((c : Thread nD τ).loc main_v3_0) :=
  (fun i : S16896x3072.Idx => product V c (i 0) (i 1) : S16896x3072.Idx → EReal)

/-- Every write-back stores its block of the products. -/
theorem flushed1 (c : Dev nD) (t : Fin cfg1.N) (_ : (cfg1.win 2).flush t = true) :
    (dat1 V c).flushed 2 t = ((cfg1.win 2).blk t).view.read (Elt Ideal) (productArr V c) := by
  have hN : t.val < 99 := Nat.lt_of_lt_of_eq t.isLt N1
  show (cfg1.win 2).cut (grid1.coords t) ((dat1 V c).after 2 t) = _
  rw [after1_2]
  refine funext fun (j : S512x1024.Idx) => ?_
  obtain ⟨a, f, rfl⟩ : ∃ (a : Fin 512) (f : Fin 1024), j = (ix2 a f : S512x1024.Idx) :=
    ⟨j 0, j 1, funext fun d => by match d with | ⟨0, _⟩ => rfl | ⟨1, _⟩ => rfl⟩
  have hr : t.val / 3 * 512 + a.val < 16896 := by have := a.isLt; omega
  have hg : t.val % 3 * 1024 + f.val < 3072 := by have := f.isLt; omega
  refine Eq.trans ?_ (View.read_apply _ _).symm
  refine Eq.trans ?_ (congrArg (fun i : S16896x3072.Idx => product V c (i 0) (i 1)) (emb1 t a f ⟨_, hr⟩ rfl ⟨_, hg⟩ rfl)).symm
  refine (product_apply _ _ a f).trans ?_
  show _ = product V c ⟨_, hr⟩ ⟨_, hg⟩
  unfold product mul
  exact Finset.sum_congr rfl fun k _ => congrArg₂ (· * ·) (rows1 V c t a k ⟨_, hr⟩ rfl) (cols1 V c t k f ⟨_, hg⟩ rfl)

/-- The projection's result array. -/
theorem arr1 (c : Dev nD) : (dat1 V c).arrAt 2 cfg1.N = productArr V c :=
  (dat1 V c).arrAt_eq_of_cover 2 (productArr V c) (flushed1 V c) fun (i : S16896x3072.Idx) => by
    have h0 : (i 0 : Nat) < 16896 := (i 0).isLt
    have h1 : (i 1 : Nat) < 3072 := (i 1).isLt
    have ht : (i 0 : Nat) / 512 * 3 + (i 1 : Nat) / 1024 < cfg1.N := by
      show _ < grid1.N
      rw [N1]; omega
    have hr : (i 0 : Nat) = ((i 0 : Nat) / 512 * 3 + (i 1 : Nat) / 1024) / 3 * 512 + (i 0 : Nat) % 512 := by omega
    have hg : (i 1 : Nat) = ((i 0 : Nat) / 512 * 3 + (i 1 : Nat) / 1024) % 3 * 1024 + (i 1 : Nat) % 1024 := by omega
    refine ⟨⟨_, ht⟩, flush1_2 _, ?_⟩
    refine Finset.mem_map.mpr ⟨(ix2 ⟨(i 0 : Nat) % 512, Nat.mod_lt _ (by decide)⟩ ⟨(i 1 : Nat) % 1024, Nat.mod_lt _ (by decide)⟩ :
      S512x1024.Idx), Finset.mem_univ _, ?_⟩
    refine (emb1 ⟨_, ht⟩ ⟨(i 0 : Nat) % 512, Nat.mod_lt _ (by decide)⟩ ⟨(i 1 : Nat) % 1024, Nat.mod_lt _ (by decide)⟩ (i 0) hr (i 1) hg).trans ?_
    exact funext fun d => by match d with | ⟨0, _⟩ => rfl | ⟨1, _⟩ => rfl

/-- What a point stores in the narrow format: over the extended reals, the same. -/
theorem productB_apply (x : FVec Ideal S512x1024 .bf16) (w : FVec Ideal S1024x1024 .bf16) (a : Fin 512) (f : Fin 1024) :
    out1_3 (F := Ideal) x w (ix2 a f) = ∑ k : Fin 1024, x (ix2 a k) * w (ix2 k f) := by
  have e : out1_3 (F := Ideal) x w = k1_pay2 (F := Ideal) x w := by
    unfold out1_3
    rw [View.ld_unit_zero zeros, View.ld_unit_zero zeros]
    exact View.canon_unit_zero zeros _ _
  rw [e]
  unfold k1_pay2 k1_pay1
  rw [shapeCast_self, shapeCast_self]
  exact matmul_zero_apply x w a f

/-- Where the narrow output block of a point lies. -/
theorem emb1b (t : Fin cfg1.N) (a : Fin 512) (f : Fin 1024) (r : Fin 16896) (hr : r.val = t.val / 3 * 512 + a.val)
    (g : Fin 3072) (hg : g.val = t.val % 3 * 1024 + f.val) :
    (((cfg1.win 3).rect t).emb (ix2 a f : S512x1024.Idx) : S16896x3072.Idx) = ix2 r g :=
  funext fun d => Fin.ext (by
    refine (Window.rect_emb_val (cfg1.win 3) t (ix2 a f) d).trans ?_
    match d with
    | ⟨0, _⟩ =>
      show (BitVec.ofNat 32 (grid1.coords t 0).val).toNat * 512 + a.val = r.val
      rw [word1_0, hr]
    | ⟨1, _⟩ =>
      show (BitVec.ofNat 32 (grid1.coords t 1).val).toNat * 1024 + f.val = g.val
      rw [word1_1, hg])

/-- The array of the products, in the narrow format. -/
def productArrB (c : Dev nD) : Buf (Elt Ideal) ((c : Thread nD τ).loc main_v3_1) :=
  (fun i : S16896x3072.Idx => product V c (i 0) (i 1) : S16896x3072.Idx → EReal)

/-- Every write-back of the narrow result stores its block of the products. -/
theorem flushed1b (c : Dev nD) (t : Fin cfg1.N) (_ : (cfg1.win 3).flush t = true) :
    (dat1 V c).flushed 3 t = ((cfg1.win 3).blk t).view.read (Elt Ideal) (productArrB V c) := by
  have hN : t.val < 99 := Nat.lt_of_lt_of_eq t.isLt N1
  show (cfg1.win 3).cut (grid1.coords t) ((dat1 V c).after 3 t) = _
  rw [after1_3]
  refine funext fun (j : S512x1024.Idx) => ?_
  obtain ⟨a, f, rfl⟩ : ∃ (a : Fin 512) (f : Fin 1024), j = (ix2 a f : S512x1024.Idx) :=
    ⟨j 0, j 1, funext fun d => by match d with | ⟨0, _⟩ => rfl | ⟨1, _⟩ => rfl⟩
  have hr : t.val / 3 * 512 + a.val < 16896 := by have := a.isLt; omega
  have hg : t.val % 3 * 1024 + f.val < 3072 := by have := f.isLt; omega
  refine Eq.trans ?_ (View.read_apply _ _).symm
  refine Eq.trans ?_ (congrArg (fun i : S16896x3072.Idx => product V c (i 0) (i 1)) (emb1b t a f ⟨_, hr⟩ rfl ⟨_, hg⟩ rfl)).symm
  refine (productB_apply _ _ a f).trans ?_
  show _ = product V c ⟨_, hr⟩ ⟨_, hg⟩
  unfold product mul
  exact Finset.sum_congr rfl fun k _ => congrArg₂ (· * ·) (rows1 V c t a k ⟨_, hr⟩ rfl) (cols1 V c t k f ⟨_, hg⟩ rfl)

/-- The projection's result array in the narrow format. -/
theorem arr1b (c : Dev nD) : (dat1 V c).arrAt 3 cfg1.N = productArrB V c :=
  (dat1 V c).arrAt_eq_of_cover 3 (productArrB V c) (flushed1b V c) fun (i : S16896x3072.Idx) => by
    have h0 : (i 0 : Nat) < 16896 := (i 0).isLt
    have h1 : (i 1 : Nat) < 3072 := (i 1).isLt
    have ht : (i 0 : Nat) / 512 * 3 + (i 1 : Nat) / 1024 < cfg1.N := by
      show _ < grid1.N
      rw [N1]; omega
    have hr : (i 0 : Nat) = ((i 0 : Nat) / 512 * 3 + (i 1 : Nat) / 1024) / 3 * 512 + (i 0 : Nat) % 512 := by omega
    have hg : (i 1 : Nat) = ((i 0 : Nat) / 512 * 3 + (i 1 : Nat) / 1024) % 3 * 1024 + (i 1 : Nat) % 1024 := by omega
    refine ⟨⟨_, ht⟩, flush1_3 _, ?_⟩
    refine Finset.mem_map.mpr ⟨(ix2 ⟨(i 0 : Nat) % 512, Nat.mod_lt _ (by decide)⟩ ⟨(i 1 : Nat) % 1024, Nat.mod_lt _ (by decide)⟩ :
      S512x1024.Idx), Finset.mem_univ _, ?_⟩
    refine (emb1b ⟨_, ht⟩ ⟨(i 0 : Nat) % 512, Nat.mod_lt _ (by decide)⟩ ⟨(i 1 : Nat) % 1024, Nat.mod_lt _ (by decide)⟩ (i 0) hr (i 1) hg).trans ?_
    exact funext fun d => by match d with | ⟨0, _⟩ => rfl | ⟨1, _⟩ => rfl

end Cert.QkvIdeal.Qkv

end
-- ==== Proof.Qkv.Run.lean ====
/-
  The attention's projection's run: at the end every buffer holds what the last host operation leaves it with.
-/
module

public import proofs.«01_k».proof.Proof.Gen.QkvIdeal.Frame
public import Idealize.ShloMosaic.PureOps.Ideal.Laws

@[expose] public section

set_option maxRecDepth 16384

noncomputable section

namespace Cert.QkvIdeal.Qkv

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every execution ends with each of the device's buffers at the contents after the last stretch of host operations. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.QkvIdeal.Qkv

end
-- ==== Proof.Qkv.Value.lean ====
/-
  What the run of the attention's projection leaves in its four results: the queries, keys and values of every token, in
  both formats, and the keys and values laid out as cache rows.
-/
module

public import proofs.«01_k».proof.Proof.Qkv.Regions
public import proofs.«01_k».proof.Proof.Qkv.Run
public import Idealize.ShloMosaic.Lib.KernelVsHost

@[expose] public section

set_option maxRecDepth 16384

noncomputable section

namespace Cert.QkvIdeal.Qkv

open Cert.QkvIdeal Cert.QkvIdeal.Gen Cert.Swiglu Cert.Rms
open Idealize.ShloMosaic Idealize.ShloMosaic.TcCoe Idealize.ShloMosaic.ValueIdx Idealize.ShloMosaic.Tactic Idealize.SL.Sem
open scoped BigOperators

variable (m : (ℓ : Loc nD τ sig) → Buf (Elt Ideal) ℓ) (ρ : Dev nD → PrngReg)

/-- The prompt's cache rows, from the projection of all rows: the keys and the values. -/
def rowsP (P : FVec Ideal S16896x3072 .f32) : FVec Ideal S4x4096x2x16x64 .f32 :=
  extractStridedSlice S4x4096x2x16x64 ![0, 0, 1, 0, 0]
    (shapeCast S4x4096x3x16x64 (extractStridedSlice S16384x3072 ![0, 0] P slices_S16896x3072_S16384x3072_0_0)
      shapeCasts_S16384x3072_S4x4096x3x16x64) slices_S4x4096x3x16x64_S4x4096x2x16x64_0_0_1_0_0

/-- The samples' cache rows, from the projection of all rows. -/
def rowsS (P : FVec Ideal S16896x3072 .f32) : FVec Ideal S128x4x2x16x64 .f32 :=
  extractStridedSlice S128x4x2x16x64 ![0, 0, 1, 0, 0]
    (shapeCast S128x4x3x16x64 (extractStridedSlice S512x3072 ![16384, 0] P slices_S16896x3072_S512x3072_16384_0)
      shapeCasts_S512x3072_S128x4x3x16x64) slices_S128x4x3x16x64_S128x4x2x16x64_0_0_1_0_0

abbrev Xin (c : Dev nD) : FVec Ideal S16896x1024 .f32 := m ((c.tc : Thread nD τ).loc main_arg0)
abbrev Gain (c : Dev nD) : FVec Ideal S1024 .f32 := m ((c.tc : Thread nD τ).loc main_arg1)
abbrev Wt (c : Dev nD) : FVec Ideal S1024x3072 .f32 := m ((c.tc : Thread nD τ).loc main_arg2)

/-- The normalisation is entered with the rows given, -/
theorem entry_rows (c : Dev nD) : (V1 m ρ c main_arg0 : S16896x1024.Idx → EReal) = Xin m c :=
  W1_args m ρ c main_arg0 (by decide)

/-- and with the gains. -/
theorem entry_gain (c : Dev nD) (k : Fin 1024) :
    (V1 m ρ c main_v0 : S1x1024.Idx → EReal) (ix2 0 k) = Gain m c (ix1 k) := by
  have h : (V1 m ρ c main_v0 : S1x1024.Idx → EReal) = shapeCast S1x1024 (Gain m c) shapeCasts_S1024_S1x1024 := by
    show StableHlo.after hostOps0 _ (Proc.devRef .tc main_v0) = _
    after_results
    rfl
  rw [h]
  refine shapeCast_apply _ _ _ (ix1 k) ?_
  rw [Shape.rowMajor_val_two, Shape.rowMajor_val_one]
  show k.val = 0 * 1024 + k.val
  omega

/-- The projection is entered with the normalised rows, -/
theorem entry_normed (c : Dev nD) : V3 m ρ c main_v1 = normedArr (V1 m ρ) c :=
  (W3_of m ρ c main_v1 (by decide)).trans ((W2_arr m ρ c 2).trans (arr0 (V1 m ρ) c))

/-- and with the weights. -/
theorem entry_weights (c : Dev nD) : (V3 m ρ c main_v2 : S1024x3072.Idx → EReal) = Wt m c := by
  have h : (V3 m ρ c main_v2 : S1024x3072.Idx → EReal)
      = (W2 m ρ c (Proc.devRef .tc main_arg2) : S1024x3072.Idx → EReal) := by
    show StableHlo.after hostOps1 (W2 m ρ c) (Proc.devRef .tc main_v2) = _
    after_results
    rfl
  exact h.trans (W2_args m ρ c main_arg2 (by decide))

/-- The projection of every row. -/
abbrev projected (c : Dev nD) : FVec Ideal S16896x3072 .f32 := productArr (V3 m ρ) c

/-- The projection at an index. -/
theorem projected_apply (c : Dev nD) (r : Fin 16896) (f : Fin 3072) :
    projected m ρ c (ix2 r f)
      = ∑ k : Fin 1024, rms (fun j => Xin m c (ix2 r j)) (fun j => Gain m c (ix1 j)) k * Wt m c (ix2 k f) := by
  show product (V3 m ρ) c r f = _
  unfold product mul
  refine Finset.sum_congr rfl fun k _ => congrArg₂ (fun p q : EReal => p * q) ?_ (congrFun (entry_weights m ρ c) (ix2 k f))
  refine (congrFun (entry_normed m ρ c) (ix2 r k)).trans ?_
  show normed (V1 m ρ) c r k = _
  unfold normed
  exact congr (congr (congrArg rms (funext fun j => congrFun (entry_rows m ρ c) (ix2 r j)))
    (funext fun j => entry_gain m ρ c j)) rfl

theorem after_call (c : Dev nD) : W4 m ρ c (Proc.devRef .tc main_v3_0) = projected m ρ c :=
  (W4_arr m ρ c 2).trans (arr1 (V3 m ρ) c)

theorem result_all (c : Dev nD) : W5 m ρ c (Proc.devRef .tc main_v3_0) = projected m ρ c :=
  (W5_of m ρ c main_v3_0 (by decide)).trans (after_call m ρ c)

theorem result_narrow (c : Dev nD) : (W5 m ρ c (Proc.devRef .tc main_v3_1) : S16896x3072.Idx → EReal) = projected m ρ c :=
  (W5_of m ρ c main_v3_1 (by decide)).trans ((W4_arr m ρ c 3).trans (arr1b (V3 m ρ) c))

theorem result_rowsP (c : Dev nD) : W5 m ρ c (Proc.devRef .tc main_v6) = rowsP (projected m ρ c) := by
  have h : W5 m ρ c (Proc.devRef .tc main_v6) = rowsP (W4 m ρ c (Proc.devRef .tc main_v3_0)) := by
    show StableHlo.after hostOps2 (W4 m ρ c) (Proc.devRef .tc main_v6) = _
    generalize W4 m ρ c = U
    after_results
    rfl
  rw [h, after_call]

theorem result_rowsS (c : Dev nD) : W5 m ρ c (Proc.devRef .tc main_v9) = rowsS (projected m ρ c) := by
  have h : W5 m ρ c (Proc.devRef .tc main_v9) = rowsS (W4 m ρ c (Proc.devRef .tc main_v3_0)) := by
    show StableHlo.after hostOps2 (W4 m ρ c) (Proc.devRef .tc main_v9) = _
    generalize W4 m ρ c = U
    after_results
    rfl
  rw [h, after_call]

end Cert.QkvIdeal.Qkv

end
-- ==== Proof.Qkv.RefSide.lean ====
/-
  The reference's projection of the normalised rows, at one index.
-/
module

public import proofs.«01_k».proof.Proof.Gen.QkvRefIdeal.Run
public import proofs.«01_k».proof.Proof.Gen.QkvRefIdeal.Read
public import proofs.«01_k».proof.Proof.Rms

@[expose] public section

set_option maxRecDepth 16384

noncomputable section

namespace Cert.QkvRefIdeal.Qkv

open Cert.QkvRefIdeal Cert.QkvRefIdeal.Gen Cert.QkvRefIdeal.Read Cert.Rms
open Idealize.ShloMosaic Idealize.ShloMosaic.TcCoe Idealize.ShloMosaic.ValueIdx
open scoped BigOperators

/-- The normalised rows, at one index. -/
theorem norm_apply (x : FVec Ideal S16896x1024 .f32) (g : FVec Ideal S1024 .f32) (b : Fin 16896) (k : Fin 1024) :
    val_main_v12 (F := Ideal) x g (ix2 b k) = rms (fun j => x (ix2 b j)) (fun j => g (ix1 j)) k := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  have hs : (val_main_cst (F := Ideal)) (Shape.Idx.first h_S_)
      + ∑ j : Fin 1024, (val_main_v0 (F := Ideal) x) (idx_main_v1 (idx_main_v2 (idx_main_v8 (ix2 b k))) j)
      = ∑ j : Fin 1024, x (ix2 b j) * x (ix2 b j) := by
    refine (congrArg₂ (fun p q : EReal => p + q) Ideal.ofBits_zero_f32 (Finset.sum_congr rfl fun j _ => ?_)).trans (zero_add _)
    refine (val_main_v0_apply (F := Ideal) x _).trans ?_
    exact congrArg (fun i : S16896x1024.Idx => (x i * x i : EReal))
      (funext fun d => by match d with | ⟨0, _⟩ => rfl | ⟨1, _⟩ => rfl)
  unfold rms
  refine congrArg₂ (fun p q : EReal => p * q) (congrArg₂ (fun p q : EReal => p * q) rfl (congrArg Ideal.rsqrt
    (congrArg₂ (fun p q : EReal => p + q) (congrArg₂ Ideal.div hs rfl) rfl))) (congrArg g ?_)
  exact funext fun d => by match d with | ⟨0, _⟩ => rfl

/-- The projection, at one index. -/
theorem project_apply (x : FVec Ideal S16896x1024 .f32) (g : FVec Ideal S1024 .f32) (w : FVec Ideal S1024x3072 .f32)
    (b : Fin 16896) (f : Fin 3072) :
    val_main_v13 (F := Ideal) x g w (ix2 b f)
      = ∑ k : Fin 1024, rms (fun j => x (ix2 b j)) (fun j => g (ix1 j)) k * w (ix2 k f) := by
  refine (val_main_v13_apply x g w _).trans (Finset.sum_congr rfl fun k _ => ?_)
  refine congrArg₂ (fun p q : EReal => p * q) (Eq.trans (congrArg (val_main_v12 (F := Ideal) x g) ?_) (norm_apply x g b k))
    (congrArg w ?_)
  · exact funext fun d => by match d with | ⟨0, _⟩ => rfl | ⟨1, _⟩ => rfl
  · exact funext fun d => by match d with | ⟨0, _⟩ => rfl | ⟨1, _⟩ => rfl

end Cert.QkvRefIdeal.Qkv

end
-- ==== Proof.Qkv.Equal.lean ====
/-
  The claims of the attention's projection: the runs, and the equality of its four results with the reference's.
-/
module

public import proofs.«01_k».proof.Proof.Qkv.Value
public import proofs.«01_k».proof.Proof.Qkv.RefSide
public import proofs.«01_k».proof.Proof.Gen.Qkv.Frame
public import proofs.«01_k».proof.Defs
public import Idealize.ShloMosaic.Lib.Quiescent

@[expose] public section

set_option maxRecDepth 16384

noncomputable section

namespace Cert.Proof.Qkv

open Idealize.ShloMosaic Idealize.ShloMosaic.TcCoe Idealize.ShloMosaic.ValueIdx Idealize.SL.Sem
open Cert.QkvIdeal Cert.QkvIdeal.Gen Cert.QkvIdeal.Qkv Cert.QkvRefIdeal.Read

/-- The kernel runs, leaves its arguments unchanged and its counters at zero. -/
theorem frame_kernel : Cert.quiescent_Qkv (hQkv := Cert.Qkv.Gen.facts) :=
  fun m ρ _ => Cert.Qkv.Gen.frame m ρ

/-- The same of the idealized kernel. -/
theorem frame_ideal : Cert.quiescent_QkvIdeal (hQkvIdeal := Cert.QkvIdeal.Gen.facts) :=
  fun m ρ _ => Cert.QkvIdeal.Gen.frame m ρ

/-- The same of the reference. -/
theorem frame_reference : Cert.quiescent_QkvRefIdeal (hQkvRefIdeal := Cert.QkvRefIdeal.Gen.facts) :=
  fun m ρ _ => (θ_run Cert.QkvRefIdeal.defs _ _).mono
    (fun r h => ⟨fun c => (h c).2.2.2.2, Idealize.ShloMosaic.sem_eq_zero_of_no_sems (by decide) r.2⟩)
    (Cert.QkvRefIdeal.Value.run (F := Ideal) m ρ)

variable (m : (ℓ : Loc nD τ sig) → Buf (Elt Ideal) ℓ) (ρ : Dev nD → PrngReg)

/-- The kernel's projection is the reference's. -/
theorem project_eq (c : Dev nD) :
    projected m ρ c = val_main_v13 (F := Ideal) (Xin m c) (Gain m c) (Wt m c) := by
  refine funext fun (i : S16896x3072.Idx) => ?_
  obtain ⟨r, f, rfl⟩ : ∃ (r : Fin 16896) (f : Fin 3072), i = (ix2 r f : S16896x3072.Idx) :=
    ⟨i 0, i 1, funext fun d => by match d with | ⟨0, _⟩ => rfl | ⟨1, _⟩ => rfl⟩
  exact (projected_apply m ρ c r f).trans (Cert.QkvRefIdeal.Qkv.project_apply (Xin m c) (Gain m c) (Wt m c) r f).symm

/-- The reference lays its rows out from its projection as the kernel does. -/
theorem ref_rowsP (x : FVec Ideal S16896x1024 .f32) (g : FVec Ideal S1024 .f32) (w : FVec Ideal S1024x3072 .f32) :
    val_main_v16 (F := Ideal) x g w = rowsP (val_main_v13 (F := Ideal) x g w) := rfl

theorem ref_rowsS (x : FVec Ideal S16896x1024 .f32) (g : FVec Ideal S1024 .f32) (w : FVec Ideal S1024x3072 .f32) :
    val_main_v19 (F := Ideal) x g w = rowsS (val_main_v13 (F := Ideal) x g w) := rfl

theorem ref_narrow (x : FVec Ideal S16896x1024 .f32) (g : FVec Ideal S1024 .f32) (w : FVec Ideal S1024x3072 .f32) :
    (val_main_v20 (F := Ideal) x g w : S16896x3072.Idx → EReal) = val_main_v13 (F := Ideal) x g w := rfl

/-- The idealized kernel and the reference compute the same four results. -/
theorem equal : Cert.algebraic_QkvIdeal_QkvRefIdeal (hQkvIdeal := Cert.QkvIdeal.Gen.facts)
    (hQkvRefIdeal := Cert.QkvRefIdeal.Gen.facts) := by
  intro m g m' g' _ hargs
  refine ⟨fun c => W5 m g c (Proc.devRef .tc main_v6), fun c => W5 m g c (Proc.devRef .tc main_v9),
    fun c => W5 m g c (Proc.devRef .tc main_v3_0), fun c => W5 m g c (Proc.devRef .tc main_v3_1), ?_, ?_⟩
  · refine (θ_run Cert.QkvIdeal.defs _ _).mono (fun r h c => ⟨h c _ (mem_uc main_v6 (by decide)),
      h c _ (mem_uc main_v9 (by decide)), h c _ (mem_uc main_v3_0 (by decide)), h c _ (mem_uc main_v3_1 (by decide)),
      (h c _ (mem_uc main_arg0 (by decide))).trans (W5_main_arg0 m g c),
      (h c _ (mem_uc main_arg1 (by decide))).trans (W5_main_arg1 m g c),
      (h c _ (mem_uc main_arg2 (by decide))).trans (W5_main_arg2 m g c)⟩) (run_all m g)
  · refine (θ_run Cert.QkvRefIdeal.defs _ _).mono (fun r h c => ⟨(h c).1.trans ?_, (h c).2.1.trans ?_, (h c).2.2.1.trans ?_,
      (h c).2.2.2.1.trans ?_, (h c).2.2.2.2⟩) (Cert.QkvRefIdeal.Value.run (F := Ideal) m' g')
    all_goals obtain ⟨h0, h1, h2⟩ := hargs c
    · refine (val_main_v16_eq (F := Ideal) _ _ _).trans ?_
      refine (congr (congr (congrArg (val_main_v16 (F := Ideal)) h0) h1) h2).trans ?_
      exact (ref_rowsP _ _ _).trans ((congrArg rowsP (project_eq m g c)).symm.trans (result_rowsP m g c).symm)
    · refine (val_main_v19_eq (F := Ideal) _ _ _).trans ?_
      refine (congr (congr (congrArg (val_main_v19 (F := Ideal)) h0) h1) h2).trans ?_
      exact (ref_rowsS _ _ _).trans ((congrArg rowsS (project_eq m g c)).symm.trans (result_rowsS m g c).symm)
    · refine (val_main_v13_eq (F := Ideal) _ _ _).trans ?_
      refine (congr (congr (congrArg (val_main_v13 (F := Ideal)) h0) h1) h2).trans ?_
      exact (project_eq m g c).symm.trans (result_all m g c).symm
    · refine (val_main_v20_eq (F := Ideal) _ _ _).trans ?_
      refine (congr (congr (congrArg (val_main_v20 (F := Ideal)) h0) h1) h2).trans ?_
      exact (ref_narrow _ _ _).trans ((project_eq m g c).symm.trans (result_narrow m g c).symm)

end Cert.Proof.Qkv

end
-- ==== Proof.Out.Value.lean ====
/-
  What the output projection's call leaves in its result array: the residual plus the rows times the weight matrix.
-/
module

public import proofs.«01_k».proof.Proof.Gen.OutIdeal.Frame
public import proofs.«01_k».proof.Proof.Swiglu
public import Idealize.ShloMosaic.Lib.IdealHost
public import Idealize.ShloMosaic.Lib.Pipeline.Value

@[expose] public section

set_option maxRecDepth 16384

noncomputable section

namespace Cert.OutIdeal.Out

open Cert.OutIdeal Cert.OutIdeal.Gen Cert.Swiglu
open Idealize.ShloMosaic Idealize.ShloMosaic.TcCoe Idealize.ShloMosaic.ValueIdx Idealize.ShloMosaic.Tactic Idealize.SL.Sem
open Idealize.ShloMosaic.Pipeline (Dat Window)
open scoped BigOperators

variable (m : (ℓ : Loc nD τ sig) → Buf (Elt Ideal) ℓ)

abbrev Mixed (c : Dev nD) : FVec Ideal S16896x1024 .f32 := m ((c.tc : Thread nD τ).loc main_arg0)
abbrev Res (c : Dev nD) : FVec Ideal S16896x1024 .f32 := m ((c.tc : Thread nD τ).loc main_arg1)
abbrev Wt (c : Dev nD) : FVec Ideal S1024x1024 .f32 := m ((c.tc : Thread nD τ).loc main_arg2)

/-- The call is entered with the rows, -/
theorem entry_rows (c : Dev nD) : (V m c main_v0 : S16896x1024.Idx → EReal) = Mixed m c := by
  show StableHlo.after hostOps0 _ (Proc.devRef .tc main_v0) = _
  after_results
  rfl

/-- and the weights. -/
theorem entry_weights (c : Dev nD) : (V m c main_v1 : S1024x1024.Idx → EReal) = Wt m c := by
  show StableHlo.after hostOps0 _ (Proc.devRef .tc main_v1) = _
  after_results
  rfl

theorem zeros : (![0, 0] : Fin 2 → ℕ) = fun _ => 0 := funext fun d => by match d with | ⟨0, _⟩ => rfl | ⟨1, _⟩ => rfl

theorem coord_0 : ∀ t : Fin grid0.N, (grid0.coords t 0).val = t.val := by decide +kernel

theorem coord_1 : ∀ t : Fin grid0.N, (grid0.coords t 1).val = 0 := by decide +kernel

theorem N_eq : grid0.N = 33 := by decide +kernel

theorem word_0 (t : Fin grid0.N) : (BitVec.ofNat 32 (grid0.coords t 0).val).toNat = t.val := by
  have h : t.val < 33 := t.isLt.trans_eq N_eq
  rw [BitVec.toNat_ofNat, coord_0, Nat.mod_eq_of_lt (by omega)]

theorem word_1 (t : Fin grid0.N) : (BitVec.ofNat 32 (grid0.coords t 1).val).toNat = 0 := by
  rw [BitVec.toNat_ofNat, coord_1]

/-- The block of rows at a point. -/
theorem rows (c : Dev nD) (t : Fin cfg0.N) (a : Fin 512) (k : Fin 1024) (r : Fin 16896) (hr : r.val = t.val * 512 + a.val) :
    (iblk m c 0 t : S512x1024.Idx → EReal) (ix2 a k) = Mixed m c (ix2 r k) := by
  unfold iblk
  refine (View.read_apply _ _).trans ?_
  refine (congrArg (V m c main_v0 : S16896x1024.Idx → EReal) (funext fun d => Fin.ext ?_)).trans
    (congrFun (entry_rows m c) (ix2 r k))
  refine (Window.rect_emb_val (cfg0.win 0) t (ix2 a k) d).trans ?_
  match d with
  | ⟨0, _⟩ =>
    show (BitVec.ofNat 32 (grid0.coords t 0).val).toNat * 512 + a.val = r.val
    rw [word_0, hr]
  | ⟨1, _⟩ => show 0 * 1024 + k.val = k.val; omega

/-- The weights at a point. -/
theorem cols (c : Dev nD) (t : Fin cfg0.N) (k f : Fin 1024) :
    (iblk m c 1 t : S1024x1024.Idx → EReal) (ix2 k f) = Wt m c (ix2 k f) := by
  unfold iblk
  refine (View.read_apply _ _).trans ?_
  refine (congrArg (V m c main_v1 : S1024x1024.Idx → EReal) (funext fun d => Fin.ext ?_)).trans
    (congrFun (entry_weights m c) (ix2 k f))
  refine (Window.rect_emb_val (cfg0.win 1) t (ix2 k f) d).trans ?_
  match d with
  | ⟨0, _⟩ => show 0 * 1024 + k.val = k.val; omega
  | ⟨1, _⟩ =>
    show (BitVec.ofNat 32 (grid0.coords t 1).val).toNat * 1024 + f.val = f.val
    rw [word_1]; omega

/-- The block of the residual at a point. -/
theorem residual (c : Dev nD) (t : Fin cfg0.N) (a : Fin 512) (f : Fin 1024) (r : Fin 16896) (hr : r.val = t.val * 512 + a.val) :
    (iblk m c 2 t : S512x1024.Idx → EReal) (ix2 a f) = Res m c (ix2 r f) := by
  unfold iblk
  refine (View.read_apply _ _).trans ?_
  refine (congrArg (V m c main_arg1 : S16896x1024.Idx → EReal) (funext fun d => Fin.ext ?_)).trans
    (congrFun (V_main_arg1 m c) (ix2 r f))
  refine (Window.rect_emb_val (cfg0.win 2) t (ix2 a f) d).trans ?_
  match d with
  | ⟨0, _⟩ =>
    show (BitVec.ofNat 32 (grid0.coords t 0).val).toNat * 512 + a.val = r.val
    rw [word_0, hr]
  | ⟨1, _⟩ =>
    show (BitVec.ofNat 32 (grid0.coords t 1).val).toNat * 1024 + f.val = f.val
    rw [word_1]; omega

/-- What a point stores, at one index. -/
theorem stored (x : FVec Ideal S512x1024 .bf16) (w : FVec Ideal S1024x1024 .bf16) (e : FVec Ideal S512x1024 .f32)
    (a : Fin 512) (f : Fin 1024) :
    out0_3 (F := Ideal) x w e (ix2 a f) = (e (ix2 a f) : EReal) + ∑ k : Fin 1024, x (ix2 a k) * w (ix2 k f) := by
  have h : out0_3 (F := Ideal) x w e = k0_pay1 (F := Ideal) e x w := by
    unfold out0_3
    rw [View.ld_unit_zero zeros, View.ld_unit_zero zeros, View.ld_unit_zero zeros]
    exact View.canon_unit_zero zeros _ _
  rw [h]
  unfold k0_pay1
  rw [shapeCast_self, shapeCast_self]
  exact congrArg (fun p : EReal => (e (ix2 a f) : EReal) + p) (matmul_zero_apply x w a f)

/-- The residual plus the product of two matrices, at one index. -/
def addMul (x : S16896x1024.Idx → EReal) (w : S1024x1024.Idx → EReal) (e : S16896x1024.Idx → EReal) (r : Fin 16896)
    (f : Fin 1024) : EReal := e (ix2 r f) + ∑ k : Fin 1024, x (ix2 r k) * w (ix2 k f)

/-- The result. -/
def summed (c : Dev nD) (r : Fin 16896) (f : Fin 1024) : EReal := addMul (Mixed m c) (Wt m c) (Res m c) r f

/-- The result array. -/
def result (c : Dev nD) : Buf (Elt Ideal) ((c : Thread nD τ).loc main_v2) :=
  (fun i : S16896x1024.Idx => summed m c (i 0) (i 1) : S16896x1024.Idx → EReal)

/-- Where the output block of a point lies. -/
theorem emb (t : Fin cfg0.N) (a : Fin 512) (f : Fin 1024) (r : Fin 16896) (hr : r.val = t.val * 512 + a.val) :
    (((cfg0.win 3).rect t).emb (ix2 a f : S512x1024.Idx) : S16896x1024.Idx) = ix2 r f :=
  funext fun d => Fin.ext (by
    refine (Window.rect_emb_val (cfg0.win 3) t (ix2 a f) d).trans ?_
    match d with
    | ⟨0, _⟩ =>
      show (BitVec.ofNat 32 (grid0.coords t 0).val).toNat * 512 + a.val = r.val
      rw [word_0, hr]
    | ⟨1, _⟩ =>
      show (BitVec.ofNat 32 (grid0.coords t 1).val).toNat * 1024 + f.val = f.val
      rw [word_1]; omega)

/-- Every write-back stores its block of the result. -/
theorem flushed (c : Dev nD) (t : Fin cfg0.N) (_ : (cfg0.win 3).flush t = true) :
    (dats m 0 c).flushed 3 t = ((cfg0.win 3).blk t).view.read (Elt Ideal) (result m c) := by
  have hN : t.val < 33 := Nat.lt_of_lt_of_eq t.isLt N_eq
  show (cfg0.win 3).cut (grid0.coords t) ((dats m 0 c).after 3 t) = _
  rw [after0_3]
  refine funext fun (j : S512x1024.Idx) => ?_
  obtain ⟨a, f, rfl⟩ : ∃ (a : Fin 512) (f : Fin 1024), j = (ix2 a f : S512x1024.Idx) :=
    ⟨j 0, j 1, funext fun d => by match d with | ⟨0, _⟩ => rfl | ⟨1, _⟩ => rfl⟩
  have hr : t.val * 512 + a.val < 16896 := by have := a.isLt; omega
  refine Eq.trans ?_ (View.read_apply _ _).symm
  refine Eq.trans ?_ (congrArg (fun i : S16896x1024.Idx => summed m c (i 0) (i 1)) (emb t a f ⟨_, hr⟩ rfl)).symm
  refine (stored _ _ _ a f).trans ?_
  show _ = summed m c ⟨_, hr⟩ f
  unfold summed addMul
  exact congrArg₂ (fun p q : EReal => p + q) (residual m c t a f ⟨_, hr⟩ rfl)
    (Finset.sum_congr rfl fun k _ => congrArg₂ (fun p q : EReal => p * q) (rows m c t a k ⟨_, hr⟩ rfl) (cols m c t k f))

/-- The write-backs cover the result array. -/
theorem final (c : Dev nD) : (dats m 0 c).arrAt 3 cfg0.N = result m c :=
  (dats m 0 c).arrAt_eq_of_cover 3 (result m c) (flushed m c) fun (i : S16896x1024.Idx) => by
    have h0 : (i 0 : Nat) < 16896 := (i 0).isLt
    have ht : (i 0 : Nat) / 512 < cfg0.N := by
      show _ < grid0.N
      rw [N_eq]; omega
    have hr : (i 0 : Nat) = (i 0 : Nat) / 512 * 512 + (i 0 : Nat) % 512 := by omega
    refine ⟨⟨_, ht⟩, flush0_3 _, ?_⟩
    refine Finset.mem_map.mpr ⟨(ix2 ⟨(i 0 : Nat) % 512, Nat.mod_lt _ (by decide)⟩ (i 1) : S512x1024.Idx), Finset.mem_univ _, ?_⟩
    refine (emb ⟨_, ht⟩ ⟨(i 0 : Nat) % 512, Nat.mod_lt _ (by decide)⟩ (i 1) (i 0) hr).trans ?_
    exact funext fun d => by match d with | ⟨0, _⟩ => rfl | ⟨1, _⟩ => rfl

/-- The run: the result array at the residual plus the product, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩)
    (run_main m ρ)

end Cert.OutIdeal.Out

end
-- ==== Proof.Out.Equal.lean ====
/-
  The output projection's claims: the runs, and the equality of its result with the reference's.
-/
module

public import proofs.«01_k».proof.Proof.Out.Value
public import proofs.«01_k».proof.Proof.Gen.Out.Frame
public import proofs.«01_k».proof.Proof.Gen.OutRefIdeal.Run
public import proofs.«01_k».proof.Proof.Gen.OutRefIdeal.Read
public import proofs.«01_k».proof.Defs
public import Idealize.ShloMosaic.Lib.Quiescent

@[expose] public section

set_option maxRecDepth 16384

noncomputable section

namespace Cert.Proof.Out

open Idealize.ShloMosaic Idealize.ShloMosaic.TcCoe Idealize.ShloMosaic.ValueIdx Idealize.SL.Sem
open Cert.OutIdeal Cert.OutIdeal.Gen Cert.OutIdeal.Out Cert.OutRefIdeal.Read

/-- The kernel runs, leaves its arguments unchanged and its counters at zero. -/
theorem frame_kernel : Cert.quiescent_Out (hOut := Cert.Out.Gen.facts) :=
  fun m ρ _ => Cert.Out.Gen.frame m ρ

/-- The same of the idealized kernel. -/
theorem frame_ideal : Cert.quiescent_OutIdeal (hOutIdeal := Cert.OutIdeal.Gen.facts) :=
  fun m ρ _ => Cert.OutIdeal.Gen.frame m ρ

/-- The same of the reference. -/
theorem frame_reference : Cert.quiescent_OutRefIdeal (hOutRefIdeal := Cert.OutRefIdeal.Gen.facts) :=
  fun m ρ _ => (θ_run Cert.OutRefIdeal.defs _ _).mono
    (fun r h => ⟨fun c => (h c).2, Idealize.ShloMosaic.sem_eq_zero_of_no_sems (by decide) r.2⟩)
    (Cert.OutRefIdeal.Value.run (F := Ideal) m ρ)

variable (m : (ℓ : Loc nD τ sig) → Buf (Elt Ideal) ℓ)

/-- The reference's result is the kernel's, at memories that agree on the arguments. -/
theorem result_eq (c : Dev nD) : val_main_v1 (F := Ideal) (Mixed m c) (Res m c) (Wt m c) = result m c := by
  refine funext fun (i : S16896x1024.Idx) => ?_
  obtain ⟨r, f, rfl⟩ : ∃ (r : Fin 16896) (f : Fin 1024), i = (ix2 r f : S16896x1024.Idx) :=
    ⟨i 0, i 1, funext fun d => by match d with | ⟨0, _⟩ => rfl | ⟨1, _⟩ => rfl⟩
  refine (val_main_v1_apply (F := Ideal) _ _ _ _).trans ?_
  show _ = addMul (Mixed m c) (Wt m c) (Res m c) r f
  unfold addMul
  refine congrArg (fun p : EReal => (Res m c (ix2 r f) : EReal) + p) ?_
  refine (val_main_v0_apply (Mixed m c) (Wt m c) _).trans (Finset.sum_congr rfl fun k _ => ?_)
  refine congrArg₂ (fun p q : EReal => p * q) (congrArg (Mixed m c) ?_) (congrArg (Wt m c) ?_)
  · exact funext fun d => by match d with | ⟨0, _⟩ => rfl | ⟨1, _⟩ => rfl
  · exact funext fun d => by match d with | ⟨0, _⟩ => rfl | ⟨1, _⟩ => rfl

/-- The idealized kernel and the reference compute the same result. -/
theorem equal : Cert.algebraic_OutIdeal_OutRefIdeal (hOutIdeal := Cert.OutIdeal.Gen.facts)
    (hOutRefIdeal := Cert.OutRefIdeal.Gen.facts) := by
  intro m g m' g' _ hargs
  refine ⟨fun c => result m c, run m g, ?_⟩
  refine (θ_run Cert.OutRefIdeal.defs _ _).mono (fun r h c => ⟨(h c).1.trans ?_, (h c).2⟩)
    (Cert.OutRefIdeal.Value.run (F := Ideal) m' g')
  refine (val_main_v1_eq (F := Ideal) _ _ _).trans ?_
  obtain ⟨h0, h1, h2⟩ := hargs c
  exact (congr (congr (congrArg (val_main_v1 (F := Ideal)) h0) h1) h2).trans (result_eq m c)

end Cert.Proof.Out

end
-- ==== Proof.Final.Value.lean ====
/-
  What the final normalisation leaves in its two results: the normalised rows, laid out as the prompt's and the samples'.
-/
module

public import proofs.«01_k».proof.Proof.Gen.FinalIdeal.Frame
public import proofs.«01_k».proof.Proof.Rms
public import Idealize.ShloMosaic.Lib.IdealHost
public import Idealize.ShloMosaic.Lib.KernelVsHost
public import Idealize.ShloMosaic.Lib.Pipeline.Value

@[expose] public section

set_option maxRecDepth 16384

noncomputable section

namespace Cert.FinalIdeal.Final

open Cert.FinalIdeal Cert.FinalIdeal.Gen Cert.Rms
open Idealize.ShloMosaic Idealize.ShloMosaic.TcCoe Idealize.ShloMosaic.ValueIdx Idealize.ShloMosaic.Tactic Idealize.SL.Sem
open Idealize.ShloMosaic.Pipeline (Dat Window)
open scoped BigOperators

variable (m : (ℓ : Loc nD τ sig) → Buf (Elt Ideal) ℓ)

theorem zeros : (![0, 0] : Fin 2 → ℕ) = fun _ => 0 := funext fun d => by match d with | ⟨0, _⟩ => rfl | ⟨1, _⟩ => rfl

/-! ## The normalisation -/

theorem coord0_0 : ∀ t : Fin grid0.N, (grid0.coords t 0).val = t.val := by decide +kernel

theorem N0 : grid0.N = 33 := by decide +kernel

theorem word0 (t : Fin grid0.N) : (BitVec.ofNat 32 (grid0.coords t 0).val).toNat = t.val := by
  have h : t.val < 33 := t.isLt.trans_eq N0
  rw [BitVec.toNat_ofNat, coord0_0, Nat.mod_eq_of_lt (by omega)]

/-- The block of rows at a point. -/
theorem rows0 (c : Dev nD) (t : Fin cfg0.N) (a : Fin 512) (k : Fin 1024) (r : Fin 16896) (hr : r.val = t.val * 512 + a.val) :
    (iblk m c 0 t : S512x1024.Idx → EReal) (ix2 a k) = (V m c main_arg0 : S16896x1024.Idx → EReal) (ix2 r k) := by
  unfold iblk
  refine (View.read_apply _ _).trans ?_
  refine congrArg (V m c main_arg0 : S16896x1024.Idx → EReal) (funext fun d => Fin.ext ?_)
  refine (Window.rect_emb_val (cfg0.win 0) t (ix2 a k) d).trans ?_
  match d with
  | ⟨0, _⟩ =>
    show (BitVec.ofNat 32 (grid0.coords t 0).val).toNat * 512 + a.val = r.val
    rw [word0, hr]
  | ⟨1, _⟩ => show 0 * 1024 + k.val = k.val; omega

/-- The gains at a point. -/
theorem gain0 (c : Dev nD) (t : Fin cfg0.N) (k : Fin 1024) :
    (iblk m c 1 t : S1x1024.Idx → EReal) (ix2 0 k) = (V m c main_v0 : S1x1024.Idx → EReal) (ix2 0 k) := by
  unfold iblk
  refine (View.read_apply _ _).trans ?_
  refine congrArg (V m c main_v0 : S1x1024.Idx → EReal) (funext fun d => Fin.ext ?_)
  refine (Window.rect_emb_val (cfg0.win 1) t (ix2 0 k) d).trans ?_
  match d with
  | ⟨0, _⟩ => rfl
  | ⟨1, _⟩ => show 0 * 1024 + k.val = k.val; omega

/-- What a point stores, at one index. -/
theorem norm_apply (x : FVec Ideal S512x1024 .f32) (g : FVec Ideal S1x1024 .f32) (a : Fin 512) (k : Fin 1024) :
    out0_2 (F := Ideal) x g (ix2 a k) = rms (fun j => x (ix2 a j)) (fun j => g (ix2 0 j)) k := by
  have e : out0_2 (F := Ideal) x g = k0_pay1 (F := Ideal) x g := by
    unfold out0_2
    rw [View.ld_unit_zero zeros, View.ld_unit_zero zeros]
    exact View.canon_unit_zero zeros _ _
  rw [e]
  unfold k0_pay1
  rw [shapeCast_self]
  exact tile_apply x g _ _ _ _ _ _ a k

/-- The normalised rows. -/
def normed (c : Dev nD) (r : Fin 16896) (k : Fin 1024) : EReal :=
  rms (fun j => (V m c main_arg0 : S16896x1024.Idx → EReal) (ix2 r j)) (fun j => (V m c main_v0 : S1x1024.Idx → EReal) (ix2 0 j)) k

/-- Where the output block of a point lies. -/
theorem emb0 (t : Fin cfg0.N) (a : Fin 512) (b : Fin 1024) (r : Fin 16896) (hr : r.val = t.val * 512 + a.val) :
    (((cfg0.win 2).rect t).emb (ix2 a b : S512x1024.Idx) : S16896x1024.Idx) = ix2 r b :=
  funext fun d => Fin.ext (by
    refine (Window.rect_emb_val (cfg0.win 2) t (ix2 a b) d).trans ?_
    match d with
    | ⟨0, _⟩ =>
      show (BitVec.ofNat 32 (grid0.coords t 0).val).toNat * 512 + a.val = r.val
      rw [word0, hr]
    | ⟨1, _⟩ => show 0 * 1024 + b.val = b.val; omega)

/-- The array of normalised rows. -/
def normedArr (c : Dev nD) : Buf (Elt Ideal) ((c : Thread nD τ).loc main_v1) :=
  (fun i : S16896x1024.Idx => normed m c (i 0) (i 1) : S16896x1024.Idx → EReal)

/-- Every write-back stores its block of the normalised rows. -/
theorem flushed0 (c : Dev nD) (t : Fin cfg0.N) (_ : (cfg0.win 2).flush t = true) :
    (dats m 0 c).flushed 2 t = ((cfg0.win 2).blk t).view.read (Elt Ideal) (normedArr m c) := by
  have hN : t.val < 33 := Nat.lt_of_lt_of_eq t.isLt N0
  show (cfg0.win 2).cut (grid0.coords t) ((dats m 0 c).after 2 t) = _
  rw [after0_2]
  refine funext fun (j : S512x1024.Idx) => ?_
  obtain ⟨a, b, rfl⟩ : ∃ (a : Fin 512) (b : Fin 1024), j = (ix2 a b : S512x1024.Idx) :=
    ⟨j 0, j 1, funext fun d => by match d with | ⟨0, _⟩ => rfl | ⟨1, _⟩ => rfl⟩
  have hr : t.val * 512 + a.val < 16896 := by have := a.isLt; omega
  refine Eq.trans ?_ (View.read_apply _ _).symm
  refine Eq.trans ?_ (congrArg (fun i : S16896x1024.Idx => normed m c (i 0) (i 1)) (emb0 t a b ⟨_, hr⟩ rfl)).symm
  refine (norm_apply _ _ a b).trans ?_
  show _ = normed m c ⟨_, hr⟩ b
  unfold normed
  exact congr (congr (congrArg rms (funext fun j => rows0 m c t a j ⟨_, hr⟩ rfl)) (funext fun j => gain0 m c t j)) rfl

/-- The normalisation's result array. -/
theorem arr0 (c : Dev nD) : (dats m 0 c).arrAt 2 cfg0.N = normedArr m c :=
  (dats m 0 c).arrAt_eq_of_cover 2 (normedArr m c) (flushed0 m c) fun (i : S16896x1024.Idx) => by
    have h0 : (i 0 : Nat) < 16896 := (i 0).isLt
    have ht : (i 0 : Nat) / 512 < cfg0.N := by
      show _ < grid0.N
      rw [N0]; omega
    have hr : (i 0 : Nat) = (i 0 : Nat) / 512 * 512 + (i 0 : Nat) % 512 := by omega
    refine ⟨⟨_, ht⟩, flush0_2 _, ?_⟩
    refine Finset.mem_map.mpr ⟨(ix2 ⟨(i 0 : Nat) % 512, Nat.mod_lt _ (by decide)⟩ (i 1) : S512x1024.Idx), Finset.mem_univ _, ?_⟩
    refine (emb0 ⟨_, ht⟩ ⟨(i 0 : Nat) % 512, Nat.mod_lt _ (by decide)⟩ (i 1) (i 0) hr).trans ?_
    exact funext fun d => by match d with | ⟨0, _⟩ => rfl | ⟨1, _⟩ => rfl

/-! ## The results -/

abbrev Xin (c : Dev nD) : FVec Ideal S16896x1024 .f32 := m ((c.tc : Thread nD τ).loc main_arg0)
abbrev Gain (c : Dev nD) : FVec Ideal S1024 .f32 := m ((c.tc : Thread nD τ).loc main_arg1)

theorem entry_gain (c : Dev nD) (k : Fin 1024) :
    (V m c main_v0 : S1x1024.Idx → EReal) (ix2 0 k) = Gain m c (ix1 k) := by
  have h : (V m c main_v0 : S1x1024.Idx → EReal) = shapeCast S1x1024 (Gain m c) shapeCasts_S1024_S1x1024 := by
    show StableHlo.after hostOps0 _ (Proc.devRef .tc main_v0) = _
    after_results
    rfl
  rw [h]
  refine shapeCast_apply _ _ _ (ix1 k) ?_
  rw [Shape.rowMajor_val_two, Shape.rowMajor_val_one]
  show k.val = 0 * 1024 + k.val
  omega

/-- The normalised rows, from the arguments. -/
theorem normed_apply (c : Dev nD) (r : Fin 16896) (k : Fin 1024) :
    normedArr m c (ix2 r k : S16896x1024.Idx) = rms (fun j => Xin m c (ix2 r j)) (fun j => Gain m c (ix1 j)) k := by
  show normed m c r k = _
  unfold normed
  exact congr (congr (congrArg rms (funext fun j => congrFun (V_main_arg0 m c) (ix2 r j)))
    (funext fun j => entry_gain m c j)) rfl

/-- The prompt's rows of an array of all rows. -/
def promptRows (Y : FVec Ideal S16896x1024 .f32) : FVec Ideal S4x4096x1024 .f32 :=
  shapeCast S4x4096x1024 (extractStridedSlice S16384x1024 ![0, 0] Y slices_S16896x1024_S16384x1024_0_0)
    shapeCasts_S16384x1024_S4x4096x1024

/-- The samples' rows of an array of all rows. -/
def sampleRows (Y : FVec Ideal S16896x1024 .f32) : FVec Ideal S128x4x1024 .f32 :=
  shapeCast S128x4x1024 (extractStridedSlice S512x1024 ![16384, 0] Y slices_S16896x1024_S512x1024_16384_0)
    shapeCasts_S512x1024_S128x4x1024

theorem promptRows_apply (Y : FVec Ideal S16896x1024 .f32) (b : Fin 4) (t : Fin 4096) (k : Fin 1024) (r : Fin 16896)
    (hr : r.val = b.val * 4096 + t.val) : promptRows Y (ix3 b t k) = Y (ix2 r k) := by
  have h : b.val * 4096 + t.val < 16384 := by have := b.isLt; have := t.isLt; omega
  unfold promptRows
  refine (shapeCast_apply _ _ _ (ix2 ⟨_, h⟩ k) ?_).trans ?_
  · rw [Shape.rowMajor_val_two, Shape.rowMajor_val_three]; rfl
  refine extractStridedSlice_apply _ _ _ _ (ix2 r k) fun a => ?_
  match a with
  | ⟨0, _⟩ => show r.val = 0 + (b.val * 4096 + t.val); omega
  | ⟨1, _⟩ => show k.val = 0 + k.val; omega

theorem sampleRows_apply (Y : FVec Ideal S16896x1024 .f32) (b : Fin 128) (t : Fin 4) (k : Fin 1024) (r : Fin 16896)
    (hr : r.val = 16384 + (b.val * 4 + t.val)) : sampleRows Y (ix3 b t k) = Y (ix2 r k) := by
  have h : b.val * 4 + t.val < 512 := by have := b.isLt; have := t.isLt; omega
  unfold sampleRows
  refine (shapeCast_apply _ _ _ (ix2 ⟨_, h⟩ k) ?_).trans ?_
  · rw [Shape.rowMajor_val_two, Shape.rowMajor_val_three]; rfl
  refine extractStridedSlice_apply _ _ _ _ (ix2 r k) fun a => ?_
  match a with
  | ⟨0, _⟩ => show r.val = 16384 + (b.val * 4 + t.val); omega
  | ⟨1, _⟩ => show k.val = 0 + k.val; omega

/-- The normalised rows as an array of the host's. -/
abbrev rowsArr (c : Dev nD) : FVec Ideal S16896x1024 .f32 := normedArr m c

/-- The lines after the call read the normalised rows. -/
theorem after_call (c : Dev nD) :
    Pipeline.withArrays spec0 c (V0 m c) (fun w => (dats m 0 c).arrAt w cfg0.N) (Proc.devRef .tc main_v1) = rowsArr m c :=
  (Pipeline.withArrays_arr spec0 (by decide) c (V0 m c) _ 2).trans (arr0 m c)

theorem result_prompt (c : Dev nD) :
    Pipeline.afterTail₀ cfgs (dats m) 0 (V0 m) [hostOps1] c main_v3 = promptRows (rowsArr m c) := by
  rw [← after_call m c]
  show StableHlo.after hostOps1 (Pipeline.withArrays spec0 c (V0 m c) fun w => (dats m 0 c).arrAt w cfg0.N)
    (Proc.devRef .tc main_v3) = _
  generalize (Pipeline.withArrays spec0 c (V0 m c) fun w => (dats m 0 c).arrAt w cfg0.N) = U
  after_results
  rfl

theorem result_sample (c : Dev nD) :
    Pipeline.afterTail₀ cfgs (dats m) 0 (V0 m) [hostOps1] c main_v5 = sampleRows (rowsArr m c) := by
  rw [← after_call m c]
  show StableHlo.after hostOps1 (Pipeline.withArrays spec0 c (V0 m c) fun w => (dats m 0 c).arrAt w cfg0.N)
    (Proc.devRef .tc main_v5) = _
  generalize (Pipeline.withArrays spec0 c (V0 m c) fun w => (dats m 0 c).arrAt w cfg0.N) = U
  after_results
  rfl

/-- The run: the two results at the normalised rows, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3) = promptRows (rowsArr m c)
      ∧ r.2.mem ((c.tc : Thread nD τ).loc main_v5) = sampleRows (rowsArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      ((h c).2 main_v3 (Pipeline.mem_restRefs_of main_v3 (by decide) (by decide))).trans (result_prompt m c),
      ((h c).2 main_v5 (Pipeline.mem_restRefs_of main_v5 (by decide) (by decide))).trans (result_sample m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.FinalIdeal.Final

end
-- ==== Proof.Final.Equal.lean ====
/-
  The final normalisation's claims: the runs, and the equality of its two results with the reference's.
-/
module

public import proofs.«01_k».proof.Proof.Final.Value
public import proofs.«01_k».proof.Proof.Gen.Final.Frame
public import proofs.«01_k».proof.Proof.Gen.FinalRefIdeal.Run
public import proofs.«01_k».proof.Proof.Gen.FinalRefIdeal.Read
public import proofs.«01_k».proof.Defs
public import Idealize.ShloMosaic.Lib.Quiescent

@[expose] public section

set_option maxRecDepth 16384

noncomputable section

namespace Cert.Proof.Final

open Idealize.ShloMosaic Idealize.ShloMosaic.TcCoe Idealize.ShloMosaic.ValueIdx Idealize.SL.Sem
open Cert.FinalIdeal Cert.FinalIdeal.Gen Cert.FinalIdeal.Final Cert.Rms Cert.FinalRefIdeal.Read
open scoped BigOperators

/-- The kernel runs, leaves its arguments unchanged and its counters at zero. -/
theorem frame_kernel : Cert.quiescent_Final (hFinal := Cert.Final.Gen.facts) :=
  fun m ρ _ => Cert.Final.Gen.frame m ρ

/-- The same of the idealized kernel. -/
theorem frame_ideal : Cert.quiescent_FinalIdeal (hFinalIdeal := Cert.FinalIdeal.Gen.facts) :=
  fun m ρ _ => Cert.FinalIdeal.Gen.frame m ρ

/-- The same of the reference. -/
theorem frame_reference : Cert.quiescent_FinalRefIdeal (hFinalRefIdeal := Cert.FinalRefIdeal.Gen.facts) :=
  fun m ρ _ => (θ_run Cert.FinalRefIdeal.defs _ _).mono
    (fun r h => ⟨fun c => (h c).2.2, Idealize.ShloMosaic.sem_eq_zero_of_no_sems (by decide) r.2⟩)
    (Cert.FinalRefIdeal.Value.run (F := Ideal) m ρ)

/-- The reference's prompt rows, at one index: the norm of a row of the argument. -/
theorem prompt_norm (x : FVec Ideal S16896x1024 .f32) (g : FVec Ideal S1024 .f32) (b : Fin 4) (t : Fin 4096) (k : Fin 1024)
    (r : Fin 16896) (hr : r.val = b.val * 4096 + t.val) :
    val_main_v16 (F := Ideal) x g (ix3 b t k) = rms (fun j => x (ix2 r j)) (fun j => g (ix1 j)) k := by
  have hx : ∀ j : Fin 1024, val_main_v1 (F := Ideal) x (ix3 b t j) = x (ix2 r j) := fun j => promptRows_apply x b t j r hr
  rw [val_main_v16_apply, val_main_v13_apply, val_main_v12_apply, val_main_v11_apply, val_main_v10_apply, val_main_v8_apply,
    val_main_v6_apply, val_main_v5_apply, val_main_v7_apply, val_main_v9_apply, val_main_v15_apply, val_main_v14_apply]
  have hs : (val_main_cst (F := Ideal)) (Shape.Idx.first Cert.FinalRefIdeal.Gen.h_S_)
      + ∑ j : Fin 1024, (val_main_v4 (F := Ideal) x) (idx_main_v5 (idx_main_v6 (idx_main_v12 (ix3 b t k))) j)
      = ∑ j : Fin 1024, x (ix2 r j) * x (ix2 r j) := by
    refine (congrArg₂ (fun p q : EReal => p + q) Ideal.ofBits_zero_f32 (Finset.sum_congr rfl fun j _ => ?_)).trans (zero_add _)
    refine (val_main_v4_apply (F := Ideal) x _).trans ?_
    refine (congrArg (fun i : S4x4096x1024.Idx => (val_main_v1 (F := Ideal) x i * val_main_v1 (F := Ideal) x i : EReal))
      (funext fun d => by match d with | ⟨0, _⟩ => rfl | ⟨1, _⟩ => rfl | ⟨2, _⟩ => rfl :
        idx_main_v5 (idx_main_v6 (idx_main_v12 (ix3 b t k))) j = (ix3 b t j : S4x4096x1024.Idx))).trans ?_
    exact congrArg₂ (fun p q : EReal => p * q) (hx j) (hx j)
  unfold rms
  refine congrArg₂ (fun p q : EReal => p * q) (congrArg₂ (fun p q : EReal => p * q) (hx k) (congrArg Ideal.rsqrt
    (congrArg₂ (fun p q : EReal => p + q) (congrArg₂ Ideal.div hs rfl) rfl))) (congrArg g ?_)
  exact funext fun d => by match d with | ⟨0, _⟩ => rfl

/-- The reference's sample rows, at one index. -/
theorem sample_norm (x : FVec Ideal S16896x1024 .f32) (g : FVec Ideal S1024 .f32) (b : Fin 128) (t : Fin 4) (k : Fin 1024)
    (r : Fin 16896) (hr : r.val = 16384 + (b.val * 4 + t.val)) :
    val_main_v29 (F := Ideal) x g (ix3 b t k) = rms (fun j => x (ix2 r j)) (fun j => g (ix1 j)) k := by
  have hx : ∀ j : Fin 1024, val_main_v3 (F := Ideal) x (ix3 b t j) = x (ix2 r j) := fun j => sampleRows_apply x b t j r hr
  rw [val_main_v29_apply, val_main_v26_apply, val_main_v25_apply, val_main_v24_apply, val_main_v23_apply, val_main_v21_apply,
    val_main_v19_apply, val_main_v18_apply, val_main_v20_apply, val_main_v22_apply, val_main_v28_apply, val_main_v27_apply]
  have hs : (val_main_cst_2 (F := Ideal)) (Shape.Idx.first Cert.FinalRefIdeal.Gen.h_S_)
      + ∑ j : Fin 1024, (val_main_v17 (F := Ideal) x) (idx_main_v18 (idx_main_v19 (idx_main_v25 (ix3 b t k))) j)
      = ∑ j : Fin 1024, x (ix2 r j) * x (ix2 r j) := by
    refine (congrArg₂ (fun p q : EReal => p + q) Ideal.ofBits_zero_f32 (Finset.sum_congr rfl fun j _ => ?_)).trans (zero_add _)
    refine (val_main_v17_apply (F := Ideal) x _).trans ?_
    refine (congrArg (fun i : S128x4x1024.Idx => (val_main_v3 (F := Ideal) x i * val_main_v3 (F := Ideal) x i : EReal))
      (funext fun d => by match d with | ⟨0, _⟩ => rfl | ⟨1, _⟩ => rfl | ⟨2, _⟩ => rfl :
        idx_main_v18 (idx_main_v19 (idx_main_v25 (ix3 b t k))) j = (ix3 b t j : S128x4x1024.Idx))).trans ?_
    exact congrArg₂ (fun p q : EReal => p * q) (hx j) (hx j)
  unfold rms
  refine congrArg₂ (fun p q : EReal => p * q) (congrArg₂ (fun p q : EReal => p * q) (hx k) (congrArg Ideal.rsqrt
    (congrArg₂ (fun p q : EReal => p + q) (congrArg₂ Ideal.div hs rfl) rfl))) (congrArg g ?_)
  exact funext fun d => by match d with | ⟨0, _⟩ => rfl

variable (m : (ℓ : Loc nD τ sig) → Buf (Elt Ideal) ℓ)

/-- The reference's prompt result is the kernel's. -/
theorem prompt_eq (c : Dev nD) : val_main_v16 (F := Ideal) (Xin m c) (Gain m c) = promptRows (rowsArr m c) := by
  refine funext fun (i : S4x4096x1024.Idx) => ?_
  obtain ⟨b, t, k, rfl⟩ : ∃ (b : Fin 4) (t : Fin 4096) (k : Fin 1024), i = (ix3 b t k : S4x4096x1024.Idx) :=
    ⟨i 0, i 1, i 2, funext fun d => by match d with | ⟨0, _⟩ => rfl | ⟨1, _⟩ => rfl | ⟨2, _⟩ => rfl⟩
  have hr : b.val * 4096 + t.val < 16896 := by have := b.isLt; have := t.isLt; omega
  exact (prompt_norm _ _ b t k ⟨_, hr⟩ rfl).trans
    ((promptRows_apply _ b t k ⟨_, hr⟩ rfl).trans (normed_apply m c ⟨_, hr⟩ k)).symm

/-- The reference's sample result is the kernel's. -/
theorem sample_eq (c : Dev nD) : val_main_v29 (F := Ideal) (Xin m c) (Gain m c) = sampleRows (rowsArr m c) := by
  refine funext fun (i : S128x4x1024.Idx) => ?_
  obtain ⟨b, t, k, rfl⟩ : ∃ (b : Fin 128) (t : Fin 4) (k : Fin 1024), i = (ix3 b t k : S128x4x1024.Idx) :=
    ⟨i 0, i 1, i 2, funext fun d => by match d with | ⟨0, _⟩ => rfl | ⟨1, _⟩ => rfl | ⟨2, _⟩ => rfl⟩
  have hr : 16384 + (b.val * 4 + t.val) < 16896 := by have := b.isLt; have := t.isLt; omega
  exact (sample_norm _ _ b t k ⟨_, hr⟩ rfl).trans
    ((sampleRows_apply _ b t k ⟨_, hr⟩ rfl).trans (normed_apply m c ⟨_, hr⟩ k)).symm

/-- The idealized kernel and the reference compute the same two results. -/
theorem equal : Cert.algebraic_FinalIdeal_FinalRefIdeal (hFinalIdeal := Cert.FinalIdeal.Gen.facts)
    (hFinalRefIdeal := Cert.FinalRefIdeal.Gen.facts) := by
  intro m g m' g' _ hargs
  refine ⟨fun c => promptRows (rowsArr m c), fun c => sampleRows (rowsArr m c), run m g, ?_⟩
  refine (θ_run Cert.FinalRefIdeal.defs _ _).mono (fun r h c => ⟨(h c).1.trans ?_, (h c).2.1.trans ?_, (h c).2.2⟩)
    (Cert.FinalRefIdeal.Value.run (F := Ideal) m' g')
  all_goals obtain ⟨h0, h1⟩ := hargs c
  · refine (val_main_v16_eq (F := Ideal) _ _).trans ?_
    exact (congr (congrArg (val_main_v16 (F := Ideal)) h0) h1).trans (prompt_eq m c)
  · refine (val_main_v29_eq (F := Ideal) _ _).trans ?_
    exact (congr (congrArg (val_main_v29 (F := Ideal)) h0) h1).trans (sample_eq m c)

end Cert.Proof.Final

end
-- ==== Proof.Stick.FrameIdeal.lean ====
/- The frame of the stick-breaking attention's program `StickIdeal`: the generated certificate's last module written out, with more
   room for the three equations that say what the buffers hold after a point of each case. -/
module

public import proofs.«01_k».proof.Proof.Gen.StickIdeal.Frame.RunC
public import Idealize.ShloMosaic.Lib.Claim

@[expose] public section

-- membership in a rectangle recurses once per coordinate of its long axes
set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg3 : Memref sig .tc .vmem S1x64x1024 .bf16) (harg3 : arg3.IsWhole) (arg4 : Memref sig .tc .vmem S1x2x16x64x128 .f32) (harg4 : arg4.IsWhole) (arg5 : Memref sig .tc .vmem S1x2x1024x128 .bf16) (harg5 : arg5.IsWhole) (arg6 : Memref sig .tc .vmem S256x256 .bf16) (harg6 : arg6.IsWhole) (arg7 : Memref sig .tc .vmem S1024x64 .f32) (harg7 : arg7.IsWhole) (arg8 : Memref sig .tc .vmem S1x64x64 .f32) (harg8 : arg8.IsWhole) (arg9 : Memref sig .tc .vmem S64x1024 .f32) (harg9 : arg9.IsWhole) (arg10 : Memref sig .tc .vmem S64x128 .f32) (harg10 : arg10.IsWhole)

section

variable (hc0 : cond0_0 i) (hc1 : cond0_1 i) (hc2 : ¬cond0_2 i) (hc3 : ¬cond0_3 i) (x0 : Vec F S1x64x1024 .bf16) (x1 : Vec F S1x2x16x64x128 .f32) (x2 : Vec F S1x2x1024x128 .bf16) (x3 : Vec F S256x256 .bf16) (x4 : Vec F S1024x64 .f32) (xt0 : TbBuf0 (F := F) c tbM0_0)

/-- Case A stores nothing into output 5: no pieces, and nothing consults what stands here. -/
def out0_A_5 : Vec F S1x64x64 .f32 :=
  VO0_5.read (Elt F) (VO0_5.writes (Elt F) VO0_5.junk (kernelRun0_A c i arg3 harg3 arg4 harg4 arg5 harg5 arg6 harg6 arg7 harg7 arg8 harg8 arg9 harg9 arg10 harg10 hc0 hc1 hc2 hc3 x0 x1 x2 x3 x4 xt0).1)

/-- Case A's pieces for scratch `arg9`, which the kernel carries between points, cover it: 2 pieces of `S64x1024` tiling it (Lib/Ring.lean `Piece.tiledL`). -/
theorem scover0_A_0 (y : S64x1024.Idx) :
    ∃ pc ∈ (kernelRun0_A c i arg3 harg3 arg4 harg4 arg5 harg5 arg6 harg6 arg7 harg7 arg8 harg8 arg9 harg9 arg10 harg10 hc0 hc1 hc2 hc3 x0 x1 x2 x3 x4 xt0).2.1, y ∈ pc.1.set :=
  View.cover_of_tiledL _ S64x1024.size (by sl_kernel_rfl) y

/-- What case A leaves in scratch `arg9`: its pieces read back over junk. -/
def sout0_A_0 : Vec F S64x1024 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 hc2 hc3 x0 x1 x2 x3 x4 xt0).2.1)

/-- Case A's pieces for scratch `arg10`, which the kernel carries between points, cover it: 2 pieces of `S64x128` tiling it (Lib/Ring.lean `Piece.tiledL`). -/
theorem scover0_A_1 (y : S64x128.Idx) :
    ∃ pc ∈ (kernelRun0_A c i arg3 harg3 arg4 harg4 arg5 harg5 arg6 harg6 arg7 harg7 arg8 harg8 arg9 harg9 arg10 harg10 hc0 hc1 hc2 hc3 x0 x1 x2 x3 x4 xt0).2.2.1, y ∈ pc.1.set :=
  View.cover_of_tiledL _ S64x128.size (by sl_kernel_rfl) y

/-- What case A leaves in scratch `arg10`: its pieces read back over junk. -/
def sout0_A_1 : Vec F S64x128 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 hc2 hc3 x0 x1 x2 x3 x4 xt0).2.2.1)

/-- What case A leaves in the output block and in the two scratch arrays. -/
abbrev case0_A : Vec F S1x64x64 .f32 × Vec F S64x1024 .f32 × Vec F S64x128 .f32 :=
  (out0_A_5 c i arg3 harg3 arg4 harg4 arg5 harg5 arg6 harg6 arg7 harg7 arg8 harg8 arg9 harg9 arg10 harg10 hc0 hc1 hc2 hc3 x0 x1 x2 x3 x4 xt0, sout0_A_0 c i arg3 harg3 arg4 harg4 arg5 harg5 arg6 harg6 arg7 harg7 arg8 harg8 arg9 harg9 arg10 harg10 hc0 hc1 hc2 hc3 x0 x1 x2 x3 x4 xt0, sout0_A_1 c i arg3 harg3 arg4 harg4 arg5 harg5 arg6 harg6 arg7 harg7 arg8 harg8 arg9 harg9 arg10 harg10 hc0 hc1 hc2 hc3 x0 x1 x2 x3 x4 xt0)

end

section

variable (hc0 : ¬cond0_0 i) (hc1 : ¬cond0_1 i) (hc2 : cond0_2 i) (hc3 : ¬cond0_3 i) (x0 : Vec F S1x64x1024 .bf16) (x1 : Vec F S1x2x16x64x128 .f32) (x2 : Vec F S1x2x1024x128 .bf16) (x3 : Vec F S256x256 .bf16) (x4 : Vec F S1024x64 .f32) (xt0 : TbBuf0 (F := F) c tbM0_0) (xs0 : Vec F S64x1024 .f32) (xs1 : Vec F S64x128 .f32)

/-- Case B stores nothing into output 5: no pieces, and nothing consults what stands here. -/
def out0_B_5 : Vec F S1x64x64 .f32 :=
  VO0_5.read (Elt F) (VO0_5.writes (Elt F) VO0_5.junk (kernelRun0_B c i arg3 harg3 arg4 harg4 arg5 harg5 arg6 harg6 arg7 harg7 arg8 harg8 arg9 harg9 arg10 harg10 hc0 hc1 hc2 hc3 x0 x1 x2 x3 x4 xt0 xs0 xs1).1)

/-- Case B's pieces for scratch `arg9`, which the kernel carries between points, cover it: 1 piece of `S64x1024` tiling it (Lib/Ring.lean `Piece.tiledL`). -/
theorem scover0_B_0 (y : S64x1024.Idx) :
    ∃ pc ∈ (kernelRun0_B c i arg3 harg3 arg4 harg4 arg5 harg5 arg6 harg6 arg7 harg7 arg8 harg8 arg9 harg9 arg10 harg10 hc0 hc1 hc2 hc3 x0 x1 x2 x3 x4 xt0 xs0 xs1).2.1, y ∈ pc.1.set :=
  View.cover_of_tiledL _ S64x1024.size (by sl_kernel_rfl) y

/-- What case B leaves in scratch `arg9`: its pieces read back over junk. -/
def sout0_B_0 : Vec F S64x1024 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 hc2 hc3 x0 x1 x2 x3 x4 xt0 xs0 xs1).2.1)

/-- Case B's pieces for scratch `arg10`, which the kernel carries between points, cover it: 1 piece of `S64x128` tiling it (Lib/Ring.lean `Piece.tiledL`). -/
theorem scover0_B_1 (y : S64x128.Idx) :
    ∃ pc ∈ (kernelRun0_B c i arg3 harg3 arg4 harg4 arg5 harg5 arg6 harg6 arg7 harg7 arg8 harg8 arg9 harg9 arg10 harg10 hc0 hc1 hc2 hc3 x0 x1 x2 x3 x4 xt0 xs0 xs1).2.2.1, y ∈ pc.1.set :=
  View.cover_of_tiledL _ S64x128.size (by sl_kernel_rfl) y

/-- What case B leaves in scratch `arg10`: its pieces read back over junk. -/
def sout0_B_1 : Vec F S64x128 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 hc2 hc3 x0 x1 x2 x3 x4 xt0 xs0 xs1).2.2.1)

/-- What case B leaves in the output block and in the two scratch arrays. -/
abbrev case0_B : Vec F S1x64x64 .f32 × Vec F S64x1024 .f32 × Vec F S64x128 .f32 :=
  (out0_B_5 c i arg3 harg3 arg4 harg4 arg5 harg5 arg6 harg6 arg7 harg7 arg8 harg8 arg9 harg9 arg10 harg10 hc0 hc1 hc2 hc3 x0 x1 x2 x3 x4 xt0 xs0 xs1, sout0_B_0 c i arg3 harg3 arg4 harg4 arg5 harg5 arg6 harg6 arg7 harg7 arg8 harg8 arg9 harg9 arg10 harg10 hc0 hc1 hc2 hc3 x0 x1 x2 x3 x4 xt0 xs0 xs1, sout0_B_1 c i arg3 harg3 arg4 harg4 arg5 harg5 arg6 harg6 arg7 harg7 arg8 harg8 arg9 harg9 arg10 harg10 hc0 hc1 hc2 hc3 x0 x1 x2 x3 x4 xt0 xs0 xs1)

end

section

variable (hc0 : ¬cond0_0 i) (hc1 : ¬cond0_1 i) (hc2 : cond0_2 i) (hc3 : cond0_3 i) (x0 : Vec F S1x64x1024 .bf16) (x1 : Vec F S1x2x16x64x128 .f32) (x2 : Vec F S1x2x1024x128 .bf16) (x3 : Vec F S256x256 .bf16) (x4 : Vec F S1024x64 .f32) (xt0 : TbBuf0 (F := F) c tbM0_0) (xs0 : Vec F S64x1024 .f32) (xs1 : Vec F S64x128 .f32)

/-- Case C's pieces for output 5 tile its block: one store of `S1x64x64`. -/
theorem cover0_C_5 (y : S1x64x64.Idx) :
    ∃ pc ∈ (kernelRun0_C c i arg3 harg3 arg4 harg4 arg5 harg5 arg6 harg6 arg7 harg7 arg8 harg8 arg9 harg9 arg10 harg10 hc0 hc1 hc2 hc3 x0 x1 x2 x3 x4 xt0 xs0 xs1).1, y ∈ pc.1.set :=
  View.cover_of_tiledL _ S1x64x64.size (by sl_kernel_rfl) y

/-- What case C leaves in output 5's staging buffer: its pieces read back over junk. -/
def out0_C_5 : Vec F S1x64x64 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 hc2 hc3 x0 x1 x2 x3 x4 xt0 xs0 xs1).1)

/-- Case C's pieces for scratch `arg9`, which the kernel carries between points, cover it: 1 piece of `S64x1024` tiling it (Lib/Ring.lean `Piece.tiledL`). -/
theorem scover0_C_0 (y : S64x1024.Idx) :
    ∃ pc ∈ (kernelRun0_C c i arg3 harg3 arg4 harg4 arg5 harg5 arg6 harg6 arg7 harg7 arg8 harg8 arg9 harg9 arg10 harg10 hc0 hc1 hc2 hc3 x0 x1 x2 x3 x4 xt0 xs0 xs1).2.1, y ∈ pc.1.set :=
  View.cover_of_tiledL _ S64x1024.size (by sl_kernel_rfl) y

/-- What case C leaves in scratch `arg9`: its pieces read back over junk. -/
def sout0_C_0 : Vec F S64x1024 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 hc2 hc3 x0 x1 x2 x3 x4 xt0 xs0 xs1).2.1)

/-- Case C's pieces for scratch `arg10`, which the kernel carries between points, cover it: 1 piece of `S64x128` tiling it (Lib/Ring.lean `Piece.tiledL`). -/
theorem scover0_C_1 (y : S64x128.Idx) :
    ∃ pc ∈ (kernelRun0_C c i arg3 harg3 arg4 harg4 arg5 harg5 arg6 harg6 arg7 harg7 arg8 harg8 arg9 harg9 arg10 harg10 hc0 hc1 hc2 hc3 x0 x1 x2 x3 x4 xt0 xs0 xs1).2.2.1, y ∈ pc.1.set :=
  View.cover_of_tiledL _ S64x128.size (by sl_kernel_rfl) y

/-- What case C leaves in scratch `arg10`: its pieces read back over junk. -/
def sout0_C_1 : Vec F S64x128 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 hc2 hc3 x0 x1 x2 x3 x4 xt0 xs0 xs1).2.2.1)

/-- What case C leaves in the output block and in the two scratch arrays. -/
abbrev case0_C : Vec F S1x64x64 .f32 × Vec F S64x1024 .f32 × Vec F S64x128 .f32 :=
  (out0_C_5 c i arg3 harg3 arg4 harg4 arg5 harg5 arg6 harg6 arg7 harg7 arg8 harg8 arg9 harg9 arg10 harg10 hc0 hc1 hc2 hc3 x0 x1 x2 x3 x4 xt0 xs0 xs1, sout0_C_0 c i arg3 harg3 arg4 harg4 arg5 harg5 arg6 harg6 arg7 harg7 arg8 harg8 arg9 harg9 arg10 harg10 hc0 hc1 hc2 hc3 x0 x1 x2 x3 x4 xt0 xs0 xs1, sout0_C_1 c i arg3 harg3 arg4 harg4 arg5 harg5 arg6 harg6 arg7 harg7 arg8 harg8 arg9 harg9 arg10 harg10 hc0 hc1 hc2 hc3 x0 x1 x2 x3 x4 xt0 xs0 xs1)

end

end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x64x64 .f32 × Vec F S64x1024 .f32 × Vec F S64x128 .f32
  | 0, hn => case0_A c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0)
  | n + 1, hn =>
    if h0 : (n + 1) % 17 = 0 then
      if h1 : (n + 1) % 17 = 0 then
        if h2 : 1 ≤ (n + 1) % 17 then
          False.elim (by have hN : n + 1 < 2176 := lt_of_lt_of_eq hn (show (cfgM m hO).N = 2176 from N_0); omega)
        else
          if h3 : (n + 1) % 17 = 16 then
            False.elim (by have hN : n + 1 < 2176 := lt_of_lt_of_eq hn (show (cfgM m hO).N = 2176 from N_0); omega)
          else
            case0_A c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0)
      else
        False.elim (by have hN : n + 1 < 2176 := lt_of_lt_of_eq hn (show (cfgM m hO).N = 2176 from N_0); omega)
    else
      if h1 : (n + 1) % 17 = 0 then
        False.elim (by have hN : n + 1 < 2176 := lt_of_lt_of_eq hn (show (cfgM m hO).N = 2176 from N_0); omega)
      else
        if h2 : 1 ≤ (n + 1) % 17 then
          if h3 : (n + 1) % 17 = 16 then
            case0_C c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2
          else
            case0_B c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2
        else
          False.elim (by have hN : n + 1 < 2176 := lt_of_lt_of_eq hn (show (cfgM m hO).N = 2176 from N_0); omega)

set_option maxHeartbeats 4000000 in
/-- `outsAt0` at a point of case A: that case's contents. -/
theorem outsAt0_A (hO : Ok m) (c : Dev nD) (t : Fin (cfgM m hO).N) (h0 : t.val % 17 = 0) (h1 : t.val % 17 = 0) (h2 : ¬1 ≤ t.val % 17) (h3 : ¬t.val % 17 = 16) :
    outsAt0 m hO c t.val t.isLt = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m hO c 0 t) (iblk m hO c 1 t) (iblk m hO c 2 t) (iblk m hO c 3 t) (iblk m hO c 4 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m hO c 0 t) (iblk m hO c 1 t) (iblk m hO c 2 t) (iblk m hO c 3 t) (iblk m hO c 4 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m hO c 0 t) (iblk m hO c 1 t) (iblk m hO c 2 t) (iblk m hO c 3 t) (iblk m hO c 4 t) (tbl m 0)) := by
  obtain ⟨n, hn⟩ := t
  cases n with
  | zero => exact rfl
  | succ n => exact (dif_pos h0).trans ((dif_pos h1).trans ((dif_neg h2).trans ((dif_neg h3).trans rfl)))

set_option maxHeartbeats 4000000 in
/-- `outsAt0` at a point of case B: that case's contents, over what the point before left. -/
theorem outsAt0_B (hO : Ok m) (c : Dev nD) (t : Fin (cfgM m hO).N) (h0 : ¬t.val % 17 = 0) (h1 : ¬t.val % 17 = 0) (h2 : 1 ≤ t.val % 17) (h3 : ¬t.val % 17 = 16) :
    outsAt0 m hO c t.val t.isLt = (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

set_option maxHeartbeats 4000000 in
/-- `outsAt0` at a point of case C: that case's contents, over what the point before left. -/
theorem outsAt0_C (hO : Ok m) (c : Dev nD) (t : Fin (cfgM m hO).N) (h0 : ¬t.val % 17 = 0) (h1 : ¬t.val % 17 = 0) (h2 : 1 ≤ t.val % 17) (h3 : t.val % 17 = 16) :
    outsAt0 m hO c t.val t.isLt = (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 2176 := lt_of_lt_of_eq t.isLt (show (cfgM m hO).N = 2176 from N_0)
  by_cases h0 : t.val % 17 = 0
  · by_cases h1 : t.val % 17 = 0
    · by_cases h2 : 1 ≤ t.val % 17
      · exfalso; omega
      · by_cases h3 : t.val % 17 = 16
        · exfalso; omega
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          rw [show (dats m hO 0 c).leavesExact 4 t = owns (c : Thread nD τ) (ms0_4 m hO t) fullShare ((dats m hO 0 c).after 4 t) from by
      unfold Dat.leavesExact; rw [liveAt0_4 m hO t]; try rfl, after0_4]
          rw [Dat.leavesExact_idle (dats m hO 0 c) 5 t (idleAt0_5_A m hO t ((hcond0_0 t).mpr h0) ((hcond0_1 t).mpr h1) (fun h => h2 ((hcond0_2 t).mp h)) (fun h => h3 ((hcond0_3 t).mp h))) (noFlush0_5_A m hO t ((hcond0_0 t).mpr h0) ((hcond0_1 t).mpr h1) (fun h => h2 ((hcond0_2 t).mp h)) (fun h => h3 ((hcond0_3 t).mp h)))]
          by_cases hz : t.val = 0
          · rw [PhiS_castSucc m hO c t, PhiS_zero m hO c _ _ hz, PhiT0_eq, PhiA0_eq]
            rw [outsAt0_A m hO c t h0 h1 h2 h3]
            unfold sout0_A_0 sout0_A_1; (try dsimp only)
            iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ ((hcond0_0 t).mpr h0) ((hcond0_1 t).mpr h1) (fun h => h2 ((hcond0_2 t).mp h)) (fun h => h3 ((hcond0_3 t).mp h)) (iblk m hO c 0 t) (iblk m hO c 1 t) (iblk m hO c 2 t) (iblk m hO c 3 t) (iblk m hO c 4 t) (tbl m 0)).2.2.2 _ Set.univ _)
            isplitl [H0]; · iexact H0
            isplitl [H1]; · iexact H1
            isplitl [H2]; · iexact H2
            isplitl [H3]; · iexact H3
            isplitl [H4]; · iexact H4
            isplitl [H5]; · iexact H5
            isplitl [HS0]; · iexact HS0
            isplitl [HS1]; · iexact HS1
            isplitl [HT0]; · iexact HT0
            iintro ⟨H0, H1, H2, H3, H4, H5, ⟨%es0, HS0⟩, ⟨%es1, HS1⟩, HT0⟩
            isplitl [HS0 HS1 Hg HT0]
            · isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                iexact Hg
              iexact HT0
            isplitl [Ho]; · iexact Ho
            isplitl [H0]; · iexact H0
            isplitl [H1]; · iexact H1
            isplitl [H2]; · iexact H2
            isplitl [H3]; · iexact H3
            isplitl [H4]; · iexact H4
            iexists _; iexact H5
          · rw [PhiS_castSucc m hO c t, PhiS_pos m hO c _ _ hz, PhiT0_eq]
            rw [outsAt0_A m hO c t h0 h1 h2 h3]
            unfold sout0_A_0 sout0_A_1; (try dsimp only)
            iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ ((hcond0_0 t).mpr h0) ((hcond0_1 t).mpr h1) (fun h => h2 ((hcond0_2 t).mp h)) (fun h => h3 ((hcond0_3 t).mp h)) (iblk m hO c 0 t) (iblk m hO c 1 t) (iblk m hO c 2 t) (iblk m hO c 3 t) (iblk m hO c 4 t) (tbl m 0)).2.2.2 _ Set.univ _)
            isplitl [H0]; · iexact H0
            isplitl [H1]; · iexact H1
            isplitl [H2]; · iexact H2
            isplitl [H3]; · iexact H3
            isplitl [H4]; · iexact H4
            isplitl [H5]; · iexact H5
            isplitl [HS0]; · iexists _; iexact HS0
            isplitl [HS1]; · iexists _; iexact HS1
            isplitl [HT0]; · iexact HT0
            iintro ⟨H0, H1, H2, H3, H4, H5, ⟨%es0, HS0⟩, ⟨%es1, HS1⟩, HT0⟩
            isplitl [HS0 HS1 Hg HT0]
            · isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                iexact Hg
              iexact HT0
            isplitl [Ho]; · iexact Ho
            isplitl [H0]; · iexact H0
            isplitl [H1]; · iexact H1
            isplitl [H2]; · iexact H2
            isplitl [H3]; · iexact H3
            isplitl [H4]; · iexact H4
            iexists _; iexact H5
    · exfalso; omega
  · by_cases h1 : t.val % 17 = 0
    · exfalso; omega
    · by_cases h2 : 1 ≤ t.val % 17
      · by_cases h3 : t.val % 17 = 16
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          rw [show (dats m hO 0 c).leavesExact 4 t = owns (c : Thread nD τ) (ms0_4 m hO t) fullShare ((dats m hO 0 c).after 4 t) from by
      unfold Dat.leavesExact; rw [liveAt0_4 m hO t]; try rfl, after0_4]
          rw [show (dats m hO 0 c).leavesExact 5 t = owns (c : Thread nD τ) (ms0_5 m hO t) fullShare ((dats m hO 0 c).after 5 t) from by
      unfold Dat.leavesExact; rw [liveAt0_5_C m hO t (fun h => h0 ((hcond0_0 t).mp h)) (fun h => h1 ((hcond0_1 t).mp h)) ((hcond0_2 t).mpr h2) ((hcond0_3 t).mpr h3)]; try rfl, after0_5]
          by_cases hz : t.val = 0
          · exfalso; have hN : t.val < 2176 := lt_of_lt_of_eq t.isLt (show (cfgM m hO).N = 2176 from N_0); omega
          · rw [PhiS_castSucc m hO c t, PhiS_pos m hO c _ _ hz, PhiT0_eq]
            rw [outsAt0_C m hO c t h0 h1 h2 h3]
            unfold out0_C_5 sout0_C_0 sout0_C_1; (try dsimp only)
            iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ _ _ (fun h => h0 ((hcond0_0 t).mp h)) (fun h => h1 ((hcond0_1 t).mp h)) ((hcond0_2 t).mpr h2) ((hcond0_3 t).mpr h3) (iblk m hO c 0 t) (iblk m hO c 1 t) (iblk m hO c 2 t) (iblk m hO c 3 t) (iblk m hO c 4 t) (tbl m 0) _ _).2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            isplitl [HS1]; · iexact HS1
            isplitl [HT0]; · iexact HT0
            iintro ⟨H0, H1, H2, H3, H4, ⟨%e5, H5⟩, ⟨%es0, HS0⟩, ⟨%es1, HS1⟩, HT0⟩
            isplitl [HS0 HS1 Hg HT0]
            · isplitl [HS0 HS1 Hg]
              · isplitl [HS0 HS1]
                · isplitl [HS0]
                  · unfold owns; iexists _; isplitr
                    swap; · iexact HS0
                    ipureintro; exact View.read_writes_of_cover _ _ _ _ _ (scover0_C_0 c _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _)
                iexact Hg
              iexact HT0
            isplitl [Ho]; · iexact Ho
            isplitl [H0]; · iexact H0
            isplitl [H1]; · iexact H1
            isplitl [H2]; · iexact H2
            isplitl [H3]; · iexact H3
            isplitl [H4]; · iexact H4
            unfold owns; iexists _; isplitr
            swap; · iexact H5
            ipureintro; exact View.read_writes_of_cover _ _ _ _ _ (cover0_C_5 c _ _ _ _ _ _ _ _ _ _ _ _ _ _ _ _ _ _ _ _ _ _ _ _ _ _ _ _ _)
        · rw [show (dats m hO 0 c).leavesExact 0 t = owns (c : Thread nD τ) (ms0_0 m hO t) fullShare ((dats m hO 0 c).after 0 t) from by
      unfold Dat.leavesExact; rw [liveAt0_0 m hO t]; try rfl, after0_0]
          rw [show (dats m hO 0 c).leavesExact 1 t = owns (c : Thread nD τ) (ms0_1 m hO t) fullShare ((dats m hO 0 c).after 1 t) from by
      unfold Dat.leavesExact; rw [liveAt0_1 m hO t]; try rfl, after0_1]
          rw [show (dats m hO 0 c).leavesExact 2 t = owns (c : Thread nD τ) (ms0_2 m hO t) fullShare ((dats m hO 0 c).after 2 t) from by
      unfold Dat.leavesExact; rw [liveAt0_2 m hO t]; try rfl, after0_2]
          rw [show (dats m hO 0 c).leavesExact 3 t = owns (c : Thread nD τ) (ms0_3 m hO t) fullShare ((dats m hO 0 c).after 3 t) from by
      unfold Dat.leavesExact; rw [liveAt0_3 m hO t]; try rfl, after0_3]
          rw [show (dats m hO 0 c).leavesExact 4 t = owns (c : Thread nD τ) (ms0_4 m hO t) fullShare ((dats m hO 0 c).after 4 t) from by
      unfold Dat.leavesExact; rw [liveAt0_4 m hO t]; try rfl, after0_4]
          rw [Dat.leavesExact_idle (dats m hO 0 c) 5 t (idleAt0_5_B m hO t (fun h => h0 ((hcond0_0 t).mp h)) (fun h => h1 ((hcond0_1 t).mp h)) ((hcond0_2 t).mpr h2) (fun h => h3 ((hcond0_3 t).mp h))) (noFlush0_5_B m hO t (fun h => h0 ((hcond0_0 t).mp h)) (fun h => h1 ((hcond0_1 t).mp h)) ((hcond0_2 t).mpr h2) (fun h => h3 ((hcond0_3 t).mp h)))]
          by_cases hz : t.val = 0
          · exfalso; have hN : t.val < 2176 := lt_of_lt_of_eq t.isLt (show (cfgM m hO).N = 2176 from N_0); omega
          · rw [PhiS_castSucc m hO c t, PhiS_pos m hO c _ _ hz, PhiT0_eq]
            rw [outsAt0_B m hO c t h0 h1 h2 h3]
            unfold sout0_B_0 sout0_B_1; (try dsimp only)
            iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m hO c 0 t) (iblk m hO c 1 t) (iblk m hO c 2 t) (iblk m hO c 3 t) (iblk m hO c 4 t) (tbl m 0) _ _).2.2.2 _ Set.univ _)
            isplitl [H0]; · iexact H0
            isplitl [H1]; · iexact H1
            isplitl [H2]; · iexact H2
            isplitl [H3]; · iexact H3
            isplitl [H4]; · iexact H4
            isplitl [H5]; · iexact H5
            isplitl [HS0]; · iexact HS0
            isplitl [HS1]; · iexact HS1
            isplitl [HT0]; · iexact HT0
            iintro ⟨H0, H1, H2, H3, H4, H5, ⟨%es0, HS0⟩, ⟨%es1, HS1⟩, HT0⟩
            isplitl [HS0 HS1 Hg HT0]
            · isplitl [HS0 HS1 Hg]
              · isplitl [HS0 HS1]
                · isplitl [HS0]
                  · unfold owns; iexists _; isplitr
                    swap; · iexact HS0
                    ipureintro; exact View.read_writes_of_cover _ _ _ _ _ (scover0_B_0 c _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _)
                iexact Hg
              iexact HT0
            isplitl [Ho]; · iexact Ho
            isplitl [H0]; · iexact H0
            isplitl [H1]; · iexact H1
            isplitl [H2]; · iexact H2
            isplitl [H3]; · iexact H3
            isplitl [H4]; · iexact H4
            iexists _; iexact H5
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 2176 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- The frame, for every table whose blocks lie inside their arrays: the program ends without fault, its arguments
    unchanged and its counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.StickIdeal.Gen

end
-- ==== Proof.Stick.Table.lean ====
/-
  The page table: what the precondition says of it, and the side condition of the window whose block the table names,
  for the sample attention's program and for its idealization.
-/
module

public import proofs.«01_k».proof.Defs
public import proofs.«01_k».proof.Proof.Stick.FrameBits
public import proofs.«01_k».proof.Proof.Stick.FrameIdeal
public import proofs.«01_k».proof.Proof.Gen.Pre_pages_ok
public import Idealize.ShloMosaic.Lib.ReduceAll
public import Idealize.ShloMosaic.Lib.ValueIdxCore

@[expose] public section

set_option maxRecDepth 16384

noncomputable section

open Idealize.ShloMosaic Idealize.ShloMosaic.TcCoe Idealize.ShloMosaic.ValueIdx

namespace Cert.Proof.Pages

/-- A 32-bit word that is at least 0 and below 2560 as a signed number is below 2560 as a natural number. -/
theorem toNat_lt_of_signed {w : BitVec 32} (h0 : (0 : Int) ≤ w.toInt) (h8 : w.toInt < 2560) : w.toNat < 2560 := by
  rw [BitVec.toInt_eq_toNat_cond] at h0 h8
  split at h0 <;> split at h8 <;> omega

/-- The precondition, read at one entry: it names one of the 2560 pages. -/
theorem entry_lt {F : FTy → Type} [FloatOps F]
    (x0 : FVec F Cert.Pre_pages_ok.S128x4x3x16x64 .f32) (x1 : FVec F Cert.Pre_pages_ok.S2560x128x2x16x64 .f32)
    (x2 : IVec Cert.Pre_pages_ok.S128x16 32)
    (h : Cert.Pre_pages_ok.fn x0 x1 x2 = fun _ => 1#1) (i : Cert.Pre_pages_ok.S128x16.Idx) :
    (x2 i).toNat < 2560 := by
  have h' := congrFun h ix0
  dsimp only [Cert.Pre_pages_ok.fn] at h'
  have hs : Subsingleton Cert.Pre_pages_ok.S_.Idx := ⟨fun a b => funext fun d => d.elim0⟩
  have hi := Host.reduce_andi_all _ _ _ _ _ h' i
  have hb : (IntOp.cmpi .sge (x2 i) 0#32) &&& (IntOp.cmpi .slt (x2 i) 2560#32) = 1#1 := hi
  have h2 : IntOp.cmpi .sge (x2 i) 0#32 = 1#1 ∧ IntOp.cmpi .slt (x2 i) 2560#32 = 1#1 := by
    revert hb
    generalize IntOp.cmpi .sge (x2 i) 0#32 = p
    generalize IntOp.cmpi .slt (x2 i) 2560#32 = q
    revert p q; decide
  exact toNat_lt_of_signed (by simpa using IntOp.cmpi_sge.mp h2.1) (by simpa using IntOp.cmpi_slt.mp h2.2)

end Cert.Proof.Pages

namespace Cert.Stick.Pages

open Cert.Stick Cert.Stick.Gen

variable {F : FTy → Type} [FloatOps F] (m : (ℓ : Loc nD τ sig) → Buf (Elt F) ℓ)

/-- If every entry of the table names one of the 2560 pages, every block the table names lies inside the cache. -/
theorem ok_of_lt (h : ∀ i : S128x16.Idx, ((m ((0 : Dev nD).tc.loc main_arg2) : IVec S128x16 32) i).toNat < 2560) : Ok m := by
  have ht : ∀ i, (tbl m 0 i : BitVec 32).toNat < 2560 := fun i => by
    have := V_main_arg2 m 0
    show (V m 0 main_arg2 i : BitVec 32).toNat < 2560
    rw [this]; exact h i
  refine fun i => ⟨fun a => ?_, Or.inl rfl⟩
  match a with
  | 0 => exact Nat.mul_le_mul_right 1 (ht _)
  | 1 => exact Nat.le_of_eq rfl
  | 2 => exact Nat.le_of_eq rfl
  | 3 => exact Nat.le_of_eq rfl
  | 4 => exact Nat.le_of_eq rfl

end Cert.Stick.Pages

namespace Cert.StickIdeal.Pages

open Cert.StickIdeal Cert.StickIdeal.Gen

variable {F : FTy → Type} [FloatOps F] (m : (ℓ : Loc nD τ sig) → Buf (Elt F) ℓ)

/-- If every entry of the table names one of the 2560 pages, every block the table names lies inside the cache. -/
theorem ok_of_lt (h : ∀ i : S128x16.Idx, ((m ((0 : Dev nD).tc.loc main_arg2) : IVec S128x16 32) i).toNat < 2560) : Ok m := by
  have ht : ∀ i, (tbl m 0 i : BitVec 32).toNat < 2560 := fun i => by
    have := V_main_arg2 m 0
    show (V m 0 main_arg2 i : BitVec 32).toNat < 2560
    rw [this]; exact h i
  refine fun i => ⟨fun a => ?_, Or.inl rfl⟩
  match a with
  | 0 => exact Nat.mul_le_mul_right 1 (ht _)
  | 1 => exact Nat.le_of_eq rfl
  | 2 => exact Nat.le_of_eq rfl
  | 3 => exact Nat.le_of_eq rfl
  | 4 => exact Nat.le_of_eq rfl

end Cert.StickIdeal.Pages
-- ==== Proof.Stick.Math.lean ====
/-
  Stick-breaking attention of one query row, as mathematics over the extended reals: the log share a position leaves
  for the earlier ones, the sum of log shares from a position on, the weight of a position — and the sums of the kernel's
  tiles, taken from the last position to the first.
-/
module

public import Idealize.ShloMosaic.Lib.MatmulPlain
public import Idealize.ShloMosaic.Lib.IdealHost
public import Idealize.ShloMosaic.Lib.ValueIdx
public import Idealize.ShloMosaic.Lib.Pipeline.Value

@[expose] public section

noncomputable section

open Idealize.ShloMosaic
open scoped BigOperators

namespace Cert.Stickbreak

/-- `log (1 + exp z)`, spelled without overflow. -/
def soft (z : EReal) : EReal := max z 0 + Ideal.log (1 + Ideal.exp (0 - max z (-z)))

/-- The log of the share a position with score `z` leaves: `-log (1 + exp z)`. -/
def left (z : EReal) : EReal := 0 - soft z

/-- The sum of `f` over the positions from `p` on; the kernel's tiles reach to 2176. -/
def tail (f : ℕ → EReal) (p : ℕ) : EReal := ∑ i ∈ Finset.Ico p 2176, f i

/-- `f` at the positions below `n`, zero from there on. -/
def keep (n : ℕ) (f : ℕ → EReal) (i : ℕ) : EReal := if i < n then f i else 0

/-- The weight of position `i` for a query that sees `n` positions with scores `z`. -/
def weight (n : ℕ) (z : ℕ → EReal) (i : ℕ) : EReal :=
  if i < n then Ideal.exp (z i + tail (keep n fun k => left (z k)) i) else 0

/-- The query's result in one column, its values `v`. -/
def attend (n : ℕ) (z v : ℕ → EReal) : EReal := tail (fun i => weight n z i * v i) 0

theorem soft_coe (r : ℝ) : soft (r : EReal) = ((max r 0 + Real.log (1 + Real.exp (0 - max r (-r))) : ℝ) : EReal) := by
  have h1 : max (r : EReal) (-(r : EReal)) = ((max r (-r) : ℝ) : EReal) := by
    rw [← EReal.coe_neg]; exact (EReal.coe_strictMono.monotone.map_max).symm
  have h2 : max (r : EReal) 0 = ((max r 0 : ℝ) : EReal) := by
    rw [← EReal.coe_zero]; exact (EReal.coe_strictMono.monotone.map_max).symm
  unfold soft
  rw [h1, h2, ← EReal.coe_zero, ← EReal.coe_sub]
  show _ + Ideal.log (1 + ((Real.exp (0 - max r (-r)) : ℝ) : EReal)) = _
  rw [← EReal.coe_one, ← EReal.coe_add]
  have hp : ¬ (1 + Real.exp (0 - max r (-r)) ≤ 0) := not_le.mpr (by positivity)
  show _ + (if 1 + Real.exp (0 - max r (-r)) ≤ 0 then (⊥ : EReal) else ((Real.log (1 + Real.exp (0 - max r (-r))) : ℝ) : EReal)) = _
  rw [if_neg hp, ← EReal.coe_add]

theorem log_one : Ideal.log (1 + 0) = 0 := by
  rw [add_zero, ← EReal.coe_one]
  show (if (1 : ℝ) ≤ 0 then (⊥ : EReal) else ((Real.log 1 : ℝ) : EReal)) = 0
  rw [if_neg (by norm_num), Real.log_one, EReal.coe_zero]

theorem soft_top : soft ⊤ = ⊤ := by
  unfold soft
  rw [EReal.neg_top, max_eq_left bot_le, max_eq_left le_top, EReal.sub_top]
  show ⊤ + Ideal.log (1 + 0) = ⊤
  rw [log_one, add_zero]

theorem soft_bot : soft ⊥ = 0 := by
  unfold soft
  rw [EReal.neg_bot, max_eq_right bot_le, max_eq_right bot_le, EReal.sub_top]
  show 0 + Ideal.log (1 + 0) = 0
  rw [log_one, add_zero]

theorem left_coe (r : ℝ) : ∃ l : ℝ, left (r : EReal) = (l : EReal) ∧ -(soft (-(r : EReal))) = ((r + l : ℝ) : EReal) := by
  refine ⟨_, by unfold left; rw [soft_coe, ← EReal.coe_zero, ← EReal.coe_sub], ?_⟩
  rw [← EReal.coe_neg, soft_coe, ← EReal.coe_neg, neg_neg, max_comm (-r) r]
  congr 1
  rcases le_total r 0 with h | h
  · rw [max_eq_left (by linarith : (0 : ℝ) ≤ -r), max_eq_right h]; ring
  · rw [max_eq_right (by linarith : -r ≤ (0 : ℝ)), max_eq_left h]; ring

theorem left_top : left ⊤ = ⊥ := by unfold left; rw [soft_top, EReal.sub_top]
theorem left_bot : left ⊥ = 0 := by unfold left; rw [soft_bot, sub_zero]

theorem left_ne_top (z : EReal) : left z ≠ ⊤ := by
  induction z using EReal.rec with
  | bot => rw [left_bot]; exact EReal.zero_ne_top
  | top => rw [left_top]; exact bot_ne_top
  | coe r => obtain ⟨l, h, _⟩ := left_coe r; rw [h]; exact EReal.coe_ne_top l

/-- A number below `⊤` and the rest a rounding leaves of it add up to it. -/
theorem add_sub_self' (x : EReal) (h : x ≠ ⊤) : x + (x - x) = x := by
  induction x using EReal.rec with
  | bot => rfl
  | top => exact absurd rfl h
  | coe r => rw [← EReal.coe_sub, sub_self, EReal.coe_zero, add_zero]

/-- The weight as the reference spells it: the log sigmoid of the score, plus the inclusive sum less the own share. -/
theorem exp_key (z S : EReal) : Ideal.exp (-(soft (-z)) + ((left z + S) - left z)) = Ideal.exp (z + (left z + S)) := by
  induction z using EReal.rec with
  | bot =>
    rw [EReal.neg_bot, soft_top, EReal.neg_top, EReal.bot_add, EReal.bot_add]
  | top =>
    rw [EReal.neg_top, soft_bot, left_top, EReal.bot_add, EReal.add_bot]
    show Ideal.exp (-0 + (⊥ + - ⊥)) = _
    rw [EReal.bot_add, EReal.add_bot]
  | coe r =>
    obtain ⟨l, hl, hs⟩ := left_coe r
    rw [hl, hs]
    congr 1
    rw [EReal.coe_add, add_assoc]
    congr 1
    rw [sub_eq_add_neg, add_comm (l : EReal) S, add_assoc, ← sub_eq_add_neg, ← EReal.coe_sub, sub_self, EReal.coe_zero, add_zero, add_comm]

/-- From a position on: its own member, then the rest. -/
theorem tail_succ (f : ℕ → EReal) (p : ℕ) (h : p < 2176) : tail f p = f p + tail f (p + 1) := by
  unfold tail
  rw [Finset.sum_eq_sum_Ico_succ_bot h]

theorem tail_end (f : ℕ → EReal) : tail f 2176 = 0 := by unfold tail; rw [Finset.Ico_self, Finset.sum_empty]

/-- One tile of 128 positions further down. -/
theorem tail_tile (f : ℕ → EReal) (n : ℕ) (h : n + 128 ≤ 2176) : tail f n = (∑ k : Fin 128, f (n + k.val)) + tail f (n + 128) := by
  unfold tail
  rw [← Finset.sum_Ico_consecutive f (Nat.le_add_right n 128) h, Finset.sum_Ico_eq_sum_range f n (n + 128),
    Nat.add_sub_cancel_left, ← Fin.sum_univ_eq_sum_range (fun i => f (n + i)) 128]

/-- The part of a tile from its lane `l` on, with the tiles behind it. -/
theorem tail_lane (f : ℕ → EReal) (n : ℕ) (h : n + 128 ≤ 2176) (l : Fin 128) :
    tail f (n + l.val) = (∑ k : Fin 128, if l.val ≤ k.val then f (n + k.val) else 0) + tail f (n + 128) := by
  have hl := l.isLt
  have e := tail_tile (fun i => if n + l.val ≤ i then f i else 0) n h
  have e1 : tail (fun i => if n + l.val ≤ i then f i else 0) n = tail f (n + l.val) := by
    unfold tail
    rw [← Finset.sum_Ico_consecutive _ (Nat.le_add_right n l.val) (by omega : n + l.val ≤ 2176),
      Finset.sum_eq_zero fun i hi => if_neg (by have := (Finset.mem_Ico.mp hi).2; omega), zero_add]
    exact Finset.sum_congr rfl fun i hi => if_pos (Finset.mem_Ico.mp hi).1
  have e2 : tail (fun i => if n + l.val ≤ i then f i else 0) (n + 128) = tail f (n + 128) := by
    unfold tail
    exact Finset.sum_congr rfl fun i hi => if_pos (by have := (Finset.mem_Ico.mp hi).1; omega)
  rw [e1, e2] at e
  rw [e]
  refine congrArg (· + _) (Finset.sum_congr rfl fun k _ => ?_)
  exact if_congr (by omega) rfl rfl

/-- The 2052 positions of the sequence, from `p` on. -/
theorem sum_seq (f : ℕ → EReal) (p : ℕ) (hp : p ≤ 2052) (hf : ∀ i, 2052 ≤ i → f i = 0) : ∑ i ∈ Finset.Ico p 2052, f i = tail f p := by
  unfold tail
  rw [← Finset.sum_Ico_consecutive f hp (by omega : 2052 ≤ 2176),
    Finset.sum_eq_zero (s := Finset.Ico 2052 2176) fun i hi => hf i (Finset.mem_Ico.mp hi).1, add_zero]

theorem sum_all (f : ℕ → EReal) (hf : ∀ i, 2052 ≤ i → f i = 0) : ∑ i : Fin 2052, f i.val = tail f 0 := by
  rw [Fin.sum_univ_eq_sum_range f 2052, Finset.range_eq_Ico, sum_seq f 0 (Nat.zero_le _) hf]

/-- A factor that is a real number and not negative goes inside a sum. -/
theorem sum_mul_real {ι : Type} (s : Finset ι) (f : ι → EReal) (x : EReal) (h0 : 0 ≤ x) (h1 : x ≠ ⊤) :
    (∑ i ∈ s, f i) * x = ∑ i ∈ s, f i * x := by
  classical
  induction s using Finset.induction_on with
  | empty => rw [Finset.sum_empty, Finset.sum_empty, zero_mul]
  | insert a s ha ih => rw [Finset.sum_insert ha, Finset.sum_insert ha, EReal.right_distrib_of_nonneg_of_ne_top h0 h1, ih]

/-- A sum over 1024 columns that vanishes outside head `h`. -/
theorem sum_head (g : Fin 1024 → EReal) (h : Fin 16) (hg : ∀ c : Fin 1024, c.val / 64 ≠ h.val → g c = 0) :
    ∑ c, g c = ∑ d : Fin 64, g ⟨h.val * 64 + d.val, by have := h.isLt; have := d.isLt; omega⟩ := by
  rw [← Equiv.sum_comp (finProdFinEquiv (m := 16) (n := 64)) g, Fintype.sum_prod_type, Finset.sum_eq_single h]
  · refine Finset.sum_congr rfl fun d _ => congrArg g (Fin.ext ?_)
    show d.val + 64 * h.val = h.val * 64 + d.val
    omega
  · intro b _ hb
    refine Finset.sum_eq_zero fun d _ => hg _ ?_
    show (d.val + 64 * b.val) / 64 ≠ h.val
    have := d.isLt
    have : b.val ≠ h.val := fun e => hb (Fin.ext e)
    omega
  · exact fun hn => absurd (Finset.mem_univ _) hn

/-- A sum over 256 rows, as two halves. -/
theorem sum_halves (g : Fin 256 → EReal) :
    ∑ k, g k = (∑ k : Fin 128, g ⟨k.val, by have := k.isLt; omega⟩) + ∑ k : Fin 128, g ⟨128 + k.val, by have := k.isLt; omega⟩ :=
  (Fin.sum_univ_add (a := 128) (b := 128) g).trans rfl

/-- The rounded log shares and their rests, summed with the same 0-1 factors, are the log shares' sum. -/
theorem sum_parts (f : Fin 128 → EReal) (hf : ∀ k, f k ≠ ⊤) (P : Fin 128 → Prop) [DecidablePred P] :
    (∑ k, f k * (if P k then 1 else 0)) + (∑ k, (f k - f k) * (if P k then 1 else 0)) = ∑ k, if P k then f k else 0 := by
  rw [← Finset.sum_add_distrib]
  refine Finset.sum_congr rfl fun k _ => ?_
  by_cases h : P k
  · rw [if_pos h, if_pos h, mul_one, mul_one, add_sub_self' _ (hf k)]
  · rw [if_neg h, if_neg h, mul_zero, mul_zero, add_zero]

/-- The own head's column of a row, picked out of the 1024 columns. -/
theorem sum_pick (a : Fin 1024 → EReal) (h : Fin 16) (d : Fin 64) :
    ∑ c : Fin 1024, (if h.val = c.val / 64 then a c else 0) * (if c.val % 64 = d.val then 1 else 0)
      = a ⟨h.val * 64 + d.val, by have := h.isLt; have := d.isLt; omega⟩ := by
  rw [sum_head _ h fun c hc => by rw [if_neg (Ne.symm hc), zero_mul], Finset.sum_eq_single d]
  · have := d.isLt
    rw [if_pos (by show h.val = (h.val * 64 + d.val) / 64; omega), if_pos (by show (h.val * 64 + d.val) % 64 = d.val; omega), mul_one]
  · intro b _ hb
    have := b.isLt
    rw [if_neg (show ¬ (h.val * 64 + b.val) % 64 = d.val from fun e => hb (Fin.ext (by omega))), mul_zero]
  · exact fun hn => absurd (Finset.mem_univ _) hn

section Layer

variable (x : Fin 128 → Fin 4 → Fin 3 → Fin 16 → Fin 64 → EReal) (ch : Fin 2560 → Fin 128 → Fin 2 → Fin 16 → Fin 64 → EReal)
  (pg : Fin 128 → Fin 16 → ℕ)

/-- The key (`e = 0`) or value (`e = 1`) of sequence `b` at position `i`, column `d` of head `h`: from the page the table
    names below 2048, from the new tokens from there on. -/
def kv (e : Fin 2) (b : Fin 128) (h : Fin 16) (d : Fin 64) (i : ℕ) : EReal :=
  if i < 2048 then ch ⟨pg b ⟨i / 128 % 16, Nat.mod_lt _ (by decide)⟩ % 2560, Nat.mod_lt _ (by decide)⟩ ⟨i % 128, Nat.mod_lt _ (by decide)⟩ e h d
  else if i < 2052 then x b ⟨i % 4, Nat.mod_lt _ (by decide)⟩ ⟨1 + e.val, by have := e.isLt; omega⟩ h d else 0

/-- The score of position `i` for the query of sequence `b`, new token `t`, head `h`. -/
def score (b : Fin 128) (t : Fin 4) (h : Fin 16) (i : ℕ) : EReal :=
  (∑ d : Fin 64, x b t 0 h d * kv x ch pg 0 b h d i) * (((1 : ℝ) / 8 : ℝ) : EReal)

/-- The attention's result: token `t` sees the pages' 2048 positions and the new tokens before it. -/
def stick (b : Fin 128) (t : Fin 4) (h : Fin 16) (d : Fin 64) : EReal :=
  attend (2048 + t.val) (score x ch pg b t h) (kv x ch pg 1 b h d)

end Layer

theorem eighth_nonneg : (0 : EReal) ≤ (((1 : ℝ) / 8 : ℝ) : EReal) := EReal.coe_nonneg.mpr (by norm_num)
theorem eighth_ne_top : (((1 : ℝ) / 8 : ℝ) : EReal) ≠ ⊤ := EReal.coe_ne_top _

/-- The scaled queries on their head's columns, times the keys' columns: the scaled product of the head. -/
theorem sum_query (q k : Fin 1024 → EReal) (u v : Fin 64 → EReal) (h : Fin 16)
    (hq : ∀ c : Fin 1024, q c = u ⟨c.val % 64, Nat.mod_lt _ (by decide)⟩ * (((1 : ℝ) / 8 : ℝ) : EReal) * (if h.val = c.val / 64 then (1 : EReal) else 0))
    (hk : ∀ c : Fin 1024, c.val / 64 = h.val → k c = v ⟨c.val % 64, Nat.mod_lt _ (by decide)⟩) :
    ∑ c, q c * k c = (∑ d, u d * v d) * (((1 : ℝ) / 8 : ℝ) : EReal) := by
  rw [sum_head _ h fun c hc => by rw [hq, if_neg (Ne.symm hc), mul_zero, zero_mul], sum_mul_real _ _ _ eighth_nonneg eighth_ne_top]
  refine Finset.sum_congr rfl fun d _ => ?_
  have hd := d.isLt
  have e1 : (⟨(h.val * 64 + d.val) % 64, Nat.mod_lt _ (by decide)⟩ : Fin 64) = d := Fin.ext (by show (h.val * 64 + d.val) % 64 = d.val; omega)
  have e2 : (h.val * 64 + d.val) / 64 = h.val := by omega
  rw [hq, hk _ e2, if_pos e2.symm, mul_one, mul_right_comm]
  dsimp only
  rw [e1]

end Cert.Stickbreak

end
-- ==== Proof.Stick.Cases.lean ====
/-
  What one grid point of the sample attention leaves in its two scratch buffers and in its output block: the three cases
  of the generated certificate, read off as the kernel's own stored values.
-/
module

public import proofs.«01_k».proof.Proof.Stick.FrameIdeal
public import Idealize.ShloMosaic.Lib.Pipeline.Value
public import Idealize.ShloMosaic.Lib.Tactic

@[expose] public section

set_option maxRecDepth 16384

noncomputable section

namespace Cert.StickIdeal.Attn

open Cert.StickIdeal Cert.StickIdeal.Gen
open Idealize.ShloMosaic Idealize.ShloMosaic.TcCoe Idealize.SL.Sem Idealize.ShloMosaic.Tactic

variable {F : FTy → Type} [FloatOps F]

/-- The zero offsets of a two-axis rectangle. -/
theorem hz2 : (![0, 0] : Fin 2 → Nat) = fun _ => 0 := funext fun k => by fin_cases k <;> rfl
/-- The zero offsets of a three-axis rectangle. -/
theorem hz3 : (![0, 0, 0] : Fin 3 → Nat) = fun _ => 0 := funext fun k => by fin_cases k <;> rfl

/-- The new tokens' keys and values in their block. -/
abbrev newK (x : Vec F S1x2x1024x128 .bf16) : Vec F S1x1x1024x128 .bf16 :=
  View.ld x (Rect.unit (s := S1x2x1024x128) ![0, 0, 0, 0] S1x1x1024x128.size inb_S1x2x1024x128_S1x1x1024x128_0_0_0_0)
abbrev newV (x : Vec F S1x2x1024x128 .bf16) : Vec F S1x1x1024x128 .bf16 :=
  View.ld x (Rect.unit (s := S1x2x1024x128) ![0, 1, 0, 0] S1x1x1024x128.size inb_S1x2x1024x128_S1x1x1024x128_0_1_0_0)
/-- A page's keys and values in its block. -/
abbrev oldK (x : Vec F S1x2x16x64x128 .f32) : Vec F S1x1x16x64x128 .f32 :=
  View.ld x (Rect.unit (s := S1x2x16x64x128) ![0, 0, 0, 0, 0] S1x1x16x64x128.size inb_S1x2x16x64x128_S1x1x16x64x128_0_0_0_0_0)
abbrev oldV (x : Vec F S1x2x16x64x128 .f32) : Vec F S1x1x16x64x128 .f32 :=
  View.ld x (Rect.unit (s := S1x2x16x64x128) ![0, 1, 0, 0, 0] S1x1x16x64x128.size inb_S1x2x16x64x128_S1x1x16x64x128_0_1_0_0_0)

section Cases

variable (c : Dev nD) (i : grid0.Coords)
  (a3 : Memref sig .tc .vmem S1x64x1024 .bf16) (h3 : a3.IsWhole)
  (a4 : Memref sig .tc .vmem S1x2x16x64x128 .f32) (h4 : a4.IsWhole)
  (a5 : Memref sig .tc .vmem S1x2x1024x128 .bf16) (h5 : a5.IsWhole)
  (a6 : Memref sig .tc .vmem S256x256 .bf16) (h6 : a6.IsWhole)
  (a7 : Memref sig .tc .vmem S1024x64 .f32) (h7 : a7.IsWhole)
  (a8 : Memref sig .tc .vmem S1x64x64 .f32) (h8 : a8.IsWhole)
  (a9 : Memref sig .tc .vmem S64x1024 .f32) (h9 : a9.IsWhole)
  (a10 : Memref sig .tc .vmem S64x128 .f32) (h10 : a10.IsWhole)
  (x0 : Vec F S1x64x1024 .bf16) (x1 : Vec F S1x2x16x64x128 .f32) (x2 : Vec F S1x2x1024x128 .bf16) (x3 : Vec F S256x256 .bf16)
  (x4 : Vec F S1024x64 .f32) (t0 : TbBuf0 (F := F) c tbM0_0) (xs0 : Vec F S64x1024 .f32) (xs1 : Vec F S64x128 .f32)

/-- The first point: the new tokens' weighted values, added to zeros. -/
theorem sout0_A_0_eq (hc0 : cond0_0 i) (hc1 : cond0_1 i) (hc2 : ¬cond0_2 i) (hc3 : ¬cond0_3 i) :
    sout0_A_0 c i a3 h3 a4 h4 a5 h5 a6 h6 a7 h7 a8 h8 a9 h9 a10 h10 hc0 hc1 hc2 hc3 x0 x1 x2 x3 x4 t0 =
      k0_pay5 (k0_pay9 (newV x2)) k0_pay10 (k0_pay11 (newK x2) x0) (k0_pay12 (newK x2) x0) x3 (k0_pay2 (F := F)) (k0_pay1 (F := F)) := by
  unfold sout0_A_0
  rw [View.read_writes_eq_canon _ _ _ (scover0_A_0 c i a3 h3 a4 h4 a5 h5 a6 h6 a7 h7 a8 h8 a9 h9 a10 h10 hc0 hc1 hc2 hc3 x0 x1 x2 x3 x4 t0)]
  unfold kernelRun0_A
  dsimp only
  sl_unfold_words
  rw [View.canon_cons_unit_zero (S := S64x1024) hz2, View.readCov_unit_zero (S := S64x128) _ hz2, View.readCov_unit_zero (S := S64x1024) _ hz2]
  simp only [View.readAt_eq_ld, h3.read_unread, h4.read_unread, h5.read_unread, h6.read_unread, h7.read_unread, h9.read_unread, h10.read_unread, View.ld_unit_zero (S := S1x64x1024) hz3, View.ld_unit_zero (S := S256x256) hz2, View.ld_unit_zero (S := S1024x64) hz2, View.ld_unit_zero (S := S64x1024) hz2, View.ld_unit_zero (S := S64x128) hz2]

/-- The first point: the new tokens' log shares, added to zeros. -/
theorem sout0_A_1_eq (hc0 : cond0_0 i) (hc1 : cond0_1 i) (hc2 : ¬cond0_2 i) (hc3 : ¬cond0_3 i) :
    sout0_A_1 c i a3 h3 a4 h4 a5 h5 a6 h6 a7 h7 a8 h8 a9 h9 a10 h10 hc0 hc1 hc2 hc3 x0 x1 x2 x3 x4 t0 =
      k0_pay4 k0_pay10 (k0_pay12 (newK x2) x0) x3 (k0_pay2 (F := F)) := by
  unfold sout0_A_1
  rw [View.read_writes_eq_canon _ _ _ (scover0_A_1 c i a3 h3 a4 h4 a5 h5 a6 h6 a7 h7 a8 h8 a9 h9 a10 h10 hc0 hc1 hc2 hc3 x0 x1 x2 x3 x4 t0)]
  unfold kernelRun0_A
  dsimp only
  sl_unfold_words
  rw [View.canon_cons_unit_zero (S := S64x128) hz2, View.readCov_unit_zero (S := S64x128) _ hz2]
  simp only [View.readAt_eq_ld, h3.read_unread, h4.read_unread, h5.read_unread, h6.read_unread, h7.read_unread, h9.read_unread, h10.read_unread, View.ld_unit_zero (S := S1x64x1024) hz3, View.ld_unit_zero (S := S256x256) hz2, View.ld_unit_zero (S := S1024x64) hz2, View.ld_unit_zero (S := S64x1024) hz2, View.ld_unit_zero (S := S64x128) hz2]

/-- A middle point: a page's weighted values, added. -/
theorem sout0_B_0_eq (hc0 : ¬cond0_0 i) (hc1 : ¬cond0_1 i) (hc2 : cond0_2 i) (hc3 : ¬cond0_3 i) :
    sout0_B_0 c i a3 h3 a4 h4 a5 h5 a6 h6 a7 h7 a8 h8 a9 h9 a10 h10 hc0 hc1 hc2 hc3 x0 x1 x2 x3 x4 t0 xs0 xs1 =
      k0_pay7 (k0_pay13 (oldV x1)) (k0_pay16 (oldK x1) x0 x3 xs1) xs0 := by
  unfold sout0_B_0
  rw [View.read_writes_eq_canon _ _ _ (scover0_B_0 c i a3 h3 a4 h4 a5 h5 a6 h6 a7 h7 a8 h8 a9 h9 a10 h10 hc0 hc1 hc2 hc3 x0 x1 x2 x3 x4 t0 xs0 xs1)]
  unfold kernelRun0_B
  dsimp only
  sl_unfold_words
  rw [View.canon_unit_zero hz2]
  simp only [View.readAt_eq_ld, h3.read_unread, h4.read_unread, h5.read_unread, h6.read_unread, h7.read_unread, h9.read_unread, h10.read_unread, View.ld_unit_zero (S := S1x64x1024) hz3, View.ld_unit_zero (S := S256x256) hz2, View.ld_unit_zero (S := S1024x64) hz2, View.ld_unit_zero (S := S64x1024) hz2, View.ld_unit_zero (S := S64x128) hz2]

/-- A middle point: a page's log shares, added. -/
theorem sout0_B_1_eq (hc0 : ¬cond0_0 i) (hc1 : ¬cond0_1 i) (hc2 : cond0_2 i) (hc3 : ¬cond0_3 i) :
    sout0_B_1 c i a3 h3 a4 h4 a5 h5 a6 h6 a7 h7 a8 h8 a9 h9 a10 h10 hc0 hc1 hc2 hc3 x0 x1 x2 x3 x4 t0 xs0 xs1 =
      k0_pay6 (k0_pay15 (oldK x1) x0 x3) xs1 := by
  unfold sout0_B_1
  rw [View.read_writes_eq_canon _ _ _ (scover0_B_1 c i a3 h3 a4 h4 a5 h5 a6 h6 a7 h7 a8 h8 a9 h9 a10 h10 hc0 hc1 hc2 hc3 x0 x1 x2 x3 x4 t0 xs0 xs1)]
  unfold kernelRun0_B
  dsimp only
  sl_unfold_words
  rw [View.canon_unit_zero hz2]
  simp only [View.readAt_eq_ld, h3.read_unread, h4.read_unread, h5.read_unread, h6.read_unread, h7.read_unread, h9.read_unread, h10.read_unread, View.ld_unit_zero (S := S1x64x1024) hz3, View.ld_unit_zero (S := S256x256) hz2, View.ld_unit_zero (S := S1024x64) hz2, View.ld_unit_zero (S := S64x1024) hz2, View.ld_unit_zero (S := S64x128) hz2]

/-- The last point: a page's weighted values, added. -/
theorem sout0_C_0_eq (hc0 : ¬cond0_0 i) (hc1 : ¬cond0_1 i) (hc2 : cond0_2 i) (hc3 : cond0_3 i) :
    sout0_C_0 c i a3 h3 a4 h4 a5 h5 a6 h6 a7 h7 a8 h8 a9 h9 a10 h10 hc0 hc1 hc2 hc3 x0 x1 x2 x3 x4 t0 xs0 xs1 =
      k0_pay7 (k0_pay13 (oldV x1)) (k0_pay16 (oldK x1) x0 x3 xs1) xs0 := by
  unfold sout0_C_0
  rw [View.read_writes_eq_canon _ _ _ (scover0_C_0 c i a3 h3 a4 h4 a5 h5 a6 h6 a7 h7 a8 h8 a9 h9 a10 h10 hc0 hc1 hc2 hc3 x0 x1 x2 x3 x4 t0 xs0 xs1)]
  unfold kernelRun0_C
  dsimp only
  sl_unfold_words
  rw [View.canon_unit_zero hz2]
  simp only [View.readAt_eq_ld, h3.read_unread, h4.read_unread, h5.read_unread, h6.read_unread, h7.read_unread, h9.read_unread, h10.read_unread, View.ld_unit_zero (S := S1x64x1024) hz3, View.ld_unit_zero (S := S256x256) hz2, View.ld_unit_zero (S := S1024x64) hz2, View.ld_unit_zero (S := S64x1024) hz2, View.ld_unit_zero (S := S64x128) hz2]

/-- The last point stores each row's own head of the accumulator. -/
theorem out0_C_5_eq (hc0 : ¬cond0_0 i) (hc1 : ¬cond0_1 i) (hc2 : cond0_2 i) (hc3 : cond0_3 i) :
    out0_C_5 c i a3 h3 a4 h4 a5 h5 a6 h6 a7 h7 a8 h8 a9 h9 a10 h10 hc0 hc1 hc2 hc3 x0 x1 x2 x3 x4 t0 xs0 xs1 =
      k0_pay8 k0_pay17 k0_pay18 k0_pay19 (k0_pay7 (k0_pay13 (oldV x1)) (k0_pay16 (oldK x1) x0 x3 xs1) xs0) x4 := by
  unfold out0_C_5
  rw [View.read_writes_eq_canon _ _ _ (cover0_C_5 c i a3 h3 a4 h4 a5 h5 a6 h6 a7 h7 a8 h8 a9 h9 a10 h10 hc0 hc1 hc2 hc3 x0 x1 x2 x3 x4 t0 xs0 xs1)]
  unfold kernelRun0_C
  dsimp only
  sl_unfold_words
  rw [View.canon_unit_zero hz3, View.readCov_unit_zero (S := S64x1024) _ hz2]
  simp only [View.readAt_eq_ld, h3.read_unread, h4.read_unread, h5.read_unread, h6.read_unread, h7.read_unread, h9.read_unread, h10.read_unread, View.ld_unit_zero (S := S1x64x1024) hz3, View.ld_unit_zero (S := S256x256) hz2, View.ld_unit_zero (S := S1024x64) hz2, View.ld_unit_zero (S := S64x1024) hz2, View.ld_unit_zero (S := S64x128) hz2]

end Cases

end Cert.StickIdeal.Attn

end
-- ==== Proof.Stick.Pay.lean ====
/-
  The sample attention's stored values at one index: the masks, the scores, the log shares, the sums within a tile, the
  weights, and the own head's columns.
-/
module

public import proofs.«01_k».proof.Proof.Stick.Math
public import proofs.«01_k».proof.Proof.Stick.Cases

@[expose] public section

set_option maxRecDepth 16384

noncomputable section

namespace Cert.StickIdeal.Attn

open Cert.StickIdeal Cert.StickIdeal.Gen Cert.Stickbreak
open Idealize.ShloMosaic Idealize.ShloMosaic.TcCoe Idealize.ShloMosaic.ValueIdx Idealize.SL.Sem
open scoped BigOperators

/-- A new token's lane is seen by the rows of the later new tokens. -/
theorem pay10_apply : ∀ (a : Fin 64) (l : Fin 128), k0_pay10 (ix2 a l : S64x128.Idx) = BitVec.ofBool (decide (l.val < a.val % 4)) := by
  decide +kernel

/-- The head of a row. -/
theorem pay17_col : ∀ a : Fin 64, k0_pay17 (ix2 a 0 : S64x1024.Idx) = BitVec.ofNat 32 (a.val / 4) := by decide +kernel
theorem pay17_apply (a : Fin 64) (c : Fin 1024) : k0_pay17 (ix2 a c : S64x1024.Idx) = BitVec.ofNat 32 (a.val / 4) :=
  pay17_col a

/-- The head of a column. -/
theorem col_row : ∀ c : Fin 1024, Scalar.select (k0_pay19 (ix2 0 c : S64x1024.Idx)) (IntOp.subi (k0_pay18 (ix2 0 c : S64x1024.Idx)) 1#32)
    (k0_pay18 (ix2 0 c : S64x1024.Idx)) = BitVec.ofNat 32 (c.val / 64) := by decide +kernel

/-- The word comparison of two heads. -/
theorem head_eq : ∀ x y : Fin 16, (IntOp.cmpi .eq (BitVec.ofNat 32 x.val) (BitVec.ofNat 32 y.val)) = BitVec.ofBool (decide (x.val = y.val)) := by
  decide +kernel

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

/-- The log share as the kernel computes it. -/
theorem left_of (x : EReal) : Ideal.ofBits .f32 0x00000000#32 - (max x (Ideal.ofBits .f32 0x00000000#32)
    + Ideal.log (Ideal.ofBits .f32 0x3F800000#32 + Ideal.exp (Ideal.ofBits .f32 0x00000000#32 - max x (-x)))) = left x := by
  rw [Ideal.ofBits_zero_f32, Ideal.ofBits_one_f32]; rfl

/-- The scores of the new tokens. -/
theorem pay11_apply (k : FVec Ideal S1x1x1024x128 .bf16) (q : FVec Ideal S1x64x1024 .bf16) (a : Fin 64) (l : Fin 128) :
    k0_pay11 (F := Ideal) k q (ix2 a l) = ∑ c : Fin 1024, q (ix3 0 a c) * k (ix4 0 0 c l) := by
  unfold k0_pay11
  refine (Ideal.matmul_plain_apply (M := 64) (K := 1024) (N := 128) none _ _ _ a l).trans ?_
  refine (congrArg (· + _) Ideal.ofBits_zero_f32).trans ((zero_add _).trans (Finset.sum_congr rfl fun c _ => ?_))
  refine congrArg₂ (fun p q : EReal => p * q) (shapeCast_apply _ _ _ _ ?_) (shapeCast_apply _ _ _ _ ?_)
  · rw [Shape.rowMajor_val_three, Shape.rowMajor_val_two]
    show (0 * 64 + a.val) * 1024 + c.val = a.val * 1024 + c.val
    omega
  · rw [Shape.rowMajor_val_four, Shape.rowMajor_val_two]
    show ((0 * 1 + 0) * 1024 + c.val) * 128 + l.val = c.val * 128 + l.val
    omega

/-- A page's block read as 1024 rows of 128 lanes. -/
theorem pay13_apply (k : FVec Ideal S1x1x16x64x128 .f32) (c : Fin 1024) (l : Fin 128) :
    k0_pay13 (F := Ideal) k (ix2 c l) = k (ix5 0 0 ⟨c.val / 64, by have := c.isLt; omega⟩ ⟨c.val % 64, Nat.mod_lt _ (by decide)⟩ l) := by
  have hc := c.isLt
  let i3 : S16x64x128.Idx := ix3 ⟨c.val / 64, by omega⟩ ⟨c.val % 64, Nat.mod_lt _ (by decide)⟩ l
  let i5 : S1x1x16x64x128.Idx := ix5 0 0 ⟨c.val / 64, by omega⟩ ⟨c.val % 64, Nat.mod_lt _ (by decide)⟩ l
  have e1 : shapeCast S16x64x128 k shapeCasts_S1x1x16x64x128_S16x64x128 i3 = k i5 := by
    refine shapeCast_apply _ _ _ _ ?_
    rw [Shape.rowMajor_val_five, Shape.rowMajor_val_three]
    show (((0 * 1 + 0) * 16 + c.val / 64) * 64 + c.val % 64) * 128 + l.val = (c.val / 64 * 64 + c.val % 64) * 128 + l.val
    omega
  have e2 : shapeCast S1024x128 (shapeCast S16x64x128 k shapeCasts_S1x1x16x64x128_S16x64x128) shapeCasts_S16x64x128_S1024x128 (ix2 c l)
      = shapeCast S16x64x128 k shapeCasts_S1x1x16x64x128_S16x64x128 i3 := by
    refine shapeCast_apply _ _ _ _ ?_
    rw [Shape.rowMajor_val_three, Shape.rowMajor_val_two]
    show (c.val / 64 * 64 + c.val % 64) * 128 + l.val = c.val * 128 + l.val
    omega
  exact e2.trans e1

/-- The scores of a page. -/
theorem pay14_apply (k : FVec Ideal S1x1x16x64x128 .f32) (q : FVec Ideal S1x64x1024 .bf16) (a : Fin 64) (l : Fin 128) :
    k0_pay14 (F := Ideal) k q (ix2 a l) = ∑ c : Fin 1024, q (ix3 0 a c) * k0_pay13 (F := Ideal) k (ix2 c l) := by
  unfold k0_pay14
  refine (Ideal.matmul_plain_apply (M := 64) (K := 1024) (N := 128) none _ _ _ a l).trans ?_
  refine (congrArg (· + _) Ideal.ofBits_zero_f32).trans ((zero_add _).trans (Finset.sum_congr rfl fun c _ => ?_))
  refine congrArg₂ (fun p q : EReal => p * q) (shapeCast_apply _ _ _ _ ?_) rfl
  rw [Shape.rowMajor_val_three, Shape.rowMajor_val_two]
  show (0 * 64 + a.val) * 1024 + c.val = a.val * 1024 + c.val
  omega

/-- The new tokens' log shares. -/
theorem pay12_apply (k : FVec Ideal S1x1x1024x128 .bf16) (q : FVec Ideal S1x64x1024 .bf16) (a : Fin 64) (l : Fin 128) :
    k0_pay12 (F := Ideal) k q (ix2 a l) = left (k0_pay11 (F := Ideal) k q (ix2 a l)) := left_of _

/-- The 0-1 matrix of the sums within a tile: lane `j` adds the lanes from `j` on, and the lanes past 127 add them all. -/
def Sums (u : FVec Ideal S256x256 .bf16) : Prop :=
  ∀ k j : Fin 256, (u (ix2 k j) : EReal) = if j.val < 128 → j.val ≤ k.val % 128 then 1 else 0

/-- A row times that matrix, the row given rounded and as what the rounding left. -/
theorem cs_apply (v : FVec Ideal S64x128 .f32) (u : FVec Ideal S256x256 .bf16) (hu : Sums u) (hv : ∀ i : S64x128.Idx, (v i : EReal) ≠ ⊤) (a : Fin 64) (j : Fin 256) :
    FloatOps.matmul (F := Ideal) dot_S64x256_S256x256_S64x256_1_0_0_1_n_n none
      (concatenate S64x256 1 [⟨S64x128, truncf .bf16 v bitsLt_bf16_f32⟩,
        ⟨S64x128, truncf .bf16 (subf v (extf .f32 (truncf .bf16 v bitsLt_bf16_f32) bitsLt_bf16_f32)) bitsLt_bf16_f32⟩] concatenates_S64x128_S64x128_S64x256_d1)
      (shapeCast S256x256 u shapeCasts_S256x256_S256x256) (constant S64x256 .f32 0x00000000#32) (ix2 a j)
      = ∑ k : Fin 128, if j.val < 128 → j.val ≤ k.val then (v (ix2 a k) : EReal) else 0 := by
  refine (Ideal.matmul_plain_apply (M := 64) (K := 256) (N := 256) none _ _ _ a j).trans ?_
  refine (congrArg (· + _) Ideal.ofBits_zero_f32).trans ((zero_add _).trans ?_)
  rw [shapeCast_self, sum_halves, ← sum_parts (fun k => (v (ix2 a k) : EReal)) (fun k => hv _)]
  refine congrArg₂ (fun p q : EReal => p + q) (Finset.sum_congr rfl fun k _ => ?_) (Finset.sum_congr rfl fun k _ => ?_)
  · refine congrArg₂ (fun p q : EReal => p * q) (concatenate_pair_apply_left (t := S64x256) (s₁ := S64x128) (s₂ := S64x128) 1 _ _ _ _ rfl (ix2 a k) ?_) ((hu _ j).trans ?_)
    · intro b
      match b with
      | ⟨0, _⟩ => rfl
      | ⟨1, _⟩ => rfl
    · have := k.isLt
      exact if_congr (by show (_ → j.val ≤ k.val % 128) ↔ _; rw [Nat.mod_eq_of_lt this]) rfl rfl
  · refine congrArg₂ (fun p q : EReal => p * q) ((concatenate_pair_apply_right (t := S64x256) (s₁ := S64x128) (s₂ := S64x128) 1 _ _ _ _ rfl rfl (ix2 a k) ?_ ?_).trans rfl) ((hu _ j).trans ?_)
    · intro b hb
      match b with
      | ⟨0, _⟩ => rfl
      | ⟨1, _⟩ => exact absurd rfl hb
    · show k.val + 128 = 128 + k.val
      omega
    · have := k.isLt
      exact if_congr (by show (_ → j.val ≤ (128 + k.val) % 128) ↔ _; rw [show (128 + k.val) % 128 = k.val by omega]) rfl rfl

/-- Within a tile, the log shares from a lane on. -/
theorem cs_lane (v : FVec Ideal S64x128 .f32) (M : FVec Ideal S64x256 .f32)
    (hM : ∀ (a : Fin 64) (j : Fin 256), (M (ix2 a j) : EReal) = ∑ k : Fin 128, if j.val < 128 → j.val ≤ k.val then (v (ix2 a k) : EReal) else 0)
    (a : Fin 64) (l : Fin 128) : extractStridedSlice S64x128 ![0, 0] M slices_S64x256_o0_0_S64x128 (ix2 a l)
      = ∑ k : Fin 128, if l.val ≤ k.val then (v (ix2 a k) : EReal) else 0 := by
  have hl := l.isLt
  refine (extractStridedSlice_apply (s := S64x256) (t := S64x128) _ _ _ (ix2 a l) (ix2 a ⟨l.val, by omega⟩ : S64x256.Idx) ?_).trans ((hM a _).trans ?_)
  · intro b
    match b with
    | ⟨0, _⟩ => exact (Nat.zero_add _).symm
    | ⟨1, _⟩ => exact (Nat.zero_add _).symm
  · exact Finset.sum_congr rfl fun k _ => if_congr ⟨fun h => h hl, fun h _ => h⟩ rfl rfl

/-- The tile's log shares, all of them. -/
theorem cs_total (v : FVec Ideal S64x128 .f32) (M : FVec Ideal S64x256 .f32)
    (hM : ∀ (a : Fin 64) (j : Fin 256), (M (ix2 a j) : EReal) = ∑ k : Fin 128, if j.val < 128 → j.val ≤ k.val then (v (ix2 a k) : EReal) else 0)
    (a : Fin 64) (l : Fin 128) : extractStridedSlice S64x128 ![0, 128] M slices_S64x256_o0_128_S64x128 (ix2 a l)
      = ∑ k : Fin 128, (v (ix2 a k) : EReal) := by
  have hl := l.isLt
  refine (extractStridedSlice_apply (s := S64x256) (t := S64x128) _ _ _ (ix2 a l) (ix2 a ⟨128 + l.val, by omega⟩ : S64x256.Idx) ?_).trans ((hM a _).trans ?_)
  · intro b
    match b with
    | ⟨0, _⟩ => exact (Nat.zero_add _).symm
    | ⟨1, _⟩ => rfl
  · exact Finset.sum_congr rfl fun k _ => if_pos fun h => absurd h (Nat.not_lt.mpr (Nat.le_add_right _ _))

/-- The new tokens' log shares, as far as the row sees them. -/
def seen (L : FVec Ideal S64x128 .f32) : FVec Ideal S64x128 .f32 := select k0_pay10 L (broadcast S64x128 (Scalar.ofBits .f32 0x00000000#32))

theorem seen_apply (L : FVec Ideal S64x128 .f32) (a : Fin 64) (l : Fin 128) :
    (seen L (ix2 a l) : EReal) = if l.val < a.val % 4 then L (ix2 a l) else 0 := by
  show Scalar.select (k0_pay10 (ix2 a l : S64x128.Idx)) (L (ix2 a l)) (Ideal.ofBits .f32 0x00000000#32) = _
  rw [pay10_apply, select_ofBool, Ideal.ofBits_zero_f32]

/-- The two rows of the sums, with the log shares given. -/
theorem pay3_apply (L : FVec Ideal S64x128 .f32) (u : FVec Ideal S256x256 .bf16) (hu : Sums u) (hL : ∀ i : S64x128.Idx, (L i : EReal) ≠ ⊤)
    (a : Fin 64) (j : Fin 256) : (k0_pay3 k0_pay10 L u (ix2 a j) : EReal)
      = ∑ k : Fin 128, if j.val < 128 → j.val ≤ k.val then (seen L (ix2 a k) : EReal) else 0 := by
  refine cs_apply (seen L) u hu (fun i => ?_) a j
  obtain ⟨a, l, rfl⟩ : ∃ (a : Fin 64) (l : Fin 128), i = (ix2 a l : S64x128.Idx) :=
    ⟨i 0, i 1, funext fun d => by match d with | ⟨0, _⟩ => rfl | ⟨1, _⟩ => rfl⟩
  rw [seen_apply]
  split
  · exact hL _
  · exact EReal.zero_ne_top

/-- A page's log shares. -/
def shares (k : FVec Ideal S1x1x16x64x128 .f32) (q : FVec Ideal S1x64x1024 .bf16) : FVec Ideal S64x128 .f32 :=
  fun i => left (k0_pay14 (F := Ideal) k q i)

theorem pay15_apply (k : FVec Ideal S1x1x16x64x128 .f32) (q : FVec Ideal S1x64x1024 .bf16) (u : FVec Ideal S256x256 .bf16) (hu : Sums u)
    (a : Fin 64) (j : Fin 256) : (k0_pay15 (F := Ideal) k q u (ix2 a j) : EReal)
      = ∑ l : Fin 128, if j.val < 128 → j.val ≤ l.val then (shares k q (ix2 a l) : EReal) else 0 := by
  refine Eq.trans ?_ (cs_apply (shares k q) u hu (fun i => left_ne_top _) a j)
  have e : shares k q = _ := funext fun i => (left_of (k0_pay14 (F := Ideal) k q i)).symm
  rw [e]
  rfl

/-- The carried sum after the new tokens. -/
theorem pay4_apply (L : FVec Ideal S64x128 .f32) (u : FVec Ideal S256x256 .bf16) (hu : Sums u) (hL : ∀ i : S64x128.Idx, (L i : EReal) ≠ ⊤)
    (r : FVec Ideal S64x128 .f32) (a : Fin 64) (l : Fin 128) :
    (k0_pay4 k0_pay10 L u r (ix2 a l) : EReal) = r (ix2 a l) + ∑ k : Fin 128, (seen L (ix2 a k) : EReal) := by
  unfold k0_pay4
  rw [shapeCast_self]
  exact congrArg (r (ix2 a l) + ·) (cs_total (seen L) _ (pay3_apply L u hu hL) a l)

/-- The carried sum after a page. -/
theorem pay6_apply (k : FVec Ideal S1x1x16x64x128 .f32) (q : FVec Ideal S1x64x1024 .bf16) (u : FVec Ideal S256x256 .bf16) (hu : Sums u)
    (r : FVec Ideal S64x128 .f32) (a : Fin 64) (l : Fin 128) :
    (k0_pay6 (k0_pay15 (F := Ideal) k q u) r (ix2 a l) : EReal) = r (ix2 a l) + ∑ k' : Fin 128, (shares k q (ix2 a k') : EReal) := by
  unfold k0_pay6
  rw [shapeCast_self]
  exact congrArg (r (ix2 a l) + ·) (cs_total (shares k q) _ (pay15_apply k q u hu) a l)

/-- A page's weights. -/
theorem pay16_apply (k : FVec Ideal S1x1x16x64x128 .f32) (q : FVec Ideal S1x64x1024 .bf16) (u : FVec Ideal S256x256 .bf16) (hu : Sums u)
    (r : FVec Ideal S64x128 .f32) (a : Fin 64) (l : Fin 128) :
    (k0_pay16 (F := Ideal) k q u r (ix2 a l) : EReal) = Ideal.exp ((k0_pay14 (F := Ideal) k q (ix2 a l)
      + ∑ k' : Fin 128, if l.val ≤ k'.val then (shares k q (ix2 a k') : EReal) else 0) + r (ix2 a l)) := by
  unfold k0_pay16
  exact congrArg (fun x : EReal => Ideal.exp ((k0_pay14 (F := Ideal) k q (ix2 a l) + x) + r (ix2 a l))) (cs_lane (shares k q) _ (pay15_apply k q u hu) a l)

/-- The weighted values of a tile, added to what is there. -/
theorem pay7_apply (v : FVec Ideal S1024x128 .bf16) (w : FVec Ideal S64x128 .f32) (acc : FVec Ideal S64x1024 .f32) (a : Fin 64) (c : Fin 1024) :
    (k0_pay7 v w acc (ix2 a c) : EReal) = acc (ix2 a c) + ∑ l : Fin 128, w (ix2 a l) * v (ix2 c l) := by
  unfold k0_pay7
  rw [shapeCast_self]
  refine congrArg (acc (ix2 a c) + ·) ((Ideal.matmul_transposedRhs_apply (M := 64) (K := 128) (N := 1024) none _ _ _ a c).trans ?_)
  exact (congrArg (· + _) Ideal.ofBits_zero_f32).trans (zero_add _)

/-- The same of the new tokens, their weights zero where the row does not see them. -/
theorem pay5_apply (v : FVec Ideal S1024x128 .bf16) (z L : FVec Ideal S64x128 .f32) (u : FVec Ideal S256x256 .bf16) (hu : Sums u)
    (hL : ∀ i : S64x128.Idx, (L i : EReal) ≠ ⊤) (r : FVec Ideal S64x128 .f32) (acc : FVec Ideal S64x1024 .f32) (a : Fin 64) (c : Fin 1024) :
    (k0_pay5 v k0_pay10 z L u r acc (ix2 a c) : EReal) = acc (ix2 a c) + ∑ l : Fin 128, (if l.val < a.val % 4 then
      Ideal.exp ((z (ix2 a l) + ∑ k' : Fin 128, if l.val ≤ k'.val then (seen L (ix2 a k') : EReal) else 0) + r (ix2 a l)) else 0) * v (ix2 c l) := by
  unfold k0_pay5
  rw [shapeCast_self]
  refine congrArg (acc (ix2 a c) + ·) ((Ideal.matmul_transposedRhs_apply (M := 64) (K := 128) (N := 1024) none _ _ _ a c).trans ?_)
  refine (congrArg (· + _) Ideal.ofBits_zero_f32).trans ((zero_add _).trans (Finset.sum_congr rfl fun l _ => ?_))
  refine congrArg (· * _) ?_
  show Scalar.select (k0_pay10 (ix2 a l : S64x128.Idx)) (Ideal.exp ((z (ix2 a l) + _) + r (ix2 a l))) (Ideal.ofBits .f32 0x00000000#32) = _
  rw [pay10_apply, select_ofBool, Ideal.ofBits_zero_f32]
  refine if_congr Iff.rfl (congrArg (fun x : EReal => Ideal.exp ((z (ix2 a l) + x) + r (ix2 a l))) ?_) rfl
  exact cs_lane (seen L) _ (pay3_apply L u hu hL) a l

/-- The output block: each row's own head's columns. -/
theorem pay8_apply (acc : FVec Ideal S64x1024 .f32) (f : FVec Ideal S1024x64 .f32)
    (hf : ∀ (c : Fin 1024) (d : Fin 64), (f (ix2 c d) : EReal) = if c.val % 64 = d.val then 1 else 0) (a d : Fin 64) :
    (k0_pay8 (F := Ideal) k0_pay17 k0_pay18 k0_pay19 acc f (ix3 0 a d) : EReal)
      = acc (ix2 a ⟨a.val / 4 * 64 + d.val, by have := a.isLt; have := d.isLt; omega⟩) := by
  have ha := a.isLt
  unfold k0_pay8
  refine (shapeCast_apply (s := S64x64) (t := S1x64x64) _ _ (ix3 0 a d) (ix2 a d) ?_).trans ?_
  · rw [Shape.rowMajor_val_three, Shape.rowMajor_val_two]
    show a.val * 64 + d.val = (0 * 64 + a.val) * 64 + d.val
    omega
  refine (Ideal.matmul_plain_apply (M := 64) (K := 1024) (N := 64) _ _ _ _ a d).trans ?_
  refine (congrArg (· + _) Ideal.ofBits_zero_f32).trans ((zero_add _).trans ?_)
  rw [← sum_pick (fun c => (acc (ix2 a c) : EReal)) ⟨a.val / 4, by omega⟩ d]
  refine Finset.sum_congr rfl fun c _ => congrArg₂ (fun p q : EReal => p * q) ?_ ?_
  · show Scalar.select (IntOp.cmpi .eq (k0_pay17 (ix2 a c : S64x1024.Idx))
        (Scalar.select (k0_pay19 (ix2 a c : S64x1024.Idx)) (IntOp.subi (k0_pay18 (ix2 a c : S64x1024.Idx)) 1#32) (k0_pay18 (ix2 a c : S64x1024.Idx))))
        (acc (ix2 a c)) (Ideal.ofBits .f32 0x00000000#32) = _
    have e : Scalar.select (k0_pay19 (ix2 a c : S64x1024.Idx)) (IntOp.subi (k0_pay18 (ix2 a c : S64x1024.Idx)) 1#32) (k0_pay18 (ix2 a c : S64x1024.Idx))
      = BitVec.ofNat 32 (c.val / 64) := col_row c
    have hc := c.isLt
    rw [e, pay17_apply, head_eq ⟨a.val / 4, by omega⟩ ⟨c.val / 64, by omega⟩, select_ofBool, Ideal.ofBits_zero_f32]
  · rw [shapeCast_self]
    exact hf c d

/-- The two buffers before the first tile. -/
theorem pay1_apply (i : S64x1024.Idx) : (k0_pay1 (F := Ideal) i : EReal) = 0 := by
  unfold k0_pay1; rw [shapeCast_self]; exact Ideal.ofBits_zero_f32
theorem pay2_apply (i : S64x128.Idx) : (k0_pay2 (F := Ideal) i : EReal) = 0 := by
  unfold k0_pay2; rw [shapeCast_self]; exact Ideal.ofBits_zero_f32

end Cert.StickIdeal.Attn

end
-- ==== Proof.Stick.Host.lean ====
/-
  What the host lines before the sample attention's kernel leave in its operands, at one index: the block-diagonal scaled
  queries, the new tokens' keys and values, the cache with its axes moved, and the two 0-1 matrices.
-/
module

public import proofs.«01_k».proof.Proof.Stick.Pay
public import Idealize.ShloMosaic.Lib.KernelVsHost

@[expose] public section

set_option maxRecDepth 16384

noncomputable section

namespace Cert.StickIdeal.Attn

open Cert.StickIdeal Cert.StickIdeal.Gen Cert.Stickbreak
open Idealize.ShloMosaic Idealize.ShloMosaic.TcCoe Idealize.ShloMosaic.ValueIdx Idealize.SL.Sem
open scoped BigOperators

variable (m : (ℓ : Loc nD τ sig) → Buf (Elt Ideal) ℓ)

/-- The argument arrays: the projections, the cache, the page table. -/
abbrev X (c : Dev nD) : FVec Ideal S128x4x3x16x64 .f32 := m ((c.tc : Thread nD τ).loc main_arg0)
abbrev Cache (c : Dev nD) : FVec Ideal S2560x128x2x16x64 .f32 := m ((c.tc : Thread nD τ).loc main_arg1)
abbrev Pt (c : Dev nD) : IVec S128x16 32 := m ((c.tc : Thread nD τ).loc main_arg2)

/-- A truth value as a number. -/
theorem num_ofBool (p : Prop) [Decidable p] : (((BitVec.ofBool (decide p)).toNat : ℝ) : EReal) = if p then 1 else 0 := by
  by_cases h : p
  · rw [if_pos h, decide_eq_true h]
    show (((1 : ℕ) : ℝ) : EReal) = 1
    rw [Nat.cast_one, EReal.coe_one]
  · rw [if_neg h, decide_eq_false h]
    show (((0 : ℕ) : ℝ) : EReal) = 0
    rw [Nat.cast_zero, EReal.coe_zero]

/-- The factor of the queries, the real number 1/8. -/
theorem eighth : Ideal.ofBits .bf16 0x3E00#16 = (((1 : ℝ) / 8 : ℝ) : EReal) := by
  simp [Ideal.ofBits, Ideal.ieee, -EReal.coe_mul]; norm_num

/-- The cache, its axes moved. -/
theorem V_cache (c : Dev nD) (p : Fin 2560) (e : Fin 2) (h : Fin 16) (d : Fin 64) (l : Fin 128) :
    ((V m c main_v23 : S2560x2x16x64x128.Idx → EReal) (ix5 p e h d l)) = Cache m c (ix5 p l e h d) := by
  show StableHlo.after (List.flatten [hostOps0, hostOps0_1, hostOps0_2]) _ (Proc.devRef .tc main_v23) (ix5 p e h d l) = _
  simp only [hostOps0, hostOps0_1, hostOps0_2, List.flatten_cons, List.flatten_nil, List.append_nil, List.cons_append, List.nil_append]
  after_results
  refine transpose_apply (s := S2560x128x2x16x64) (t := S2560x2x16x64x128) _ _ _ (ix5 p e h d l) (ix5 p l e h d) ?_
  intro b
  match b with
  | ⟨0, _⟩ => rfl
  | ⟨1, _⟩ => rfl
  | ⟨2, _⟩ => rfl
  | ⟨3, _⟩ => rfl
  | ⟨4, _⟩ => rfl

theorem rem_word : ∀ k : Fin 1024, IntOp.remsi .host (BitVec.ofNat 32 k.val) 64#32 = BitVec.ofNat 32 (k.val % 64) := by decide +kernel
theorem eq_word : ∀ x y : Fin 64, IntOp.cmpi .eq (BitVec.ofNat 32 x.val) (BitVec.ofNat 32 y.val) = BitVec.ofBool (decide (x.val = y.val)) := by
  decide +kernel
theorem ge_word : ∀ x y : Fin 128, IntOp.cmpi .sge (BitVec.ofNat 32 x.val) (BitVec.ofNat 32 y.val) = BitVec.ofBool (decide (y.val ≤ x.val)) := by
  decide +kernel
theorem eye_word : ∀ x y : Fin 16, IntOp.cmpi .eq (IntOp.addi (BitVec.ofNat 32 x.val) 0#32) (BitVec.ofNat 32 y.val)
    = BitVec.ofBool (decide (x.val = y.val)) := by decide +kernel

/-- The matrix that folds the heads' columns. -/
theorem V_fold (c : Dev nD) (k : Fin 1024) (d : Fin 64) :
    ((V m c main_v43 : S1024x64.Idx → EReal) (ix2 k d) : EReal) = if k.val % 64 = d.val then (1 : EReal) else 0 := by
  show StableHlo.after (List.flatten [hostOps0, hostOps0_1, hostOps0_2]) _ (Proc.devRef .tc main_v43) (ix2 k d) = _
  simp only [hostOps0, hostOps0_1, hostOps0_2, List.flatten_cons, List.flatten_nil, List.append_nil, List.cons_append, List.nil_append]
  after_results
  show (((IntOp.cmpi .eq (IntOp.remsi .host (BitVec.ofNat 32 k.val) 64#32) (BitVec.ofNat 32 d.val)).toNat : ℝ) : EReal) = _
  rw [rem_word, eq_word ⟨k.val % 64, Nat.mod_lt _ (by decide)⟩ d, num_ofBool]

/-- The matrix of the sums within a tile. -/
theorem V_sums (c : Dev nD) : Sums (V m c main_v44 : S256x256.Idx → EReal) := by
  intro k j
  have e : (V m c main_v44 : S256x256.Idx → EReal) = concatenate S256x256 0
      [⟨S128x256, concatenate S128x256 1 [⟨S128x128, uitofp (F := Ideal) .f32 (cmpi .sge
          (broadcastInDim S128x128 ![0, 1] bcast_S128x1_S128x128_0_1 (broadcastInDim S128x1 ![0] bcast_S128_S128x1_0 (iotaInDim S128 32 0)))
          (broadcastInDim S128x128 ![0, 1] bcast_S1x128_S128x128_0_1 (broadcastInDim S1x128 ![1] bcast_S128_S1x128_1 (iotaInDim S128 32 0))))⟩,
        ⟨S128x128, broadcastInDim S128x128 ![] bcast_S_S128x128 (constant (F := Ideal) S_ .f32 0x3F800000#32)⟩] concatenates_S128x128_S128x128_S128x256_d1⟩,
       ⟨S128x256, concatenate S128x256 1 [⟨S128x128, uitofp (F := Ideal) .f32 (cmpi .sge
          (broadcastInDim S128x128 ![0, 1] bcast_S128x1_S128x128_0_1 (broadcastInDim S128x1 ![0] bcast_S128_S128x1_0 (iotaInDim S128 32 0)))
          (broadcastInDim S128x128 ![0, 1] bcast_S1x128_S128x128_0_1 (broadcastInDim S1x128 ![1] bcast_S128_S1x128_1 (iotaInDim S128 32 0))))⟩,
        ⟨S128x128, broadcastInDim S128x128 ![] bcast_S_S128x128 (constant (F := Ideal) S_ .f32 0x3F800000#32)⟩] concatenates_S128x128_S128x128_S128x256_d1⟩]
      concatenates_S128x256_S128x256_S256x256_d0 := by
    show StableHlo.after (List.flatten [hostOps0, hostOps0_1, hostOps0_2]) _ (Proc.devRef .tc main_v44) = _
    simp only [hostOps0, hostOps0_1, hostOps0_2, List.flatten_cons, List.flatten_nil, List.append_nil, List.cons_append, List.nil_append]
    after_results
    rfl
  rw [e]
  have inner : ∀ k' : Fin 128, concatenate S128x256 1 [⟨S128x128, uitofp (F := Ideal) .f32 (cmpi .sge
          (broadcastInDim S128x128 ![0, 1] bcast_S128x1_S128x128_0_1 (broadcastInDim S128x1 ![0] bcast_S128_S128x1_0 (iotaInDim S128 32 0)))
          (broadcastInDim S128x128 ![0, 1] bcast_S1x128_S128x128_0_1 (broadcastInDim S1x128 ![1] bcast_S128_S1x128_1 (iotaInDim S128 32 0))))⟩,
        ⟨S128x128, broadcastInDim S128x128 ![] bcast_S_S128x128 (constant (F := Ideal) S_ .f32 0x3F800000#32)⟩]
          concatenates_S128x128_S128x128_S128x256_d1 (ix2 k' j) = if j.val < 128 → j.val ≤ k'.val then (1 : EReal) else 0 := by
    intro k'
    by_cases hj : j.val < 128
    · refine (concatenate_pair_apply_left (t := S128x256) (s₁ := S128x128) (s₂ := S128x128) 1 _ _ _ _ rfl (ix2 k' ⟨j.val, hj⟩) ?_).trans ?_
      · intro b
        match b with
        | ⟨0, _⟩ => rfl
        | ⟨1, _⟩ => rfl
      · show (((IntOp.cmpi .sge (BitVec.ofNat 32 k'.val) (BitVec.ofNat 32 (⟨j.val, hj⟩ : Fin 128).val)).toNat : ℝ) : EReal) = _
        rw [ge_word, num_ofBool]
        exact if_congr ⟨fun h _ => h, fun h => h hj⟩ rfl rfl
    · have := j.isLt
      refine (concatenate_pair_apply_right (t := S128x256) (s₁ := S128x128) (s₂ := S128x128) 1 _ _ _ _ rfl rfl (ix2 k' ⟨j.val - 128, by omega⟩) ?_ ?_).trans ?_
      · intro b hb
        match b with
        | ⟨0, _⟩ => rfl
        | ⟨1, _⟩ => exact absurd rfl hb
      · show j.val - 128 + 128 = j.val
        omega
      · rw [if_pos fun h => absurd h hj]
        exact Ideal.ofBits_one_f32
  by_cases hk : k.val < 128
  · refine (concatenate_pair_apply_left (t := S256x256) (s₁ := S128x256) (s₂ := S128x256) 0 _ _ _ _ rfl (ix2 ⟨k.val, hk⟩ j) ?_).trans ((inner ⟨k.val, hk⟩).trans ?_)
    · intro b
      match b with
      | ⟨0, _⟩ => rfl
      | ⟨1, _⟩ => rfl
    · rw [Nat.mod_eq_of_lt hk]
  · have := k.isLt
    refine (concatenate_pair_apply_right (t := S256x256) (s₁ := S128x256) (s₂ := S128x256) 0 _ _ _ _ rfl rfl (ix2 ⟨k.val - 128, by omega⟩ j) ?_ ?_).trans ((inner ⟨k.val - 128, by omega⟩).trans ?_)
    · intro b hb
      match b with
      | ⟨0, _⟩ => exact absurd rfl hb
      | ⟨1, _⟩ => rfl
    · show k.val - 128 + 128 = k.val
      omega
    · rw [show k.val % 128 = k.val - 128 by omega]

/-- The queries, scaled, row by row on the columns of the row's head. -/
theorem V_q (c : Dev nD) (b : Fin 128) (a : Fin 64) (k : Fin 1024) :
    ((V m c main_v17 : S128x64x1024.Idx → EReal) (ix3 b a k) : EReal)
      = X m c (ix5 b ⟨a.val % 4, Nat.mod_lt _ (by decide)⟩ 0 ⟨a.val / 4, by have := a.isLt; omega⟩ ⟨k.val % 64, Nat.mod_lt _ (by decide)⟩)
        * (((1 : ℝ) / 8 : ℝ) : EReal) * (if a.val / 4 = k.val / 64 then (1 : EReal) else 0) := by
  have ha := a.isLt
  have hk := k.isLt
  show StableHlo.after (List.flatten [hostOps0, hostOps0_1, hostOps0_2]) _ (Proc.devRef .tc main_v17) (ix3 b a k) = _
  simp only [hostOps0, hostOps0_1, hostOps0_2, List.flatten_cons, List.flatten_nil, List.append_nil, List.cons_append, List.nil_append]
  after_results
  refine (shapeCast_apply (s := S128x16x4x16x64) (t := S128x64x1024) _ _ (ix3 b a k)
    (ix5 b ⟨a.val / 4, by omega⟩ ⟨a.val % 4, Nat.mod_lt _ (by decide)⟩ ⟨k.val / 64, by omega⟩ ⟨k.val % 64, Nat.mod_lt _ (by decide)⟩) ?_).trans ?_
  · rw [Shape.rowMajor_val_three, Shape.rowMajor_val_five]
    show (((b.val * 16 + a.val / 4) * 4 + a.val % 4) * 16 + k.val / 64) * 64 + k.val % 64 = (b.val * 64 + a.val) * 1024 + k.val
    omega
  refine congrArg₂ (fun p q : EReal => p * q) ?_ ?_
  · refine (broadcastInDim_apply (s := S128x16x4x1x64) (t := S128x16x4x16x64) _ _ _ _
      (ix5 b ⟨a.val / 4, by omega⟩ ⟨a.val % 4, Nat.mod_lt _ (by decide)⟩ 0 ⟨k.val % 64, Nat.mod_lt _ (by decide)⟩) ?_).trans ?_
    · intro d
      match d with
      | ⟨0, _⟩ => rfl
      | ⟨1, _⟩ => rfl
      | ⟨2, _⟩ => rfl
      | ⟨3, _⟩ => rfl
      | ⟨4, _⟩ => rfl
    refine (broadcastInDim_apply (s := S128x16x4x64) (t := S128x16x4x1x64) _ _ _ _
      (ix4 b ⟨a.val / 4, by omega⟩ ⟨a.val % 4, Nat.mod_lt _ (by decide)⟩ ⟨k.val % 64, Nat.mod_lt _ (by decide)⟩) ?_).trans ?_
    · intro d
      match d with
      | ⟨0, _⟩ => rfl
      | ⟨1, _⟩ => rfl
      | ⟨2, _⟩ => rfl
      | ⟨3, _⟩ => rfl
    refine (transpose_apply (s := S128x4x16x64) (t := S128x16x4x64) _ _ _ _
      (ix4 b ⟨a.val % 4, Nat.mod_lt _ (by decide)⟩ ⟨a.val / 4, by omega⟩ ⟨k.val % 64, Nat.mod_lt _ (by decide)⟩) ?_).trans ?_
    · intro d
      match d with
      | ⟨0, _⟩ => rfl
      | ⟨1, _⟩ => rfl
      | ⟨2, _⟩ => rfl
      | ⟨3, _⟩ => rfl
    refine congrArg₂ (fun p q : EReal => p * q) ?_ eighth
    show shapeCast (s := S128x4x1x16x64) S128x4x16x64 (extractStridedSlice S128x4x1x16x64 ![0, 0, 0, 0, 0] (X m c)
      slices_S128x4x3x16x64_S128x4x1x16x64_0_0_0_0_0) shapeCasts_S128x4x1x16x64_S128x4x16x64
      (ix4 b ⟨a.val % 4, Nat.mod_lt _ (by decide)⟩ ⟨a.val / 4, by omega⟩ ⟨k.val % 64, Nat.mod_lt _ (by decide)⟩) = _
    refine (shapeCast_apply (s := S128x4x1x16x64) (t := S128x4x16x64) _ _ _
      (ix5 b ⟨a.val % 4, Nat.mod_lt _ (by decide)⟩ 0 ⟨a.val / 4, by omega⟩ ⟨k.val % 64, Nat.mod_lt _ (by decide)⟩) ?_).trans ?_
    · rw [Shape.rowMajor_val_four, Shape.rowMajor_val_five]
      show (((b.val * 4 + a.val % 4) * 1 + 0) * 16 + a.val / 4) * 64 + k.val % 64
        = ((b.val * 4 + a.val % 4) * 16 + a.val / 4) * 64 + k.val % 64
      omega
    refine extractStridedSlice_apply (s := S128x4x3x16x64) (t := S128x4x1x16x64) _ _ _ _
      (ix5 b ⟨a.val % 4, Nat.mod_lt _ (by decide)⟩ 0 ⟨a.val / 4, by omega⟩ ⟨k.val % 64, Nat.mod_lt _ (by decide)⟩) ?_
    intro d
    match d with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm
  · show (((IntOp.cmpi .eq (IntOp.addi (BitVec.ofNat 32 (a.val / 4)) 0#32) (BitVec.ofNat 32 (k.val / 64))).toNat : ℝ) : EReal) = _
    rw [eye_word ⟨a.val / 4, by omega⟩ ⟨k.val / 64, by omega⟩, num_ofBool]

/-- The new tokens' keys and values. -/
theorem V_new (c : Dev nD) (b : Fin 128) (e : Fin 2) (k : Fin 1024) (l : Fin 128) (hl : l.val < 4) :
    ((V m c main_v22 : S128x2x1024x128.Idx → EReal) (ix4 b e k l) : EReal)
      = X m c (ix5 b ⟨l.val, hl⟩ ⟨1 + e.val, by have := e.isLt; omega⟩ ⟨k.val / 64, by have := k.isLt; omega⟩ ⟨k.val % 64, Nat.mod_lt _ (by decide)⟩) := by
  have hk := k.isLt
  show StableHlo.after (List.flatten [hostOps0, hostOps0_1, hostOps0_2]) _ (Proc.devRef .tc main_v22) (ix4 b e k l) = _
  simp only [hostOps0, hostOps0_1, hostOps0_2, List.flatten_cons, List.flatten_nil, List.append_nil, List.cons_append, List.nil_append]
  after_results
  refine (pad_apply_of_inside (s := S128x2x1024x4) (t := S128x2x1024x128) ![0, 0, 0, 0] ![0, 0, 0, 124] ![0, 0, 0, 0] _ _
    pads_S128x2x1024x4_S128x2x1024x128_000_000_000_01240 h_S_ (ix4 b e k l)
    (ix4 b e k ⟨l.val, hl⟩) ?_).trans ?_
  · intro d
    match d with
    | ⟨0, _⟩ => show b.val = 0 + b.val * (0 + 1); omega
    | ⟨1, _⟩ => show e.val = 0 + e.val * (0 + 1); omega
    | ⟨2, _⟩ => show k.val = 0 + k.val * (0 + 1); omega
    | ⟨3, _⟩ => show l.val = 0 + l.val * (0 + 1); omega
  show shapeCast (s := S128x2x16x64x4) S128x2x1024x4 (transpose S128x2x16x64x4 [0, 2, 3, 4, 1]
    (extractStridedSlice S128x4x2x16x64 ![0, 0, 1, 0, 0] (X m c) slices_S128x4x3x16x64_S128x4x2x16x64_0_0_1_0_0)
    transposes_S128x4x2x16x64_S128x2x16x64x4_0_2_3_4_1) shapeCasts_S128x2x16x64x4_S128x2x1024x4 (ix4 b e k ⟨l.val, hl⟩) = _
  refine (shapeCast_apply (s := S128x2x16x64x4) (t := S128x2x1024x4) _ _ _
    (ix5 b e ⟨k.val / 64, by omega⟩ ⟨k.val % 64, Nat.mod_lt _ (by decide)⟩ ⟨l.val, hl⟩) ?_).trans ?_
  · rw [Shape.rowMajor_val_four, Shape.rowMajor_val_five]
    show (((b.val * 2 + e.val) * 16 + k.val / 64) * 64 + k.val % 64) * 4 + l.val = ((b.val * 2 + e.val) * 1024 + k.val) * 4 + l.val
    omega
  refine (transpose_apply (s := S128x4x2x16x64) (t := S128x2x16x64x4) _ _ _ _
    (ix5 b ⟨l.val, hl⟩ e ⟨k.val / 64, by omega⟩ ⟨k.val % 64, Nat.mod_lt _ (by decide)⟩) ?_).trans ?_
  · intro d
    match d with
    | ⟨0, _⟩ => rfl
    | ⟨1, _⟩ => rfl
    | ⟨2, _⟩ => rfl
    | ⟨3, _⟩ => rfl
    | ⟨4, _⟩ => rfl
  refine extractStridedSlice_apply (s := S128x4x3x16x64) (t := S128x4x2x16x64) _ _ _ _ _ ?_
  intro d
  match d with
  | ⟨0, _⟩ => exact (Nat.zero_add _).symm
  | ⟨1, _⟩ => exact (Nat.zero_add _).symm
  | ⟨2, _⟩ => rfl
  | ⟨3, _⟩ => exact (Nat.zero_add _).symm
  | ⟨4, _⟩ => exact (Nat.zero_add _).symm

end Cert.StickIdeal.Attn

end
-- ==== Proof.Stick.Blocks.lean ====
/-
  The blocks the sample attention's kernel reads at a grid point, as elements of the argument arrays: the scaled queries,
  the page the table names for the point, the new tokens, and the two 0-1 matrices.
-/
module

public import proofs.«01_k».proof.Proof.Stick.Host

@[expose] public section

set_option maxRecDepth 16384

noncomputable section

namespace Cert.StickIdeal.Attn

open Cert.StickIdeal Cert.StickIdeal.Gen Cert.Stickbreak
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ)

/-- The grid point's coordinates: its sequence and its step. -/
theorem coord0 (t : Fin grid0.N) : (grid0.coords t 0).val = t.val / 17 := by
  have h : t.val < 2176 := t.isLt.trans_eq N_0
  have e : (grid0.coords t 0).val = t.val / 17 % 128 := Pipeline.Grid.coords_val t 0 (by decide) rfl
  rw [e]; omega
theorem coord1 (t : Fin grid0.N) : (grid0.coords t 1).val = t.val % 17 := by
  have e : (grid0.coords t 1).val = t.val / 1 % 17 := Pipeline.Grid.coords_val t 1 (by decide) rfl
  rw [e, Nat.div_one]

theorem ofNat_coord0 (t : Fin grid0.N) : (BitVec.ofNat 32 (grid0.coords t 0).val).toNat = t.val / 17 := by
  have h : t.val < 2176 := t.isLt.trans_eq N_0
  rw [BitVec.toNat_ofNat, coord0, Nat.mod_eq_of_lt (by omega)]

/-- The table column a step reads. -/
theorem page_word : ∀ s : Fin 17, (Scalar.indexCast (Scalar.subi 15#32 (Scalar.maxsi (Scalar.subi (BitVec.ofNat 32 s.val) 1#32) 0#32)) : Index).toNat
    = 15 - (s.val - 1) := by decide +kernel

/-- The table word an index map reads at a point: the entry of the point's sequence and step. -/
theorem table_word (hO : Ok m) (c : Dev nD) (t : Fin (cfgM m hO).N) (b : Fin 128) (hb : b.val = t.val / 17) (j : Fin 16)
    (hj : j.val = 15 - (t.val % 17 - 1)) :
    ((tbl m).at 0 (Rect.unit (s := S128x16) ![(Scalar.indexCast (BitVec.ofNat 32 (grid0.coords t 0).val) : Index).toNat,
      (Scalar.indexCast (Scalar.subi 15#32 (Scalar.maxsi (Scalar.subi (BitVec.ofNat 32 (grid0.coords t 1).val) 1#32) 0#32)) : Index).toNat] S1x1.size (k0_off1_inb (grid0.coords t))) numel1_S1x1 : BitVec 32)
      = Pt m c (ix2 b j) := by
  obtain rfl : c = 0 := Subsingleton.elim _ _
  show V m 0 main_arg2 _ = _
  rw [V_main_arg2 m 0]
  refine congrArg (m ((0 : Dev nD).tc.loc main_arg2)) (funext fun a => Fin.ext ?_)
  match a with
  | ⟨0, _⟩ =>
    refine (Rect.emb_apply _ _ _).trans ?_
    show (BitVec.ofNat 32 (grid0.coords t 0).val).toNat + 1 * 0 = b.val
    rw [ofNat_coord0, Nat.mul_zero, Nat.add_zero, hb]
  | ⟨1, _⟩ =>
    refine (Rect.emb_apply _ _ _).trans ?_
    show (Scalar.indexCast (Scalar.subi 15#32 (Scalar.maxsi (Scalar.subi (BitVec.ofNat 32 (grid0.coords t 1).val) 1#32) 0#32)) : Index).toNat + 1 * 0 = j.val
    rw [coord1, page_word ⟨t.val % 17, Nat.mod_lt _ (by decide)⟩, Nat.mul_zero, Nat.add_zero, hj]

/-- The page an index map names at a point. -/
theorem page_of (hO : Ok m) (c : Dev nD) (t : Fin (cfgM m hO).N) (b : Fin 128) (hb : b.val = t.val / 17) (j : Fin 16)
    (hj : j.val = 15 - (t.val % 17 - 1)) :
    cc0_transform_1 k0_off1_inb numel1_S1x1 (tbl m) (grid0.coords t) 0 = (Pt m c (ix2 b j)).toNat :=
  congrArg BitVec.toNat (table_word m hO c t b hb j hj)

/-- The arguments as functions of their coordinates. -/
abbrev xs (c : Dev nD) (b : Fin 128) (t : Fin 4) (e : Fin 3) (h : Fin 16) (d : Fin 64) : EReal := X m c (ix5 b t e h d)
abbrev chs (c : Dev nD) (p : Fin 2560) (l : Fin 128) (e : Fin 2) (h : Fin 16) (d : Fin 64) : EReal := Cache m c (ix5 p l e h d)
abbrev pgs (c : Dev nD) (b : Fin 128) (j : Fin 16) : ℕ := (Pt m c (ix2 b j)).toNat

/-- The queries' block at a point. -/
theorem q_block (hO : Ok m) (c : Dev nD) (t : Fin (cfgM m hO).N) (b : Fin 128) (hb : b.val = t.val / 17) (a : Fin 64) (k : Fin 1024) :
    ((iblk m hO c 0 t : S1x64x1024.Idx → EReal) (ix3 0 a k) : EReal)
      = xs m c b ⟨a.val % 4, Nat.mod_lt _ (by decide)⟩ 0 ⟨a.val / 4, by have := a.isLt; omega⟩ ⟨k.val % 64, Nat.mod_lt _ (by decide)⟩
        * (((1 : ℝ) / 8 : ℝ) : EReal) * (if a.val / 4 = k.val / 64 then (1 : EReal) else 0) := by
  refine Eq.trans ?_ (V_q m c b a k)
  unfold iblk
  refine (View.read_apply _ _).trans ?_
  show (V m c main_v17 : S128x64x1024.Idx → EReal) _ = _
  refine congrArg (V m c main_v17 : S128x64x1024.Idx → EReal) (funext fun d => Fin.ext ?_)
  refine (Window.rect_emb_val ((cfgM m hO).win 0) t (ix3 0 a k) d).trans ?_
  match d with
  | ⟨0, _⟩ =>
    show (BitVec.ofNat 32 (grid0.coords t 0).val).toNat * 1 + 0 = b.val
    rw [ofNat_coord0, hb, Nat.mul_one, Nat.add_zero]
  | ⟨1, _⟩ => show 0 * 64 + a.val = a.val; omega
  | ⟨2, _⟩ => show 0 * 1024 + k.val = k.val; omega

/-- Where a page's block lies in the cache, at any admissible table. -/
theorem page_emb (pf : (pcfg0 (F := Ideal)).Adm) (t : Fin (cfg0 pf).N) (p : Fin 2560)
    (hp : cc0_transform_1 k0_off1_inb numel1_S1x1 pf.1 (grid0.coords t) 0 = p.val) (e : Fin 2) (h : Fin 16) (d : Fin 64) (l : Fin 128) :
    ((((cfg0 pf).win 1).rect t).emb (ix5 0 e h d l : S1x2x16x64x128.Idx) : S2560x2x16x64x128.Idx) = ix5 p e h d l :=
  funext fun a => Fin.ext (by
    refine (Window.rect_emb_val ((cfg0 pf).win 1) t (ix5 0 e h d l) a).trans ?_
    match a with
    | ⟨0, _⟩ => exact (Nat.mul_one _).trans hp
    | ⟨1, _⟩ => show 0 * 2 + e.val = e.val; omega
    | ⟨2, _⟩ => show 0 * 16 + h.val = h.val; omega
    | ⟨3, _⟩ => show 0 * 64 + d.val = d.val; omega
    | ⟨4, _⟩ => show 0 * 128 + l.val = l.val; omega)

/-- The page's block at a step that has one, as the cache's page. -/
theorem page_cells (hO : Ok m) (c : Dev nD) (t : Fin (cfgM m hO).N) (b : Fin 128) (hb : b.val = t.val / 17) (j : Fin 16)
    (hj : j.val = 15 - (t.val % 17 - 1)) (p : Fin 2560) (hp : p.val = (Pt m c (ix2 b j)).toNat) (e : Fin 2) (h : Fin 16) (d : Fin 64) (l : Fin 128) :
    ((iblk m hO c 1 t : S1x2x16x64x128.Idx → EReal) (ix5 0 e h d l) : EReal) = chs m c p l e h d := by
  refine Eq.trans ?_ (V_cache m c p e h d l)
  unfold iblk
  refine (View.read_apply _ _).trans ?_
  exact congrArg (V m c main_v23 : S2560x2x16x64x128.Idx → EReal)
    (page_emb (adm m hO) t p ((page_of m hO c t b hb j hj).trans hp.symm) e h d l)

/-- A page's keys and values are those of its 128 positions. -/
theorem kv_page (x : Fin 128 → Fin 4 → Fin 3 → Fin 16 → Fin 64 → EReal) (ch : Fin 2560 → Fin 128 → Fin 2 → Fin 16 → Fin 64 → EReal)
    (pg : Fin 128 → Fin 16 → ℕ) (e : Fin 2) (b : Fin 128) (h : Fin 16) (d : Fin 64) (j : Fin 16) (l : Fin 128) (p : Fin 2560)
    (hp : p.val = pg b j) (n : ℕ) (hn : n = j.val * 128 + l.val) : kv x ch pg e b h d n = ch p l e h d := by
  have hj := j.isLt
  have hl := l.isLt
  have e1 : (⟨n / 128 % 16, Nat.mod_lt _ (by decide)⟩ : Fin 16) = j := Fin.ext (by show n / 128 % 16 = j.val; omega)
  have e2 : (⟨n % 128, Nat.mod_lt _ (by decide)⟩ : Fin 128) = l := Fin.ext (by show n % 128 = l.val; omega)
  unfold kv
  rw [if_pos (by omega), e2]
  refine congrArg (fun q => ch q l e h d) (Fin.ext ?_)
  show pg b ⟨n / 128 % 16, _⟩ % 2560 = p.val
  rw [e1, ← hp, Nat.mod_eq_of_lt p.isLt]

/-- The page's block at a step that has one: the keys and values of its 128 positions. -/
theorem page_block (hO : Ok m) (c : Dev nD) (hT : ∀ i, (Pt m c i).toNat < 2560) (t : Fin (cfgM m hO).N) (b : Fin 128)
    (hb : b.val = t.val / 17) (h1 : 1 ≤ t.val % 17) (e : Fin 2) (h : Fin 16) (d : Fin 64) (l : Fin 128) :
    ((iblk m hO c 1 t : S1x2x16x64x128.Idx → EReal) (ix5 0 e h d l) : EReal)
      = kv (xs m c) (chs m c) (pgs m c) e b h d (2048 - 128 * (t.val % 17) + l.val) := by
  have hs : t.val % 17 < 17 := Nat.mod_lt _ (by decide)
  have hj : 15 - (t.val % 17 - 1) < 16 := by omega
  exact (page_cells m hO c t b hb ⟨_, hj⟩ rfl ⟨_, hT (ix2 b ⟨_, hj⟩)⟩ rfl e h d l).trans
    (kv_page (xs m c) (chs m c) (pgs m c) e b h d ⟨_, hj⟩ l ⟨_, hT (ix2 b ⟨_, hj⟩)⟩ rfl _ (by
      show 2048 - 128 * (t.val % 17) + l.val = (15 - (t.val % 17 - 1)) * 128 + l.val
      omega)).symm

/-- The new tokens' block: their keys and values, in the lanes that hold one. -/
theorem new_block (hO : Ok m) (c : Dev nD) (t : Fin (cfgM m hO).N) (b : Fin 128) (hb : b.val = t.val / 17) (e : Fin 2) (k : Fin 1024)
    (l : Fin 128) (hl : l.val < 4) :
    ((iblk m hO c 2 t : S1x2x1024x128.Idx → EReal) (ix4 0 e k l) : EReal)
      = kv (xs m c) (chs m c) (pgs m c) e b ⟨k.val / 64, by have := k.isLt; omega⟩ ⟨k.val % 64, Nat.mod_lt _ (by decide)⟩ (2048 + l.val) := by
  refine Eq.trans ?_ (Eq.trans (V_new m c b e k l hl) ?_)
  · unfold iblk
    refine (View.read_apply _ _).trans ?_
    show (V m c main_v22 : S128x2x1024x128.Idx → EReal) _ = _
    refine congrArg (V m c main_v22 : S128x2x1024x128.Idx → EReal) (funext fun a => Fin.ext ?_)
    refine (Window.rect_emb_val ((cfgM m hO).win 2) t (ix4 0 e k l) a).trans ?_
    match a with
    | ⟨0, _⟩ =>
      show (BitVec.ofNat 32 (grid0.coords t 0).val).toNat * 1 + 0 = b.val
      rw [ofNat_coord0, hb, Nat.mul_one, Nat.add_zero]
    | ⟨1, _⟩ => show 0 * 2 + e.val = e.val; omega
    | ⟨2, _⟩ => show 0 * 1024 + k.val = k.val; omega
    | ⟨3, _⟩ => show 0 * 128 + l.val = l.val; omega
  · unfold kv
    rw [if_neg (by omega), if_pos (by omega)]
    have e1 : (⟨(2048 + l.val) % 4, Nat.mod_lt _ (by decide)⟩ : Fin 4) = ⟨l.val, hl⟩ := Fin.ext (by
      show (2048 + l.val) % 4 = l.val
      omega)
    rw [e1]

/-- The matrix of the sums, whole at every point. -/
theorem sums_block (hO : Ok m) (c : Dev nD) (t : Fin (cfgM m hO).N) : Sums (iblk m hO c 3 t : S256x256.Idx → EReal) := by
  intro k j
  refine Eq.trans ?_ (V_sums m c k j)
  unfold iblk
  refine (View.read_apply _ _).trans ?_
  show (V m c main_v44 : S256x256.Idx → EReal) _ = _
  refine congrArg (V m c main_v44 : S256x256.Idx → EReal) (funext fun a => Fin.ext ?_)
  refine (Window.rect_emb_val ((cfgM m hO).win 3) t (ix2 k j) a).trans ?_
  match a with
  | ⟨0, _⟩ => show 0 * 256 + k.val = k.val; omega
  | ⟨1, _⟩ => show 0 * 256 + j.val = j.val; omega

/-- The folding matrix, whole at every point. -/
theorem fold_block (hO : Ok m) (c : Dev nD) (t : Fin (cfgM m hO).N) (k : Fin 1024) (d : Fin 64) :
    ((iblk m hO c 4 t : S1024x64.Idx → EReal) (ix2 k d) : EReal) = if k.val % 64 = d.val then (1 : EReal) else 0 := by
  refine Eq.trans ?_ (V_fold m c k d)
  unfold iblk
  refine (View.read_apply _ _).trans ?_
  show (V m c main_v43 : S1024x64.Idx → EReal) _ = _
  refine congrArg (V m c main_v43 : S1024x64.Idx → EReal) (funext fun a => Fin.ext ?_)
  refine (Window.rect_emb_val ((cfgM m hO).win 4) t (ix2 k d) a).trans ?_
  match a with
  | ⟨0, _⟩ => show 0 * 1024 + k.val = k.val; omega
  | ⟨1, _⟩ => show 0 * 64 + d.val = d.val; omega

end Cert.StickIdeal.Attn

end
-- ==== Proof.Stick.Acc.lean ====
/-
  The sample attention's two scratch buffers from one grid point to the next, and what a sequence's last point writes
  out, in terms of the stored values.
-/
module

public import proofs.«01_k».proof.Proof.Stick.Cases

@[expose] public section

set_option maxRecDepth 16384

noncomputable section

namespace Cert.StickIdeal.Attn

open Cert.StickIdeal Cert.StickIdeal.Gen
open Idealize.ShloMosaic Idealize.ShloMosaic.TcCoe Idealize.SL.Sem

variable {F : FTy → Type} [FloatOps F] (m : (ℓ : Loc nD τ sig) → Buf (Elt F) ℓ)

/-- The weighted values after a sequence's first point. -/
theorem acc_first (hO : Ok m) (c : Dev nD) (t : Fin (cfgM m hO).N) (h0 : t.val % 17 = 0) :
    (outsAt0 m hO c t.val t.isLt).2.1 = k0_pay5 (k0_pay9 (newV (iblk m hO c 2 t))) k0_pay10 (k0_pay11 (newK (iblk m hO c 2 t)) (iblk m hO c 0 t))
      (k0_pay12 (newK (iblk m hO c 2 t)) (iblk m hO c 0 t)) (iblk m hO c 3 t) (k0_pay2 (F := F)) (k0_pay1 (F := F)) := by
  have h2 : ¬ 1 ≤ t.val % 17 := by omega
  have h3 : ¬ t.val % 17 = 16 := by omega
  rw [outsAt0_A m hO c t h0 h0 h2 h3]
  dsimp only
  exact sout0_A_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) scM0_1 (Memref.isWhole_whole _) (iblk m hO c 0 t) (iblk m hO c 1 t) (iblk m hO c 2 t) (iblk m hO c 3 t) (iblk m hO c 4 t)
        (tbl m 0) ((hcond0_0 t).mpr h0) ((hcond0_1 t).mpr h0) (fun h => h2 ((hcond0_2 t).mp h)) (fun h => h3 ((hcond0_3 t).mp h))

/-- The log shares' sum after a sequence's first point. -/
theorem rest_first (hO : Ok m) (c : Dev nD) (t : Fin (cfgM m hO).N) (h0 : t.val % 17 = 0) :
    (outsAt0 m hO c t.val t.isLt).2.2 = k0_pay4 k0_pay10 (k0_pay12 (newK (iblk m hO c 2 t)) (iblk m hO c 0 t)) (iblk m hO c 3 t) (k0_pay2 (F := F)) := by
  have h2 : ¬ 1 ≤ t.val % 17 := by omega
  have h3 : ¬ t.val % 17 = 16 := by omega
  rw [outsAt0_A m hO c t h0 h0 h2 h3]
  dsimp only
  exact sout0_A_1_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) scM0_1 (Memref.isWhole_whole _) (iblk m hO c 0 t) (iblk m hO c 1 t) (iblk m hO c 2 t) (iblk m hO c 3 t) (iblk m hO c 4 t)
        (tbl m 0) ((hcond0_0 t).mpr h0) ((hcond0_1 t).mpr h0) (fun h => h2 ((hcond0_2 t).mp h)) (fun h => h3 ((hcond0_3 t).mp h))

/-- The weighted values after a page. -/
theorem acc_next (hO : Ok m) (c : Dev nD) (t : Fin (cfgM m hO).N) (h0 : ¬t.val % 17 = 0) (hp : t.val - 1 < (cfgM m hO).N) :
    (outsAt0 m hO c t.val t.isLt).2.1 = k0_pay7 (k0_pay13 (oldV (iblk m hO c 1 t)))
      (k0_pay16 (oldK (iblk m hO c 1 t)) (iblk m hO c 0 t) (iblk m hO c 3 t) (outsAt0 m hO c (t.val - 1) hp).2.2) (outsAt0 m hO c (t.val - 1) hp).2.1 := by
  have h2 : 1 ≤ t.val % 17 := by omega
  by_cases h3 : t.val % 17 = 16
  · rw [outsAt0_C m hO c t h0 h0 h2 h3]
    dsimp only
    exact sout0_C_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) scM0_1 (Memref.isWhole_whole _) (iblk m hO c 0 t) (iblk m hO c 1 t) (iblk m hO c 2 t) (iblk m hO c 3 t) (iblk m hO c 4 t)
        (tbl m 0) (outsAt0 m hO c (t.val - 1) hp).2.1 (outsAt0 m hO c (t.val - 1) hp).2.2
        (fun h => h0 ((hcond0_0 t).mp h)) (fun h => h0 ((hcond0_1 t).mp h)) ((hcond0_2 t).mpr h2) ((hcond0_3 t).mpr h3)
  · rw [outsAt0_B m hO c t h0 h0 h2 h3]
    dsimp only
    exact sout0_B_0_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) scM0_1 (Memref.isWhole_whole _) (iblk m hO c 0 t) (iblk m hO c 1 t) (iblk m hO c 2 t) (iblk m hO c 3 t) (iblk m hO c 4 t)
        (tbl m 0) (outsAt0 m hO c (t.val - 1) hp).2.1 (outsAt0 m hO c (t.val - 1) hp).2.2
        (fun h => h0 ((hcond0_0 t).mp h)) (fun h => h0 ((hcond0_1 t).mp h)) ((hcond0_2 t).mpr h2) (fun h => h3 ((hcond0_3 t).mp h))

/-- The log shares' sum after a page. -/
theorem rest_next (hO : Ok m) (c : Dev nD) (t : Fin (cfgM m hO).N) (h0 : ¬t.val % 17 = 0) (h3 : ¬t.val % 17 = 16) (hp : t.val - 1 < (cfgM m hO).N) :
    (outsAt0 m hO c t.val t.isLt).2.2 = k0_pay6 (k0_pay15 (oldK (iblk m hO c 1 t)) (iblk m hO c 0 t) (iblk m hO c 3 t)) (outsAt0 m hO c (t.val - 1) hp).2.2 := by
  have h2 : 1 ≤ t.val % 17 := by omega
  rw [outsAt0_B m hO c t h0 h0 h2 h3]
  dsimp only
  exact sout0_B_1_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) scM0_1 (Memref.isWhole_whole _) (iblk m hO c 0 t) (iblk m hO c 1 t) (iblk m hO c 2 t) (iblk m hO c 3 t) (iblk m hO c 4 t)
        (tbl m 0) (outsAt0 m hO c (t.val - 1) hp).2.1 (outsAt0 m hO c (t.val - 1) hp).2.2
        (fun h => h0 ((hcond0_0 t).mp h)) (fun h => h0 ((hcond0_1 t).mp h)) ((hcond0_2 t).mpr h2) (fun h => h3 ((hcond0_3 t).mp h))

/-- What a sequence's last point stores: each row's own head of the weighted values. -/
theorem out_last (hO : Ok m) (c : Dev nD) (t : Fin (cfgM m hO).N) (h3 : t.val % 17 = 16) :
    (outsAt0 m hO c t.val t.isLt).1 = k0_pay8 k0_pay17 k0_pay18 k0_pay19 (outsAt0 m hO c t.val t.isLt).2.1 (iblk m hO c 4 t) := by
  have h0 : ¬ t.val % 17 = 0 := by omega
  have h2 : 1 ≤ t.val % 17 := by omega
  have hp : t.val - 1 < (cfgM m hO).N := lt_of_le_of_lt (Nat.sub_le _ _) t.isLt
  rw [acc_next m hO c t h0 hp, outsAt0_C m hO c t h0 h0 h2 h3]
  dsimp only
  exact out0_C_5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
        scM0_0 (Memref.isWhole_whole _) scM0_1 (Memref.isWhole_whole _) (iblk m hO c 0 t) (iblk m hO c 1 t) (iblk m hO c 2 t) (iblk m hO c 3 t) (iblk m hO c 4 t)
        (tbl m 0) (outsAt0 m hO c (t.val - 1) hp).2.1 (outsAt0 m hO c (t.val - 1) hp).2.2
        (fun h => h0 ((hcond0_0 t).mp h)) (fun h => h0 ((hcond0_1 t).mp h)) ((hcond0_2 t).mpr h2) ((hcond0_3 t).mpr h3)

end Cert.StickIdeal.Attn

end
-- ==== Proof.Stick.Fold.lean ====
/-
  The sample attention's two scratch buffers after each grid point, as mathematics: the log shares of the positions from
  the point's tile on, and their weighted values; and what a sequence's last point writes out.
-/
module

public import proofs.«01_k».proof.Proof.Stick.Blocks
public import proofs.«01_k».proof.Proof.Stick.Acc
public import Idealize.ShloMosaic.Lib.Pipeline.ValueKit.Tiles

@[expose] public section

set_option maxRecDepth 16384

noncomputable section

namespace Cert.StickIdeal.Attn

open Cert.StickIdeal Cert.StickIdeal.Gen Cert.Stickbreak
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ)

theorem newK_apply (x : FVec Ideal S1x2x1024x128 .bf16) (k : Fin 1024) (l : Fin 128) :
    newK (F := Ideal) x (ix4 0 0 k l) = x (ix4 0 0 k l) := by
  refine View.ld_unit_apply_of (S := S1x2x1024x128) (Val := Elt Ideal) (e := .bf16) x _ _ _ _ (ix4 0 0 k l) fun a => ?_
  match a with
  | ⟨0, _⟩ => rfl
  | ⟨1, _⟩ => rfl
  | ⟨2, _⟩ => exact (Nat.zero_add _).symm
  | ⟨3, _⟩ => exact (Nat.zero_add _).symm
theorem newV_apply (x : FVec Ideal S1x2x1024x128 .bf16) (k : Fin 1024) (l : Fin 128) :
    newV (F := Ideal) x (ix4 0 0 k l) = x (ix4 0 1 k l) := by
  refine View.ld_unit_apply_of (S := S1x2x1024x128) (Val := Elt Ideal) (e := .bf16) x _ _ _ _ (ix4 0 1 k l) fun a => ?_
  match a with
  | ⟨0, _⟩ => rfl
  | ⟨1, _⟩ => rfl
  | ⟨2, _⟩ => exact (Nat.zero_add _).symm
  | ⟨3, _⟩ => exact (Nat.zero_add _).symm
theorem oldK_apply (x : FVec Ideal S1x2x16x64x128 .f32) (h : Fin 16) (d : Fin 64) (l : Fin 128) :
    oldK (F := Ideal) x (ix5 0 0 h d l) = x (ix5 0 0 h d l) := by
  refine View.ld_unit_apply_of (S := S1x2x16x64x128) (Val := Elt Ideal) (e := .f32) x _ _ _ _ (ix5 0 0 h d l) fun a => ?_
  match a with
  | ⟨0, _⟩ => rfl
  | ⟨1, _⟩ => rfl
  | ⟨2, _⟩ => exact (Nat.zero_add _).symm
  | ⟨3, _⟩ => exact (Nat.zero_add _).symm
  | ⟨4, _⟩ => exact (Nat.zero_add _).symm
theorem oldV_apply (x : FVec Ideal S1x2x16x64x128 .f32) (h : Fin 16) (d : Fin 64) (l : Fin 128) :
    oldV (F := Ideal) x (ix5 0 0 h d l) = x (ix5 0 1 h d l) := by
  refine View.ld_unit_apply_of (S := S1x2x16x64x128) (Val := Elt Ideal) (e := .f32) x _ _ _ _ (ix5 0 1 h d l) fun a => ?_
  match a with
  | ⟨0, _⟩ => rfl
  | ⟨1, _⟩ => rfl
  | ⟨2, _⟩ => exact (Nat.zero_add _).symm
  | ⟨3, _⟩ => exact (Nat.zero_add _).symm
  | ⟨4, _⟩ => exact (Nat.zero_add _).symm

theorem pay9_apply (v : FVec Ideal S1x1x1024x128 .bf16) (k : Fin 1024) (l : Fin 128) : k0_pay9 (F := Ideal) v (ix2 k l) = v (ix4 0 0 k l) := by
  unfold k0_pay9
  refine shapeCast_apply _ _ _ _ ?_
  rw [Shape.rowMajor_val_four, Shape.rowMajor_val_two]
  show ((0 * 1 + 0) * 1024 + k.val) * 128 + l.val = k.val * 128 + l.val
  omega

/-- A row's token and head. -/
abbrev tok (a : Fin 64) : Fin 4 := ⟨a.val % 4, Nat.mod_lt _ (by decide)⟩
abbrev head (a : Fin 64) : Fin 16 := ⟨a.val / 4, by have := a.isLt; omega⟩
/-- A column's head and its place in it. -/
abbrev chead (k : Fin 1024) : Fin 16 := ⟨k.val / 64, by have := k.isLt; omega⟩
abbrev ccol (k : Fin 1024) : Fin 64 := ⟨k.val % 64, Nat.mod_lt _ (by decide)⟩

/-- The scores of a row. -/
abbrev sc (c : Dev nD) (b : Fin 128) (a : Fin 64) : ℕ → EReal := score (xs m c) (chs m c) (pgs m c) b (tok a) (head a)
/-- The log shares a row sees. -/
abbrev shs (c : Dev nD) (b : Fin 128) (a : Fin 64) : ℕ → EReal := keep (2048 + a.val % 4) fun i => left (sc m c b a i)
/-- The weighted values of a row in one column. -/
abbrev wvs (c : Dev nD) (b : Fin 128) (a : Fin 64) (k : Fin 1024) : ℕ → EReal :=
  fun i => weight (2048 + a.val % 4) (sc m c b a) i * kv (xs m c) (chs m c) (pgs m c) 1 b (chead k) (ccol k) i

/-- The new tokens' scores. -/
theorem score_new (hO : Ok m) (c : Dev nD) (t : Fin (cfgM m hO).N) (b : Fin 128) (hb : b.val = t.val / 17) (a : Fin 64) (l : Fin 128) (hl : l.val < 4) :
    (k0_pay11 (F := Ideal) (newK (iblk m hO c 2 t)) (iblk m hO c 0 t) (ix2 a l) : EReal) = sc m c b a (2048 + l.val) := by
  refine (pay11_apply _ _ a l).trans ?_
  refine sum_query (fun k => (iblk m hO c 0 t : S1x64x1024.Idx → EReal) (ix3 0 a k)) (fun k => newK (F := Ideal) (iblk m hO c 2 t) (ix4 0 0 k l))
    (fun d => xs m c b (tok a) 0 (head a) d) (fun d => kv (xs m c) (chs m c) (pgs m c) 0 b (head a) d (2048 + l.val)) (head a)
    (fun k => q_block m hO c t b hb a k) fun k hk => ?_
  refine (newK_apply _ k l).trans ((new_block m hO c t b hb 0 k l hl).trans ?_)
  exact congrArg (fun h => kv (xs m c) (chs m c) (pgs m c) 0 b h (ccol k) (2048 + l.val)) (Fin.ext hk : chead k = head a)

/-- A page's scores. -/
theorem score_page (hO : Ok m) (c : Dev nD) (hT : ∀ i, (Pt m c i).toNat < 2560) (t : Fin (cfgM m hO).N) (b : Fin 128) (hb : b.val = t.val / 17)
    (h1 : 1 ≤ t.val % 17) (a : Fin 64) (l : Fin 128) :
    (k0_pay14 (F := Ideal) (oldK (iblk m hO c 1 t)) (iblk m hO c 0 t) (ix2 a l) : EReal) = sc m c b a (2048 - 128 * (t.val % 17) + l.val) := by
  refine (pay14_apply _ _ a l).trans ?_
  refine sum_query (fun k => (iblk m hO c 0 t : S1x64x1024.Idx → EReal) (ix3 0 a k)) (fun k => k0_pay13 (F := Ideal) (oldK (iblk m hO c 1 t)) (ix2 k l))
    (fun d => xs m c b (tok a) 0 (head a) d) (fun d => kv (xs m c) (chs m c) (pgs m c) 0 b (head a) d (2048 - 128 * (t.val % 17) + l.val)) (head a)
    (fun k => q_block m hO c t b hb a k) fun k hk => ?_
  refine (pay13_apply _ k l).trans ((oldK_apply _ (chead k) (ccol k) l).trans ((page_block m hO c hT t b hb h1 0 (chead k) (ccol k) l).trans ?_))
  exact congrArg (fun h => kv (xs m c) (chs m c) (pgs m c) 0 b h (ccol k) (2048 - 128 * (t.val % 17) + l.val)) (Fin.ext hk : chead k = head a)

/-- The new tokens' log shares, as the row sees them. -/
theorem seen_new (hO : Ok m) (c : Dev nD) (t : Fin (cfgM m hO).N) (b : Fin 128) (hb : b.val = t.val / 17) (a : Fin 64) (l : Fin 128) :
    (seen (k0_pay12 (F := Ideal) (newK (iblk m hO c 2 t)) (iblk m hO c 0 t)) (ix2 a l) : EReal) = shs m c b a (2048 + l.val) := by
  refine (seen_apply _ a l).trans ?_
  show _ = if 2048 + l.val < 2048 + a.val % 4 then left (sc m c b a (2048 + l.val)) else 0
  by_cases h : l.val < a.val % 4
  · have h4 : l.val < 4 := by omega
    rw [if_pos h, if_pos (by omega), ← score_new m hO c t b hb a l h4]
    exact pay12_apply _ _ a l
  · rw [if_neg h, if_neg (by omega)]

/-- A page's log shares, which every row sees. -/
theorem shares_page (hO : Ok m) (c : Dev nD) (hT : ∀ i, (Pt m c i).toNat < 2560) (t : Fin (cfgM m hO).N) (b : Fin 128) (hb : b.val = t.val / 17)
    (h1 : 1 ≤ t.val % 17) (a : Fin 64) (l : Fin 128) :
    (shares (oldK (iblk m hO c 1 t)) (iblk m hO c 0 t) (ix2 a l) : EReal) = shs m c b a (2048 - 128 * (t.val % 17) + l.val) := by
  have hl := l.isLt
  show left (k0_pay14 (F := Ideal) (oldK (iblk m hO c 1 t)) (iblk m hO c 0 t) (ix2 a l)) =
    if 2048 - 128 * (t.val % 17) + l.val < 2048 + a.val % 4 then left (sc m c b a (2048 - 128 * (t.val % 17) + l.val)) else 0
  rw [if_pos (by omega), score_page m hO c hT t b hb h1 a l]

theorem left_seen (k : FVec Ideal S1x1x1024x128 .bf16) (q : FVec Ideal S1x64x1024 .bf16) (i : S64x128.Idx) :
    (k0_pay12 (F := Ideal) k q i : EReal) ≠ ⊤ := by
  obtain ⟨a, l, rfl⟩ : ∃ (a : Fin 64) (l : Fin 128), i = (ix2 a l : S64x128.Idx) :=
    ⟨i 0, i 1, funext fun d => by match d with | ⟨0, _⟩ => rfl | ⟨1, _⟩ => rfl⟩
  rw [pay12_apply]
  exact left_ne_top _

/-- The log shares' sum after a sequence's first point. -/
theorem rest_zero (hO : Ok m) (c : Dev nD) (t : Fin (cfgM m hO).N) (h0 : t.val % 17 = 0) (b : Fin 128) (hb : b.val = t.val / 17)
    (a : Fin 64) (l : Fin 128) :
    ((outsAt0 m hO c t.val t.isLt).2.2 (ix2 a l) : EReal) = tail (shs m c b a) (2048 - 128 * (t.val % 17)) := by
  rw [rest_first m hO c t h0, h0]
  refine (pay4_apply _ _ (sums_block m hO c t) (left_seen _ _) _ a l).trans ?_
  rw [pay2_apply, zero_add, Nat.mul_zero, Nat.sub_zero, tail_tile _ 2048 (by decide), tail_end, add_zero]
  exact Finset.sum_congr rfl fun k _ => seen_new m hO c t b hb a k

/-- The log shares' sum after every point but a sequence's last. -/
theorem rest_eq (hO : Ok m) (c : Dev nD) (hT : ∀ i, (Pt m c i).toNat < 2560) : ∀ (n : ℕ) (hn : n < (cfgM m hO).N) (_ : n % 17 ≠ 16)
    (b : Fin 128) (_ : b.val = n / 17) (a : Fin 64) (l : Fin 128),
    ((outsAt0 m hO c n hn).2.2 (ix2 a l) : EReal) = tail (shs m c b a) (2048 - 128 * (n % 17)) := by
  intro n
  induction n with
  | zero => exact fun hn _ b hb a l => rest_zero m hO c ⟨0, hn⟩ rfl b hb a l
  | succ n ih =>
    intro hn h16 b hb a l
    by_cases h0 : (n + 1) % 17 = 0
    · exact rest_zero m hO c ⟨n + 1, hn⟩ h0 b hb a l
    · have hp : n < (cfgM m hO).N := Nat.lt_of_succ_lt hn
      have hi := ih hp (by omega) b (by omega) a l
      rw [rest_next m hO c ⟨n + 1, hn⟩ h0 h16 hp]
      refine (pay6_apply _ _ _ (sums_block m hO c _) _ a l).trans ?_
      rw [tail_tile (shs m c b a) (2048 - 128 * ((n + 1) % 17)) (by omega), add_comm]
      refine congrArg₂ (fun p q : EReal => p + q) (Finset.sum_congr rfl fun k _ => shares_page m hO c hT ⟨n + 1, hn⟩ b hb (by show 1 ≤ (n + 1) % 17; omega) a k)
        (hi.trans (congrArg _ ?_))
      omega

/-- The weighted values after a sequence's first point. -/
theorem acc_zero (hO : Ok m) (c : Dev nD) (t : Fin (cfgM m hO).N) (h0 : t.val % 17 = 0) (b : Fin 128) (hb : b.val = t.val / 17)
    (a : Fin 64) (k : Fin 1024) :
    ((outsAt0 m hO c t.val t.isLt).2.1 (ix2 a k) : EReal) = tail (wvs m c b a k) (2048 - 128 * (t.val % 17)) := by
  rw [acc_first m hO c t h0, h0]
  refine (pay5_apply _ _ _ _ (sums_block m hO c t) (left_seen _ _) _ _ a k).trans ?_
  rw [pay1_apply, zero_add, Nat.mul_zero, Nat.sub_zero, tail_tile _ 2048 (by decide), tail_end, add_zero]
  refine Finset.sum_congr rfl fun l _ => ?_
  show _ = (if 2048 + l.val < 2048 + a.val % 4 then Ideal.exp (sc m c b a (2048 + l.val) + tail (shs m c b a) (2048 + l.val)) else 0) * _
  by_cases h : l.val < a.val % 4
  · have h4 : l.val < 4 := by omega
    rw [if_pos h, if_pos (by omega), pay2_apply, add_zero, tail_lane _ 2048 (by decide) l, tail_end, add_zero, score_new m hO c t b hb a l h4]
    refine congrArg₂ (fun p q : EReal => p * q) (congrArg (fun s : EReal => Ideal.exp (sc m c b a (2048 + l.val) + s)) (Finset.sum_congr rfl fun j _ => ?_)) ?_
    · rw [seen_new m hO c t b hb a j]
    · exact (pay9_apply _ k l).trans ((newV_apply _ k l).trans (new_block m hO c t b hb 1 k l h4))
  · rw [if_neg h, if_neg (by omega), zero_mul, zero_mul]

/-- The weighted values after every point. -/
theorem acc_eq (hO : Ok m) (c : Dev nD) (hT : ∀ i, (Pt m c i).toNat < 2560) : ∀ (n : ℕ) (hn : n < (cfgM m hO).N)
    (b : Fin 128) (_ : b.val = n / 17) (a : Fin 64) (k : Fin 1024),
    ((outsAt0 m hO c n hn).2.1 (ix2 a k) : EReal) = tail (wvs m c b a k) (2048 - 128 * (n % 17)) := by
  intro n
  induction n with
  | zero => exact fun hn b hb a k => acc_zero m hO c ⟨0, hn⟩ rfl b hb a k
  | succ n ih =>
    intro hn b hb a k
    by_cases h0 : (n + 1) % 17 = 0
    · exact acc_zero m hO c ⟨n + 1, hn⟩ h0 b hb a k
    · have hp : n < (cfgM m hO).N := Nat.lt_of_succ_lt hn
      have hi := ih hp b (by omega) a k
      have h1 : 1 ≤ (⟨n + 1, hn⟩ : Fin (cfgM m hO).N).val % 17 := by show 1 ≤ (n + 1) % 17; omega
      rw [acc_next m hO c ⟨n + 1, hn⟩ h0 hp]
      refine (pay7_apply _ _ _ a k).trans ?_
      rw [tail_tile (wvs m c b a k) (2048 - 128 * ((n + 1) % 17)) (by omega), add_comm]
      refine congrArg₂ (fun p q : EReal => p + q) (Finset.sum_congr rfl fun l _ => ?_) (hi.trans (congrArg _ (by omega)))
      have hl := l.isLt
      refine congrArg₂ (fun p q : EReal => p * q) ?_ ?_
      · refine (pay16_apply _ _ _ (sums_block m hO c _) _ a l).trans ?_
        show _ = if 2048 - 128 * ((n + 1) % 17) + l.val < 2048 + a.val % 4 then
          Ideal.exp (sc m c b a (2048 - 128 * ((n + 1) % 17) + l.val) + tail (shs m c b a) (2048 - 128 * ((n + 1) % 17) + l.val)) else 0
        rw [if_pos (by omega), tail_lane _ (2048 - 128 * ((n + 1) % 17)) (by omega) l, ← add_assoc]
        refine congrArg Ideal.exp (congrArg₂ (fun p q : EReal => p + q) (congrArg₂ (fun p q : EReal => p + q)
          (score_page m hO c hT ⟨n + 1, hn⟩ b hb h1 a l) (Finset.sum_congr rfl fun j _ => ?_)) ?_)
        · rw [shares_page m hO c hT ⟨n + 1, hn⟩ b hb h1 a j]
        · exact (rest_eq m hO c hT n hp (by omega) b (by omega) a l).trans (congrArg _ (by omega))
      · exact (pay13_apply _ k l).trans ((oldV_apply _ (chead k) (ccol k) l).trans (page_block m hO c hT ⟨n + 1, hn⟩ b hb h1 1 (chead k) (ccol k) l))

/-- What a sequence's last point stores, at one index: the attention's result. -/
theorem out_eq (hO : Ok m) (c : Dev nD) (hT : ∀ i, (Pt m c i).toNat < 2560) (t : Fin (cfgM m hO).N) (h3 : t.val % 17 = 16)
    (b : Fin 128) (hb : b.val = t.val / 17) (a d : Fin 64) :
    ((outsAt0 m hO c t.val t.isLt).1 (ix3 0 a d) : EReal) = stick (xs m c) (chs m c) (pgs m c) b (tok a) (head a) d := by
  have ha := a.isLt
  have hd := d.isLt
  have hk : a.val / 4 * 64 + d.val < 1024 := by omega
  rw [out_last m hO c t h3]
  refine (pay8_apply _ _ (fold_block m hO c t) a d).trans ((acc_eq m hO c hT t.val t.isLt b hb a ⟨_, hk⟩).trans ?_)
  have e1 : chead ⟨_, hk⟩ = head a := Fin.ext (by show (a.val / 4 * 64 + d.val) / 64 = a.val / 4; omega)
  have e2 : ccol ⟨_, hk⟩ = d := Fin.ext (by show (a.val / 4 * 64 + d.val) % 64 = d.val; omega)
  unfold stick attend wvs
  rw [e1, e2, h3]

end Cert.StickIdeal.Attn

end
-- ==== Proof.Stick.Value.lean ====
/-
  The sample attention's run, read: the call's result array, the host's lines after it, and the arguments unchanged.
-/
module

public import proofs.«01_k».proof.Proof.Stick.Fold

@[expose] public section

set_option maxRecDepth 16384

noncomputable section

namespace Cert.StickIdeal.Attn

open Cert.StickIdeal Cert.StickIdeal.Gen Cert.Stickbreak
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ)

/-- The call's result array: for each sequence, head and new token, the attention's row. -/
def heads (c : Dev nD) : FVec Ideal S128x64x64 .f32 :=
  fun i => stick (xs m c) (chs m c) (pgs m c) (i 0) (tok (i 1)) (head (i 1)) (i 2)

/-- Where a sequence's block lies in the call's result, at any admissible table. -/
theorem out_emb (pf : (pcfg0 (F := Ideal)).Adm) (t : Fin (cfg0 pf).N) (b : Fin 128) (hb : b.val = t.val / 17) (a d : Fin 64) :
    ((((cfg0 pf).win 5).rect t).emb (ix3 0 a d : S1x64x64.Idx) : S128x64x64.Idx) = ix3 b a d :=
  funext fun k => Fin.ext (by
    refine (Window.rect_emb_val ((cfg0 pf).win 5) t (ix3 0 a d) k).trans ?_
    match k with
    | ⟨0, _⟩ =>
      show (BitVec.ofNat 32 (grid0.coords t 0).val).toNat * 1 + 0 = b.val
      rw [ofNat_coord0, hb, Nat.mul_one, Nat.add_zero]
    | ⟨1, _⟩ => show 0 * 64 + a.val = a.val; omega
    | ⟨2, _⟩ => show 0 * 64 + d.val = d.val; omega)

/-- Every write-back stores its block of the result. -/
theorem flushed_eq (hO : Ok m) (c : Dev nD) (hT : ∀ i, (Pt m c i).toNat < 2560) (t : Fin (cfgM m hO).N)
    (hf : ((cfgM m hO).win 5).flush t = true) :
    (dats m hO 0 c).flushed 5 t = (((cfgM m hO).win 5).blk t).view.read (Elt Ideal) (heads m c) := by
  have h6 : t.val % 17 = 16 := (flush0_5 (adm m hO) t).mp hf
  have hN : t.val < 2176 := Nat.lt_of_lt_of_eq t.isLt N_0
  show ((cfgM m hO).win 5).cut (grid0.coords t) ((dats m hO 0 c).after 5 t) = _
  rw [after0_5]
  refine funext fun (j : S1x64x64.Idx) => ?_
  obtain ⟨a, d, rfl⟩ : ∃ (a d : Fin 64), j = (ix3 0 a d : S1x64x64.Idx) :=
    ⟨j 1, j 2, funext fun k => by match k with | ⟨0, _⟩ => exact Subsingleton.elim (α := Fin 1) _ _ | ⟨1, _⟩ => rfl | ⟨2, _⟩ => rfl⟩
  have hr : t.val / 17 < 128 := by omega
  refine Eq.trans ?_ (View.read_apply _ _).symm
  refine Eq.trans (out_eq m hO c hT t h6 ⟨_, hr⟩ rfl a d) ?_
  exact (congrArg (heads m c) (out_emb (adm m hO) t ⟨_, hr⟩ rfl a d)).symm

/-- The write-backs cover the array. -/
theorem final_o (hO : Ok m) (c : Dev nD) (hT : ∀ i, (Pt m c i).toNat < 2560) :
    (dats m hO 0 c).arrAt 5 (cfgM m hO).N = heads m c :=
  (dats m hO 0 c).arrAt_eq_of_cover 5 (heads m c) (flushed_eq m hO c hT) fun (i : S128x64x64.Idx) => by
    have h0 : (i 0 : Nat) < 128 := (i 0).isLt
    have ht : 17 * (i 0 : Nat) + 16 < (cfgM m hO).N := by
      show _ < grid0.N
      rw [N_0]; omega
    refine ⟨⟨_, ht⟩, (flush0_5 (adm m hO) _).mpr ?_, ?_⟩
    · show (17 * (i 0 : Nat) + 16) % 17 = 16
      omega
    · refine Finset.mem_map.mpr ⟨(ix3 0 (i 1) (i 2) : S1x64x64.Idx), Finset.mem_univ _, ?_⟩
      refine (out_emb (adm m hO) ⟨_, ht⟩ (i 0) ?_ (i 1) (i 2)).trans ?_
      · show (i 0 : Nat) = (17 * (i 0 : Nat) + 16) / 17
        omega
      · exact funext fun k => by match k with | ⟨0, _⟩ => rfl | ⟨1, _⟩ => rfl | ⟨2, _⟩ => rfl

/-- The lines after the call: a row per new token, its heads side by side. -/
def rows (Y : FVec Ideal S128x64x64 .f32) : FVec Ideal S512x1024 .f32 :=
  shapeCast S512x1024 (transpose S128x4x16x64 [0, 2, 1, 3] (shapeCast S128x16x4x64 Y shapeCasts_S128x64x64_S128x16x4x64)
    transposes_S128x16x4x64_S128x4x16x64_0_2_1_3) shapeCasts_S128x4x16x64_S512x1024

theorem rows_apply (Y : FVec Ideal S128x64x64 .f32) (r : Fin 512) (k : Fin 1024) (b : Fin 128) (a d : Fin 64)
    (hb : b.val = r.val / 4) (ha : a.val = k.val / 64 * 4 + r.val % 4) (hd : d.val = k.val % 64) : rows Y (ix2 r k) = Y (ix3 b a d) := by
  have hk := k.isLt
  have hr := r.isLt
  have h1 : r.val % 4 < 4 := Nat.mod_lt _ (by decide)
  have h2 : k.val / 64 < 16 := by omega
  unfold rows
  refine (shapeCast_apply _ _ _ (ix4 b ⟨r.val % 4, h1⟩ ⟨k.val / 64, h2⟩ d) ?_).trans ?_
  · rw [Shape.rowMajor_val_two, Shape.rowMajor_val_four]
    show ((b.val * 4 + r.val % 4) * 16 + k.val / 64) * 64 + d.val = r.val * 1024 + k.val
    omega
  refine (transpose_apply _ _ _ _ (ix4 b ⟨k.val / 64, h2⟩ ⟨r.val % 4, h1⟩ d) fun p => ?_).trans ?_
  · match p with
    | ⟨0, _⟩ => rfl
    | ⟨1, _⟩ => rfl
    | ⟨2, _⟩ => rfl
    | ⟨3, _⟩ => rfl
  refine shapeCast_apply _ _ _ (ix3 b a d) ?_
  rw [Shape.rowMajor_val_three, Shape.rowMajor_val_four]
  show (b.val * 64 + a.val) * 64 + d.val = ((b.val * 16 + k.val / 64) * 4 + r.val % 4) * 64 + d.val
  omega

/-- The lines after the call read its result array. -/
theorem after_call (hO : Ok m) (c : Dev nD) (hT : ∀ i, (Pt m c i).toNat < 2560) :
    Pipeline.withArrays spec0 c (V0 m c) (fun w => (dats m hO 0 c).arrAt w (cfgM m hO).N) (Proc.devRef .tc main_v45) = heads m c :=
  (Pipeline.withArrays_arr spec0 (by decide) c (V0 m c) _ 5).trans (final_o m hO c hT)

theorem result_rows (hO : Ok m) (c : Dev nD) (hT : ∀ i, (Pt m c i).toNat < 2560) :
    Pipeline.afterTail pcfgs (fun _ => adm m hO) (dats m hO) 0 (V0 m) [hostOps1] c main_v48 = rows (heads m c) := by
  rw [← after_call m hO c hT]
  show StableHlo.after hostOps1 (Pipeline.withArrays spec0 c (V0 m c) fun w => (dats m hO 0 c).arrAt w (cfgM m hO).N)
    (Proc.devRef .tc main_v48) = _
  generalize (Pipeline.withArrays spec0 c (V0 m c) fun w => (dats m hO 0 c).arrAt w (cfgM m hO).N) = U
  after_results
  rfl

/-- The run: the result at the attention's rows, the arguments unchanged. -/
theorem run (ρ : Dev nD → PrngReg) (hO : Ok m) (hT : ∀ (c : Dev nD) i, (Pt m c i).toNat < 2560) :
    θ_run defs (onTc (τ := τ) (main (F := Ideal))) ⟨m, fun _ => 0, ρ⟩ (fun r => ∀ c : Dev nD,
      r.2.mem ((c.tc : Thread nD τ).loc main_v48) = rows (heads m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v48 (by decide : main_v48 ∈ Pipeline.restRefs sig spec0)).trans (result_rows m hO c (hT c)),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

end Cert.StickIdeal.Attn

end
-- ==== Proof.Stick.Ref.lean ====
/-
  The reference's sample attention, read at one index: the keys and values it gathers from the cache's pages and lays
  before the new tokens, its scores, its running sum of log shares from the end, and its weighted sum of values.
-/
module

public import proofs.«01_k».proof.Proof.Gen.StickRefIdeal.Run
public import proofs.«01_k».proof.Proof.Gen.StickRefIdeal.Read
public import proofs.«01_k».proof.Proof.Stick.Blocks

@[expose] public section

set_option maxRecDepth 16384

noncomputable section

namespace Cert.StickRef

open Cert.StickRefIdeal Cert.StickRefIdeal.Gen Cert.StickRefIdeal.Read Cert.Stickbreak
open Cert.StickIdeal.Attn (kv_page select_ofBool)
open Idealize.ShloMosaic Idealize.ShloMosaic.TcCoe Idealize.ShloMosaic.ValueIdx
open scoped BigOperators

variable (x0 : FVec Ideal S128x4x3x16x64 .f32) (x1 : FVec Ideal S2560x128x2x16x64 .f32) (x2 : IVec S128x16 32)

/-- The arguments as functions of their coordinates. -/
abbrev xs (b : Fin 128) (t : Fin 4) (e : Fin 3) (h : Fin 16) (d : Fin 64) : EReal := x0 (ix5 b t e h d)
abbrev chs (p : Fin 2560) (l : Fin 128) (e : Fin 2) (h : Fin 16) (d : Fin 64) : EReal := x1 (ix5 p l e h d)
abbrev pgs (b : Fin 128) (j : Fin 16) : ℕ := (x2 (ix2 b j)).toNat

/-- A small natural number as a 32-bit word, read with its sign. -/
theorem toInt_small (n : ℕ) (h : n < 2 ^ 31) : (BitVec.ofNat 32 n).toInt = (n : Int) := by
  rw [BitVec.toInt_eq_toNat_cond, BitVec.toNat_ofNat, Nat.mod_eq_of_lt (by omega), if_pos (by omega)]

/-- A page number is not negative as a signed word. -/
theorem toInt_page (w : BitVec 32) (h : w.toNat < 2560) : w.toInt = (w.toNat : Int) := by
  rw [BitVec.toInt_eq_toNat_cond, if_pos (by omega)]

/-- The correction of negative entries leaves a page number as it is. -/
theorem fix_page (w v : BitVec 32) (h : w.toNat < 2560) : Scalar.select (IntOp.cmpi .slt w 0#32) v w = w := by
  refine if_neg fun hc => ?_
  have := IntOp.cmpi_slt.mp hc
  rw [toInt_page w h] at this
  have h0 : (0#32 : BitVec 32).toInt = 0 := by decide
  omega

/-- Two arrays of one column each, side by side. -/
theorem pair_apply (u v : IVec S128x16x1 32) (b : Fin 128) (j : Fin 16) (e : Fin 2) :
    concatenate S128x16x2 2 [⟨S128x16x1, u⟩, ⟨S128x16x1, v⟩] concatenates_S128x16x1_S128x16x1_S128x16x2_d2 (ix3 b j e)
      = if e.val = 0 then u (ix3 b j 0) else v (ix3 b j 0) := by
  have he := e.isLt
  by_cases h : e.val = 0
  · rw [if_pos h]
    refine concatenate_pair_apply_left (t := S128x16x2) (s₁ := S128x16x1) (s₂ := S128x16x1) 2 _ _ _ _ rfl (ix3 b j 0) fun a => ?_
    match a with
    | ⟨0, _⟩ => rfl
    | ⟨1, _⟩ => rfl
    | ⟨2, _⟩ => exact h.symm
  · rw [if_neg h]
    refine concatenate_pair_apply_right (t := S128x16x2) (s₁ := S128x16x1) (s₂ := S128x16x1) 2 _ _ _ _ rfl rfl (ix3 b j 0) (fun a ha => ?_) ?_
    · match a with
      | ⟨0, _⟩ => rfl
      | ⟨1, _⟩ => rfl
      | ⟨2, _⟩ => exact absurd rfl ha
    · show 0 + 1 = e.val
      omega

/-- The gather, at one index: the cache's page and plane that the two start words name. -/
theorem gather_apply (idx : IVec S128x16x2 32) (b : Fin 128) (j : Fin 16) (l : Fin 128) (h : Fin 16) (d : Fin 64)
    (p : Fin 2560) (e : Fin 2) (hp : (idx (ix3 b j 0)).toInt = p.val) (he : (idx (ix3 b j 1)).toInt = e.val) :
    Host.gather gather_S2560x128x2x16x64_S128x16x2_S128x16x128x16x64_234_02_n_n_02_2_112811664 x1 idx (ix5 b j l h d)
      = x1 (ix5 p l e h d) := by
  have hpl := p.isLt
  have hel := e.isLt
  unfold Host.gather
  refine congrArg x1 (funext fun a => Fin.ext ?_)
  show GatherDims.start _ _ _ a + GatherDims.batchCoord _ _ a + GatherDims.offCoord _ _ a = _
  rw [GatherDims.batchCoord_eq_zero _ _ _ List.not_mem_nil, Nat.add_zero]
  have h5 : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases h5 with rfl | rfl | rfl | rfl | rfl
  · rw [GatherDims.offCoord_eq_zero _ _ _ (fun h => ((GatherDims.mem_sKept _ _).mp h).1 (by decide)), Nat.add_zero]
    unfold GatherDims.start
    rw [dif_pos (by decide)]
    have hs : GatherDims.siIdx gather_S2560x128x2x16x64_S128x16x2_S128x16x128x16x64_234_02_n_n_02_2_112811664
        (ix5 b j l h d : S128x16x128x16x64.Idx) ⟨0, by decide⟩ = (ix3 b j 0 : S128x16x2.Idx) :=
      funext fun q => Fin.ext (by match q with | ⟨0, _⟩ => rfl | ⟨1, _⟩ => rfl | ⟨2, _⟩ => rfl)
    refine (congrArg (fun q => min (idx q).toInt.toNat (2560 - 1)) hs).trans ?_
    show min (idx (ix3 b j 0)).toInt.toNat 2559 = p.val
    rw [hp]; omega
  · unfold GatherDims.start GatherDims.offCoord
    rw [dif_neg (by decide), dif_pos (by decide), Nat.zero_add]
    rfl
  · rw [GatherDims.offCoord_eq_zero _ _ _ (fun h => ((GatherDims.mem_sKept _ _).mp h).1 (by decide)), Nat.add_zero]
    unfold GatherDims.start
    rw [dif_pos (by decide)]
    have hs : GatherDims.siIdx gather_S2560x128x2x16x64_S128x16x2_S128x16x128x16x64_234_02_n_n_02_2_112811664
        (ix5 b j l h d : S128x16x128x16x64.Idx) ⟨1, by decide⟩ = (ix3 b j 1 : S128x16x2.Idx) :=
      funext fun q => Fin.ext (by match q with | ⟨0, _⟩ => rfl | ⟨1, _⟩ => rfl | ⟨2, _⟩ => rfl)
    refine (congrArg (fun q => min (idx q).toInt.toNat (2 - 1)) hs).trans ?_
    show min (idx (ix3 b j 1)).toInt.toNat 1 = e.val
    rw [he]; omega
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- The pages' positions before the new tokens: one plane of the keys and values, position by position. -/
theorem full_apply (hT : ∀ i, (x2 i).toNat < 2560) (e : Fin 2) (G : FVec Ideal S128x16x128x16x64 .f32) (N : FVec Ideal S128x4x16x64 .f32)
    (A : FVec Ideal S128x2048x16x64 .f32)
    (hA : ∀ b (n : Fin 2048) h d, A (ix4 b n h d) = G (ix5 b ⟨n.val / 128, by have := n.isLt; omega⟩ ⟨n.val % 128, Nat.mod_lt _ (by decide)⟩ h d))
    (hG : ∀ b j l h d, (G (ix5 b j l h d) : EReal) = chs x1 ⟨_, hT (ix2 b j)⟩ l e h d)
    (hN : ∀ b t h d, (N (ix4 b t h d) : EReal) = xs x0 b t ⟨1 + e.val, by have := e.isLt; omega⟩ h d)
    (b : Fin 128) (n : Fin 2052) (h : Fin 16) (d : Fin 64) :
    (concatenate S128x2052x16x64 1 [⟨S128x2048x16x64, A⟩, ⟨S128x4x16x64, N⟩] concatenates_S128x2048x16x64_S128x4x16x64_S128x2052x16x64_d1
      (ix4 b n h d) : EReal) = kv (xs x0) (chs x1) (pgs x2) e b h d n.val := by
  have hn := n.isLt
  by_cases hl : n.val < 2048
  · refine (concatenate_pair_apply_left (t := S128x2052x16x64) (s₁ := S128x2048x16x64) (s₂ := S128x4x16x64) 1 _ _ _ _ rfl
      (ix4 b ⟨n.val, hl⟩ h d) fun a => ?_).trans ((hA b ⟨n.val, hl⟩ h d).trans ((hG _ _ _ _ _).trans ?_))
    · match a with
      | ⟨0, _⟩ => rfl
      | ⟨1, _⟩ => rfl
      | ⟨2, _⟩ => rfl
      | ⟨3, _⟩ => rfl
    · refine (kv_page (xs x0) (chs x1) (pgs x2) e b h d ⟨n.val / 128, by omega⟩ ⟨n.val % 128, Nat.mod_lt _ (by decide)⟩ _ rfl n.val ?_).symm
      show n.val = n.val / 128 * 128 + n.val % 128
      omega
  · refine (concatenate_pair_apply_right (t := S128x2052x16x64) (s₁ := S128x2048x16x64) (s₂ := S128x4x16x64) 1 _ _ _ _ rfl rfl
      (ix4 b ⟨n.val - 2048, by omega⟩ h d) (fun a ha => ?_) ?_).trans ((hN _ _ _ _).trans ?_)
    · match a with
      | ⟨0, _⟩ => rfl
      | ⟨1, _⟩ => exact absurd rfl ha
      | ⟨2, _⟩ => rfl
      | ⟨3, _⟩ => rfl
    · show n.val - 2048 + 2048 = n.val
      omega
    · unfold kv
      rw [if_neg hl, if_pos hn]
      refine congrArg (fun t => xs x0 b t _ h d) (Fin.ext ?_)
      show n.val - 2048 = n.val % 4
      omega

theorem keys_apply (hT : ∀ i, (x2 i).toNat < 2560) (b : Fin 128) (n : Fin 2052) (h : Fin 16) (d : Fin 64) :
    (val_main_v26 (F := Ideal) x0 x1 x2 (ix4 b n h d) : EReal) = kv (xs x0) (chs x1) (pgs x2) 0 b h d n.val := by
  unfold val_main_v26
  refine full_apply x0 x1 x2 hT 0 (val_main_v10 (F := Ideal) x1 x2) _ _ (fun b n h d => ?_) (fun b j l h d => ?_) (fun b t h d => ?_) b n h d
  · rw [val_main_v11_apply]
    refine congrArg (val_main_v10 (F := Ideal) x1 x2) (funext fun a => Fin.ext ?_)
    have := b.isLt; have := n.isLt; have := h.isLt; have := d.isLt
    match a with
    | ⟨0, _⟩ => show (((b.val * 2048 + n.val) * 16 + h.val) * 64 + d.val) / 2097152 = b.val; omega
    | ⟨1, _⟩ => show (((b.val * 2048 + n.val) * 16 + h.val) * 64 + d.val) / 131072 % 16 = n.val / 128; omega
    | ⟨2, _⟩ => show (((b.val * 2048 + n.val) * 16 + h.val) * 64 + d.val) / 1024 % 128 = n.val % 128; omega
    | ⟨3, _⟩ => show (((b.val * 2048 + n.val) * 16 + h.val) * 64 + d.val) / 64 % 16 = h.val; omega
    | ⟨4, _⟩ => show (((b.val * 2048 + n.val) * 16 + h.val) * 64 + d.val) % 64 = d.val; omega
  · refine gather_apply x1 _ b j l h d _ 0 ?_ ?_
    · refine (congrArg BitVec.toInt ((pair_apply _ _ b j 0).trans (if_pos rfl))).trans ?_
      rw [val_main_v7_apply, val_main_v4_apply, val_main_v1_apply, val_main_v0_apply, val_main_c_apply, fix_page _ _ (hT _)]
      refine (congrArg (fun q => (x2 q).toInt) (funext fun a => by match a with | ⟨0, _⟩ => rfl | ⟨1, _⟩ => rfl : idx_main_v7 (ix3 b j 0) = (ix2 b j : S128x16.Idx))).trans (toInt_page _ (hT (ix2 b j)))
    · refine (congrArg BitVec.toInt ((pair_apply _ _ b j 1).trans (if_neg (by decide)))).trans ?_
      rw [val_main_v8_apply, val_main_v6_apply, val_main_v5_apply, val_main_c_1_apply]
      rfl
  · rw [val_main_v25_apply, val_main_v24_apply]
    refine congrArg x0 (funext fun a => Fin.ext ?_)
    have := b.isLt; have := t.isLt; have := h.isLt; have := d.isLt
    match a with
    | ⟨0, _⟩ => show (((b.val * 4 + t.val) * 16 + h.val) * 64 + d.val) / 4096 = b.val; omega
    | ⟨1, _⟩ => show (((b.val * 4 + t.val) * 16 + h.val) * 64 + d.val) / 1024 % 4 = t.val; omega
    | ⟨2, _⟩ => rfl
    | ⟨3, _⟩ => show (((b.val * 4 + t.val) * 16 + h.val) * 64 + d.val) / 64 % 16 = h.val; omega
    | ⟨4, _⟩ => show (((b.val * 4 + t.val) * 16 + h.val) * 64 + d.val) % 64 = d.val; omega

theorem values_apply (hT : ∀ i, (x2 i).toNat < 2560) (b : Fin 128) (n : Fin 2052) (h : Fin 16) (d : Fin 64) :
    (val_main_v29 (F := Ideal) x0 x1 x2 (ix4 b n h d) : EReal) = kv (xs x0) (chs x1) (pgs x2) 1 b h d n.val := by
  unfold val_main_v29
  refine full_apply x0 x1 x2 hT 1 (val_main_v22 (F := Ideal) x1 x2) _ _ (fun b n h d => ?_) (fun b j l h d => ?_) (fun b t h d => ?_) b n h d
  · rw [val_main_v23_apply]
    refine congrArg (val_main_v22 (F := Ideal) x1 x2) (funext fun a => Fin.ext ?_)
    have := b.isLt; have := n.isLt; have := h.isLt; have := d.isLt
    match a with
    | ⟨0, _⟩ => show (((b.val * 2048 + n.val) * 16 + h.val) * 64 + d.val) / 2097152 = b.val; omega
    | ⟨1, _⟩ => show (((b.val * 2048 + n.val) * 16 + h.val) * 64 + d.val) / 131072 % 16 = n.val / 128; omega
    | ⟨2, _⟩ => show (((b.val * 2048 + n.val) * 16 + h.val) * 64 + d.val) / 1024 % 128 = n.val % 128; omega
    | ⟨3, _⟩ => show (((b.val * 2048 + n.val) * 16 + h.val) * 64 + d.val) / 64 % 16 = h.val; omega
    | ⟨4, _⟩ => show (((b.val * 2048 + n.val) * 16 + h.val) * 64 + d.val) % 64 = d.val; omega
  · refine gather_apply x1 _ b j l h d _ 1 ?_ ?_
    · refine (congrArg BitVec.toInt ((pair_apply _ _ b j 0).trans (if_pos rfl))).trans ?_
      rw [val_main_v19_apply, val_main_v16_apply, val_main_v13_apply, val_main_v12_apply, val_main_c_2_apply, fix_page _ _ (hT _)]
      refine (congrArg (fun q => (x2 q).toInt) (funext fun a => by match a with | ⟨0, _⟩ => rfl | ⟨1, _⟩ => rfl : idx_main_v19 (ix3 b j 0) = (ix2 b j : S128x16.Idx))).trans (toInt_page _ (hT (ix2 b j)))
    · refine (congrArg BitVec.toInt ((pair_apply _ _ b j 1).trans (if_neg (by decide)))).trans ?_
      rw [val_main_v20_apply, val_main_v18_apply, val_main_v17_apply, val_main_c_4_apply]
      rfl
  · rw [val_main_v28_apply, val_main_v27_apply]
    refine congrArg x0 (funext fun a => Fin.ext ?_)
    have := b.isLt; have := t.isLt; have := h.isLt; have := d.isLt
    match a with
    | ⟨0, _⟩ => show (((b.val * 4 + t.val) * 16 + h.val) * 64 + d.val) / 4096 = b.val; omega
    | ⟨1, _⟩ => show (((b.val * 4 + t.val) * 16 + h.val) * 64 + d.val) / 1024 % 4 = t.val; omega
    | ⟨2, _⟩ => rfl
    | ⟨3, _⟩ => show (((b.val * 4 + t.val) * 16 + h.val) * 64 + d.val) / 64 % 16 = h.val; omega
    | ⟨4, _⟩ => show (((b.val * 4 + t.val) * 16 + h.val) * 64 + d.val) % 64 = d.val; omega

theorem query_apply (b : Fin 128) (t : Fin 4) (h : Fin 16) (d : Fin 64) :
    (val_main_v31 (F := Ideal) x0 (ix4 b t h d) : EReal) = xs x0 b t 0 h d := by
  rw [val_main_v31_apply, val_main_v30_apply]
  refine congrArg x0 (funext fun a => Fin.ext ?_)
  have := b.isLt; have := t.isLt; have := h.isLt; have := d.isLt
  match a with
  | ⟨0, _⟩ => show (((b.val * 4 + t.val) * 16 + h.val) * 64 + d.val) / 4096 = b.val; omega
  | ⟨1, _⟩ => show (((b.val * 4 + t.val) * 16 + h.val) * 64 + d.val) / 1024 % 4 = t.val; omega
  | ⟨2, _⟩ => rfl
  | ⟨3, _⟩ => show (((b.val * 4 + t.val) * 16 + h.val) * 64 + d.val) / 64 % 16 = h.val; omega
  | ⟨4, _⟩ => show (((b.val * 4 + t.val) * 16 + h.val) * 64 + d.val) % 64 = d.val; omega

end Cert.StickRef

end
-- ==== Proof.Stick.RefSum.lean ====
/-
  The reference's sample attention, read at one index, continued: its scores, its running sum of log shares from the end
  of the sequence, and its result, as the attention of the kernel's side.
-/
module

public import proofs.«01_k».proof.Proof.Stick.Ref

@[expose] public section

set_option maxRecDepth 16384

noncomputable section

namespace Cert.StickRef

open Cert.StickRefIdeal Cert.StickRefIdeal.Gen Cert.StickRefIdeal.Read Cert.Stickbreak
open Cert.StickIdeal.Attn (select_ofBool)
open Idealize.ShloMosaic Idealize.ShloMosaic.TcCoe Idealize.ShloMosaic.ValueIdx
open scoped BigOperators

variable (x0 : FVec Ideal S128x4x3x16x64 .f32) (x1 : FVec Ideal S2560x128x2x16x64 .f32) (x2 : IVec S128x16 32)

theorem eighth32 : Ideal.ofBits .f32 0x3E000000#32 = (((1 : ℝ) / 8 : ℝ) : EReal) := by
  simp [Ideal.ofBits, Ideal.ieee, -EReal.coe_mul]; norm_num

/-- The softplus as the host writes it, its question whether a number equals itself answered. -/
theorem softplus_eq (z z' a : EReal) (hz : z' = 0) :
    Scalar.select (Ideal.cmp .une (z - z') (z - z')) a (max z z' + Ideal.log (1 + Ideal.exp (-(max (z - z') (-(z - z')))))) = soft z := by
  subst hz
  have h : Ideal.cmp .une (z - 0) (z - 0) = BitVec.ofBool (decide (z - 0 ≠ z - 0)) := rfl
  rw [h, select_ofBool, if_neg (fun h => h rfl), sub_zero]
  unfold soft
  rw [sub_eq_add_neg 0, zero_add]

/-- A running sum over all positions. -/
theorem foldl_sum {N : ℕ} (g : Fin N → EReal) (v : EReal) : (List.finRange N).foldl (fun r k => r + g k) v = v + ∑ k, g k := by
  rw [Fin.sum_univ_def]
  generalize List.finRange N = l
  induction l generalizing v with
  | nil => rw [List.foldl_nil, List.map_nil, List.sum_nil, add_zero]
  | cons a l ih => rw [List.foldl_cons, ih, List.map_cons, List.sum_cons, add_assoc]

/-- The window's shape, and its positions as numbers. -/
abbrev Win : Shape := ⟨4, ![1, 1, 1, 2052]⟩

def winEquiv : Fin 2052 ≃ Win.Idx where
  toFun k := ix4 0 0 0 k
  invFun w := w 3
  left_inv _ := rfl
  right_inv w := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The element a window's position holds: the operand's, or the initial value outside it. -/
def winAt {s t : Shape} (window strides lo : Fin s.rank → ℕ) (hr : t.rank = s.rank) (x : s.Idx → EReal) (v : EReal) (j : t.Idx)
    (w : (⟨s.rank, window⟩ : Shape).Idx) : EReal :=
  if hin : ∀ a, lo a ≤ (j (a.cast hr.symm)).val * strides a + (w a).val ∧ (j (a.cast hr.symm)).val * strides a + (w a).val - lo a < s.size a
  then x (fun a => ⟨(j (a.cast hr.symm)).val * strides a + (w a).val - lo a, (hin a).2⟩) else v

/-- A window's sum, as a sum over the window's positions. -/
theorem reduceWindow_sum {s t u : Shape} (window strides lo hi : Fin s.rank → ℕ) (x : s.Idx → EReal) (init : u.Idx → EReal)
    (h : s.ReduceWindows window strides lo hi t) (hu : 0 < u.numel) (j : t.Idx) :
    Host.reduceWindow (· + ·) window strides lo hi x init h hu j
      = init (Shape.Idx.first hu) + ∑ w, winAt window strides lo h.1 x (init (Shape.Idx.first hu)) j w := by
  have e : Host.reduceWindow (· + ·) window strides lo hi x init h hu j = List.foldl (fun r q => r + winAt window strides lo h.1 x
      (init (Shape.Idx.first hu)) j ((⟨s.rank, window⟩ : Shape).rowMajor.symm q)) (init (Shape.Idx.first hu)) (List.finRange _) := by
    unfold Host.reduceWindow
    refine congrArg (fun f => List.foldl f _ _) (funext fun r => funext fun q => congrArg (r + ·) ?_)
    unfold winAt
    exact dite_congr rfl (fun _ => rfl) fun _ => rfl
  rw [e, foldl_sum]
  exact congrArg _ (Equiv.sum_comp (⟨s.rank, window⟩ : Shape).rowMajor.symm _)

/-- The same of the host's window sum. -/
theorem reduceWindowAdd_sum {s t u : Shape} (window strides lo hi : Fin s.rank → ℕ) (x : FVec Ideal s .f32) (init : FVec Ideal u .f32)
    (h : s.ReduceWindows window strides lo hi t) (hu : 0 < u.numel) (j : t.Idx) :
    (Host.reduceWindowAdd window strides lo hi x init h hu j : EReal)
      = init (Shape.Idx.first hu) + ∑ w, winAt window strides lo h.1 x (init (Shape.Idx.first hu)) j w :=
  reduceWindow_sum (u := ⟨0, ![]⟩) window strides lo hi x (fun _ => init (Shape.Idx.first hu)) h (by decide) j

theorem winAt_apply (X : FVec Ideal S128x16x4x2052 .f32) (v : EReal) (hv : v = 0) (b : Fin 128) (h : Fin 16) (t : Fin 4) (n k : Fin 2052) :
    winAt (s := S128x16x4x2052) (t := S128x16x4x2052) ![1, 1, 1, 2052] ![1, 1, 1, 1] ![0, 0, 0, 0] rfl X v (ix4 b h t n) (winEquiv k) = if hk : n.val + k.val < 2052 then X (ix4 b h t ⟨n.val + k.val, hk⟩) else 0 := by
  unfold winAt
  by_cases hk : n.val + k.val < 2052
  · rw [dif_pos hk, dif_pos]
    · refine congrArg X (funext fun a => Fin.ext ?_)
      match a with
      | ⟨0, _⟩ => show b.val * 1 + 0 - 0 = b.val; omega
      | ⟨1, _⟩ => show h.val * 1 + 0 - 0 = h.val; omega
      | ⟨2, _⟩ => show t.val * 1 + 0 - 0 = t.val; omega
      | ⟨3, _⟩ => show n.val * 1 + k.val - 0 = n.val + k.val; omega
    · have := b.isLt; have := h.isLt; have := t.isLt
      intro a
      match a with
      | ⟨0, _⟩ => show 0 ≤ b.val * 1 + 0 ∧ b.val * 1 + 0 - 0 < 128; omega
      | ⟨1, _⟩ => show 0 ≤ h.val * 1 + 0 ∧ h.val * 1 + 0 - 0 < 16; omega
      | ⟨2, _⟩ => show 0 ≤ t.val * 1 + 0 ∧ t.val * 1 + 0 - 0 < 4; omega
      | ⟨3, _⟩ => show 0 ≤ n.val * 1 + k.val ∧ n.val * 1 + k.val - 0 < 2052; omega
  · rw [dif_neg hk, dif_neg, hv]
    intro hin
    have h3 : n.val * 1 + k.val - 0 < 2052 := (hin 3).2
    omega

/-- The sum over a window that reaches past the end of a row: the row's elements from the window's start on. -/
theorem window_sum (X : FVec Ideal S128x16x4x2052 .f32) (u : FVec Ideal S_ .f32) (hu : ∀ i, (u i : EReal) = 0)
    (b : Fin 128) (h : Fin 16) (t : Fin 4) (n : Fin 2052) :
    (Host.reduceWindowAdd ![1, 1, 1, 2052] ![1, 1, 1, 1] ![0, 0, 0, 0] ![0, 0, 0, 2051] X u
      reduceWindows_S128x16x4x2052_S128x16x4x2052_w1s1p0_0_w1s1p0_0_w1s1p0_0_w2052s1p0_2051 h_S_ (ix4 b h t n) : EReal)
      = ∑ k : Fin 2052, if hk : n.val + k.val < 2052 then X (ix4 b h t ⟨n.val + k.val, hk⟩) else 0 := by
  rw [reduceWindowAdd_sum]
  rw [hu, zero_add, ← Equiv.sum_comp winEquiv]
  exact Finset.sum_congr rfl fun k _ => winAt_apply X 0 rfl b h t n k

/-- The same where the row holds a function of the position that is zero past the row's end. -/
theorem window_tail (X : FVec Ideal S128x16x4x2052 .f32) (u : FVec Ideal S_ .f32) (hu : ∀ i, (u i : EReal) = 0)
    (b : Fin 128) (h : Fin 16) (t : Fin 4) (f : ℕ → EReal) (hf : ∀ i, 2052 ≤ i → f i = 0)
    (hX : ∀ i : Fin 2052, (X (ix4 b h t i) : EReal) = f i.val) (n : Fin 2052) :
    (Host.reduceWindowAdd ![1, 1, 1, 2052] ![1, 1, 1, 1] ![0, 0, 0, 0] ![0, 0, 0, 2051] X u
      reduceWindows_S128x16x4x2052_S128x16x4x2052_w1s1p0_0_w1s1p0_0_w1s1p0_0_w2052s1p0_2051 h_S_ (ix4 b h t n) : EReal)
      = tail f n.val := by
  have hn := n.isLt
  rw [window_sum X u hu b h t n, ← sum_seq f n.val (by omega) hf]
  have e : ∀ k : Fin 2052, (if hk : n.val + k.val < 2052 then (X (ix4 b h t ⟨n.val + k.val, hk⟩) : EReal) else 0) = f (n.val + k.val) := fun k => by
    by_cases hk : n.val + k.val < 2052
    · rw [dif_pos hk]; exact hX _
    · rw [dif_neg hk, hf _ (by omega)]
  rw [Finset.sum_congr rfl fun k _ => e k, Fin.sum_univ_eq_sum_range (fun k => f (n.val + k)) 2052]
  have e2 := Finset.sum_Ico_eq_sum_range f n.val (n.val + 2052)
  rw [Nat.add_sub_cancel_left] at e2
  rw [← e2, ← Finset.sum_Ico_consecutive f (by omega : n.val ≤ 2052) (by omega : 2052 ≤ n.val + 2052),
    Finset.sum_eq_zero (s := Finset.Ico 2052 (n.val + 2052)) fun i hi => hf i (Finset.mem_Ico.mp hi).1, add_zero]

/-- The mask: a position comes before the query's own if it is below the number of positions the query sees. -/
theorem before_apply (t : Fin 4) (n : Fin 2052) : val_main_v40 (F := Ideal) (ix2 t n) = BitVec.ofBool (decide (n.val < 2048 + t.val)) := by
  have hn := n.isLt
  have ht := t.isLt
  rw [val_main_v40_apply, val_main_v38_apply, val_main_v36_apply, val_main_v35_apply, val_main_v39_apply, val_main_v37_apply,
    val_main_v34_apply, val_main_v33_apply, val_main_c_5_apply, val_main_v32_apply]
  show IntOp.cmpi .slt (BitVec.ofNat 32 n.val) (BitVec.ofNat 32 2048 + BitVec.ofNat 32 t.val) = _
  rw [← BitVec.ofNat_add]
  have e : (BitVec.ofNat 32 n.val).toInt < (BitVec.ofNat 32 (2048 + t.val)).toInt ↔ n.val < 2048 + t.val := by
    rw [toInt_small _ (by omega), toInt_small _ (by omega)]; omega
  by_cases hc : n.val < 2048 + t.val
  · rw [decide_eq_true hc, IntOp.cmpi_slt.mpr (e.mpr hc)]; rfl
  · rw [decide_eq_false hc]
    have h1 : IntOp.cmpi .slt (BitVec.ofNat 32 n.val) (BitVec.ofNat 32 (2048 + t.val)) ≠ 1#1 := fun h => hc (e.mp (IntOp.cmpi_slt.mp h))
    revert h1
    generalize IntOp.cmpi .slt (BitVec.ofNat 32 n.val) (BitVec.ofNat 32 (2048 + t.val)) = w
    revert w; decide

section Row

variable (hT : ∀ i, (x2 i).toNat < 2560) (b : Fin 128) (h : Fin 16) (t : Fin 4)
include hT

/-- The scores. -/
theorem score_apply (n : Fin 2052) :
    (val_main_v43 (F := Ideal) x0 x1 x2 (ix4 b h t n) : EReal) = score (xs x0) (chs x1) (pgs x2) b t h n.val := by
  rw [val_main_v43_apply, val_main_v41_apply, val_main_v42_apply, val_main_cst_apply]
  refine congrArg₂ (· * ·) (Finset.sum_congr rfl fun k _ => congrArg₂ (· * ·) ?_ ?_) eighth32
  · refine (congrArg (val_main_v31 (F := Ideal) x0) (?_ : _ = (ix4 b t h k : S128x4x16x64.Idx))).trans (query_apply x0 b t h k)
    exact funext fun a => by match a with | ⟨0, _⟩ => rfl | ⟨1, _⟩ => rfl | ⟨2, _⟩ => rfl | ⟨3, _⟩ => rfl
  · refine (congrArg (val_main_v26 (F := Ideal) x0 x1 x2) (?_ : _ = (ix4 b n h k : S128x2052x16x64.Idx))).trans (keys_apply x0 x1 x2 hT b n h k)
    exact funext fun a => by match a with | ⟨0, _⟩ => rfl | ⟨1, _⟩ => rfl | ⟨2, _⟩ => rfl | ⟨3, _⟩ => rfl

/-- The log of the share a position leaves. -/
theorem left_apply (n : Fin 2052) :
    (val_main_v45 (F := Ideal) x0 x1 x2 (ix4 b h t n) : EReal) = left (score (xs x0) (chs x1) (pgs x2) b t h n.val) := by
  rw [← score_apply x0 x1 x2 hT b h t n]
  show -(Scalar.select _ _ _ : EReal) = _
  refine (congrArg Neg.neg (softplus_eq (val_main_v43 (F := Ideal) x0 x1 x2 (ix4 b h t n)) _ _ Ideal.ofBits_zero_f32)).trans ?_
  unfold left
  rw [sub_eq_add_neg, zero_add]

/-- The log of the share a position takes. -/
theorem take_apply (n : Fin 2052) :
    (val_main_v49 (F := Ideal) x0 x1 x2 (ix4 b h t n) : EReal) = -(soft (-(score (xs x0) (chs x1) (pgs x2) b t h n.val))) := by
  rw [← score_apply x0 x1 x2 hT b h t n]
  show -(Scalar.select _ _ _ : EReal) = _
  exact congrArg Neg.neg (softplus_eq (-(val_main_v43 (F := Ideal) x0 x1 x2 (ix4 b h t n) : EReal)) _ _ Ideal.ofBits_zero_f32)

/-- The log shares of the positions the query sees. -/
theorem kept_apply (n : Fin 2052) : (val_main_v46 (F := Ideal) x0 x1 x2 (ix4 b h t n) : EReal)
    = keep (2048 + t.val) (fun i => left (score (xs x0) (chs x1) (pgs x2) b t h i)) n.val := by
  rw [val_main_v46_apply, val_main_call1_v1_apply]
  have e : idx_main_call1_v1 (ix4 b h t n) = (ix2 t n : S4x2052.Idx) := funext fun a => by match a with | ⟨0, _⟩ => rfl | ⟨1, _⟩ => rfl
  rw [e, before_apply, select_ofBool]
  unfold keep
  exact if_congr Iff.rfl (left_apply x0 x1 x2 hT b h t n) Ideal.ofBits_zero_f32

/-- The weight of a position. -/
theorem weight_apply (n : Fin 2052) : (val_main_v52 (F := Ideal) x0 x1 x2 (ix4 b h t n) : EReal)
    = weight (2048 + t.val) (score (xs x0) (chs x1) (pgs x2) b t h) n.val := by
  have hn := n.isLt
  have ht := t.isLt
  rw [val_main_v52_apply, val_main_call4_v1_apply]
  have e : idx_main_call4_v1 (ix4 b h t n) = (ix2 t n : S4x2052.Idx) := funext fun a => by match a with | ⟨0, _⟩ => rfl | ⟨1, _⟩ => rfl
  rw [e, before_apply, select_ofBool]
  unfold weight
  by_cases hc : n.val < 2048 + t.val
  · rw [if_pos hc, if_pos hc]
    have e1 := take_apply x0 x1 x2 hT b h t n
    have e2 := kept_apply x0 x1 x2 hT b h t n
    have e3 : (val_main_v47 (F := Ideal) x0 x1 x2 (ix4 b h t n) : EReal)
        = tail (keep (2048 + t.val) fun i => left (score (xs x0) (chs x1) (pgs x2) b t h i)) n.val :=
      window_tail (val_main_v46 (F := Ideal) x0 x1 x2) (val_main_call2_v0 (F := Ideal)) (fun _ => Ideal.ofBits_zero_f32) b h t
        (keep (2048 + t.val) fun i => left (score (xs x0) (chs x1) (pgs x2) b t h i)) (fun i hi => if_neg (by omega)) (kept_apply x0 x1 x2 hT b h t) n
    have e4 : keep (2048 + t.val) (fun i => left (score (xs x0) (chs x1) (pgs x2) b t h i)) n.val
        = left (score (xs x0) (chs x1) (pgs x2) b t h n.val) := if_pos hc
    show Ideal.exp ((val_main_v49 (F := Ideal) x0 x1 x2 (ix4 b h t n) : EReal)
      + ((val_main_v47 (F := Ideal) x0 x1 x2 (ix4 b h t n) : EReal) - (val_main_v46 (F := Ideal) x0 x1 x2 (ix4 b h t n) : EReal))) = _
    rw [e1, e2, e3, tail_succ _ _ (by omega), e4]
    exact exp_key _ _
  · rw [if_neg hc, if_neg hc]
    exact Ideal.ofBits_zero_f32

/-- The attention's result. -/
theorem attend_apply (d : Fin 64) : (val_main_v53 (F := Ideal) x0 x1 x2 (ix4 b h d t) : EReal) = stick (xs x0) (chs x1) (pgs x2) b t h d := by
  have ht := t.isLt
  rw [val_main_v53_apply]
  unfold stick attend
  rw [← sum_all _ fun i hi => by unfold weight; rw [if_neg (by omega), zero_mul]]
  refine Finset.sum_congr rfl fun k _ => ?_
  rw [mul_comm]
  refine congrArg₂ (· * ·) ?_ ?_
  · refine (congrArg (val_main_v52 (F := Ideal) x0 x1 x2) (?_ : _ = (ix4 b h t k : S128x16x4x2052.Idx))).trans (weight_apply x0 x1 x2 hT b h t k)
    exact funext fun a => by match a with | ⟨0, _⟩ => rfl | ⟨1, _⟩ => rfl | ⟨2, _⟩ => rfl | ⟨3, _⟩ => rfl
  · refine (congrArg (val_main_v29 (F := Ideal) x0 x1 x2) (?_ : _ = (ix4 b k h d : S128x2052x16x64.Idx))).trans (values_apply x0 x1 x2 hT b k h d)
    exact funext fun a => by match a with | ⟨0, _⟩ => rfl | ⟨1, _⟩ => rfl | ⟨2, _⟩ => rfl | ⟨3, _⟩ => rfl

end Row

/-- The reference's result: a row per new token, its heads side by side. -/
theorem result_apply (hT : ∀ i, (x2 i).toNat < 2560) (r : Fin 512) (k : Fin 1024) (b : Fin 128) (t : Fin 4) (h : Fin 16) (d : Fin 64)
    (hb : b.val = r.val / 4) (ht : t.val = r.val % 4) (hh : h.val = k.val / 64) (hd : d.val = k.val % 64) :
    (val_main_v55 (F := Ideal) x0 x1 x2 (ix2 r k) : EReal) = stick (xs x0) (chs x1) (pgs x2) b t h d := by
  have hr := r.isLt
  have hk := k.isLt
  rw [← attend_apply x0 x1 x2 hT b h t d, val_main_v55_apply, val_main_v54_apply]
  refine congrArg (val_main_v53 (F := Ideal) x0 x1 x2) (funext fun a => Fin.ext ?_)
  match a with
  | ⟨0, _⟩ => show (r.val * 1024 + k.val) / 4096 = b.val; omega
  | ⟨1, _⟩ => show (r.val * 1024 + k.val) / 64 % 16 = h.val; omega
  | ⟨2, _⟩ => show (r.val * 1024 + k.val) % 64 = d.val; omega
  | ⟨3, _⟩ => show (r.val * 1024 + k.val) / 1024 % 4 = t.val; omega

end Cert.StickRef

end
-- ==== Proof.Stick.Equal.lean ====
/-
  The claims about the sample attention: the frames of the three programs, and the equality of what the idealized kernel
  and the reference compute.
-/
module

public import proofs.«01_k».proof.Defs
public import proofs.«01_k».proof.Proof.Stick.Table
public import proofs.«01_k».proof.Proof.Stick.Value
public import proofs.«01_k».proof.Proof.Stick.RefSum
public import proofs.«01_k».proof.Proof.Gen.StickRefIdeal
public import Idealize.ShloMosaic.Lib.Quiescent

@[expose] public section

set_option maxRecDepth 16384

noncomputable section

namespace Cert.Proof.Stick

open Idealize.ShloMosaic Idealize.ShloMosaic.TcCoe Idealize.ShloMosaic.ValueIdx Idealize.SL.Sem

/-- The kernel runs, leaves its arguments unchanged and its counters at zero. -/
theorem frame_kernel : Cert.quiescent_Stick (hStick := Cert.Stick.Gen.facts) (hPre_pages_ok := Cert.Pre_pages_ok.Gen.facts) :=
  fun m ρ h => Cert.Stick.Gen.frame m ρ (Cert.Stick.Pages.ok_of_lt m fun i => Pages.entry_lt _ _ _ (h 0) i)

/-- The same of the idealized kernel. -/
theorem frame_ideal : Cert.quiescent_StickIdeal (hStickIdeal := Cert.StickIdeal.Gen.facts) (hPre_pages_ok := Cert.Pre_pages_ok.Gen.facts) :=
  fun m ρ h => Cert.StickIdeal.Gen.frame m ρ (Cert.StickIdeal.Pages.ok_of_lt m fun i => Pages.entry_lt _ _ _ (h 0) i)

/-- The same of the reference. -/
theorem frame_reference : Cert.quiescent_StickRefIdeal (hStickRefIdeal := Cert.StickRefIdeal.Gen.facts) :=
  fun m ρ _ => (θ_run Cert.StickRefIdeal.defs _ _).mono
    (fun r h => ⟨fun c => (h c).2, Idealize.ShloMosaic.sem_eq_zero_of_no_sems (by decide) r.2⟩)
    (Cert.StickRefIdeal.Value.run (F := Ideal) m ρ)

/-- The reference's result is the kernel's, at memories that agree on the arguments. -/
theorem result_eq (m : (ℓ : Loc Cert.StickIdeal.nD Cert.StickIdeal.τ Cert.StickIdeal.sig) → Buf (Elt Ideal) ℓ)
    (c : Dev Cert.StickIdeal.nD) (hT : ∀ i, (Cert.StickIdeal.Attn.Pt m c i).toNat < 2560) :
    Cert.StickRefIdeal.Read.val_main_v55 (F := Ideal) (Cert.StickIdeal.Attn.X m c) (Cert.StickIdeal.Attn.Cache m c)
      (Cert.StickIdeal.Attn.Pt m c) = Cert.StickIdeal.Attn.rows (Cert.StickIdeal.Attn.heads m c) := by
  refine funext fun (i : Cert.StickRefIdeal.S512x1024.Idx) => ?_
  obtain ⟨r, k, rfl⟩ : ∃ (r : Fin 512) (k : Fin 1024), i = (ix2 r k : Cert.StickRefIdeal.S512x1024.Idx) :=
    ⟨i 0, i 1, funext fun d => by match d with | ⟨0, _⟩ => rfl | ⟨1, _⟩ => rfl⟩
  have hr := r.isLt
  have hk := k.isLt
  have ha : k.val / 64 * 4 + r.val % 4 < 64 := by omega
  refine Eq.trans ?_ (Cert.StickIdeal.Attn.rows_apply (Cert.StickIdeal.Attn.heads m c) r k ⟨r.val / 4, by omega⟩
    ⟨_, ha⟩ ⟨k.val % 64, by omega⟩ rfl rfl rfl).symm
  refine Cert.StickRef.result_apply _ _ _ hT r k ⟨r.val / 4, by omega⟩ _ _ ⟨k.val % 64, by omega⟩ rfl ?_ ?_ rfl
  · show (k.val / 64 * 4 + r.val % 4) % 4 = r.val % 4
    omega
  · show (k.val / 64 * 4 + r.val % 4) / 4 = k.val / 64
    omega

/-- The idealized kernel and the reference compute the same result. -/
theorem equal : Cert.algebraic_StickIdeal_StickRefIdeal (hStickIdeal := Cert.StickIdeal.Gen.facts)
    (hStickRefIdeal := Cert.StickRefIdeal.Gen.facts) (hPre_pages_ok := Cert.Pre_pages_ok.Gen.facts) := by
  intro m g m' g' hpre hargs
  have hT : ∀ (c : Dev Cert.StickIdeal.nD) i, (Cert.StickIdeal.Attn.Pt m c i).toNat < 2560 :=
    fun c i => Pages.entry_lt _ _ _ (hpre c) i
  have hO : Cert.StickIdeal.Gen.Ok m := Cert.StickIdeal.Pages.ok_of_lt m (hT 0)
  refine ⟨fun c => Cert.StickIdeal.Attn.rows (Cert.StickIdeal.Attn.heads m c), Cert.StickIdeal.Attn.run m g hO hT, ?_⟩
  refine (θ_run Cert.StickRefIdeal.defs _ _).mono (fun r h c => ⟨(h c).1.trans ?_, (h c).2⟩)
    (Cert.StickRefIdeal.Value.run (F := Ideal) m' g')
  refine (Cert.StickRefIdeal.Read.val_main_v55_eq (F := Ideal) _ _).trans ?_
  obtain ⟨h0, h1, h2⟩ := hargs c
  refine Eq.trans ?_ (result_eq m c (hT c))
  exact congr (congr (congrArg (Cert.StickRefIdeal.Read.val_main_v55 (F := Ideal)) h0) h1) h2

end Cert.Proof.Stick

end
-- ==== Proof.lean ====
module

public import proofs.«01_k».proof.Proof.Moe.Equal
public import proofs.«01_k».proof.Proof.Dense.Equal
public import proofs.«01_k».proof.Proof.Input.Equal
public import proofs.«01_k».proof.Proof.Qkv.Equal
public import proofs.«01_k».proof.Proof.Out.Equal
public import proofs.«01_k».proof.Proof.Final.Equal
public import proofs.«01_k».proof.Proof.Stick.Equal
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_table_ok
public import proofs.«01_k».proof.Proof.Gen.Dense
public import proofs.«01_k».proof.Proof.Dense.FrameBits
public import proofs.«01_k».proof.Proof.Gen.DenseIdeal
public import proofs.«01_k».proof.Proof.Dense.FrameIdeal
public import proofs.«01_k».proof.Proof.Gen.Input
public import proofs.«01_k».proof.Proof.Gen.Input.Frame
public import proofs.«01_k».proof.Proof.Gen.InputIdeal
public import proofs.«01_k».proof.Proof.Gen.InputIdeal.Frame
public import proofs.«01_k».proof.Proof.Gen.DenseRefIdeal
public import proofs.«01_k».proof.Proof.Gen.DenseRefIdeal.Run
public import proofs.«01_k».proof.Proof.Gen.DenseRefIdeal.Read
public import proofs.«01_k».proof.Proof.Gen.InputRefIdeal
public import proofs.«01_k».proof.Proof.Gen.InputRefIdeal.Run
public import proofs.«01_k».proof.Proof.Gen.InputRefIdeal.Read
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Stick
public import proofs.«01_k».proof.Proof.Stick.FrameBits
public import proofs.«01_k».proof.Proof.Gen.StickIdeal
public import proofs.«01_k».proof.Proof.Stick.FrameIdeal
public import proofs.«01_k».proof.Proof.Gen.StickRefIdeal
public import proofs.«01_k».proof.Proof.Gen.StickRefIdeal.Run
public import proofs.«01_k».proof.Proof.Gen.StickRefIdeal.Read
public import proofs.«01_k».proof.Proof.Gen.Pre_pages_ok

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.Dense.Gen.facts, Cert.DenseIdeal.Gen.facts, Cert.DenseRefIdeal.Gen.facts,
    Cert.Input.Gen.facts, Cert.InputIdeal.Gen.facts, Cert.InputRefIdeal.Gen.facts,
    Cert.Qkv.Gen.facts, Cert.QkvIdeal.Gen.facts, Cert.QkvRefIdeal.Gen.facts,
    Cert.Out.Gen.facts, Cert.OutIdeal.Gen.facts, Cert.OutRefIdeal.Gen.facts,
    Cert.Final.Gen.facts, Cert.FinalIdeal.Gen.facts, Cert.FinalRefIdeal.Gen.facts,
    Cert.Stick.Gen.facts, Cert.StickIdeal.Gen.facts, Cert.StickRefIdeal.Gen.facts,
    Cert.Pre_table_ok.Gen.facts, Cert.Pre_pages_ok.Gen.facts,
    Moe.frame_kernel, Moe.frame_ideal, Moe.frame_reference, fun m g _ => Moe.frame_reference m g trivial,
    Cert.Proof.Dense.frame_kernel, Cert.Proof.Dense.frame_ideal, Cert.Proof.Dense.frame_reference,
    Cert.Proof.Input.frame_kernel, Cert.Proof.Input.frame_ideal, Cert.Proof.Input.frame_reference,
    Cert.Proof.Qkv.frame_kernel, Cert.Proof.Qkv.frame_ideal, Cert.Proof.Qkv.frame_reference,
    Cert.Proof.Out.frame_kernel, Cert.Proof.Out.frame_ideal, Cert.Proof.Out.frame_reference,
    Cert.Proof.Final.frame_kernel, Cert.Proof.Final.frame_ideal, Cert.Proof.Final.frame_reference,
    Cert.Proof.Stick.frame_kernel, Cert.Proof.Stick.frame_ideal, Cert.Proof.Stick.frame_reference,
    fun m g _ => Cert.Proof.Stick.frame_reference m g trivial,
    trivial, Moe.equal, trivial, Cert.Proof.Dense.equal, trivial, Cert.Proof.Input.equal,
    trivial, Cert.Proof.Qkv.equal, trivial, Cert.Proof.Out.equal, trivial, Cert.Proof.Final.equal,
    trivial, Cert.Proof.Stick.equal⟩

end Cert.Proof

end
